-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v12) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v8)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v8)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v6) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v21) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v29) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Pre_finite.lean ====
abbrev S4x4096x6144 : Shape := ⟨3, ![4, 4096, 6144]⟩
abbrev S4x4096x128 : Shape := ⟨3, ![4, 4096, 128]⟩
abbrev S2x16x512 : Shape := ⟨3, ![2, 16, 512]⟩
abbrev S2x512 : Shape := ⟨2, ![2, 512]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S2x16x512 : S_.BroadcastsInDim S2x16x512 (![] : Fin 0 → Fin S2x16x512.rank)
  reducesTo_S2x16x512_S_d0_1_2 : S2x16x512.ReducesTo [0, 1, 2] S_

variable [Facts]

def fn {F : FTy → Type} [FloatOps F] (main_arg0 : FVec F S4x4096x6144 .f32) (main_arg1 : FVec F S4x4096x128 .f32) (main_arg2 : FVec F S2x16x512 .f32) (main_arg3 : FVec F S2x512 .f32) : IVec S_ 1 :=
  let main_v0 : FVec F S4x4096x128 .f32 := Host.absf main_arg1
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S2x16x512 .f32 := Host.absf main_arg2
  let main_cst_0 : FVec F S_ .f32 := constant S_ .f32 0x7F800000#32
  let main_v5 : FVec F S2x16x512 .f32 := broadcastInDim S2x16x512 ![] bcast_S_S2x16x512 main_cst_0
  let main_v6 : IVec S2x16x512 1 := cmpf .olt main_v4 main_v5
  let main_c_1 : IVec S_ 1 := constantI S_ 1 1#1
  let main_v7 : IVec S_ 1 := (fun x v => Host.reduce IntOp.andi x v reducesTo_S2x16x512_S_d0_1_2 h_S_) main_v6 main_c_1
  let main_v8 : IVec S_ 1 := andi main_v3 main_v7
  main_v8
-- ==== Kernel.lean ====
abbrev S4x4096x6144 : Shape := ⟨3, ![4, 4096, 6144]⟩
abbrev S4x4096x128 : Shape := ⟨3, ![4, 4096, 128]⟩
abbrev S2x16x512 : Shape := ⟨3, ![2, 16, 512]⟩
abbrev S2x512 : Shape := ⟨2, ![2, 512]⟩
abbrev S_ : Shape := ⟨0, ![]⟩
abbrev S2x128x512 : Shape := ⟨3, ![2, 128, 512]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S2x384x512 : Shape := ⟨3, ![2, 384, 512]⟩
abbrev S2x1x512 : Shape := ⟨3, ![2, 1, 512]⟩
abbrev S4x4096x1024 : Shape := ⟨3, ![4, 4096, 1024]⟩
abbrev S1x256x512 : Shape := ⟨3, ![1, 256, 512]⟩
abbrev S1x256x1024 : Shape := ⟨3, ![1, 256, 1024]⟩
abbrev S1x256x128 : Shape := ⟨3, ![1, 256, 128]⟩
abbrev S2x4x256x128 : Shape := ⟨4, ![2, 4, 256, 128]⟩
abbrev S1x64x128 : Shape := ⟨3, ![1, 64, 128]⟩
abbrev S64x128 : Shape := ⟨2, ![64, 128]⟩
abbrev S64x384 : Shape := ⟨2, ![64, 384]⟩
abbrev S1x64x256 : Shape := ⟨3, ![1, 64, 256]⟩
abbrev S64x256 : Shape := ⟨2, ![64, 256]⟩
abbrev S1x384x128 : Shape := ⟨3, ![1, 384, 128]⟩
abbrev S384x128 : Shape := ⟨2, ![384, 128]⟩
abbrev S1x1x128 : Shape := ⟨3, ![1, 1, 128]⟩
abbrev S1x128 : Shape := ⟨2, ![1, 128]⟩
abbrev S1x1x256x128 : Shape := ⟨4, ![1, 1, 256, 128]⟩
abbrev S256x128 : Shape := ⟨2, ![256, 128]⟩
abbrev S64x64 : Shape := ⟨2, ![64, 64]⟩

abbrev nBuf : Space → Nat
  | .hbm => 30
  | .vmem => 23
  | .smem => 0
  | _ => 0

abbrev bufTy : (tb : Table) → Fin (tcTables nBuf tb) → BufTy
  | .hbm, ⟨0, _⟩ => ⟨S4x4096x6144, .f32⟩
  | .hbm, ⟨1, _⟩ => ⟨S4x4096x128, .f32⟩
  | .hbm, ⟨2, _⟩ => ⟨S2x16x512, .f32⟩
  | .hbm, ⟨3, _⟩ => ⟨S2x512, .f32⟩
  | .hbm, ⟨4, _⟩ => ⟨S_, .f32⟩
  | .hbm, ⟨5, _⟩ => ⟨S2x128x512, .f32⟩
  | .hbm, ⟨6, _⟩ => ⟨S1x16x512, .f32⟩
  | .hbm, ⟨7, _⟩ => ⟨S16x512, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S2x128x512, .f32⟩
  | .hbm, ⟨14, _⟩ => ⟨S1x16x512, .f32⟩
  | .hbm, ⟨15, _⟩ => ⟨S16x512, .f32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S2, .i32⟩
  | .hbm, ⟨21, _⟩ => ⟨S2x128x512, .f32⟩
  | .hbm, ⟨22, _⟩ => ⟨S2x128x512, .bf16⟩
  | .hbm, ⟨23, _⟩ => ⟨S2x128x512, .f32⟩
  | .hbm, ⟨24, _⟩ => ⟨S2x128x512, .f32⟩
  | .hbm, ⟨25, _⟩ => ⟨S2x128x512, .bf16⟩
  | .hbm, ⟨26, _⟩ => ⟨S2x384x512, .bf16⟩
  | .hbm, ⟨27, _⟩ => ⟨S2x1x512, .f32⟩
  | .hbm, ⟨28, _⟩ => ⟨S4x4096x1024, .f32⟩
  | .hbm, ⟨29, _⟩ => ⟨S4x4096x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x1024, .f32⟩
  | .local _ .vmem, ⟨13, _⟩ => ⟨S1x256x1024, .f32⟩
  | .local _ .vmem, ⟨14, _⟩ => ⟨S1x256x128, .f32⟩
  | .local _ .vmem, ⟨15, _⟩ => ⟨S1x256x128, .f32⟩
  | .local _ .vmem, ⟨16, _⟩ => ⟨S2x384x512, .bf16⟩
  | .local _ .vmem, ⟨17, _⟩ => ⟨S2x1x512, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S2x4x256x128, .f32⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  v5
def k0_off1 (k0_t1 : Fin k0_t1_loop.trips) : Fin 3 → Nat :=
  let c0 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v7 : Index := Scalar.indexCast v6
  let c0_3 : Index := 0#32
  ![0, v7.toNat, 0]
def k0_off2 (k0_t1 : Fin k0_t1_loop.trips) : Fin 3 → Nat :=
  let c0_4 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v15 : Index := Scalar.indexCast v6
  let c0_5 : Index := 0#32
  ![0, v15.toNat, 0]
def k0_off3 (k0_t1 : Fin k0_t1_loop.trips) : Fin 3 → Nat :=
  let c0_8 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v21 : Index := Scalar.indexCast v6
  let c0_9 : Index := 0#32
  ![0, v21.toNat, 0]
def k0_off4 (k0_t1 : Fin k0_t1_loop.trips) : Fin 3 → Nat :=
  let c0_20 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v30 : Index := Scalar.indexCast v6
  let c128 : Index := 128#32
  ![0, v30.toNat, 128]
def k0_off5 (k0_t1 : Fin k0_t1_loop.trips) : Fin 3 → Nat :=
  let c0_23 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v36 : Index := Scalar.indexCast v6
  let c256 : Index := 256#32
  ![0, v36.toNat, 256]
def k0_off6 (k0_t1 : Fin k0_t1_loop.trips) : Fin 3 → Nat :=
  let c0_33 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v45 : Index := Scalar.indexCast v6
  let c256_34 : Index := 256#32
  ![0, v45.toNat, 256]
def k0_off7 (k0_t1 : Fin k0_t1_loop.trips) : Fin 3 → Nat :=
  let c0_37 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v51 : Index := Scalar.indexCast v6
  let c512 : Index := 512#32
  ![0, v51.toNat, 512]
def k0_off8 (k0_t1 : Fin k0_t1_loop.trips) : Fin 3 → Nat :=
  let c0_47 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v60 : Index := Scalar.indexCast v6
  let c384 : Index := 384#32
  ![0, v60.toNat, 384]
def k0_off9 (k0_t1 : Fin k0_t1_loop.trips) : Fin 3 → Nat :=
  let c0_50 : Index := 0#32
  let c0_i32_1 : BitVec 32 := 0#32
  let c1_i32 : BitVec 32 := 1#32
  let arg15 : BitVec 32 := Scf.iv c0_i32_1 c1_i32 k0_t1
  let c64_i32 : BitVec 32 := 64#32
  let v5 : BitVec 32 := Scalar.muli arg15 c64_i32
  let v6 : BitVec 32 := v5
  let v66 : Index := Scalar.indexCast v6
  let c768 : Index := 768#32
  ![0, v66.toNat, 768]
def k0_mult2 (k0_t1 : Fin k0_t1_loop.trips) : BitVec 32 :=
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  v75
def k0_off10 (k0_t1 : Fin k0_t1_loop.trips) : Fin 3 → Nat :=
  let c0_61 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v77 : Index := Scalar.indexCast v76
  let c0_62 : Index := 0#32
  ![0, v77.toNat, 0]
def k0_off11 (k0_t1 : Fin k0_t1_loop.trips) : Fin 3 → Nat :=
  let c0_63 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v85 : Index := Scalar.indexCast v76
  let c0_64 : Index := 0#32
  ![0, v85.toNat, 0]
def k0_off12 (k0_t1 : Fin k0_t1_loop.trips) : Fin 3 → Nat :=
  let c0_67 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v91 : Index := Scalar.indexCast v76
  let c0_68 : Index := 0#32
  ![0, v91.toNat, 0]
def k0_off13 (k0_t1 : Fin k0_t1_loop.trips) : Fin 3 → Nat :=
  let c0_79 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v100 : Index := Scalar.indexCast v76
  let c128_80 : Index := 128#32
  ![0, v100.toNat, 128]
def k0_off14 (k0_t1 : Fin k0_t1_loop.trips) : Fin 3 → Nat :=
  let c0_83 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v106 : Index := Scalar.indexCast v76
  let c256_84 : Index := 256#32
  ![0, v106.toNat, 256]
def k0_off15 (k0_t1 : Fin k0_t1_loop.trips) : Fin 3 → Nat :=
  let c0_95 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v115 : Index := Scalar.indexCast v76
  let c256_96 : Index := 256#32
  ![0, v115.toNat, 256]
def k0_off16 (k0_t1 : Fin k0_t1_loop.trips) : Fin 3 → Nat :=
  let c0_99 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v121 : Index := Scalar.indexCast v76
  let c512_100 : Index := 512#32
  ![0, v121.toNat, 512]
def k0_off17 (k0_t1 : Fin k0_t1_loop.trips) : Fin 3 → Nat :=
  let c0_111 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v130 : Index := Scalar.indexCast v76
  let c384_112 : Index := 384#32
  ![0, v130.toNat, 384]
def k0_off18 (k0_t1 : Fin k0_t1_loop.trips) : Fin 3 → Nat :=
  let c0_115 : Index := 0#32
  let c3_i32 : BitVec 32 := 3#32
  let c0_i32_1 : BitVec 32 := 0#32
  let c1_i32 : BitVec 32 := 1#32
  let arg15 : BitVec 32 := Scf.iv c0_i32_1 c1_i32 k0_t1
  let v4 : BitVec 32 := Scalar.subi c3_i32 arg15
  let c64_i32_60 : BitVec 32 := 64#32
  let v75 : BitVec 32 := Scalar.muli v4 c64_i32_60
  let v76 : BitVec 32 := v75
  let v136 : Index := Scalar.indexCast v76
  let c768_116 : Index := 768#32
  ![0, v136.toNat, 768]
def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c6_i32 : BitVec 32 := 6#32
  let c0_i32 : BitVec 32 := 0#32
  ![arg0.toNat, v0.toNat, c6_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c7_i32 : BitVec 32 := 7#32
  let c0_i32 : BitVec 32 := 0#32
  ![arg0.toNat, v0.toNat, c7_i32.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c4_i32 : BitVec 32 := 4#32
  let c0_i32 : BitVec 32 := 0#32
  ![arg0.toNat, v0.toNat, c4_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2x384x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x4096x6144 : Shape := ⟨3, ![4, 4096, 6144]⟩
abbrev S4x4096x128 : Shape := ⟨3, ![4, 4096, 128]⟩
abbrev S2x16x512 : Shape := ⟨3, ![2, 16, 512]⟩
abbrev S2x512 : Shape := ⟨2, ![2, 512]⟩
abbrev S4x4096x512 : Shape := ⟨3, ![4, 4096, 512]⟩
abbrev S4x4096x1024 : Shape := ⟨3, ![4, 4096, 1024]⟩
abbrev S4x4096x16 : Shape := ⟨3, ![4, 4096, 16]⟩
abbrev S4x4096x4x128 : Shape := ⟨4, ![4, 4096, 4, 128]⟩
abbrev S_ : Shape := ⟨0, ![]⟩
abbrev S4x4096x4x256 : Shape := ⟨4, ![4, 4096, 4, 256]⟩
abbrev S8x4096x4x128 : Shape := ⟨4, ![8, 4096, 4, 128]⟩
abbrev S8x4096x4x256 : Shape := ⟨4, ![8, 4096, 4, 256]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S8x64x64x4x128 : Shape := ⟨5, ![8, 64, 64, 4, 128]⟩
abbrev S64x8x4x64x128 : Shape := ⟨5, ![64, 8, 4, 64, 128]⟩
abbrev S8x64x64x4x256 : Shape := ⟨5, ![8, 64, 64, 4, 256]⟩
abbrev S64x8x4x64x256 : Shape := ⟨5, ![64, 8, 4, 64, 256]⟩
abbrev S64x8x4x1x128 : Shape := ⟨5, ![64, 8, 4, 1, 128]⟩
abbrev S64x64 : Shape := ⟨2, ![64, 64]⟩
abbrev S64x8x4x64x64 : Shape := ⟨5, ![64, 8, 4, 64, 64]⟩
abbrev S8x4x128x256 : Shape := ⟨4, ![8, 4, 128, 256]⟩
abbrev S64x8x4x128 : Shape := ⟨4, ![64, 8, 4, 128]⟩
abbrev S1x8x4x64x128 : Shape := ⟨5, ![1, 8, 4, 64, 128]⟩
abbrev S8x4x64x128 : Shape := ⟨4, ![8, 4, 64, 128]⟩
abbrev S1x8x4x64x256 : Shape := ⟨5, ![1, 8, 4, 64, 256]⟩
abbrev S8x4x64x256 : Shape := ⟨4, ![8, 4, 64, 256]⟩
abbrev S1x8x4x128 : Shape := ⟨4, ![1, 8, 4, 128]⟩
abbrev S8x4x128 : Shape := ⟨3, ![8, 4, 128]⟩
abbrev S8x4x128x1 : Shape := ⟨4, ![8, 4, 128, 1]⟩

abbrev nBuf : Space → Nat
  | .hbm => 186
  | .vmem => 0
  | .smem => 0
  | _ => 0

abbrev hbmTy0_0 (i : Nat) : BufTy := match i % 128 with
  | 0 => ⟨S4x4096x6144, .f32⟩
  | 1 => ⟨S4x4096x128, .f32⟩
  | 2 => ⟨S2x16x512, .f32⟩
  | 3 => ⟨S2x512, .f32⟩
  | 4 => ⟨S4x4096x512, .f32⟩
  | 5 => ⟨S4x4096x512, .f32⟩
  | 6 => ⟨S4x4096x1024, .f32⟩
  | 7 => ⟨S4x4096x16, .f32⟩
  | 8 => ⟨S4x4096x16, .f32⟩
  | 9 => ⟨S4x4096x4x128, .f32⟩
  | 10 => ⟨S_, .f32⟩
  | 11 => ⟨S4x4096x4x128, .f32⟩
  | 12 => ⟨S4x4096x4x128, .f32⟩
  | 13 => ⟨S4x4096x4x128, .f32⟩
  | 14 => ⟨S4x4096x4x256, .f32⟩
  | 15 => ⟨S4x4096x4x128, .f32⟩
  | 16 => ⟨S8x4096x4x128, .f32⟩
  | 17 => ⟨S4x4096x4x128, .f32⟩
  | 18 => ⟨S8x4096x4x128, .f32⟩
  | 19 => ⟨S4x4096x4x256, .f32⟩
  | 20 => ⟨S8x4096x4x256, .f32⟩
  | 21 => ⟨S1x16x512, .f32⟩
  | 22 => ⟨S16x512, .f32⟩
  | 23 => ⟨S4x4096x512, .f32⟩
  | 24 => ⟨S1x512, .f32⟩
  | 25 => ⟨S512, .f32⟩
  | 26 => ⟨S1x1x512, .f32⟩
  | 27 => ⟨S4x4096x512, .f32⟩
  | 28 => ⟨S4x4096x512, .f32⟩
  | 29 => ⟨S4x4096x512, .f32⟩
  | 30 => ⟨S_, .f32⟩
  | 31 => ⟨S4x4096x512, .f32⟩
  | 32 => ⟨S4x4096x512, .f32⟩
  | 33 => ⟨S4x4096x512, .f32⟩
  | 34 => ⟨S4x4096x512, .f32⟩
  | 35 => ⟨S4x4096x512, .i1⟩
  | 36 => ⟨S4x4096x512, .f32⟩
  | 37 => ⟨S4x4096x512, .f32⟩
  | 38 => ⟨S4x4096x512, .f32⟩
  | 39 => ⟨S4x4096x512, .f32⟩
  | 40 => ⟨S4x4096x512, .f32⟩
  | 41 => ⟨S4x4096x512, .f32⟩
  | 42 => ⟨S4x4096x512, .f32⟩
  | 43 => ⟨S4x4096x512, .f32⟩
  | 44 => ⟨S4x4096x512, .f32⟩
  | 45 => ⟨S_, .f32⟩
  | 46 => ⟨S4x4096x512, .f32⟩
  | 47 => ⟨S4x4096x512, .f32⟩
  | 48 => ⟨S4x4096x4x128, .f32⟩
  | 49 => ⟨S1x16x512, .f32⟩
  | 50 => ⟨S16x512, .f32⟩
  | 51 => ⟨S4x4096x512, .f32⟩
  | 52 => ⟨S1x512, .f32⟩
  | 53 => ⟨S512, .f32⟩
  | 54 => ⟨S1x1x512, .f32⟩
  | 55 => ⟨S4x4096x512, .f32⟩
  | 56 => ⟨S4x4096x512, .f32⟩
  | 57 => ⟨S4x4096x512, .f32⟩
  | 58 => ⟨S_, .f32⟩
  | 59 => ⟨S4x4096x512, .f32⟩
  | 60 => ⟨S4x4096x512, .f32⟩
  | 61 => ⟨S4x4096x512, .f32⟩
  | 62 => ⟨S4x4096x512, .f32⟩
  | 63 => ⟨S4x4096x512, .i1⟩
  | 64 => ⟨S4x4096x512, .f32⟩
  | 65 => ⟨S4x4096x512, .f32⟩
  | 66 => ⟨S4x4096x512, .f32⟩
  | 67 => ⟨S4x4096x512, .f32⟩
  | 68 => ⟨S4x4096x512, .f32⟩
  | 69 => ⟨S4x4096x512, .f32⟩
  | 70 => ⟨S4x4096x512, .f32⟩
  | 71 => ⟨S4x4096x512, .f32⟩
  | 72 => ⟨S4x4096x512, .f32⟩
  | 73 => ⟨S_, .f32⟩
  | 74 => ⟨S4x4096x512, .f32⟩
  | 75 => ⟨S4x4096x512, .f32⟩
  | 76 => ⟨S4x4096x4x128, .f32⟩
  | 77 => ⟨S4x4096x4x128, .f32⟩
  | 78 => ⟨S8x4096x4x128, .f32⟩
  | 79 => ⟨S8x64x64x4x128, .f32⟩
  | 80 => ⟨S64x8x4x64x128, .f32⟩
  | 81 => ⟨S8x64x64x4x128, .f32⟩
  | 82 => ⟨S64x8x4x64x128, .f32⟩
  | 83 => ⟨S8x64x64x4x256, .f32⟩
  | 84 => ⟨S64x8x4x64x256, .f32⟩
  | 85 => ⟨S8x64x64x4x128, .f32⟩
  | 86 => ⟨S64x8x4x64x128, .f32⟩
  | 87 => ⟨S_, .f32⟩
  | 88 => ⟨S_, .f32⟩
  | 89 => ⟨S64x8x4x64x128, .f32⟩
  | 90 => ⟨S64x8x4x1x128, .f32⟩
  | 91 => ⟨S64x8x4x64x128, .f32⟩
  | 92 => ⟨S64x8x4x64x128, .f32⟩
  | 93 => ⟨S64x8x4x64x128, .f32⟩
  | 94 => ⟨S64x8x4x64x128, .f32⟩
  | 95 => ⟨S64x8x4x64x128, .f32⟩
  | 96 => ⟨S64x8x4x64x128, .f32⟩
  | 97 => ⟨S64x8x4x64x128, .f32⟩
  | 98 => ⟨S64x8x4x64x128, .f32⟩
  | 99 => ⟨S64x8x4x64x128, .f32⟩
  | 100 => ⟨S_, .i1⟩
  | 101 => ⟨S64x64, .i1⟩
  | 102 => ⟨S64x64, .i32⟩
  | 103 => ⟨S_, .i32⟩
  | 104 => ⟨S64x64, .i32⟩
  | 105 => ⟨S64x64, .i32⟩
  | 106 => ⟨S64x64, .i32⟩
  | 107 => ⟨S64x64, .i1⟩
  | 108 => ⟨S_, .i1⟩
  | 109 => ⟨S64x64, .i1⟩
  | 110 => ⟨S64x64, .i1⟩
  | 111 => ⟨S64x8x4x64x64, .f32⟩
  | 112 => ⟨S_, .f32⟩
  | 113 => ⟨S_, .f32⟩
  | 114 => ⟨S64x8x4x64x64, .i1⟩
  | 115 => ⟨S64x8x4x64x64, .f32⟩
  | 116 => ⟨S64x8x4x64x64, .f32⟩
  | 117 => ⟨S64x8x4x64x256, .f32⟩
  | 118 => ⟨S_, .f32⟩
  | 119 => ⟨S8x4x128x256, .f32⟩
  | 120 => ⟨S64x8x4x128, .f32⟩
  | 121 => ⟨S64x8x4x128, .f32⟩
  | 122 => ⟨S_, .f32⟩
  | 123 => ⟨S64x8x4x64x256, .f32⟩
  | 124 => ⟨S_, .i32⟩
  | 125 => ⟨S64x8x4x64x128, .f32⟩
  | 126 => ⟨S64x8x4x64x128, .f32⟩
  | 127 => ⟨S64x8x4x64x256, .f32⟩
  | _ => ⟨S4x4096x6144, .f32⟩

abbrev hbmTy0_1 (i : Nat) : BufTy := match i % 128 with
  | 0 => ⟨S64x8x4x128, .f32⟩
  | 1 => ⟨S64x8x4x64x256, .f32⟩
  | 2 => ⟨S_, .i32⟩
  | 3 => ⟨S8x4x128x256, .f32⟩
  | 4 => ⟨S64x8x4x64x256, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S1x8x4x64x128, .f32⟩
  | 12 => ⟨S8x4x64x128, .f32⟩
  | 13 => ⟨S_, .i32⟩
  | 14 => ⟨S_, .i32⟩
  | 15 => ⟨S_, .i32⟩
  | 16 => ⟨S_, .i32⟩
  | 17 => ⟨S1x8x4x64x128, .f32⟩
  | 18 => ⟨S8x4x64x128, .f32⟩
  | 19 => ⟨S_, .i32⟩
  | 20 => ⟨S_, .i32⟩
  | 21 => ⟨S_, .i32⟩
  | 22 => ⟨S_, .i32⟩
  | 23 => ⟨S1x8x4x64x256, .f32⟩
  | 24 => ⟨S8x4x64x256, .f32⟩
  | 25 => ⟨S_, .i32⟩
  | 26 => ⟨S_, .i32⟩
  | 27 => ⟨S_, .i32⟩
  | 28 => ⟨S1x8x4x128, .f32⟩
  | 29 => ⟨S8x4x128, .f32⟩
  | 30 => ⟨S_, .i32⟩
  | 31 => ⟨S_, .i32⟩
  | 32 => ⟨S_, .i32⟩
  | 33 => ⟨S_, .i32⟩
  | 34 => ⟨S1x8x4x64x256, .f32⟩
  | 35 => ⟨S8x4x64x256, .f32⟩
  | 36 => ⟨S8x4x64x256, .f32⟩
  | 37 => ⟨S8x4x64x256, .f32⟩
  | 38 => ⟨S8x4x128x1, .f32⟩
  | 39 => ⟨S8x4x128x256, .f32⟩
  | 40 => ⟨S8x4x128x256, .f32⟩
  | 41 => ⟨S8x4x128x256, .f32⟩
  | 42 => ⟨S8x4x128x256, .f32⟩
  | 43 => ⟨S1x8x4x64x256, .f32⟩
  | 44 => ⟨S_, .i32⟩
  | 45 => ⟨S_, .i32⟩
  | 46 => ⟨S_, .i32⟩
  | 47 => ⟨S_, .i32⟩
  | 48 => ⟨S64x8x4x64x256, .f32⟩
  | 49 => ⟨S_, .i32⟩
  | 50 => ⟨S_, .i32⟩
  | 51 => ⟨S8x64x64x4x256, .f32⟩
  | 52 => ⟨S8x4096x4x256, .f32⟩
  | 53 => ⟨S4x4096x4x256, .f32⟩
  | 54 => ⟨S4x4096x4x256, .f32⟩
  | 55 => ⟨S4x4096x4x256, .f32⟩
  | 56 => ⟨S4x4096x1024, .f32⟩
  | 57 => ⟨S4x4096x1024, .f32⟩
  | _ => ⟨S4x4096x6144, .f32⟩

abbrev hbmTy (i : Nat) : BufTy := match i / 128 with
  | 0 => hbmTy0_0 i
  | 1 => hbmTy0_1 i
  | _ => ⟨S4x4096x6144, .f32⟩

abbrev bufTy : (tb : Table) → Fin (tcTables nBuf tb) → BufTy
  | .hbm, ⟨i, _⟩ => hbmTy i
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call3_v0 : Ref sig .tc := ⟨.hbm, 29, rfl⟩
abbrev main_call3_call0_cst : Ref sig .tc := ⟨.hbm, 30, rfl⟩
abbrev main_call3_call0_v0 : Ref sig .tc := ⟨.hbm, 31, rfl⟩
abbrev main_call3_call0_v1 : Ref sig .tc := ⟨.hbm, 32, rfl⟩
abbrev main_call3_call0_v2 : Ref sig .tc := ⟨.hbm, 33, rfl⟩
abbrev main_call3_call0_v3 : Ref sig .tc := ⟨.hbm, 34, rfl⟩
abbrev main_call3_call0_v4 : Ref sig .tc := ⟨.hbm, 35, rfl⟩
abbrev main_call3_call0_v5 : Ref sig .tc := ⟨.hbm, 36, rfl⟩
abbrev main_call3_call0_v6 : Ref sig .tc := ⟨.hbm, 37, rfl⟩
abbrev main_call3_call0_v7 : Ref sig .tc := ⟨.hbm, 38, rfl⟩
abbrev main_call3_call0_v8 : Ref sig .tc := ⟨.hbm, 39, rfl⟩
abbrev main_call3_call0_v9 : Ref sig .tc := ⟨.hbm, 40, rfl⟩
abbrev main_call3_call0_v10 : Ref sig .tc := ⟨.hbm, 41, rfl⟩
abbrev main_call3_call0_v11 : Ref sig .tc := ⟨.hbm, 42, rfl⟩
abbrev main_call3_v1 : Ref sig .tc := ⟨.hbm, 43, rfl⟩
abbrev main_v24 : Ref sig .tc := ⟨.hbm, 44, rfl⟩
abbrev main_cst_0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call4_v0 : Ref sig .tc := ⟨.hbm, 57, rfl⟩
abbrev main_call4_call0_cst : Ref sig .tc := ⟨.hbm, 58, rfl⟩
abbrev main_call4_call0_v0 : Ref sig .tc := ⟨.hbm, 59, rfl⟩
abbrev main_call4_call0_v1 : Ref sig .tc := ⟨.hbm, 60, rfl⟩
abbrev main_call4_call0_v2 : Ref sig .tc := ⟨.hbm, 61, rfl⟩
abbrev main_call4_call0_v3 : Ref sig .tc := ⟨.hbm, 62, rfl⟩
abbrev main_call4_call0_v4 : Ref sig .tc := ⟨.hbm, 63, rfl⟩
abbrev main_call4_call0_v5 : Ref sig .tc := ⟨.hbm, 64, rfl⟩
abbrev main_call4_call0_v6 : Ref sig .tc := ⟨.hbm, 65, rfl⟩
abbrev main_call4_call0_v7 : Ref sig .tc := ⟨.hbm, 66, rfl⟩
abbrev main_call4_call0_v8 : Ref sig .tc := ⟨.hbm, 67, rfl⟩
abbrev main_call4_call0_v9 : Ref sig .tc := ⟨.hbm, 68, rfl⟩
abbrev main_call4_call0_v10 : Ref sig .tc := ⟨.hbm, 69, rfl⟩
abbrev main_call4_call0_v11 : Ref sig .tc := ⟨.hbm, 70, rfl⟩
abbrev main_call4_v1 : Ref sig .tc := ⟨.hbm, 71, rfl⟩
abbrev main_v36 : Ref sig .tc := ⟨.hbm, 72, rfl⟩
abbrev main_cst_1 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_call6_call0_cst : Ref sig .tc := ⟨.hbm, 87, rfl⟩
abbrev main_call6_call0_v0 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c : Ref sig .tc := ⟨.hbm, 100, rfl⟩
abbrev main_v61 : Ref sig .tc := ⟨.hbm, 101, rfl⟩
abbrev main_call7_v0 : Ref sig .tc := ⟨.hbm, 102, rfl⟩
abbrev main_call7_c : Ref sig .tc := ⟨.hbm, 103, rfl⟩
abbrev main_call7_v1 : Ref sig .tc := ⟨.hbm, 104, rfl⟩
abbrev main_call7_v2 : Ref sig .tc := ⟨.hbm, 105, rfl⟩
abbrev main_call7_v3 : Ref sig .tc := ⟨.hbm, 106, rfl⟩
abbrev main_call7_v4 : Ref sig .tc := ⟨.hbm, 107, rfl⟩
abbrev main_call7_c_0 : Ref sig .tc := ⟨.hbm, 108, rfl⟩
abbrev main_call7_v5 : Ref sig .tc := ⟨.hbm, 109, rfl⟩
abbrev main_v62 : Ref sig .tc := ⟨.hbm, 110, rfl⟩
abbrev main_v63 : Ref sig .tc := ⟨.hbm, 111, rfl⟩
abbrev main_cst_2 : Ref sig .tc := ⟨.hbm, 112, rfl⟩
abbrev main_call8_v0 : Ref sig .tc := ⟨.hbm, 113, rfl⟩
abbrev main_call8_v1 : Ref sig .tc := ⟨.hbm, 114, rfl⟩
abbrev main_call8_v2 : Ref sig .tc := ⟨.hbm, 115, rfl⟩
abbrev main_v64 : Ref sig .tc := ⟨.hbm, 116, rfl⟩
abbrev main_v65 : Ref sig .tc := ⟨.hbm, 117, rfl⟩
abbrev main_cst_3 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_4 : Ref sig .tc := ⟨.hbm, 122, rfl⟩
abbrev main_v69 : Ref sig .tc := ⟨.hbm, 123, rfl⟩
abbrev main_c_5 : Ref sig .tc := ⟨.hbm, 124, rfl⟩
abbrev main_v70_0 : Ref sig .tc := ⟨.hbm, 125, rfl⟩
abbrev main_v70_1 : Ref sig .tc := ⟨.hbm, 126, rfl⟩
abbrev main_v70_2 : Ref sig .tc := ⟨.hbm, 127, rfl⟩
abbrev main_v70_3 : Ref sig .tc := ⟨.hbm, 128, rfl⟩
abbrev main_v70_4 : Ref sig .tc := ⟨.hbm, 129, rfl⟩
abbrev main_v70_5 : Ref sig .tc := ⟨.hbm, 130, rfl⟩
abbrev main_v70_6 : Ref sig .tc := ⟨.hbm, 131, rfl⟩
abbrev main_v70_7 : Ref sig .tc := ⟨.hbm, 132, rfl⟩
abbrev main_while0c_c_13 : Ref sig .tc := ⟨.hbm, 133, rfl⟩
abbrev main_while0c_v78 : Ref sig .tc := ⟨.hbm, 134, rfl⟩
abbrev main_while0b_call9_c : Ref sig .tc := ⟨.hbm, 135, rfl⟩
abbrev main_while0b_call9_c_0 : Ref sig .tc := ⟨.hbm, 136, rfl⟩
abbrev main_while0b_call9_c_1 : Ref sig .tc := ⟨.hbm, 137, rfl⟩
abbrev main_while0b_call9_c_2 : Ref sig .tc := ⟨.hbm, 138, rfl⟩
abbrev main_while0b_call9_v0 : Ref sig .tc := ⟨.hbm, 139, rfl⟩
abbrev main_while0b_v78 : Ref sig .tc := ⟨.hbm, 140, rfl⟩
abbrev main_while0b_call10_c : Ref sig .tc := ⟨.hbm, 141, rfl⟩
abbrev main_while0b_call10_c_0 : Ref sig .tc := ⟨.hbm, 142, rfl⟩
abbrev main_while0b_call10_c_1 : Ref sig .tc := ⟨.hbm, 143, rfl⟩
abbrev main_while0b_call10_c_2 : Ref sig .tc := ⟨.hbm, 144, rfl⟩
abbrev main_while0b_call10_v0 : Ref sig .tc := ⟨.hbm, 145, rfl⟩
abbrev main_while0b_v79 : Ref sig .tc := ⟨.hbm, 146, rfl⟩
abbrev main_while0b_call11_c : Ref sig .tc := ⟨.hbm, 147, rfl⟩
abbrev main_while0b_call11_c_0 : Ref sig .tc := ⟨.hbm, 148, rfl⟩
abbrev main_while0b_call11_c_1 : Ref sig .tc := ⟨.hbm, 149, rfl⟩
abbrev main_while0b_call11_c_2 : Ref sig .tc := ⟨.hbm, 150, rfl⟩
abbrev main_while0b_call11_v0 : Ref sig .tc := ⟨.hbm, 151, rfl⟩
abbrev main_while0b_v80 : Ref sig .tc := ⟨.hbm, 152, rfl⟩
abbrev main_while0b_call12_c : Ref sig .tc := ⟨.hbm, 153, rfl⟩
abbrev main_while0b_call12_c_0 : Ref sig .tc := ⟨.hbm, 154, rfl⟩
abbrev main_while0b_call12_c_1 : Ref sig .tc := ⟨.hbm, 155, rfl⟩
abbrev main_while0b_call12_v0 : Ref sig .tc := ⟨.hbm, 156, rfl⟩
abbrev main_while0b_v81 : Ref sig .tc := ⟨.hbm, 157, rfl⟩
abbrev main_while0b_call13_c : Ref sig .tc := ⟨.hbm, 158, rfl⟩
abbrev main_while0b_call13_c_0 : Ref sig .tc := ⟨.hbm, 159, rfl⟩
abbrev main_while0b_call13_c_1 : Ref sig .tc := ⟨.hbm, 160, rfl⟩
abbrev main_while0b_call13_c_2 : Ref sig .tc := ⟨.hbm, 161, rfl⟩
abbrev main_while0b_call13_v0 : Ref sig .tc := ⟨.hbm, 162, rfl⟩
abbrev main_while0b_v82 : Ref sig .tc := ⟨.hbm, 163, rfl⟩
abbrev main_while0b_v83 : Ref sig .tc := ⟨.hbm, 164, rfl⟩
abbrev main_while0b_v84 : Ref sig .tc := ⟨.hbm, 165, rfl⟩
abbrev main_while0b_v85 : Ref sig .tc := ⟨.hbm, 166, rfl⟩
abbrev main_while0b_v86 : Ref sig .tc := ⟨.hbm, 167, rfl⟩
abbrev main_while0b_v87 : Ref sig .tc := ⟨.hbm, 168, rfl⟩
abbrev main_while0b_v88 : Ref sig .tc := ⟨.hbm, 169, rfl⟩
abbrev main_while0b_v89 : Ref sig .tc := ⟨.hbm, 170, rfl⟩
abbrev main_while0b_call14_v0 : Ref sig .tc := ⟨.hbm, 171, rfl⟩
abbrev main_while0b_call14_c : Ref sig .tc := ⟨.hbm, 172, rfl⟩
abbrev main_while0b_call14_c_0 : Ref sig .tc := ⟨.hbm, 173, rfl⟩
abbrev main_while0b_call14_c_1 : Ref sig .tc := ⟨.hbm, 174, rfl⟩
abbrev main_while0b_call14_c_2 : Ref sig .tc := ⟨.hbm, 175, rfl⟩
abbrev main_while0b_v90 : Ref sig .tc := ⟨.hbm, 176, rfl⟩
abbrev main_while0b_c_13 : Ref sig .tc := ⟨.hbm, 177, rfl⟩
abbrev main_while0b_v91 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4x4096x2048 : Shape := ⟨3, ![4, 4096, 2048]⟩
abbrev S2x2048x8192 : Shape := ⟨3, ![2, 2048, 8192]⟩
abbrev S16384x2048 : Shape := ⟨2, ![16384, 2048]⟩
abbrev S16384x8192 : Shape := ⟨2, ![16384, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2x2048x8192, .f32⟩
  | .hbm, ⟨2, _⟩ => ⟨S16384x2048, .f32⟩
  | .hbm, ⟨3, _⟩ => ⟨S16384x2048, .bf16⟩
  | .hbm, ⟨4, _⟩ => ⟨S2x2048x8192, .bf16⟩
  | .hbm, ⟨5, _⟩ => ⟨S16384x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4x4096x2048 : Shape := ⟨3, ![4, 4096, 2048]⟩
abbrev S2x2048x8192 : Shape := ⟨3, ![2, 2048, 8192]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S_ : Shape := ⟨0, ![]⟩
abbrev S16384x8192 : Shape := ⟨2, ![16384, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x8192, .f32⟩
  | .hbm, ⟨2, _⟩ => ⟨S1x2048x8192, .f32⟩
  | .hbm, ⟨3, _⟩ => ⟨S2048x8192, .f32⟩
  | .hbm, ⟨4, _⟩ => ⟨S4x4096x8192, .f32⟩
  | .hbm, ⟨5, _⟩ => ⟨S_, .f32⟩
  | .hbm, ⟨6, _⟩ => ⟨S4x4096x8192, .f32⟩
  | .hbm, ⟨7, _⟩ => ⟨S4x4096x8192, .f32⟩
  | .hbm, ⟨8, _⟩ => ⟨S4x4096x8192, .f32⟩
  | .hbm, ⟨9, _⟩ => ⟨S16384x8192, .f32⟩
  | .hbm, ⟨10, _⟩ => ⟨S16384x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x1x2048 : Shape := ⟨3, ![4, 1, 2048]⟩
abbrev S16384x8192 : Shape := ⟨2, ![16384, 8192]⟩
abbrev S2x8192x2048 : Shape := ⟨3, ![2, 8192, 2048]⟩
abbrev S16384x2048 : Shape := ⟨2, ![16384, 2048]⟩
abbrev S512x8192 : Shape := ⟨2, ![512, 8192]⟩
abbrev S1x8192x512 : Shape := ⟨3, ![1, 8192, 512]⟩
abbrev S512x512 : Shape := ⟨2, ![512, 512]⟩
abbrev S1x1x512 : Shape := ⟨3, ![1, 1, 512]⟩
abbrev S8192x512 : Shape := ⟨2, ![8192, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S16384x8192, .bf16⟩
  | .hbm, ⟨3, _⟩ => ⟨S2x8192x2048, .f32⟩
  | .hbm, ⟨4, _⟩ => ⟨S2x8192x2048, .bf16⟩
  | .hbm, ⟨5, _⟩ => ⟨S16384x2048, .f32⟩
  | .hbm, ⟨6, _⟩ => ⟨S16384x2048, .f32⟩
  | .local _ .vmem, ⟨0, _⟩ => ⟨S512x8192, .bf16⟩
  | .local _ .vmem, ⟨1, _⟩ => ⟨S512x8192, .bf16⟩
  | .local _ .vmem, ⟨2, _⟩ => ⟨S1x8192x512, .bf16⟩
  | .local _ .vmem, ⟨3, _⟩ => ⟨S1x8192x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S4x4096x2048 : Shape := ⟨3, ![4, 4096, 2048]⟩
abbrev S4x1x2048 : Shape := ⟨3, ![4, 1, 2048]⟩
abbrev S16384x8192 : Shape := ⟨2, ![16384, 8192]⟩
abbrev S2x8192x2048 : Shape := ⟨3, ![2, 8192, 2048]⟩
abbrev S4x4096x8192 : Shape := ⟨3, ![4, 4096, 8192]⟩
abbrev S1x8192x2048 : Shape := ⟨3, ![1, 8192, 2048]⟩
abbrev S8192x2048 : Shape := ⟨2, ![8192, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S16384x8192, .bf16⟩
  | .hbm, ⟨3, _⟩ => ⟨S2x8192x2048, .f32⟩
  | .hbm, ⟨4, _⟩ => ⟨S16384x8192, .f32⟩
  | .hbm, ⟨5, _⟩ => ⟨S4x4096x8192, .f32⟩
  | .hbm, ⟨6, _⟩ => ⟨S1x8192x2048, .f32⟩
  | .hbm, ⟨7, _⟩ => ⟨S8192x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048 : Shape := ⟨1, ![2048]⟩
abbrev S1x2048 : Shape := ⟨2, ![1, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S1x2048, .f32⟩
  | .hbm, ⟨3, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x512x2048, .f32⟩
  | .local _ .vmem, ⟨4, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S1x1x2048, .f32⟩
  | .hbm, ⟨16, _⟩ => ⟨S4x4096x2048, .f32⟩
  | .hbm, ⟨17, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel5.lean ====
abbrev S4x4096x2048 : Shape := ⟨3, ![4, 4096, 2048]⟩
abbrev S2048 : Shape := ⟨1, ![2048]⟩
abbrev S4x1x2048 : Shape := ⟨3, ![4, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S4x4096x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S4x4096x2048 : Shape := ⟨3, ![4, 4096, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S_, .f32⟩
  | .hbm, ⟨21, _⟩ => ⟨S4x1x2048, .f32⟩
  | .hbm, ⟨22, _⟩ => ⟨S4x1x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel6.lean ====
abbrev S4x4096x2048 : Shape := ⟨3, ![4, 4096, 2048]⟩
abbrev S2048x2048 : Shape := ⟨2, ![2048, 2048]⟩
abbrev S16384x2048 : Shape := ⟨2, ![16384, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S16384x2048, .f32⟩
  | .hbm, ⟨3, _⟩ => ⟨S16384x2048, .bf16⟩
  | .hbm, ⟨4, _⟩ => ⟨S2048x2048, .bf16⟩
  | .hbm, ⟨5, _⟩ => ⟨S1x2048x2048, .bf16⟩
  | .hbm, ⟨6, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4x4096x2048 : Shape := ⟨3, ![4, 4096, 2048]⟩
abbrev S2048x2048 : Shape := ⟨2, ![2048, 2048]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S4x4096x2048, .f32⟩
  | .hbm, ⟨3, _⟩ => ⟨S16384x2048, .f32⟩
  | .hbm, ⟨4, _⟩ => ⟨S16384x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4x4096x2048 : Shape := ⟨3, ![4, 4096, 2048]⟩
abbrev S4x1x2048 : Shape := ⟨3, ![4, 1, 2048]⟩
abbrev S16384x2048 : Shape := ⟨2, ![16384, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S16384x2048, .bf16⟩
  | .hbm, ⟨3, _⟩ => ⟨S2048x2048, .f32⟩
  | .hbm, ⟨4, _⟩ => ⟨S2048x2048, .bf16⟩
  | .hbm, ⟨5, _⟩ => ⟨S16384x2048, .f32⟩
  | .hbm, ⟨6, _⟩ => ⟨S1x2048x2048, .bf16⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S4x4096x2048 : Shape := ⟨3, ![4, 4096, 2048]⟩
abbrev S4x1x2048 : Shape := ⟨3, ![4, 1, 2048]⟩
abbrev S16384x2048 : Shape := ⟨2, ![16384, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S16384x2048, .bf16⟩
  | .hbm, ⟨3, _⟩ => ⟨S2048x2048, .f32⟩
  | .hbm, ⟨4, _⟩ => ⟨S16384x2048, .f32⟩
  | .hbm, ⟨5, _⟩ => ⟨S4x4096x2048, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S4x4096x2048 : Shape := ⟨3, ![4, 4096, 2048]⟩
abbrev S2048x6176 : Shape := ⟨2, ![2048, 6176]⟩
abbrev S16384x2048 : Shape := ⟨2, ![16384, 2048]⟩
abbrev S1x2048x6176 : Shape := ⟨3, ![1, 2048, 6176]⟩
abbrev S16384x6144 : Shape := ⟨2, ![16384, 6144]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048x6176, .f32⟩
  | .hbm, ⟨2, _⟩ => ⟨S16384x2048, .f32⟩
  | .hbm, ⟨3, _⟩ => ⟨S16384x2048, .bf16⟩
  | .hbm, ⟨4, _⟩ => ⟨S2048x6176, .bf16⟩
  | .hbm, ⟨5, _⟩ => ⟨S1x2048x6176, .bf16⟩
  | .hbm, ⟨6, _⟩ => ⟨S16384x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4x4096x2048 : Shape := ⟨3, ![4, 4096, 2048]⟩
abbrev S2048x6176 : Shape := ⟨2, ![2048, 6176]⟩
abbrev S4x4096x6176 : Shape := ⟨3, ![4, 4096, 6176]⟩
abbrev S4x4096x6144 : Shape := ⟨3, ![4, 4096, 6144]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6176, .f32⟩
  | .hbm, ⟨2, _⟩ => ⟨S4x4096x6176, .f32⟩
  | .hbm, ⟨3, _⟩ => ⟨S4x4096x6144, .f32⟩
  | .hbm, ⟨4, _⟩ => ⟨S16384x6144, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4x4096x2048 : Shape := ⟨3, ![4, 4096, 2048]⟩
abbrev S4x1x2048 : Shape := ⟨3, ![4, 1, 2048]⟩
abbrev S4x4096x1024 : Shape := ⟨3, ![4, 4096, 1024]⟩
abbrev S2048x2048 : Shape := ⟨2, ![2048, 2048]⟩
abbrev S16384x1024 : Shape := ⟨2, ![16384, 1024]⟩
abbrev S16384x2048 : Shape := ⟨2, ![16384, 2048]⟩
abbrev S1x2048x2048 : Shape := ⟨3, ![1, 2048, 2048]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x4096x1024, .f32⟩
  | .hbm, ⟨3, _⟩ => ⟨S4x4096x1024, .bf16⟩
  | .hbm, ⟨4, _⟩ => ⟨S2048x2048, .f32⟩
  | .hbm, ⟨5, _⟩ => ⟨S16384x1024, .f32⟩
  | .hbm, ⟨6, _⟩ => ⟨S2048x2048, .bf16⟩
  | .hbm, ⟨7, _⟩ => ⟨S16384x1024, .bf16⟩
  | .hbm, ⟨8, _⟩ => ⟨S16384x2048, .f32⟩
  | .hbm, ⟨9, _⟩ => ⟨S1x2048x2048, .bf16⟩
  | .hbm, ⟨10, _⟩ => ⟨S16384x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference9Ideal.lean ====
abbrev S4x4096x2048 : Shape := ⟨3, ![4, 4096, 2048]⟩
abbrev S4x1x2048 : Shape := ⟨3, ![4, 1, 2048]⟩
abbrev S4x4096x1024 : Shape := ⟨3, ![4, 4096, 1024]⟩
abbrev S2048x2048 : Shape := ⟨2, ![2048, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x1x2048, .f32⟩
  | .hbm, ⟨2, _⟩ => ⟨S4x4096x1024, .f32⟩
  | .hbm, ⟨3, _⟩ => ⟨S4x4096x1024, .bf16⟩
  | .hbm, ⟨4, _⟩ => ⟨S2048x2048, .f32⟩
  | .hbm, ⟨5, _⟩ => ⟨S4x4096x1024, .f32⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel10.lean ====
abbrev S4x4096x2048 : Shape := ⟨3, ![4, 4096, 2048]⟩
abbrev S2048x256 : Shape := ⟨2, ![2048, 256]⟩
abbrev S16384x2048 : Shape := ⟨2, ![16384, 2048]⟩
abbrev S1x2048x256 : Shape := ⟨3, ![1, 2048, 256]⟩
abbrev S16384x256 : Shape := ⟨2, ![16384, 256]⟩
abbrev S1024x2048 : Shape := ⟨2, ![1024, 2048]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x256, .f32⟩
  | .hbm, ⟨2, _⟩ => ⟨S16384x2048, .f32⟩
  | .hbm, ⟨3, _⟩ => ⟨S16384x2048, .bf16⟩
  | .hbm, ⟨4, _⟩ => ⟨S2048x256, .bf16⟩
  | .hbm, ⟨5, _⟩ => ⟨S1x2048x256, .bf16⟩
  | .hbm, ⟨6, _⟩ => ⟨S16384x256, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .bf16⟩
  | .local _ .vmem, ⟨3, _⟩ => ⟨S1024x256, .f32⟩
  | .local _ .vmem, ⟨4, _⟩ => ⟨S1024x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4x4096x2048 : Shape := ⟨3, ![4, 4096, 2048]⟩
abbrev S2048x256 : Shape := ⟨2, ![2048, 256]⟩
abbrev S4x4096x256 : Shape := ⟨3, ![4, 4096, 256]⟩
abbrev S16384x256 : Shape := ⟨2, ![16384, 256]⟩

abbrev nBuf : Space → Nat
  | .hbm => 4
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x256, .f32⟩
  | .hbm, ⟨2, _⟩ => ⟨S4x4096x256, .f32⟩
  | .hbm, ⟨3, _⟩ => ⟨S16384x256, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S16384x256 : Shape := ⟨2, ![16384, 256]⟩
abbrev S256x2048 : Shape := ⟨2, ![256, 2048]⟩
abbrev S1x256x2048 : Shape := ⟨3, ![1, 256, 2048]⟩
abbrev S16384x2048 : Shape := ⟨2, ![16384, 2048]⟩
abbrev S1024x256 : Shape := ⟨2, ![1024, 256]⟩
abbrev S1x256x1024 : Shape := ⟨3, ![1, 256, 1024]⟩
abbrev S1024x1024 : Shape := ⟨2, ![1024, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S256x2048, .f32⟩
  | .hbm, ⟨2, _⟩ => ⟨S256x2048, .bf16⟩
  | .hbm, ⟨3, _⟩ => ⟨S1x256x2048, .bf16⟩
  | .hbm, ⟨4, _⟩ => ⟨S16384x2048, .bf16⟩
  | .local _ .vmem, ⟨0, _⟩ => ⟨S1024x256, .f32⟩
  | .local _ .vmem, ⟨1, _⟩ => ⟨S1024x256, .f32⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .bf16⟩
  | .local _ .vmem, ⟨5, _⟩ => ⟨S1024x1024, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x256 : Shape := ⟨2, ![16384, 256]⟩
abbrev S256x2048 : Shape := ⟨2, ![256, 2048]⟩
abbrev S_ : Shape := ⟨0, ![]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x2048, .f32⟩
  | .hbm, ⟨2, _⟩ => ⟨S16384x256, .f32⟩
  | .hbm, ⟨3, _⟩ => ⟨S16384x256, .f32⟩
  | .hbm, ⟨4, _⟩ => ⟨S_, .f32⟩
  | .hbm, ⟨5, _⟩ => ⟨S16384x256, .f32⟩
  | .hbm, ⟨6, _⟩ => ⟨S16384x256, .f32⟩
  | .hbm, ⟨7, _⟩ => ⟨S_, .f32⟩
  | .hbm, ⟨8, _⟩ => ⟨S16384x256, .f32⟩
  | .hbm, ⟨9, _⟩ => ⟨S16384x256, .f32⟩
  | .hbm, ⟨10, _⟩ => ⟨S16384x2048, .f32⟩
  | .hbm, ⟨11, _⟩ => ⟨S16384x2048, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel12.lean ====
abbrev S4x4096x2048 : Shape := ⟨3, ![4, 4096, 2048]⟩
abbrev S2x2048x96 : Shape := ⟨3, ![2, 2048, 96]⟩
abbrev S1x2048x96 : Shape := ⟨3, ![1, 2048, 96]⟩
abbrev S2048x96 : Shape := ⟨2, ![2048, 96]⟩
abbrev S_ : Shape := ⟨0, ![]⟩
abbrev S2048x128 : Shape := ⟨2, ![2048, 128]⟩
abbrev S2048x256 : Shape := ⟨2, ![2048, 256]⟩
abbrev S16384x2048 : Shape := ⟨2, ![16384, 2048]⟩
abbrev S1x2048x256 : Shape := ⟨3, ![1, 2048, 256]⟩
abbrev S16384x256 : Shape := ⟨2, ![16384, 256]⟩
abbrev S1024x2048 : Shape := ⟨2, ![1024, 2048]⟩
abbrev S1024x256 : Shape := ⟨2, ![1024, 256]⟩

abbrev nBuf : Space → Nat
  | .hbm => 18
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2x2048x96, .f32⟩
  | .hbm, ⟨2, _⟩ => ⟨S1x2048x96, .f32⟩
  | .hbm, ⟨3, _⟩ => ⟨S2048x96, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S1x2048x96, .f32⟩
  | .hbm, ⟨8, _⟩ => ⟨S2048x96, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x256, .f32⟩
  | .hbm, ⟨13, _⟩ => ⟨S2048x256, .bf16⟩
  | .hbm, ⟨14, _⟩ => ⟨S16384x2048, .f32⟩
  | .hbm, ⟨15, _⟩ => ⟨S16384x2048, .bf16⟩
  | .hbm, ⟨16, _⟩ => ⟨S1x2048x256, .bf16⟩
  | .hbm, ⟨17, _⟩ => ⟨S16384x256, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x256, .bf16⟩
  | .local _ .vmem, ⟨3, _⟩ => ⟨S1024x256, .f32⟩
  | .local _ .vmem, ⟨4, _⟩ => ⟨S1024x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4x4096x2048 : Shape := ⟨3, ![4, 4096, 2048]⟩
abbrev S2x2048x96 : Shape := ⟨3, ![2, 2048, 96]⟩
abbrev S1x2048x96 : Shape := ⟨3, ![1, 2048, 96]⟩
abbrev S2048x96 : Shape := ⟨2, ![2048, 96]⟩
abbrev S4x4096x96 : Shape := ⟨3, ![4, 4096, 96]⟩
abbrev S_ : Shape := ⟨0, ![]⟩
abbrev S4x4096x128 : Shape := ⟨3, ![4, 4096, 128]⟩
abbrev S4x4096x256 : Shape := ⟨3, ![4, 4096, 256]⟩
abbrev S16384x256 : Shape := ⟨2, ![16384, 256]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x96, .f32⟩
  | .hbm, ⟨2, _⟩ => ⟨S1x2048x96, .f32⟩
  | .hbm, ⟨3, _⟩ => ⟨S2048x96, .f32⟩
  | .hbm, ⟨4, _⟩ => ⟨S4x4096x96, .f32⟩
  | .hbm, ⟨5, _⟩ => ⟨S_, .i32⟩
  | .hbm, ⟨6, _⟩ => ⟨S_, .f32⟩
  | .hbm, ⟨7, _⟩ => ⟨S4x4096x128, .f32⟩
  | .hbm, ⟨8, _⟩ => ⟨S1x2048x96, .f32⟩
  | .hbm, ⟨9, _⟩ => ⟨S2048x96, .f32⟩
  | .hbm, ⟨10, _⟩ => ⟨S4x4096x96, .f32⟩
  | .hbm, ⟨11, _⟩ => ⟨S_, .i32⟩
  | .hbm, ⟨12, _⟩ => ⟨S_, .f32⟩
  | .hbm, ⟨13, _⟩ => ⟨S4x4096x128, .f32⟩
  | .hbm, ⟨14, _⟩ => ⟨S4x4096x256, .f32⟩
  | .hbm, ⟨15, _⟩ => ⟨S16384x256, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel13.lean ====
abbrev S16384x256 : Shape := ⟨2, ![16384, 256]⟩
abbrev S2x96x2048 : Shape := ⟨3, ![2, 96, 2048]⟩
abbrev S2x2048 : Shape := ⟨2, ![2, 2048]⟩
abbrev S1x96x2048 : Shape := ⟨3, ![1, 96, 2048]⟩
abbrev S96x2048 : Shape := ⟨2, ![96, 2048]⟩
abbrev S_ : Shape := ⟨0, ![]⟩
abbrev S128x2048 : Shape := ⟨2, ![128, 2048]⟩
abbrev S1x2048 : Shape := ⟨2, ![1, 2048]⟩
abbrev S2048 : Shape := ⟨1, ![2048]⟩
abbrev S1x128x2048 : Shape := ⟨3, ![1, 128, 2048]⟩
abbrev S16384x2048 : Shape := ⟨2, ![16384, 2048]⟩
abbrev S1024x128 : Shape := ⟨2, ![1024, 128]⟩
abbrev S1x128x1024 : Shape := ⟨3, ![1, 128, 1024]⟩
abbrev S1x1024 : Shape := ⟨2, ![1, 1024]⟩
abbrev S1024x1024 : Shape := ⟨2, ![1024, 1024]⟩
abbrev S128x1024 : Shape := ⟨2, ![128, 1024]⟩

abbrev nBuf : Space → Nat
  | .hbm => 14
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S2x96x2048, .f32⟩
  | .hbm, ⟨2, _⟩ => ⟨S2x2048, .f32⟩
  | .hbm, ⟨3, _⟩ => ⟨S1x96x2048, .f32⟩
  | .hbm, ⟨4, _⟩ => ⟨S96x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S1x2048, .f32⟩
  | .hbm, ⟨10, _⟩ => ⟨S2048, .f32⟩
  | .hbm, ⟨11, _⟩ => ⟨S1x128x2048, .bf16⟩
  | .hbm, ⟨12, _⟩ => ⟨S1x2048, .f32⟩
  | .hbm, ⟨13, _⟩ => ⟨S16384x2048, .f32⟩
  | .local _ .vmem, ⟨0, _⟩ => ⟨S1024x128, .f32⟩
  | .local _ .vmem, ⟨1, _⟩ => ⟨S1024x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S16384x256 : Shape := ⟨2, ![16384, 256]⟩
abbrev S2x96x2048 : Shape := ⟨3, ![2, 96, 2048]⟩
abbrev S2x2048 : Shape := ⟨2, ![2, 2048]⟩
abbrev S1x2048 : Shape := ⟨2, ![1, 2048]⟩
abbrev S2048 : Shape := ⟨1, ![2048]⟩
abbrev S16384x96 : Shape := ⟨2, ![16384, 96]⟩
abbrev S1x96x2048 : Shape := ⟨3, ![1, 96, 2048]⟩
abbrev S96x2048 : Shape := ⟨2, ![96, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2x96x2048, .f32⟩
  | .hbm, ⟨2, _⟩ => ⟨S2x2048, .f32⟩
  | .hbm, ⟨3, _⟩ => ⟨S1x2048, .f32⟩
  | .hbm, ⟨4, _⟩ => ⟨S2048, .f32⟩
  | .hbm, ⟨5, _⟩ => ⟨S16384x96, .f32⟩
  | .hbm, ⟨6, _⟩ => ⟨S16384x96, .f32⟩
  | .hbm, ⟨7, _⟩ => ⟨S1x96x2048, .f32⟩
  | .hbm, ⟨8, _⟩ => ⟨S96x2048, .f32⟩
  | .hbm, ⟨9, _⟩ => ⟨S16384x2048, .f32⟩
  | .hbm, ⟨10, _⟩ => ⟨S1x2048, .f32⟩
  | .hbm, ⟨11, _⟩ => ⟨S16384x2048, .f32⟩
  | .hbm, ⟨12, _⟩ => ⟨S16384x2048, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S16384x256 : Shape := ⟨2, ![16384, 256]⟩
abbrev S2x96x2048 : Shape := ⟨3, ![2, 96, 2048]⟩
abbrev S2x2048 : Shape := ⟨2, ![2, 2048]⟩
abbrev S1x96x2048 : Shape := ⟨3, ![1, 96, 2048]⟩
abbrev S96x2048 : Shape := ⟨2, ![96, 2048]⟩
abbrev S_ : Shape := ⟨0, ![]⟩
abbrev S128x2048 : Shape := ⟨2, ![128, 2048]⟩
abbrev S1x2048 : Shape := ⟨2, ![1, 2048]⟩
abbrev S2048 : Shape := ⟨1, ![2048]⟩
abbrev S1x128x2048 : Shape := ⟨3, ![1, 128, 2048]⟩
abbrev S16384x2048 : Shape := ⟨2, ![16384, 2048]⟩
abbrev S1024x128 : Shape := ⟨2, ![1024, 128]⟩
abbrev S1x128x1024 : Shape := ⟨3, ![1, 128, 1024]⟩
abbrev S1x1024 : Shape := ⟨2, ![1, 1024]⟩
abbrev S1024x1024 : Shape := ⟨2, ![1024, 1024]⟩
abbrev S128x1024 : Shape := ⟨2, ![128, 1024]⟩

abbrev nBuf : Space → Nat
  | .hbm => 14
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S2x96x2048, .f32⟩
  | .hbm, ⟨2, _⟩ => ⟨S2x2048, .f32⟩
  | .hbm, ⟨3, _⟩ => ⟨S1x96x2048, .f32⟩
  | .hbm, ⟨4, _⟩ => ⟨S96x2048, .f32⟩
  | .hbm, ⟨5, _⟩ => ⟨S_, .i32⟩
  | .hbm, ⟨6, _⟩ => ⟨S_, .f32⟩
  | .hbm, ⟨7, _⟩ => ⟨S128x2048, .f32⟩
  | .hbm, ⟨8, _⟩ => ⟨S128x2048, .bf16⟩
  | .hbm, ⟨9, _⟩ => ⟨S1x2048, .f32⟩
  | .hbm, ⟨10, _⟩ => ⟨S2048, .f32⟩
  | .hbm, ⟨11, _⟩ => ⟨S1x128x2048, .bf16⟩
  | .hbm, ⟨12, _⟩ => ⟨S1x2048, .f32⟩
  | .hbm, ⟨13, _⟩ => ⟨S16384x2048, .bf16⟩
  | .local _ .vmem, ⟨0, _⟩ => ⟨S1024x128, .f32⟩
  | .local _ .vmem, ⟨1, _⟩ => ⟨S1024x128, .f32⟩
  | .local _ .vmem, ⟨2, _⟩ => ⟨S1x128x1024, .bf16⟩
  | .local _ .vmem, ⟨3, _⟩ => ⟨S1x128x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S16384x256 : Shape := ⟨2, ![16384, 256]⟩
abbrev S2x96x2048 : Shape := ⟨3, ![2, 96, 2048]⟩
abbrev S2x2048 : Shape := ⟨2, ![2, 2048]⟩
abbrev S1x2048 : Shape := ⟨2, ![1, 2048]⟩
abbrev S2048 : Shape := ⟨1, ![2048]⟩
abbrev S16384x96 : Shape := ⟨2, ![16384, 96]⟩
abbrev S1x96x2048 : Shape := ⟨3, ![1, 96, 2048]⟩
abbrev S96x2048 : Shape := ⟨2, ![96, 2048]⟩
abbrev S16384x2048 : Shape := ⟨2, ![16384, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S2x96x2048, .f32⟩
  | .hbm, ⟨2, _⟩ => ⟨S2x2048, .f32⟩
  | .hbm, ⟨3, _⟩ => ⟨S1x2048, .f32⟩
  | .hbm, ⟨4, _⟩ => ⟨S2048, .f32⟩
  | .hbm, ⟨5, _⟩ => ⟨S16384x96, .f32⟩
  | .hbm, ⟨6, _⟩ => ⟨S1x96x2048, .f32⟩
  | .hbm, ⟨7, _⟩ => ⟨S96x2048, .f32⟩
  | .hbm, ⟨8, _⟩ => ⟨S16384x2048, .f32⟩
  | .hbm, ⟨9, _⟩ => ⟨S1x2048, .f32⟩
  | .hbm, ⟨10, _⟩ => ⟨S16384x2048, .f32⟩
  | .hbm, ⟨11, _⟩ => ⟨S16384x2048, .f32⟩
  | .hbm, ⟨12, _⟩ => ⟨S16384x2048, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel15.lean ====
abbrev S4x4096x2048 : Shape := ⟨3, ![4, 4096, 2048]⟩
abbrev S2048x6176 : Shape := ⟨2, ![2048, 6176]⟩
abbrev S16384x2048 : Shape := ⟨2, ![16384, 2048]⟩
abbrev S2048x32 : Shape := ⟨2, ![2048, 32]⟩
abbrev S_ : Shape := ⟨0, ![]⟩
abbrev S2048x128 : Shape := ⟨2, ![2048, 128]⟩
abbrev S1x2048x128 : Shape := ⟨3, ![1, 2048, 128]⟩
abbrev S16384x128 : Shape := ⟨2, ![16384, 128]⟩
abbrev S1024x2048 : Shape := ⟨2, ![1024, 2048]⟩
abbrev S1024x128 : Shape := ⟨2, ![1024, 128]⟩

abbrev nBuf : Space → Nat
  | .hbm => 11
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x6176, .f32⟩
  | .hbm, ⟨2, _⟩ => ⟨S2048x6176, .bf16⟩
  | .hbm, ⟨3, _⟩ => ⟨S16384x2048, .f32⟩
  | .hbm, ⟨4, _⟩ => ⟨S16384x2048, .bf16⟩
  | .hbm, ⟨5, _⟩ => ⟨S2048x32, .bf16⟩
  | .hbm, ⟨6, _⟩ => ⟨S_, .i32⟩
  | .hbm, ⟨7, _⟩ => ⟨S_, .bf16⟩
  | .hbm, ⟨8, _⟩ => ⟨S2048x128, .bf16⟩
  | .hbm, ⟨9, _⟩ => ⟨S1x2048x128, .bf16⟩
  | .hbm, ⟨10, _⟩ => ⟨S16384x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x128, .bf16⟩
  | .local _ .vmem, ⟨3, _⟩ => ⟨S1024x128, .f32⟩
  | .local _ .vmem, ⟨4, _⟩ => ⟨S1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg0.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4x4096x2048 : Shape := ⟨3, ![4, 4096, 2048]⟩
abbrev S2048x6176 : Shape := ⟨2, ![2048, 6176]⟩
abbrev S4x4096x6176 : Shape := ⟨3, ![4, 4096, 6176]⟩
abbrev S4x4096x32 : Shape := ⟨3, ![4, 4096, 32]⟩
abbrev S_ : Shape := ⟨0, ![]⟩
abbrev S4x4096x128 : Shape := ⟨3, ![4, 4096, 128]⟩
abbrev S16384x128 : Shape := ⟨2, ![16384, 128]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x6176, .f32⟩
  | .hbm, ⟨2, _⟩ => ⟨S4x4096x6176, .f32⟩
  | .hbm, ⟨3, _⟩ => ⟨S4x4096x32, .f32⟩
  | .hbm, ⟨4, _⟩ => ⟨S_, .i32⟩
  | .hbm, ⟨5, _⟩ => ⟨S_, .f32⟩
  | .hbm, ⟨6, _⟩ => ⟨S4x4096x128, .f32⟩
  | .hbm, ⟨7, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel16.lean ====
abbrev S4x4096x1024 : Shape := ⟨3, ![4, 4096, 1024]⟩
abbrev S4x4096x6144 : Shape := ⟨3, ![4, 4096, 6144]⟩
abbrev S1024 : Shape := ⟨1, ![1024]⟩
abbrev S1x1024 : Shape := ⟨2, ![1, 1024]⟩
abbrev S1x512x1024 : Shape := ⟨3, ![1, 512, 1024]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x6144, .f32⟩
  | .hbm, ⟨3, _⟩ => ⟨S1024, .f32⟩
  | .hbm, ⟨4, _⟩ => ⟨S1x1024, .f32⟩
  | .hbm, ⟨5, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference16Ideal.lean ====
abbrev S4x4096x1024 : Shape := ⟨3, ![4, 4096, 1024]⟩
abbrev S4x4096x6144 : Shape := ⟨3, ![4, 4096, 6144]⟩
abbrev S1024 : Shape := ⟨1, ![1024]⟩
abbrev S4x4096x4x256 : Shape := ⟨4, ![4, 4096, 4, 256]⟩
abbrev S4x256 : Shape := ⟨2, ![4, 256]⟩
abbrev S_ : Shape := ⟨0, ![]⟩
abbrev S4x4096x4 : Shape := ⟨3, ![4, 4096, 4]⟩
abbrev S4x4096x4x1 : Shape := ⟨4, ![4, 4096, 4, 1]⟩
abbrev S1x1x4x256 : Shape := ⟨4, ![1, 1, 4, 256]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x6144, .f32⟩
  | .hbm, ⟨3, _⟩ => ⟨S1024, .f32⟩
  | .hbm, ⟨4, _⟩ => ⟨S4x4096x4x256, .f32⟩
  | .hbm, ⟨5, _⟩ => ⟨S4x4096x4x256, .f32⟩
  | .hbm, ⟨6, _⟩ => ⟨S4x4096x4x256, .f32⟩
  | .hbm, ⟨7, _⟩ => ⟨S4x256, .f32⟩
  | .hbm, ⟨8, _⟩ => ⟨S4x4096x4x256, .f32⟩
  | .hbm, ⟨9, _⟩ => ⟨S_, .f32⟩
  | .hbm, ⟨10, _⟩ => ⟨S4x4096x4, .f32⟩
  | .hbm, ⟨11, _⟩ => ⟨S4x4096x4x1, .f32⟩
  | .hbm, ⟨12, _⟩ => ⟨S_, .f32⟩
  | .hbm, ⟨13, _⟩ => ⟨S4x4096x4x1, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S4x4096x4x1, .f32⟩
  | .hbm, ⟨19, _⟩ => ⟨S4x4096x4x256, .f32⟩
  | .hbm, ⟨20, _⟩ => ⟨S4x4096x4x256, .f32⟩
  | .hbm, ⟨21, _⟩ => ⟨S1x1x4x256, .f32⟩
  | .hbm, ⟨22, _⟩ => ⟨S4x4096x4x256, .f32⟩
  | .hbm, ⟨23, _⟩ => ⟨S4x4096x4x256, .f32⟩
  | .hbm, ⟨24, _⟩ => ⟨S4x4096x1024, .f32⟩
  | .hbm, ⟨25, _⟩ => ⟨S4x4096x1024, .f32⟩
  | .hbm, ⟨26, _⟩ => ⟨S4x4096x1024, .f32⟩
  | .hbm, ⟨27, _⟩ => ⟨S4x4096x1024, .f32⟩
  | .hbm, ⟨28, _⟩ => ⟨S_, .f32⟩
  | .hbm, ⟨29, _⟩ => ⟨S4x4096x1024, .f32⟩
  | .hbm, ⟨30, _⟩ => ⟨S4x4096x1024, .f32⟩
  | .hbm, ⟨31, _⟩ => ⟨S_, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== Kernel17.lean ====
abbrev S4x2048 : Shape := ⟨2, ![4, 2048]⟩
abbrev S2x2048x6144 : Shape := ⟨3, ![2, 2048, 6144]⟩
abbrev S2x6144 : Shape := ⟨2, ![2, 6144]⟩
abbrev S2x1x6144 : Shape := ⟨3, ![2, 1, 6144]⟩
abbrev S4x6144 : Shape := ⟨2, ![4, 6144]⟩
abbrev S1x2048x512 : Shape := ⟨3, ![1, 2048, 512]⟩
abbrev S1x1x512 : Shape := ⟨3, ![1, 1, 512]⟩
abbrev S4x512 : Shape := ⟨2, ![4, 512]⟩
abbrev S2048x512 : Shape := ⟨2, ![2048, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x6144, .f32⟩
  | .hbm, ⟨2, _⟩ => ⟨S2x6144, .f32⟩
  | .hbm, ⟨3, _⟩ => ⟨S2x1x6144, .f32⟩
  | .hbm, ⟨4, _⟩ => ⟨S4x6144, .f32⟩
  | .local _ .vmem, ⟨0, _⟩ => ⟨S4x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x1x512, .f32⟩
  | .local _ .vmem, ⟨4, _⟩ => ⟨S1x1x512, .f32⟩
  | .local _ .vmem, ⟨5, _⟩ => ⟨S4x512, .f32⟩
  | .local _ .vmem, ⟨6, _⟩ => ⟨S4x512, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference17Ideal.lean ====
abbrev S4x2048 : Shape := ⟨2, ![4, 2048]⟩
abbrev S2x2048x6144 : Shape := ⟨3, ![2, 2048, 6144]⟩
abbrev S2x6144 : Shape := ⟨2, ![2, 6144]⟩
abbrev S_ : Shape := ⟨0, ![]⟩
abbrev S1x2048x6144 : Shape := ⟨3, ![1, 2048, 6144]⟩
abbrev S2048x6144 : Shape := ⟨2, ![2048, 6144]⟩
abbrev S4x6144 : Shape := ⟨2, ![4, 6144]⟩
abbrev S1x6144 : Shape := ⟨2, ![1, 6144]⟩
abbrev S6144 : Shape := ⟨1, ![6144]⟩

abbrev nBuf : Space → Nat
  | .hbm => 20
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x6144, .f32⟩
  | .hbm, ⟨2, _⟩ => ⟨S2x6144, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S1x2048x6144, .f32⟩
  | .hbm, ⟨13, _⟩ => ⟨S2048x6144, .f32⟩
  | .hbm, ⟨14, _⟩ => ⟨S4x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S4x6144, .f32⟩
  | .hbm, ⟨19, _⟩ => ⟨S4x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel18.lean ====
abbrev S4x4096x6144 : Shape := ⟨3, ![4, 4096, 6144]⟩
abbrev S3x3072 : Shape := ⟨2, ![3, 3072]⟩
abbrev S3072 : Shape := ⟨1, ![3072]⟩
abbrev S1x3072 : Shape := ⟨2, ![1, 3072]⟩
abbrev S4x4096x1024 : Shape := ⟨3, ![4, 4096, 1024]⟩
abbrev S1x256x3072 : Shape := ⟨3, ![1, 256, 3072]⟩
abbrev S1x8x3072 : Shape := ⟨3, ![1, 8, 3072]⟩
abbrev S1x256x1024 : Shape := ⟨3, ![1, 256, 1024]⟩
abbrev S256x3072 : Shape := ⟨2, ![256, 3072]⟩
abbrev S8x3072 : Shape := ⟨2, ![8, 3072]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x4096x6144, .f32⟩
  | .hbm, ⟨1, _⟩ => ⟨S3x3072, .f32⟩
  | .hbm, ⟨2, _⟩ => ⟨S3072, .f32⟩
  | .hbm, ⟨3, _⟩ => ⟨S1x3072, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .local _ .vmem, ⟨0, _⟩ => ⟨S1x256x3072, .f32⟩
  | .local _ .vmem, ⟨1, _⟩ => ⟨S1x256x3072, .f32⟩
  | .local _ .vmem, ⟨2, _⟩ => ⟨S1x8x3072, .f32⟩
  | .local _ .vmem, ⟨3, _⟩ => ⟨S1x8x3072, .f32⟩
  | .local _ .vmem, ⟨4, _⟩ => ⟨S1x8x3072, .f32⟩
  | .local _ .vmem, ⟨5, _⟩ => ⟨S1x8x3072, .f32⟩
  | .local _ .vmem, ⟨6, _⟩ => ⟨S3x3072, .f32⟩
  | .local _ .vmem, ⟨7, _⟩ => ⟨S1x3072, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S4x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S4x4096x6144 : Shape := ⟨3, ![4, 4096, 6144]⟩
abbrev S3x3072 : Shape := ⟨2, ![3, 3072]⟩
abbrev S3072 : Shape := ⟨1, ![3072]⟩
abbrev S4x4096x3072 : Shape := ⟨3, ![4, 4096, 3072]⟩
abbrev S_ : Shape := ⟨0, ![]⟩
abbrev S4x4098x3072 : Shape := ⟨3, ![4, 4098, 3072]⟩
abbrev S1x3072 : Shape := ⟨2, ![1, 3072]⟩
abbrev S1x1x3072 : Shape := ⟨3, ![1, 1, 3072]⟩
abbrev S4x4096x1024 : Shape := ⟨3, ![4, 4096, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x6144, .f32⟩
  | .hbm, ⟨1, _⟩ => ⟨S3x3072, .f32⟩
  | .hbm, ⟨2, _⟩ => ⟨S3072, .f32⟩
  | .hbm, ⟨3, _⟩ => ⟨S4x4096x3072, .f32⟩
  | .hbm, ⟨4, _⟩ => ⟨S_, .i32⟩
  | .hbm, ⟨5, _⟩ => ⟨S_, .f32⟩
  | .hbm, ⟨6, _⟩ => ⟨S4x4098x3072, .f32⟩
  | .hbm, ⟨7, _⟩ => ⟨S4x4096x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S4x4096x3072, .f32⟩
  | .hbm, ⟨12, _⟩ => ⟨S4x4096x3072, .f32⟩
  | .hbm, ⟨13, _⟩ => ⟨S_, .f32⟩
  | .hbm, ⟨14, _⟩ => ⟨S4x4096x3072, .f32⟩
  | .hbm, ⟨15, _⟩ => ⟨S4x4096x3072, .f32⟩
  | .hbm, ⟨16, _⟩ => ⟨S4x4096x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S4x4096x3072, .f32⟩
  | .hbm, ⟨21, _⟩ => ⟨S4x4096x3072, .f32⟩
  | .hbm, ⟨22, _⟩ => ⟨S4x4096x3072, .f32⟩
  | .hbm, ⟨23, _⟩ => ⟨S4x4096x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S4x4096x3072, .f32⟩
  | .hbm, ⟨28, _⟩ => ⟨S4x4096x3072, .f32⟩
  | .hbm, ⟨29, _⟩ => ⟨S4x4096x3072, .f32⟩
  | .hbm, ⟨30, _⟩ => ⟨S1x1x3072, .f32⟩
  | .hbm, ⟨31, _⟩ => ⟨S4x4096x3072, .f32⟩
  | .hbm, ⟨32, _⟩ => ⟨S4x4096x3072, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | _, _ => ⟨S4x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Proof.Trip.lean ====
module

public import proofs.«01_k».proof.Proof.Gen.KernelIdeal.Loops

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The cumulative log gates of one chunk of 64 rows: the gate of every row, summed over the rows the mask keeps. -/
def chCum (msk : IVec S64x64 1) (lr : Vec F S1x64x128 .f32) (up : Vec F S1x384x128 .bf16) (ub : Vec F S1x1x128 .f32) :
    FVec F S64x128 .f32 :=
  k0_pay75 msk (k0_pay56 (k0_pay5 lr) (k0_pay9 up) (k0_pay10 ub))

/-- One chunk's output for one head, from its cumulative log gates `b` and the state `st` it starts with. -/
def chOut (msk : IVec S64x64 1) (q k : Vec F S1x64x128 .f32) (v : Vec F S1x64x256 .f32) (st : Vec F S1x1x256x128 .f32)
    (b : FVec F S64x128 .f32) : FVec F S1x64x256 .f32 :=
  k0_pay147 (k0_pay139 msk (k0_pay88 (k0_pay8 v)) (k0_pay89 (k0_pay6 q) (k0_pay7 k) b)
    (k0_pay90 (k0_pay6 q) (k0_pay11 st) b))

/-- The state a forward chunk leaves. -/
def chStF (k : Vec F S1x64x128 .f32) (v : Vec F S1x64x256 .f32) (st : Vec F S1x1x256x128 .f32)
    (b : FVec F S64x128 .f32) : FVec F S1x1x256x128 .f32 :=
  k0_pay148 (k0_pay91 (k0_pay7 k) (k0_pay8 v) (k0_pay11 st) b)

/-- The state a backward chunk leaves. -/
def chStB (k : Vec F S1x64x128 .f32) (v : Vec F S1x64x256 .f32) (st : Vec F S1x1x256x128 .f32)
    (b : FVec F S64x128 .f32) : FVec F S1x1x256x128 .f32 :=
  k0_pay148 (k0_pay117 (k0_pay7 k) (k0_pay8 v) (k0_pay11 st) b)

section Trip

variable (𝒱 : Variants) (c : Dev nD) (bd : Option 𝒱.V) (i : grid0.Coords)
  (arg2 : Memref sig .tc .vmem S1x256x512 .f32) (harg2 : arg2.IsWhole)
  (arg3 : Memref sig .tc .vmem S1x256x512 .f32) (harg3 : arg3.IsWhole)
  (arg4 : Memref sig .tc .vmem S1x256x1024 .f32) (harg4 : arg4.IsWhole)
  (arg5 : Memref sig .tc .vmem S1x256x128 .f32) (harg5 : arg5.IsWhole)
  (arg6 : Memref sig .tc .vmem S1x256x512 .f32) (harg6 : arg6.IsWhole)
  (arg7 : Memref sig .tc .vmem S1x256x512 .f32) (harg7 : arg7.IsWhole)
  (arg8 : Memref sig .tc .vmem S1x256x1024 .f32) (harg8 : arg8.IsWhole)
  (arg9 : Memref sig .tc .vmem S1x256x128 .f32) (harg9 : arg9.IsWhole)
  (arg10 : Memref sig .tc .vmem S2x384x512 .bf16) (harg10 : arg10.IsWhole)
  (arg11 : Memref sig .tc .vmem S2x1x512 .f32) (harg11 : arg11.IsWhole)
  (arg12 : Memref sig .tc .vmem S1x256x1024 .f32) (harg12 : arg12.IsWhole)
  (arg13 : Memref sig .tc .vmem S1x256x1024 .f32) (harg13 : arg13.IsWhole)
  (arg14 : Memref sig .tc .vmem S2x4x256x128 .f32) (harg14 : arg14.IsWhole)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)
  (X9 : BufTy.Contents (Elt F) arg9.view.ty)
  (X10 : BufTy.Contents (Elt F) arg10.view.ty)
  (X11 : BufTy.Contents (Elt F) arg11.view.ty)
  (k : Fin k0_t1_loop.trips) (f12 : BufTy.Contents (Elt F) arg12.view.ty) (f13 : BufTy.Contents (Elt F) arg13.view.ty) (f14 : BufTy.Contents (Elt F) arg14.view.ty)

/-- The forward outputs one trip stores: the chunk of each of the four heads, the last head first. -/
theorem trip12 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 k).1 f12 f13 f14 = [
      ⟨Rect.unit (s := S1x256x1024) (k0_off9 k) S1x64x256.size (k0_off9_inb k),
        chOut k0_pay55 (arg2.view.readAt (Elt F) (Rect.unit (s := S1x256x512) (k0_off8 k) S1x64x128.size (k0_off8_inb k)).toLoadRect X2) (arg3.view.readAt (Elt F) (Rect.unit (s := S1x256x512) (k0_off8 k) S1x64x128.size (k0_off8_inb k)).toLoadRect X3) (arg4.view.readAt (Elt F) (Rect.unit (s := S1x256x1024) (k0_off9 k) S1x64x256.size (k0_off9_inb k)).toLoadRect X4) (arg14.view.readAt (Elt F) (Rect.unit (s := S2x4x256x128) ![0, 3, 0, 0] S1x1x256x128.size inb_S2x4x256x128_S1x1x256x128_0_3_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 384] S1x384x128.size inb_S2x384x512_S1x384x128_0_0_384).toLoadRect X10) (arg11.view.readAt (Elt F) (Rect.unit (s := S2x1x512) ![0, 0, 384] S1x1x128.size inb_S2x1x512_S1x1x128_0_0_384).toLoadRect X11))⟩,
      ⟨Rect.unit (s := S1x256x1024) (k0_off7 k) S1x64x256.size (k0_off7_inb k),
        chOut k0_pay55 (arg2.view.readAt (Elt F) (Rect.unit (s := S1x256x512) (k0_off6 k) S1x64x128.size (k0_off6_inb k)).toLoadRect X2) (arg3.view.readAt (Elt F) (Rect.unit (s := S1x256x512) (k0_off6 k) S1x64x128.size (k0_off6_inb k)).toLoadRect X3) (arg4.view.readAt (Elt F) (Rect.unit (s := S1x256x1024) (k0_off7 k) S1x64x256.size (k0_off7_inb k)).toLoadRect X4) (arg14.view.readAt (Elt F) (Rect.unit (s := S2x4x256x128) ![0, 2, 0, 0] S1x1x256x128.size inb_S2x4x256x128_S1x1x256x128_0_2_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 256] S1x384x128.size inb_S2x384x512_S1x384x128_0_0_256).toLoadRect X10) (arg11.view.readAt (Elt F) (Rect.unit (s := S2x1x512) ![0, 0, 256] S1x1x128.size inb_S2x1x512_S1x1x128_0_0_256).toLoadRect X11))⟩,
      ⟨Rect.unit (s := S1x256x1024) (k0_off5 k) S1x64x256.size (k0_off5_inb k),
        chOut k0_pay55 (arg2.view.readAt (Elt F) (Rect.unit (s := S1x256x512) (k0_off4 k) S1x64x128.size (k0_off4_inb k)).toLoadRect X2) (arg3.view.readAt (Elt F) (Rect.unit (s := S1x256x512) (k0_off4 k) S1x64x128.size (k0_off4_inb k)).toLoadRect X3) (arg4.view.readAt (Elt F) (Rect.unit (s := S1x256x1024) (k0_off5 k) S1x64x256.size (k0_off5_inb k)).toLoadRect X4) (arg14.view.readAt (Elt F) (Rect.unit (s := S2x4x256x128) ![0, 1, 0, 0] S1x1x256x128.size inb_S2x4x256x128_S1x1x256x128_0_1_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 128] S1x384x128.size inb_S2x384x512_S1x384x128_0_0_128).toLoadRect X10) (arg11.view.readAt (Elt F) (Rect.unit (s := S2x1x512) ![0, 0, 128] S1x1x128.size inb_S2x1x512_S1x1x128_0_0_128).toLoadRect X11))⟩,
      ⟨Rect.unit (s := S1x256x1024) (k0_off3 k) S1x64x256.size (k0_off3_inb k),
        chOut k0_pay55 (arg2.view.readAt (Elt F) (Rect.unit (s := S1x256x512) (k0_off2 k) S1x64x128.size (k0_off2_inb k)).toLoadRect X2) (arg3.view.readAt (Elt F) (Rect.unit (s := S1x256x512) (k0_off2 k) S1x64x128.size (k0_off2_inb k)).toLoadRect X3) (arg4.view.readAt (Elt F) (Rect.unit (s := S1x256x1024) (k0_off3 k) S1x64x256.size (k0_off3_inb k)).toLoadRect X4) (arg14.view.readAt (Elt F) (Rect.unit (s := S2x4x256x128) ![0, 0, 0, 0] S1x1x256x128.size inb_S2x4x256x128_S1x1x256x128_0_0_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 0] S1x384x128.size inb_S2x384x512_S1x384x128_0_0_0).toLoadRect X10) (arg11.view.readAt (Elt F) (Rect.unit (s := S2x1x512) ![0, 0, 0] S1x1x128.size inb_S2x1x512_S1x1x128_0_0_0).toLoadRect X11))⟩] := by
  unfold trip_k0_t1
  rfl

/-- The backward outputs one trip stores. -/
theorem trip13 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 k).2.1 f12 f13 f14 = [
      ⟨Rect.unit (s := S1x256x1024) (k0_off18 k) S1x64x256.size (k0_off18_inb k),
        chOut k0_pay66 (arg6.view.readAt (Elt F) (Rect.unit (s := S1x256x512) (k0_off17 k) S1x64x128.size (k0_off17_inb k)).toLoadRect X6) (arg7.view.readAt (Elt F) (Rect.unit (s := S1x256x512) (k0_off17 k) S1x64x128.size (k0_off17_inb k)).toLoadRect X7) (arg8.view.readAt (Elt F) (Rect.unit (s := S1x256x1024) (k0_off18 k) S1x64x256.size (k0_off18_inb k)).toLoadRect X8) (arg14.view.readAt (Elt F) (Rect.unit (s := S2x4x256x128) ![1, 3, 0, 0] S1x1x256x128.size inb_S2x4x256x128_S1x1x256x128_1_3_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 384] S1x384x128.size inb_S2x384x512_S1x384x128_1_0_384).toLoadRect X10) (arg11.view.readAt (Elt F) (Rect.unit (s := S2x1x512) ![1, 0, 384] S1x1x128.size inb_S2x1x512_S1x1x128_1_0_384).toLoadRect X11))⟩,
      ⟨Rect.unit (s := S1x256x1024) (k0_off16 k) S1x64x256.size (k0_off16_inb k),
        chOut k0_pay66 (arg6.view.readAt (Elt F) (Rect.unit (s := S1x256x512) (k0_off15 k) S1x64x128.size (k0_off15_inb k)).toLoadRect X6) (arg7.view.readAt (Elt F) (Rect.unit (s := S1x256x512) (k0_off15 k) S1x64x128.size (k0_off15_inb k)).toLoadRect X7) (arg8.view.readAt (Elt F) (Rect.unit (s := S1x256x1024) (k0_off16 k) S1x64x256.size (k0_off16_inb k)).toLoadRect X8) (arg14.view.readAt (Elt F) (Rect.unit (s := S2x4x256x128) ![1, 2, 0, 0] S1x1x256x128.size inb_S2x4x256x128_S1x1x256x128_1_2_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 256] S1x384x128.size inb_S2x384x512_S1x384x128_1_0_256).toLoadRect X10) (arg11.view.readAt (Elt F) (Rect.unit (s := S2x1x512) ![1, 0, 256] S1x1x128.size inb_S2x1x512_S1x1x128_1_0_256).toLoadRect X11))⟩,
      ⟨Rect.unit (s := S1x256x1024) (k0_off14 k) S1x64x256.size (k0_off14_inb k),
        chOut k0_pay66 (arg6.view.readAt (Elt F) (Rect.unit (s := S1x256x512) (k0_off13 k) S1x64x128.size (k0_off13_inb k)).toLoadRect X6) (arg7.view.readAt (Elt F) (Rect.unit (s := S1x256x512) (k0_off13 k) S1x64x128.size (k0_off13_inb k)).toLoadRect X7) (arg8.view.readAt (Elt F) (Rect.unit (s := S1x256x1024) (k0_off14 k) S1x64x256.size (k0_off14_inb k)).toLoadRect X8) (arg14.view.readAt (Elt F) (Rect.unit (s := S2x4x256x128) ![1, 1, 0, 0] S1x1x256x128.size inb_S2x4x256x128_S1x1x256x128_1_1_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 128] S1x384x128.size inb_S2x384x512_S1x384x128_1_0_128).toLoadRect X10) (arg11.view.readAt (Elt F) (Rect.unit (s := S2x1x512) ![1, 0, 128] S1x1x128.size inb_S2x1x512_S1x1x128_1_0_128).toLoadRect X11))⟩,
      ⟨Rect.unit (s := S1x256x1024) (k0_off12 k) S1x64x256.size (k0_off12_inb k),
        chOut k0_pay66 (arg6.view.readAt (Elt F) (Rect.unit (s := S1x256x512) (k0_off11 k) S1x64x128.size (k0_off11_inb k)).toLoadRect X6) (arg7.view.readAt (Elt F) (Rect.unit (s := S1x256x512) (k0_off11 k) S1x64x128.size (k0_off11_inb k)).toLoadRect X7) (arg8.view.readAt (Elt F) (Rect.unit (s := S1x256x1024) (k0_off12 k) S1x64x256.size (k0_off12_inb k)).toLoadRect X8) (arg14.view.readAt (Elt F) (Rect.unit (s := S2x4x256x128) ![1, 0, 0, 0] S1x1x256x128.size inb_S2x4x256x128_S1x1x256x128_1_0_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 0] S1x384x128.size inb_S2x384x512_S1x384x128_1_0_0).toLoadRect X10) (arg11.view.readAt (Elt F) (Rect.unit (s := S2x1x512) ![1, 0, 0] S1x1x128.size inb_S2x1x512_S1x1x128_1_0_0).toLoadRect X11))⟩] := by
  unfold trip_k0_t1
  rfl

/-- The states one trip stores: the backward heads, then the forward heads, the last first. -/
theorem trip14 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 k).2.2.1 f12 f13 f14 = [
      ⟨Rect.unit (s := S2x4x256x128) ![1, 3, 0, 0] S1x1x256x128.size inb_S2x4x256x128_S1x1x256x128_1_3_0_0,
        chStB (arg7.view.readAt (Elt F) (Rect.unit (s := S1x256x512) (k0_off17 k) S1x64x128.size (k0_off17_inb k)).toLoadRect X7) (arg8.view.readAt (Elt F) (Rect.unit (s := S1x256x1024) (k0_off18 k) S1x64x256.size (k0_off18_inb k)).toLoadRect X8) (arg14.view.readAt (Elt F) (Rect.unit (s := S2x4x256x128) ![1, 3, 0, 0] S1x1x256x128.size inb_S2x4x256x128_S1x1x256x128_1_3_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 384] S1x384x128.size inb_S2x384x512_S1x384x128_1_0_384).toLoadRect X10) (arg11.view.readAt (Elt F) (Rect.unit (s := S2x1x512) ![1, 0, 384] S1x1x128.size inb_S2x1x512_S1x1x128_1_0_384).toLoadRect X11))⟩,
      ⟨Rect.unit (s := S2x4x256x128) ![1, 2, 0, 0] S1x1x256x128.size inb_S2x4x256x128_S1x1x256x128_1_2_0_0,
        chStB (arg7.view.readAt (Elt F) (Rect.unit (s := S1x256x512) (k0_off15 k) S1x64x128.size (k0_off15_inb k)).toLoadRect X7) (arg8.view.readAt (Elt F) (Rect.unit (s := S1x256x1024) (k0_off16 k) S1x64x256.size (k0_off16_inb k)).toLoadRect X8) (arg14.view.readAt (Elt F) (Rect.unit (s := S2x4x256x128) ![1, 2, 0, 0] S1x1x256x128.size inb_S2x4x256x128_S1x1x256x128_1_2_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 256] S1x384x128.size inb_S2x384x512_S1x384x128_1_0_256).toLoadRect X10) (arg11.view.readAt (Elt F) (Rect.unit (s := S2x1x512) ![1, 0, 256] S1x1x128.size inb_S2x1x512_S1x1x128_1_0_256).toLoadRect X11))⟩,
      ⟨Rect.unit (s := S2x4x256x128) ![1, 1, 0, 0] S1x1x256x128.size inb_S2x4x256x128_S1x1x256x128_1_1_0_0,
        chStB (arg7.view.readAt (Elt F) (Rect.unit (s := S1x256x512) (k0_off13 k) S1x64x128.size (k0_off13_inb k)).toLoadRect X7) (arg8.view.readAt (Elt F) (Rect.unit (s := S1x256x1024) (k0_off14 k) S1x64x256.size (k0_off14_inb k)).toLoadRect X8) (arg14.view.readAt (Elt F) (Rect.unit (s := S2x4x256x128) ![1, 1, 0, 0] S1x1x256x128.size inb_S2x4x256x128_S1x1x256x128_1_1_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 128] S1x384x128.size inb_S2x384x512_S1x384x128_1_0_128).toLoadRect X10) (arg11.view.readAt (Elt F) (Rect.unit (s := S2x1x512) ![1, 0, 128] S1x1x128.size inb_S2x1x512_S1x1x128_1_0_128).toLoadRect X11))⟩,
      ⟨Rect.unit (s := S2x4x256x128) ![1, 0, 0, 0] S1x1x256x128.size inb_S2x4x256x128_S1x1x256x128_1_0_0_0,
        chStB (arg7.view.readAt (Elt F) (Rect.unit (s := S1x256x512) (k0_off11 k) S1x64x128.size (k0_off11_inb k)).toLoadRect X7) (arg8.view.readAt (Elt F) (Rect.unit (s := S1x256x1024) (k0_off12 k) S1x64x256.size (k0_off12_inb k)).toLoadRect X8) (arg14.view.readAt (Elt F) (Rect.unit (s := S2x4x256x128) ![1, 0, 0, 0] S1x1x256x128.size inb_S2x4x256x128_S1x1x256x128_1_0_0_0).toLoadRect f14)
          (chCum k0_pay66 (arg9.view.readAt (Elt F) (Rect.unit (s := S1x256x128) (k0_off10 k) S1x64x128.size (k0_off10_inb k)).toLoadRect X9) (arg10.view.readAt (Elt F) (Rect.unit (s := S2x384x512) ![1, 0, 0] S1x384x128.size inb_S2x384x512_S1x384x128_1_0_0).toLoadRect X10) (arg11.view.readAt (Elt F) (Rect.unit (s := S2x1x512) ![1, 0, 0] S1x1x128.size inb_S2x1x512_S1x1x128_1_0_0).toLoadRect X11))⟩,
      ⟨Rect.unit (s := S2x4x256x128) ![0, 3, 0, 0] S1x1x256x128.size inb_S2x4x256x128_S1x1x256x128_0_3_0_0,
        chStF (arg3.view.readAt (Elt F) (Rect.unit (s := S1x256x512) (k0_off8 k) S1x64x128.size (k0_off8_inb k)).toLoadRect X3) (arg4.view.readAt (Elt F) (Rect.unit (s := S1x256x1024) (k0_off9 k) S1x64x256.size (k0_off9_inb k)).toLoadRect X4) (arg14.view.readAt (Elt F) (Rect.unit (s := S2x4x256x128) ![0, 3, 0, 0] S1x1x256x128.size inb_S2x4x256x128_S1x1x256x128_0_3_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 384] S1x384x128.size inb_S2x384x512_S1x384x128_0_0_384).toLoadRect X10) (arg11.view.readAt (Elt F) (Rect.unit (s := S2x1x512) ![0, 0, 384] S1x1x128.size inb_S2x1x512_S1x1x128_0_0_384).toLoadRect X11))⟩,
      ⟨Rect.unit (s := S2x4x256x128) ![0, 2, 0, 0] S1x1x256x128.size inb_S2x4x256x128_S1x1x256x128_0_2_0_0,
        chStF (arg3.view.readAt (Elt F) (Rect.unit (s := S1x256x512) (k0_off6 k) S1x64x128.size (k0_off6_inb k)).toLoadRect X3) (arg4.view.readAt (Elt F) (Rect.unit (s := S1x256x1024) (k0_off7 k) S1x64x256.size (k0_off7_inb k)).toLoadRect X4) (arg14.view.readAt (Elt F) (Rect.unit (s := S2x4x256x128) ![0, 2, 0, 0] S1x1x256x128.size inb_S2x4x256x128_S1x1x256x128_0_2_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 256] S1x384x128.size inb_S2x384x512_S1x384x128_0_0_256).toLoadRect X10) (arg11.view.readAt (Elt F) (Rect.unit (s := S2x1x512) ![0, 0, 256] S1x1x128.size inb_S2x1x512_S1x1x128_0_0_256).toLoadRect X11))⟩,
      ⟨Rect.unit (s := S2x4x256x128) ![0, 1, 0, 0] S1x1x256x128.size inb_S2x4x256x128_S1x1x256x128_0_1_0_0,
        chStF (arg3.view.readAt (Elt F) (Rect.unit (s := S1x256x512) (k0_off4 k) S1x64x128.size (k0_off4_inb k)).toLoadRect X3) (arg4.view.readAt (Elt F) (Rect.unit (s := S1x256x1024) (k0_off5 k) S1x64x256.size (k0_off5_inb k)).toLoadRect X4) (arg14.view.readAt (Elt F) (Rect.unit (s := S2x4x256x128) ![0, 1, 0, 0] S1x1x256x128.size inb_S2x4x256x128_S1x1x256x128_0_1_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 128] S1x384x128.size inb_S2x384x512_S1x384x128_0_0_128).toLoadRect X10) (arg11.view.readAt (Elt F) (Rect.unit (s := S2x1x512) ![0, 0, 128] S1x1x128.size inb_S2x1x512_S1x1x128_0_0_128).toLoadRect X11))⟩,
      ⟨Rect.unit (s := S2x4x256x128) ![0, 0, 0, 0] S1x1x256x128.size inb_S2x4x256x128_S1x1x256x128_0_0_0_0,
        chStF (arg3.view.readAt (Elt F) (Rect.unit (s := S1x256x512) (k0_off2 k) S1x64x128.size (k0_off2_inb k)).toLoadRect X3) (arg4.view.readAt (Elt F) (Rect.unit (s := S1x256x1024) (k0_off3 k) S1x64x256.size (k0_off3_inb k)).toLoadRect X4) (arg14.view.readAt (Elt F) (Rect.unit (s := S2x4x256x128) ![0, 0, 0, 0] S1x1x256x128.size inb_S2x4x256x128_S1x1x256x128_0_0_0_0).toLoadRect f14)
          (chCum k0_pay55 (arg5.view.readAt (Elt F) (Rect.unit (s := S1x256x128) (k0_off1 k) S1x64x128.size (k0_off1_inb k)).toLoadRect X5) (arg10.view.readAt (Elt F) (Rect.unit (s := S2x384x512) ![0, 0, 0] S1x384x128.size inb_S2x384x512_S1x384x128_0_0_0).toLoadRect X10) (arg11.view.readAt (Elt F) (Rect.unit (s := S2x1x512) ![0, 0, 0] S1x1x128.size inb_S2x1x512_S1x1x128_0_0_0).toLoadRect X11))⟩] := by
  unfold trip_k0_t1
  rfl

end Trip

end Cert.KernelIdeal.Hand

end
-- ==== Proof.Body.lean ====
module

public import proofs.«01_k».proof.Proof.Trip
public import Idealize.ShloMosaic.Lib.VecWindow
public import Idealize.ShloMosaic.Lib.ValueIdx

@[expose] public section

set_option maxRecDepth 16384

noncomputable section

namespace Cert.KernelIdeal.Hand

open Cert.KernelIdeal Cert.KernelIdeal.Gen Idealize.ShloMosaic Idealize.ShloMosaic.ValueIdx Idealize.ShloMosaic.TcCoe Idealize.SL.Sem

variable {F : FTy → Type} [FloatOps F]

/-- The ten blocks the kernel body reads at one grid point: forward queries, keys, values and low-rank gate inputs, the
    backward ones, and the up-projections with their biases. -/
structure Blocks (F : FTy → Type) where
  q : Vec F S1x256x512 .f32
  k : Vec F S1x256x512 .f32
  v : Vec F S1x256x1024 .f32
  lr : Vec F S1x256x128 .f32
  qb : Vec F S1x256x512 .f32
  kb : Vec F S1x256x512 .f32
  vb : Vec F S1x256x1024 .f32
  lrb : Vec F S1x256x128 .f32
  up : Vec F S2x384x512 .bf16
  ub : Vec F S2x1x512 .f32

/-- Rows `64 j …` and the columns of head `h` of a query or key block. -/
def qAt (x : Vec F S1x256x512 .f32) (j h : Fin 4) : Vec F S1x64x128 .f32 := fun y =>
  x (ix3 0 ⟨64 * j.val + (y 1).val, by have : (y 1).val < 64 := (y 1).isLt; omega⟩
    ⟨128 * h.val + (y 2).val, by have : (y 2).val < 128 := (y 2).isLt; omega⟩)

/-- Rows `64 j …` and the columns of head `h` of a value block. -/
def vAt (x : Vec F S1x256x1024 .f32) (j h : Fin 4) : Vec F S1x64x256 .f32 := fun y =>
  x (ix3 0 ⟨64 * j.val + (y 1).val, by have : (y 1).val < 64 := (y 1).isLt; omega⟩
    ⟨256 * h.val + (y 2).val, by have : (y 2).val < 256 := (y 2).isLt; omega⟩)

/-- Rows `64 j …` of a block of low-rank gate inputs. -/
def lrAt (x : Vec F S1x256x128 .f32) (j : Fin 4) : Vec F S1x64x128 .f32 := fun y =>
  x (ix3 0 ⟨64 * j.val + (y 1).val, by have : (y 1).val < 64 := (y 1).isLt; omega⟩ (y 2))

/-- The up-projection of direction `d` at the columns of head `h`. -/
def upAt (x : Vec F S2x384x512 .bf16) (d : Fin 2) (h : Fin 4) : Vec F S1x384x128 .bf16 := fun y =>
  x (ix3 d (y 1) ⟨128 * h.val + (y 2).val, by have : (y 2).val < 128 := (y 2).isLt; omega⟩)

/-- The gate bias of direction `d` at the columns of head `h`. -/
def ubAt (x : Vec F S2x1x512 .f32) (d : Fin 2) (h : Fin 4) : Vec F S1x1x128 .f32 := fun y =>
  x (ix3 d 0 ⟨128 * h.val + (y 2).val, by have : (y 2).val < 128 := (y 2).isLt; omega⟩)

/-- The state of direction `d` and head `h`. -/
def sAt (x : Vec F S2x4x256x128 .f32) (d : Fin 2) (h : Fin 4) : Vec F S1x1x256x128 .f32 := fun y =>
  x (ix4 d h (y 2) (y 3))

theorem rdQ {κ : Kind} {sp : Space} (w : View sig κ sp S1x256x512 .f32) (X : BufTy.Contents (Elt F) w.ty) {off : Fin 3 → ℕ}
    (inb : ∀ a, off a + S1x64x128.size a ≤ S1x256x512.size a) (j h : Fin 4) (ho : off = ![0, 64 * j.val, 128 * h.val]) :
    w.readAt (Elt F) (Rect.unit (s := S1x256x512) off S1x64x128.size inb).toLoadRect X = qAt (w.read (Elt F) X) j h := by
  subst ho
  funext y
  show w.read (Elt F) X _ = w.read (Elt F) X _
  refine congrArg (w.read (Elt F) X) (funext fun a => Fin.ext ?_)
  fin_cases a
  · show 0 + 1 * (y 0).val = 0; have : (y 0).val < 1 := (y 0).isLt; omega
  · show 64 * j.val + 1 * (y 1).val = _; rw [Nat.one_mul]
  · show 128 * h.val + 1 * (y 2).val = _; rw [Nat.one_mul]

theorem rdV {κ : Kind} {sp : Space} (w : View sig κ sp S1x256x1024 .f32) (X : BufTy.Contents (Elt F) w.ty) {off : Fin 3 → ℕ}
    (inb : ∀ a, off a + S1x64x256.size a ≤ S1x256x1024.size a) (j h : Fin 4) (ho : off = ![0, 64 * j.val, 256 * h.val]) :
    w.readAt (Elt F) (Rect.unit (s := S1x256x1024) off S1x64x256.size inb).toLoadRect X = vAt (w.read (Elt F) X) j h := by
  subst ho
  funext y
  show w.read (Elt F) X _ = w.read (Elt F) X _
  refine congrArg (w.read (Elt F) X) (funext fun a => Fin.ext ?_)
  fin_cases a
  · show 0 + 1 * (y 0).val = 0; have : (y 0).val < 1 := (y 0).isLt; omega
  · show 64 * j.val + 1 * (y 1).val = _; rw [Nat.one_mul]
  · show 256 * h.val + 1 * (y 2).val = _; rw [Nat.one_mul]

theorem rdL {κ : Kind} {sp : Space} (w : View sig κ sp S1x256x128 .f32) (X : BufTy.Contents (Elt F) w.ty) {off : Fin 3 → ℕ}
    (inb : ∀ a, off a + S1x64x128.size a ≤ S1x256x128.size a) (j : Fin 4) (ho : off = ![0, 64 * j.val, 0]) :
    w.readAt (Elt F) (Rect.unit (s := S1x256x128) off S1x64x128.size inb).toLoadRect X = lrAt (w.read (Elt F) X) j := by
  subst ho
  funext y
  show w.read (Elt F) X _ = w.read (Elt F) X _
  refine congrArg (w.read (Elt F) X) (funext fun a => Fin.ext ?_)
  fin_cases a
  · show 0 + 1 * (y 0).val = 0; have : (y 0).val < 1 := (y 0).isLt; omega
  · show 64 * j.val + 1 * (y 1).val = _; rw [Nat.one_mul]
  · show 0 + 1 * (y 2).val = (y 2).val; omega

theorem rdU {κ : Kind} {sp : Space} (w : View sig κ sp S2x384x512 .bf16) (X : BufTy.Contents (Elt F) w.ty) {off : Fin 3 → ℕ}
    (inb : ∀ a, off a + S1x384x128.size a ≤ S2x384x512.size a) (d : Fin 2) (h : Fin 4) (ho : off = ![d.val, 0, 128 * h.val]) :
    w.readAt (Elt F) (Rect.unit (s := S2x384x512) off S1x384x128.size inb).toLoadRect X = upAt (w.read (Elt F) X) d h := by
  subst ho
  funext y
  show w.read (Elt F) X _ = w.read (Elt F) X _
  refine congrArg (w.read (Elt F) X) (funext fun a => Fin.ext ?_)
  fin_cases a
  · show d.val + 1 * (y 0).val = d.val; have : (y 0).val < 1 := (y 0).isLt; omega
  · show 0 + 1 * (y 1).val = (y 1).val; omega
  · show 128 * h.val + 1 * (y 2).val = _; rw [Nat.one_mul]

theorem rdB {κ : Kind} {sp : Space} (w : View sig κ sp S2x1x512 .f32) (X : BufTy.Contents (Elt F) w.ty) {off : Fin 3 → ℕ}
    (inb : ∀ a, off a + S1x1x128.size a ≤ S2x1x512.size a) (d : Fin 2) (h : Fin 4) (ho : off = ![d.val, 0, 128 * h.val]) :
    w.readAt (Elt F) (Rect.unit (s := S2x1x512) off S1x1x128.size inb).toLoadRect X = ubAt (w.read (Elt F) X) d h := by
  subst ho
  funext y
  show w.read (Elt F) X _ = w.read (Elt F) X _
  refine congrArg (w.read (Elt F) X) (funext fun a => Fin.ext ?_)
  fin_cases a
  · show d.val + 1 * (y 0).val = d.val; have : (y 0).val < 1 := (y 0).isLt; omega
  · show 0 + 1 * (y 1).val = 0; have : (y 1).val < 1 := (y 1).isLt; omega
  · show 128 * h.val + 1 * (y 2).val = _; rw [Nat.one_mul]

theorem rdS {κ : Kind} {sp : Space} (w : View sig κ sp S2x4x256x128 .f32) (X : BufTy.Contents (Elt F) w.ty) {off : Fin 4 → ℕ}
    (inb : ∀ a, off a + S1x1x256x128.size a ≤ S2x4x256x128.size a) (d : Fin 2) (h : Fin 4) (ho : off = ![d.val, h.val, 0, 0]) :
    w.readAt (Elt F) (Rect.unit (s := S2x4x256x128) off S1x1x256x128.size inb).toLoadRect X = sAt (w.read (Elt F) X) d h := by
  subst ho
  funext y
  show w.read (Elt F) X _ = w.read (Elt F) X _
  refine congrArg (w.read (Elt F) X) (funext fun a => Fin.ext ?_)
  fin_cases a
  · show d.val + 1 * (y 0).val = d.val; have : (y 0).val < 1 := (y 0).isLt; omega
  · show h.val + 1 * (y 1).val = h.val; have : (y 1).val < 1 := (y 1).isLt; omega
  · show 0 + 1 * (y 2).val = (y 2).val; omega
  · show 0 + 1 * (y 3).val = (y 3).val; omega

/-! ## What one grid point computes -/

/-- Cumulative log gates of chunk `j`, forward. -/
def cumF (X : Blocks F) (j h : Fin 4) : FVec F S64x128 .f32 :=
  chCum k0_pay55 (lrAt X.lr j) (upAt X.up 0 h) (ubAt X.ub 0 h)

/-- Cumulative log gates of chunk `j`, backward. -/
def cumB (X : Blocks F) (j h : Fin 4) : FVec F S64x128 .f32 :=
  chCum k0_pay66 (lrAt X.lrb j) (upAt X.up 1 h) (ubAt X.ub 1 h)

/-- Output of forward chunk `j` and head `h` from the states `s`. -/
def outF (X : Blocks F) (s : Vec F S2x4x256x128 .f32) (j h : Fin 4) : FVec F S1x64x256 .f32 :=
  chOut k0_pay55 (qAt X.q j h) (qAt X.k j h) (vAt X.v j h) (sAt s 0 h) (cumF X j h)

/-- Output of backward chunk `j` and head `h` from the states `s`. -/
def outB (X : Blocks F) (s : Vec F S2x4x256x128 .f32) (j h : Fin 4) : FVec F S1x64x256 .f32 :=
  chOut k0_pay66 (qAt X.qb j h) (qAt X.kb j h) (vAt X.vb j h) (sAt s 1 h) (cumB X j h)

/-- The state forward chunk `j` leaves for head `h`. -/
def newF (X : Blocks F) (s : Vec F S2x4x256x128 .f32) (j h : Fin 4) : FVec F S1x1x256x128 .f32 :=
  chStF (qAt X.k j h) (vAt X.v j h) (sAt s 0 h) (cumF X j h)

/-- The state backward chunk `j` leaves for head `h`. -/
def newB (X : Blocks F) (s : Vec F S2x4x256x128 .f32) (j h : Fin 4) : FVec F S1x1x256x128 .f32 :=
  chStB (qAt X.kb j h) (vAt X.vb j h) (sAt s 1 h) (cumB X j h)

/-- The backward direction takes a tile's chunks from the last. -/
def rv (k : Fin 4) : Fin 4 := ⟨3 - k.val, by omega⟩

/-- All states after trip `k`. -/
def stNext (X : Blocks F) (s : Vec F S2x4x256x128 .f32) (k : Fin 4) : Vec F S2x4x256x128 .f32 := fun y =>
  if (y 0).val = 0 then newF X s k (y 1) (ix4 0 0 (y 2) (y 3)) else newB X s (rv k) (y 1) (ix4 0 0 (y 2) (y 3))

/-- All states after the first `n` trips. -/
def stAfter (X : Blocks F) (s : Vec F S2x4x256x128 .f32) : ℕ → Vec F S2x4x256x128 .f32
  | 0 => s
  | n + 1 => if h : n < 4 then stNext X (stAfter X s n) ⟨n, h⟩ else stAfter X s n

theorem stAfter_succ (X : Blocks F) (s : Vec F S2x4x256x128 .f32) (k : Fin 4) :
    stAfter X s (k.val + 1) = stNext X (stAfter X s k.val) k := by
  rw [stAfter, dif_pos k.isLt]

/-- The forward output block. -/
def tileF (X : Blocks F) (s : Vec F S2x4x256x128 .f32) : Vec F S1x256x1024 .f32 := fun y =>
  outF X (stAfter X s ((y 1).val / 64)) ⟨(y 1).val / 64, by have : (y 1).val < 256 := (y 1).isLt; omega⟩
    ⟨(y 2).val / 256, by have : (y 2).val < 1024 := (y 2).isLt; omega⟩
    (ix3 0 ⟨(y 1).val % 64, Nat.mod_lt _ (by omega)⟩ ⟨(y 2).val % 256, Nat.mod_lt _ (by omega)⟩)

/-- The backward output block. -/
def tileB (X : Blocks F) (s : Vec F S2x4x256x128 .f32) : Vec F S1x256x1024 .f32 := fun y =>
  outB X (stAfter X s (3 - (y 1).val / 64)) ⟨(y 1).val / 64, by have : (y 1).val < 256 := (y 1).isLt; omega⟩
    ⟨(y 2).val / 256, by have : (y 2).val < 1024 := (y 2).isLt; omega⟩
    (ix3 0 ⟨(y 1).val % 64, Nat.mod_lt _ (by omega)⟩ ⟨(y 2).val % 256, Nat.mod_lt _ (by omega)⟩)

/-- A forward chunk's output, seen from its place in the block. -/
theorem tileF_emb (X : Blocks F) (s : Vec F S2x4x256x128 .f32) (j h : Fin 4) {off : Fin 3 → ℕ}
    (inb : ∀ a, off a + S1x64x256.size a ≤ S1x256x1024.size a) (ho : off = ![0, 64 * j.val, 256 * h.val]) (x : S1x64x256.Idx) :
    outF X (stAfter X s j.val) j h x = tileF X s ((Rect.unit (s := S1x256x1024) off S1x64x256.size inb).emb x) := by
  subst ho
  have h1 : (x 1).val < 64 := (x 1).isLt
  have h2 : (x 2).val < 256 := (x 2).isLt
  have e1 : (64 * j.val + 1 * (x 1).val) / 64 = j.val := by omega
  have e2 : (256 * h.val + 1 * (x 2).val) / 256 = h.val := by omega
  have e3 : (64 * j.val + 1 * (x 1).val) % 64 = (x 1).val := by omega
  have e4 : (256 * h.val + 1 * (x 2).val) % 256 = (x 2).val := by omega
  have ex : x = ix3 0 ⟨(x 1).val, h1⟩ ⟨(x 2).val, h2⟩ := by
    funext a; fin_cases a
    · exact Fin.ext (by have : (x 0).val < 1 := (x 0).isLt; show (x 0).val = 0; omega)
    · rfl
    · rfl
  have key : ∀ (a b c d : ℕ) (ha : a < 4) (hb : b < 4) (hc : c < 64) (hd : d < 256), a = j.val → b = h.val → c = (x 1).val →
      d = (x 2).val → outF X (stAfter X s a) ⟨a, ha⟩ ⟨b, hb⟩ (ix3 0 ⟨c, hc⟩ ⟨d, hd⟩) = outF X (stAfter X s j.val) j h x := by
    intro a b c d ha hb hc hd e1 e2 e3 e4
    subst e1 e2 e3 e4
    rw [← ex]
  exact (key _ _ _ _ _ _ _ _ e1 e2 e3 e4).symm

/-- A backward chunk's output, seen from its place in the block. -/
theorem tileB_emb (X : Blocks F) (s : Vec F S2x4x256x128 .f32) (k h : Fin 4) {off : Fin 3 → ℕ}
    (inb : ∀ a, off a + S1x64x256.size a ≤ S1x256x1024.size a) (ho : off = ![0, 64 * (rv k).val, 256 * h.val]) (x : S1x64x256.Idx) :
    outB X (stAfter X s k.val) (rv k) h x = tileB X s ((Rect.unit (s := S1x256x1024) off S1x64x256.size inb).emb x) := by
  subst ho
  have hk : (rv k).val = 3 - k.val := rfl
  have h1 : (x 1).val < 64 := (x 1).isLt
  have h2 : (x 2).val < 256 := (x 2).isLt
  have e1 : (64 * (rv k).val + 1 * (x 1).val) / 64 = (rv k).val := by omega
  have e2 : (256 * h.val + 1 * (x 2).val) / 256 = h.val := by omega
  have e3 : (64 * (rv k).val + 1 * (x 1).val) % 64 = (x 1).val := by omega
  have e4 : (256 * h.val + 1 * (x 2).val) % 256 = (x 2).val := by omega
  have ex : x = ix3 0 ⟨(x 1).val, h1⟩ ⟨(x 2).val, h2⟩ := by
    funext a; fin_cases a
    · exact Fin.ext (by have : (x 0).val < 1 := (x 0).isLt; show (x 0).val = 0; omega)
    · rfl
    · rfl
  have key : ∀ (n a b c d : ℕ) (ha : a < 4) (hb : b < 4) (hc : c < 64) (hd : d < 256), n = k.val → a = (rv k).val → b = h.val →
      c = (x 1).val → d = (x 2).val →
      outB X (stAfter X s n) ⟨a, ha⟩ ⟨b, hb⟩ (ix3 0 ⟨c, hc⟩ ⟨d, hd⟩) = outB X (stAfter X s k.val) (rv k) h x := by
    intro n a b c d ha hb hc hd e0 e1 e2 e3 e4
    subst e0 e1 e2 e3 e4
    rw [← ex]
  exact (key _ _ _ _ _ _ _ _ _ (by show 3 - (64 * (rv k).val + 1 * (x 1).val) / 64 = k.val; rw [e1, hk]; omega) e1 e2 e3 e4).symm

/-- A new forward state, seen from its place. -/
theorem stNext_embF (X : Blocks F) (s : Vec F S2x4x256x128 .f32) (k h : Fin 4) {off : Fin 4 → ℕ}
    (inb : ∀ a, off a + S1x1x256x128.size a ≤ S2x4x256x128.size a) (ho : off = ![0, h.val, 0, 0]) (x : S1x1x256x128.Idx) :
    newF X s k h x = stNext X s k ((Rect.unit (s := S2x4x256x128) off S1x1x256x128.size inb).emb x) := by
  subst ho
  have h0 : (x 0).val < 1 := (x 0).isLt
  have h1 : (x 1).val < 1 := (x 1).isLt
  have ey : (Rect.unit (s := S2x4x256x128) ![0, h.val, 0, 0] S1x1x256x128.size inb).emb x = ix4 0 h (x 2) (x 3) := by
    funext a; fin_cases a
    · exact Fin.ext (by show 0 + 1 * (x 0).val = 0; omega)
    · exact Fin.ext (by show h.val + 1 * (x 1).val = h.val; omega)
    · exact Fin.ext (by show 0 + 1 * (x 2).val = (x 2).val; omega)
    · exact Fin.ext (by show 0 + 1 * (x 3).val = (x 3).val; omega)
  have ex : x = ix4 0 0 (x 2) (x 3) := by
    funext a; fin_cases a
    · exact Fin.ext (by show (x 0).val = 0; omega)
    · exact Fin.ext (by show (x 1).val = 0; omega)
    · rfl
    · rfl
  rw [ey]
  exact congrArg (newF X s k h) ex

/-- A new backward state, seen from its place. -/
theorem stNext_embB (X : Blocks F) (s : Vec F S2x4x256x128 .f32) (k h : Fin 4) {off : Fin 4 → ℕ}
    (inb : ∀ a, off a + S1x1x256x128.size a ≤ S2x4x256x128.size a) (ho : off = ![1, h.val, 0, 0]) (x : S1x1x256x128.Idx) :
    newB X s (rv k) h x = stNext X s k ((Rect.unit (s := S2x4x256x128) off S1x1x256x128.size inb).emb x) := by
  subst ho
  have h0 : (x 0).val < 1 := (x 0).isLt
  have h1 : (x 1).val < 1 := (x 1).isLt
  have ey : (Rect.unit (s := S2x4x256x128) ![1, h.val, 0, 0] S1x1x256x128.size inb).emb x = ix4 1 h (x 2) (x 3) := by
    funext a; fin_cases a
    · exact Fin.ext (by show 1 + 1 * (x 0).val = 1; omega)
    · exact Fin.ext (by show h.val + 1 * (x 1).val = h.val; omega)
    · exact Fin.ext (by show 0 + 1 * (x 2).val = (x 2).val; omega)
    · exact Fin.ext (by show 0 + 1 * (x 3).val = (x 3).val; omega)
  have ex : x = ix4 0 0 (x 2) (x 3) := by
    funext a; fin_cases a
    · exact Fin.ext (by show (x 0).val = 0; omega)
    · exact Fin.ext (by show (x 1).val = 0; omega)
    · rfl
    · rfl
  rw [ey]
  exact congrArg (newB X s (rv k) h) ex

/-- An element of a block is in the rectangle of its chunk and head. -/
theorem mem_out (y : S1x256x1024.Idx) (j h : Fin 4) {off : Fin 3 → ℕ}
    (inb : ∀ a, off a + S1x64x256.size a ≤ S1x256x1024.size a) (ho : off = ![0, 64 * j.val, 256 * h.val])
    (hj : (y 1).val / 64 = j.val) (hh : (y 2).val / 256 = h.val) :
    y ∈ (Rect.unit (s := S1x256x1024) off S1x64x256.size inb).set := by
  subst ho
  have h0 : (y 0).val < 1 := (y 0).isLt
  refine Rect.mem_set_unit.mpr fun a => ?_
  fin_cases a
  · exact ⟨Nat.zero_le _, by show (y 0).val < 0 + 1; omega⟩
  · exact ⟨by show 64 * j.val ≤ (y 1).val; omega, by show (y 1).val < 64 * j.val + 64; omega⟩
  · exact ⟨by show 256 * h.val ≤ (y 2).val; omega, by show (y 2).val < 256 * h.val + 256; omega⟩

/-- An element of the states is in the rectangle of its direction and head. -/
theorem mem_st (y : S2x4x256x128.Idx) (d : Fin 2) (h : Fin 4) {off : Fin 4 → ℕ}
    (inb : ∀ a, off a + S1x1x256x128.size a ≤ S2x4x256x128.size a) (ho : off = ![d.val, h.val, 0, 0])
    (hd : (y 0).val = d.val) (hh : (y 1).val = h.val) :
    y ∈ (Rect.unit (s := S2x4x256x128) off S1x1x256x128.size inb).set := by
  subst ho
  refine Rect.mem_set_unit.mpr fun a => ?_
  fin_cases a
  · exact ⟨by show d.val ≤ (y 0).val; omega, by show (y 0).val < d.val + 1; omega⟩
  · exact ⟨by show h.val ≤ (y 1).val; omega, by show (y 1).val < h.val + 1; omega⟩
  · exact ⟨Nat.zero_le _, by show (y 2).val < 0 + 256; have : (y 2).val < 256 := (y 2).isLt; omega⟩
  · exact ⟨Nat.zero_le _, by show (y 3).val < 0 + 128; have : (y 3).val < 128 := (y 3).isLt; omega⟩

theorem trips_eq : k0_t1_loop.trips = 4 := by decide +kernel

/-- The trip's number as a chunk of the tile. -/
def ck (k : Fin k0_t1_loop.trips) : Fin 4 := ⟨k.val, trips_eq ▸ k.isLt⟩

theorem off1 (k : Fin k0_t1_loop.trips) : k0_off1 k = ![0, 64 * (ck k).val, 0] := by
  have hk : k.val < 4 := trips_eq ▸ k.isLt
  rw [k0_off1_eq]
  rfl

theorem off2 (k : Fin k0_t1_loop.trips) : k0_off2 k = ![0, 64 * (ck k).val, 128 * ((0 : Fin 4)).val] := by
  have hk : k.val < 4 := trips_eq ▸ k.isLt
  rw [k0_off2_eq]
  rfl

theorem off3 (k : Fin k0_t1_loop.trips) : k0_off3 k = ![0, 64 * (ck k).val, 256 * ((0 : Fin 4)).val] := by
  have hk : k.val < 4 := trips_eq ▸ k.isLt
  rw [k0_off3_eq]
  rfl

theorem off4 (k : Fin k0_t1_loop.trips) : k0_off4 k = ![0, 64 * (ck k).val, 128 * ((1 : Fin 4)).val] := by
  have hk : k.val < 4 := trips_eq ▸ k.isLt
  rw [k0_off4_eq]
  rfl

theorem off5 (k : Fin k0_t1_loop.trips) : k0_off5 k = ![0, 64 * (ck k).val, 256 * ((1 : Fin 4)).val] := by
  have hk : k.val < 4 := trips_eq ▸ k.isLt
  rw [k0_off5_eq]
  rfl

theorem off6 (k : Fin k0_t1_loop.trips) : k0_off6 k = ![0, 64 * (ck k).val, 128 * ((2 : Fin 4)).val] := by
  have hk : k.val < 4 := trips_eq ▸ k.isLt
  rw [k0_off6_eq]
  rfl

theorem off7 (k : Fin k0_t1_loop.trips) : k0_off7 k = ![0, 64 * (ck k).val, 256 * ((2 : Fin 4)).val] := by
  have hk : k.val < 4 := trips_eq ▸ k.isLt
  rw [k0_off7_eq]
  rfl

theorem off8 (k : Fin k0_t1_loop.trips) : k0_off8 k = ![0, 64 * (ck k).val, 128 * ((3 : Fin 4)).val] := by
  have hk : k.val < 4 := trips_eq ▸ k.isLt
  rw [k0_off8_eq]
  rfl

theorem off9 (k : Fin k0_t1_loop.trips) : k0_off9 k = ![0, 64 * (ck k).val, 256 * ((3 : Fin 4)).val] := by
  have hk : k.val < 4 := trips_eq ▸ k.isLt
  rw [k0_off9_eq]
  rfl

theorem off10 (k : Fin k0_t1_loop.trips) : k0_off10 k = ![0, 64 * (rv (ck k)).val, 0] := by
  have hk : k.val < 4 := trips_eq ▸ k.isLt
  rw [k0_off10_eq]
  exact congrArg (fun r : ℕ => (![0, r, 0] : Fin 3 → ℕ)) (show 192 - 64 * k.val = 64 * (3 - k.val) by omega)

theorem off11 (k : Fin k0_t1_loop.trips) : k0_off11 k = ![0, 64 * (rv (ck k)).val, 128 * ((0 : Fin 4)).val] := by
  have hk : k.val < 4 := trips_eq ▸ k.isLt
  rw [k0_off11_eq]
  exact congrArg (fun r : ℕ => (![0, r, 128 * ((0 : Fin 4)).val] : Fin 3 → ℕ)) (show 192 - 64 * k.val = 64 * (3 - k.val) by omega)

theorem off12 (k : Fin k0_t1_loop.trips) : k0_off12 k = ![0, 64 * (rv (ck k)).val, 256 * ((0 : Fin 4)).val] := by
  have hk : k.val < 4 := trips_eq ▸ k.isLt
  rw [k0_off12_eq]
  exact congrArg (fun r : ℕ => (![0, r, 256 * ((0 : Fin 4)).val] : Fin 3 → ℕ)) (show 192 - 64 * k.val = 64 * (3 - k.val) by omega)

theorem off13 (k : Fin k0_t1_loop.trips) : k0_off13 k = ![0, 64 * (rv (ck k)).val, 128 * ((1 : Fin 4)).val] := by
  have hk : k.val < 4 := trips_eq ▸ k.isLt
  rw [k0_off13_eq]
  exact congrArg (fun r : ℕ => (![0, r, 128 * ((1 : Fin 4)).val] : Fin 3 → ℕ)) (show 192 - 64 * k.val = 64 * (3 - k.val) by omega)

theorem off14 (k : Fin k0_t1_loop.trips) : k0_off14 k = ![0, 64 * (rv (ck k)).val, 256 * ((1 : Fin 4)).val] := by
  have hk : k.val < 4 := trips_eq ▸ k.isLt
  rw [k0_off14_eq]
  exact congrArg (fun r : ℕ => (![0, r, 256 * ((1 : Fin 4)).val] : Fin 3 → ℕ)) (show 192 - 64 * k.val = 64 * (3 - k.val) by omega)

theorem off15 (k : Fin k0_t1_loop.trips) : k0_off15 k = ![0, 64 * (rv (ck k)).val, 128 * ((2 : Fin 4)).val] := by
  have hk : k.val < 4 := trips_eq ▸ k.isLt
  rw [k0_off15_eq]
  exact congrArg (fun r : ℕ => (![0, r, 128 * ((2 : Fin 4)).val] : Fin 3 → ℕ)) (show 192 - 64 * k.val = 64 * (3 - k.val) by omega)

theorem off16 (k : Fin k0_t1_loop.trips) : k0_off16 k = ![0, 64 * (rv (ck k)).val, 256 * ((2 : Fin 4)).val] := by
  have hk : k.val < 4 := trips_eq ▸ k.isLt
  rw [k0_off16_eq]
  exact congrArg (fun r : ℕ => (![0, r, 256 * ((2 : Fin 4)).val] : Fin 3 → ℕ)) (show 192 - 64 * k.val = 64 * (3 - k.val) by omega)

theorem off17 (k : Fin k0_t1_loop.trips) : k0_off17 k = ![0, 64 * (rv (ck k)).val, 128 * ((3 : Fin 4)).val] := by
  have hk : k.val < 4 := trips_eq ▸ k.isLt
  rw [k0_off17_eq]
  exact congrArg (fun r : ℕ => (![0, r, 128 * ((3 : Fin 4)).val] : Fin 3 → ℕ)) (show 192 - 64 * k.val = 64 * (3 - k.val) by omega)

theorem off18 (k : Fin k0_t1_loop.trips) : k0_off18 k = ![0, 64 * (rv (ck k)).val, 256 * ((3 : Fin 4)).val] := by
  have hk : k.val < 4 := trips_eq ▸ k.isLt
  rw [k0_off18_eq]
  exact congrArg (fun r : ℕ => (![0, r, 256 * ((3 : Fin 4)).val] : Fin 3 → ℕ)) (show 192 - 64 * k.val = 64 * (3 - k.val) by omega)

section Loop

variable (𝒱 : Variants) (c : Dev nD) (bd : Option 𝒱.V) (i : grid0.Coords)
  (arg2 : Memref sig .tc .vmem S1x256x512 .f32) (harg2 : arg2.IsWhole)
  (arg3 : Memref sig .tc .vmem S1x256x512 .f32) (harg3 : arg3.IsWhole)
  (arg4 : Memref sig .tc .vmem S1x256x1024 .f32) (harg4 : arg4.IsWhole)
  (arg5 : Memref sig .tc .vmem S1x256x128 .f32) (harg5 : arg5.IsWhole)
  (arg6 : Memref sig .tc .vmem S1x256x512 .f32) (harg6 : arg6.IsWhole)
  (arg7 : Memref sig .tc .vmem S1x256x512 .f32) (harg7 : arg7.IsWhole)
  (arg8 : Memref sig .tc .vmem S1x256x1024 .f32) (harg8 : arg8.IsWhole)
  (arg9 : Memref sig .tc .vmem S1x256x128 .f32) (harg9 : arg9.IsWhole)
  (arg10 : Memref sig .tc .vmem S2x384x512 .bf16) (harg10 : arg10.IsWhole)
  (arg11 : Memref sig .tc .vmem S2x1x512 .f32) (harg11 : arg11.IsWhole)
  (arg12 : Memref sig .tc .vmem S1x256x1024 .f32) (harg12 : arg12.IsWhole)
  (arg13 : Memref sig .tc .vmem S1x256x1024 .f32) (harg13 : arg13.IsWhole)
  (arg14 : Memref sig .tc .vmem S2x4x256x128 .f32) (harg14 : arg14.IsWhole)
  (X2 : BufTy.Contents (Elt F) arg2.view.ty)
  (X3 : BufTy.Contents (Elt F) arg3.view.ty)
  (X4 : BufTy.Contents (Elt F) arg4.view.ty)
  (X5 : BufTy.Contents (Elt F) arg5.view.ty)
  (X6 : BufTy.Contents (Elt F) arg6.view.ty)
  (X7 : BufTy.Contents (Elt F) arg7.view.ty)
  (X8 : BufTy.Contents (Elt F) arg8.view.ty)
  (X9 : BufTy.Contents (Elt F) arg9.view.ty)
  (X10 : BufTy.Contents (Elt F) arg10.view.ty)
  (X11 : BufTy.Contents (Elt F) arg11.view.ty)

/-- The blocks the input buffers hold. -/
abbrev blk : Blocks F := ⟨arg2.view.read (Elt F) X2, arg3.view.read (Elt F) X3, arg4.view.read (Elt F) X4,
  arg5.view.read (Elt F) X5, arg6.view.read (Elt F) X6, arg7.view.read (Elt F) X7, arg8.view.read (Elt F) X8,
  arg9.view.read (Elt F) X9, arg10.view.read (Elt F) X10, arg11.view.read (Elt F) X11⟩

/-- The forward pieces of a trip, over the blocks. -/
theorem pieces12 (k : Fin k0_t1_loop.trips) (f12 : BufTy.Contents (Elt F) arg12.view.ty) (f13 : BufTy.Contents (Elt F) arg13.view.ty) (f14 : BufTy.Contents (Elt F) arg14.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 k).1 f12 f13 f14 = [
      ⟨Rect.unit (s := S1x256x1024) (k0_off9 k) S1x64x256.size (k0_off9_inb k), outF (blk arg2 arg3 arg4 arg5 arg6 arg7 arg8 arg9 arg10 arg11 X2 X3 X4 X5 X6 X7 X8 X9 X10 X11) (arg14.view.read (Elt F) f14) (ck k) 3⟩,
      ⟨Rect.unit (s := S1x256x1024) (k0_off7 k) S1x64x256.size (k0_off7_inb k), outF (blk arg2 arg3 arg4 arg5 arg6 arg7 arg8 arg9 arg10 arg11 X2 X3 X4 X5 X6 X7 X8 X9 X10 X11) (arg14.view.read (Elt F) f14) (ck k) 2⟩,
      ⟨Rect.unit (s := S1x256x1024) (k0_off5 k) S1x64x256.size (k0_off5_inb k), outF (blk arg2 arg3 arg4 arg5 arg6 arg7 arg8 arg9 arg10 arg11 X2 X3 X4 X5 X6 X7 X8 X9 X10 X11) (arg14.view.read (Elt F) f14) (ck k) 1⟩,
      ⟨Rect.unit (s := S1x256x1024) (k0_off3 k) S1x64x256.size (k0_off3_inb k), outF (blk arg2 arg3 arg4 arg5 arg6 arg7 arg8 arg9 arg10 arg11 X2 X3 X4 X5 X6 X7 X8 X9 X10 X11) (arg14.view.read (Elt F) f14) (ck k) 0⟩] := by
  rw [trip12]
  rw [rdQ arg2.view X2 (k0_off8_inb k) (ck k) 3 (off8 k),
    rdQ arg3.view X3 (k0_off8_inb k) (ck k) 3 (off8 k),
    rdV arg4.view X4 (k0_off9_inb k) (ck k) 3 (off9 k),
    rdS arg14.view f14 inb_S2x4x256x128_S1x1x256x128_0_3_0_0 0 3 rfl,
    rdL arg5.view X5 (k0_off1_inb k) (ck k) (off1 k),
    rdU arg10.view X10 inb_S2x384x512_S1x384x128_0_0_384 0 3 rfl,
    rdB arg11.view X11 inb_S2x1x512_S1x1x128_0_0_384 0 3 rfl,
    rdQ arg2.view X2 (k0_off6_inb k) (ck k) 2 (off6 k),
    rdQ arg3.view X3 (k0_off6_inb k) (ck k) 2 (off6 k),
    rdV arg4.view X4 (k0_off7_inb k) (ck k) 2 (off7 k),
    rdS arg14.view f14 inb_S2x4x256x128_S1x1x256x128_0_2_0_0 0 2 rfl,
    rdU arg10.view X10 inb_S2x384x512_S1x384x128_0_0_256 0 2 rfl,
    rdB arg11.view X11 inb_S2x1x512_S1x1x128_0_0_256 0 2 rfl,
    rdQ arg2.view X2 (k0_off4_inb k) (ck k) 1 (off4 k),
    rdQ arg3.view X3 (k0_off4_inb k) (ck k) 1 (off4 k),
    rdV arg4.view X4 (k0_off5_inb k) (ck k) 1 (off5 k),
    rdS arg14.view f14 inb_S2x4x256x128_S1x1x256x128_0_1_0_0 0 1 rfl,
    rdU arg10.view X10 inb_S2x384x512_S1x384x128_0_0_128 0 1 rfl,
    rdB arg11.view X11 inb_S2x1x512_S1x1x128_0_0_128 0 1 rfl,
    rdQ arg2.view X2 (k0_off2_inb k) (ck k) 0 (off2 k),
    rdQ arg3.view X3 (k0_off2_inb k) (ck k) 0 (off2 k),
    rdV arg4.view X4 (k0_off3_inb k) (ck k) 0 (off3 k),
    rdS arg14.view f14 inb_S2x4x256x128_S1x1x256x128_0_0_0_0 0 0 rfl,
    rdU arg10.view X10 inb_S2x384x512_S1x384x128_0_0_0 0 0 rfl,
    rdB arg11.view X11 inb_S2x1x512_S1x1x128_0_0_0 0 0 rfl]
  rfl

/-- The backward pieces of a trip, over the blocks. -/
theorem pieces13 (k : Fin k0_t1_loop.trips) (f12 : BufTy.Contents (Elt F) arg12.view.ty) (f13 : BufTy.Contents (Elt F) arg13.view.ty) (f14 : BufTy.Contents (Elt F) arg14.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 k).2.1 f12 f13 f14 = [
      ⟨Rect.unit (s := S1x256x1024) (k0_off18 k) S1x64x256.size (k0_off18_inb k), outB (blk arg2 arg3 arg4 arg5 arg6 arg7 arg8 arg9 arg10 arg11 X2 X3 X4 X5 X6 X7 X8 X9 X10 X11) (arg14.view.read (Elt F) f14) (rv (ck k)) 3⟩,
      ⟨Rect.unit (s := S1x256x1024) (k0_off16 k) S1x64x256.size (k0_off16_inb k), outB (blk arg2 arg3 arg4 arg5 arg6 arg7 arg8 arg9 arg10 arg11 X2 X3 X4 X5 X6 X7 X8 X9 X10 X11) (arg14.view.read (Elt F) f14) (rv (ck k)) 2⟩,
      ⟨Rect.unit (s := S1x256x1024) (k0_off14 k) S1x64x256.size (k0_off14_inb k), outB (blk arg2 arg3 arg4 arg5 arg6 arg7 arg8 arg9 arg10 arg11 X2 X3 X4 X5 X6 X7 X8 X9 X10 X11) (arg14.view.read (Elt F) f14) (rv (ck k)) 1⟩,
      ⟨Rect.unit (s := S1x256x1024) (k0_off12 k) S1x64x256.size (k0_off12_inb k), outB (blk arg2 arg3 arg4 arg5 arg6 arg7 arg8 arg9 arg10 arg11 X2 X3 X4 X5 X6 X7 X8 X9 X10 X11) (arg14.view.read (Elt F) f14) (rv (ck k)) 0⟩] := by
  rw [trip13]
  rw [rdQ arg6.view X6 (k0_off17_inb k) (rv (ck k)) 3 (off17 k),
    rdQ arg7.view X7 (k0_off17_inb k) (rv (ck k)) 3 (off17 k),
    rdV arg8.view X8 (k0_off18_inb k) (rv (ck k)) 3 (off18 k),
    rdS arg14.view f14 inb_S2x4x256x128_S1x1x256x128_1_3_0_0 1 3 rfl,
    rdL arg9.view X9 (k0_off10_inb k) (rv (ck k)) (off10 k),
    rdU arg10.view X10 inb_S2x384x512_S1x384x128_1_0_384 1 3 rfl,
    rdB arg11.view X11 inb_S2x1x512_S1x1x128_1_0_384 1 3 rfl,
    rdQ arg6.view X6 (k0_off15_inb k) (rv (ck k)) 2 (off15 k),
    rdQ arg7.view X7 (k0_off15_inb k) (rv (ck k)) 2 (off15 k),
    rdV arg8.view X8 (k0_off16_inb k) (rv (ck k)) 2 (off16 k),
    rdS arg14.view f14 inb_S2x4x256x128_S1x1x256x128_1_2_0_0 1 2 rfl,
    rdU arg10.view X10 inb_S2x384x512_S1x384x128_1_0_256 1 2 rfl,
    rdB arg11.view X11 inb_S2x1x512_S1x1x128_1_0_256 1 2 rfl,
    rdQ arg6.view X6 (k0_off13_inb k) (rv (ck k)) 1 (off13 k),
    rdQ arg7.view X7 (k0_off13_inb k) (rv (ck k)) 1 (off13 k),
    rdV arg8.view X8 (k0_off14_inb k) (rv (ck k)) 1 (off14 k),
    rdS arg14.view f14 inb_S2x4x256x128_S1x1x256x128_1_1_0_0 1 1 rfl,
    rdU arg10.view X10 inb_S2x384x512_S1x384x128_1_0_128 1 1 rfl,
    rdB arg11.view X11 inb_S2x1x512_S1x1x128_1_0_128 1 1 rfl,
    rdQ arg6.view X6 (k0_off11_inb k) (rv (ck k)) 0 (off11 k),
    rdQ arg7.view X7 (k0_off11_inb k) (rv (ck k)) 0 (off11 k),
    rdV arg8.view X8 (k0_off12_inb k) (rv (ck k)) 0 (off12 k),
    rdS arg14.view f14 inb_S2x4x256x128_S1x1x256x128_1_0_0_0 1 0 rfl,
    rdU arg10.view X10 inb_S2x384x512_S1x384x128_1_0_0 1 0 rfl,
    rdB arg11.view X11 inb_S2x1x512_S1x1x128_1_0_0 1 0 rfl]
  rfl

/-- The state pieces of a trip, over the blocks. -/
theorem pieces14 (k : Fin k0_t1_loop.trips) (f12 : BufTy.Contents (Elt F) arg12.view.ty) (f13 : BufTy.Contents (Elt F) arg13.view.ty) (f14 : BufTy.Contents (Elt F) arg14.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 k).2.2.1 f12 f13 f14 = [
      ⟨Rect.unit (s := S2x4x256x128) ![1, 3, 0, 0] S1x1x256x128.size inb_S2x4x256x128_S1x1x256x128_1_3_0_0, newB (blk arg2 arg3 arg4 arg5 arg6 arg7 arg8 arg9 arg10 arg11 X2 X3 X4 X5 X6 X7 X8 X9 X10 X11) (arg14.view.read (Elt F) f14) (rv (ck k)) 3⟩,
      ⟨Rect.unit (s := S2x4x256x128) ![1, 2, 0, 0] S1x1x256x128.size inb_S2x4x256x128_S1x1x256x128_1_2_0_0, newB (blk arg2 arg3 arg4 arg5 arg6 arg7 arg8 arg9 arg10 arg11 X2 X3 X4 X5 X6 X7 X8 X9 X10 X11) (arg14.view.read (Elt F) f14) (rv (ck k)) 2⟩,
      ⟨Rect.unit (s := S2x4x256x128) ![1, 1, 0, 0] S1x1x256x128.size inb_S2x4x256x128_S1x1x256x128_1_1_0_0, newB (blk arg2 arg3 arg4 arg5 arg6 arg7 arg8 arg9 arg10 arg11 X2 X3 X4 X5 X6 X7 X8 X9 X10 X11) (arg14.view.read (Elt F) f14) (rv (ck k)) 1⟩,
      ⟨Rect.unit (s := S2x4x256x128) ![1, 0, 0, 0] S1x1x256x128.size inb_S2x4x256x128_S1x1x256x128_1_0_0_0, newB (blk arg2 arg3 arg4 arg5 arg6 arg7 arg8 arg9 arg10 arg11 X2 X3 X4 X5 X6 X7 X8 X9 X10 X11) (arg14.view.read (Elt F) f14) (rv (ck k)) 0⟩,
      ⟨Rect.unit (s := S2x4x256x128) ![0, 3, 0, 0] S1x1x256x128.size inb_S2x4x256x128_S1x1x256x128_0_3_0_0, newF (blk arg2 arg3 arg4 arg5 arg6 arg7 arg8 arg9 arg10 arg11 X2 X3 X4 X5 X6 X7 X8 X9 X10 X11) (arg14.view.read (Elt F) f14) (ck k) 3⟩,
      ⟨Rect.unit (s := S2x4x256x128) ![0, 2, 0, 0] S1x1x256x128.size inb_S2x4x256x128_S1x1x256x128_0_2_0_0, newF (blk arg2 arg3 arg4 arg5 arg6 arg7 arg8 arg9 arg10 arg11 X2 X3 X4 X5 X6 X7 X8 X9 X10 X11) (arg14.view.read (Elt F) f14) (ck k) 2⟩,
      ⟨Rect.unit (s := S2x4x256x128) ![0, 1, 0, 0] S1x1x256x128.size inb_S2x4x256x128_S1x1x256x128_0_1_0_0, newF (blk arg2 arg3 arg4 arg5 arg6 arg7 arg8 arg9 arg10 arg11 X2 X3 X4 X5 X6 X7 X8 X9 X10 X11) (arg14.view.read (Elt F) f14) (ck k) 1⟩,
      ⟨Rect.unit (s := S2x4x256x128) ![0, 0, 0, 0] S1x1x256x128.size inb_S2x4x256x128_S1x1x256x128_0_0_0_0, newF (blk arg2 arg3 arg4 arg5 arg6 arg7 arg8 arg9 arg10 arg11 X2 X3 X4 X5 X6 X7 X8 X9 X10 X11) (arg14.view.read (Elt F) f14) (ck k) 0⟩] := by
  rw [trip14]
  rw [rdQ arg7.view X7 (k0_off17_inb k) (rv (ck k)) 3 (off17 k),
    rdV arg8.view X8 (k0_off18_inb k) (rv (ck k)) 3 (off18 k),
    rdS arg14.view f14 inb_S2x4x256x128_S1x1x256x128_1_3_0_0 1 3 rfl,
    rdL arg9.view X9 (k0_off10_inb k) (rv (ck k)) (off10 k),
    rdU arg10.view X10 inb_S2x384x512_S1x384x128_1_0_384 1 3 rfl,
    rdB arg11.view X11 inb_S2x1x512_S1x1x128_1_0_384 1 3 rfl,
    rdQ arg7.view X7 (k0_off15_inb k) (rv (ck k)) 2 (off15 k),
    rdV arg8.view X8 (k0_off16_inb k) (rv (ck k)) 2 (off16 k),
    rdS arg14.view f14 inb_S2x4x256x128_S1x1x256x128_1_2_0_0 1 2 rfl,
    rdU arg10.view X10 inb_S2x384x512_S1x384x128_1_0_256 1 2 rfl,
    rdB arg11.view X11 inb_S2x1x512_S1x1x128_1_0_256 1 2 rfl,
    rdQ arg7.view X7 (k0_off13_inb k) (rv (ck k)) 1 (off13 k),
    rdV arg8.view X8 (k0_off14_inb k) (rv (ck k)) 1 (off14 k),
    rdS arg14.view f14 inb_S2x4x256x128_S1x1x256x128_1_1_0_0 1 1 rfl,
    rdU arg10.view X10 inb_S2x384x512_S1x384x128_1_0_128 1 1 rfl,
    rdB arg11.view X11 inb_S2x1x512_S1x1x128_1_0_128 1 1 rfl,
    rdQ arg7.view X7 (k0_off11_inb k) (rv (ck k)) 0 (off11 k),
    rdV arg8.view X8 (k0_off12_inb k) (rv (ck k)) 0 (off12 k),
    rdS arg14.view f14 inb_S2x4x256x128_S1x1x256x128_1_0_0_0 1 0 rfl,
    rdU arg10.view X10 inb_S2x384x512_S1x384x128_1_0_0 1 0 rfl,
    rdB arg11.view X11 inb_S2x1x512_S1x1x128_1_0_0 1 0 rfl,
    rdQ arg3.view X3 (k0_off8_inb k) (ck k) 3 (off8 k),
    rdV arg4.view X4 (k0_off9_inb k) (ck k) 3 (off9 k),
    rdS arg14.view f14 inb_S2x4x256x128_S1x1x256x128_0_3_0_0 0 3 rfl,
    rdL arg5.view X5 (k0_off1_inb k) (ck k) (off1 k),
    rdU arg10.view X10 inb_S2x384x512_S1x384x128_0_0_384 0 3 rfl,
    rdB arg11.view X11 inb_S2x1x512_S1x1x128_0_0_384 0 3 rfl,
    rdQ arg3.view X3 (k0_off6_inb k) (ck k) 2 (off6 k),
    rdV arg4.view X4 (k0_off7_inb k) (ck k) 2 (off7 k),
    rdS arg14.view f14 inb_S2x4x256x128_S1x1x256x128_0_2_0_0 0 2 rfl,
    rdU arg10.view X10 inb_S2x384x512_S1x384x128_0_0_256 0 2 rfl,
    rdB arg11.view X11 inb_S2x1x512_S1x1x128_0_0_256 0 2 rfl,
    rdQ arg3.view X3 (k0_off4_inb k) (ck k) 1 (off4 k),
    rdV arg4.view X4 (k0_off5_inb k) (ck k) 1 (off5 k),
    rdS arg14.view f14 inb_S2x4x256x128_S1x1x256x128_0_1_0_0 0 1 rfl,
    rdU arg10.view X10 inb_S2x384x512_S1x384x128_0_0_128 0 1 rfl,
    rdB arg11.view X11 inb_S2x1x512_S1x1x128_0_0_128 0 1 rfl,
    rdQ arg3.view X3 (k0_off2_inb k) (ck k) 0 (off2 k),
    rdV arg4.view X4 (k0_off3_inb k) (ck k) 0 (off3 k),
    rdS arg14.view f14 inb_S2x4x256x128_S1x1x256x128_0_0_0_0 0 0 rfl,
    rdU arg10.view X10 inb_S2x384x512_S1x384x128_0_0_0 0 0 rfl,
    rdB arg11.view X11 inb_S2x1x512_S1x1x128_0_0_0 0 0 rfl]
  rfl

/-- What the pieces of the first `n` trips are: the outputs are parts of `tileF` and `tileB` covering the first chunks, and
    the states are `stAfter`, whatever the output buffers held. -/
theorem loop_pieces (G12 : BufTy.Contents (Elt F) arg12.view.ty) (G13 : BufTy.Contents (Elt F) arg13.view.ty)
    (G14 : BufTy.Contents (Elt F) arg14.view.ty) (s : Vec F S2x4x256x128 .f32) (hs : arg14.view.read (Elt F) G14 = s) :
    ∀ n ≤ 4,
    ((∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).1, ∀ x : p.1.shape.Idx, p.2 x = tileF (blk arg2 arg3 arg4 arg5 arg6 arg7 arg8 arg9 arg10 arg11 X2 X3 X4 X5 X6 X7 X8 X9 X10 X11) s (p.1.emb x))
      ∧ (∀ y : S1x256x1024.Idx, (y 1).val / 64 < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).1, y ∈ p.1.set))
    ∧ ((∀ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).2.1, ∀ x : p.1.shape.Idx, p.2 x = tileB (blk arg2 arg3 arg4 arg5 arg6 arg7 arg8 arg9 arg10 arg11 X2 X3 X4 X5 X6 X7 X8 X9 X10 X11) s (p.1.emb x))
      ∧ (∀ y : S1x256x1024.Idx, 3 - (y 1).val / 64 < n → ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).2.1, y ∈ p.1.set))
    ∧ arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).2.2) = stAfter (blk arg2 arg3 arg4 arg5 arg6 arg7 arg8 arg9 arg10 arg11 X2 X3 X4 X5 X6 X7 X8 X9 X10 X11) s n := by
  intro n
  induction n with
  | zero =>
    intro _
    exact ⟨⟨fun p hp => absurd hp List.not_mem_nil, fun y hy => absurd hy (Nat.not_lt_zero _)⟩,
      ⟨fun p hp => absurd hp List.not_mem_nil, fun y hy => absurd hy (Nat.not_lt_zero _)⟩, hs⟩
  | succ n ih =>
    intro hn
    obtain ⟨⟨iF, cF⟩, ⟨iB, cB⟩, iS⟩ := ih (by omega)
    have hk : n < k0_t1_loop.trips := by rw [trips_eq]; omega
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 ⟨n, hk⟩
    dsimp only at e
    rw [e]
    generalize pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n = P at iF cF iB cB iS ⊢
    dsimp only [tripL_k0_t1]
    have eF := pieces12 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 ⟨n, hk⟩ (arg12.view.writes (Elt F) G12 P.1) (arg13.view.writes (Elt F) G13 P.2.1) (arg14.view.writes (Elt F) G14 P.2.2)
    have eB := pieces13 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 ⟨n, hk⟩ (arg12.view.writes (Elt F) G12 P.1) (arg13.view.writes (Elt F) G13 P.2.1) (arg14.view.writes (Elt F) G14 P.2.2)
    have eS := pieces14 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 ⟨n, hk⟩ (arg12.view.writes (Elt F) G12 P.1) (arg13.view.writes (Elt F) G13 P.2.1) (arg14.view.writes (Elt F) G14 P.2.2)
    rw [iS] at eF eB eS
    rw [eF, eB, eS]
    clear eF eB eS e
    have hck : (ck ⟨n, hk⟩).val = n := rfl
    refine ⟨⟨fun p hp => ?_, fun y hy => ?_⟩, ⟨fun p hp => ?_, fun y hy => ?_⟩, ?_⟩
    · rcases List.mem_append.mp hp with hp | hp
      · simp only [List.mem_cons, List.not_mem_nil, or_false] at hp
        rcases hp with rfl | rfl | rfl | rfl
        · exact fun x => tileF_emb (blk arg2 arg3 arg4 arg5 arg6 arg7 arg8 arg9 arg10 arg11 X2 X3 X4 X5 X6 X7 X8 X9 X10 X11) s (ck ⟨n, hk⟩) 3 (k0_off9_inb _) (off9 _) x
        · exact fun x => tileF_emb (blk arg2 arg3 arg4 arg5 arg6 arg7 arg8 arg9 arg10 arg11 X2 X3 X4 X5 X6 X7 X8 X9 X10 X11) s (ck ⟨n, hk⟩) 2 (k0_off7_inb _) (off7 _) x
        · exact fun x => tileF_emb (blk arg2 arg3 arg4 arg5 arg6 arg7 arg8 arg9 arg10 arg11 X2 X3 X4 X5 X6 X7 X8 X9 X10 X11) s (ck ⟨n, hk⟩) 1 (k0_off5_inb _) (off5 _) x
        · exact fun x => tileF_emb (blk arg2 arg3 arg4 arg5 arg6 arg7 arg8 arg9 arg10 arg11 X2 X3 X4 X5 X6 X7 X8 X9 X10 X11) s (ck ⟨n, hk⟩) 0 (k0_off3_inb _) (off3 _) x
      · exact iF p hp
    · by_cases hy' : (y 1).val / 64 < n
      · obtain ⟨p, hp, hm⟩ := cF y hy'
        exact ⟨p, List.mem_append_right _ hp, hm⟩
      · have hj : (y 1).val / 64 = (ck ⟨n, hk⟩).val := by omega
        have h2 : (y 2).val < 1024 := (y 2).isLt
        have h4 : (y 2).val / 256 = 3 ∨ (y 2).val / 256 = 2 ∨ (y 2).val / 256 = 1 ∨ (y 2).val / 256 = 0 := by omega
        rcases h4 with hh | hh | hh | hh
        · exact ⟨_, List.mem_append_left _ (.head _), mem_out y (ck ⟨n, hk⟩) 3 (k0_off9_inb _) (off9 _) hj hh⟩
        · exact ⟨_, List.mem_append_left _ (.tail _ (.head _)), mem_out y (ck ⟨n, hk⟩) 2 (k0_off7_inb _) (off7 _) hj hh⟩
        · exact ⟨_, List.mem_append_left _ (.tail _ (.tail _ (.head _))), mem_out y (ck ⟨n, hk⟩) 1 (k0_off5_inb _) (off5 _) hj hh⟩
        · exact ⟨_, List.mem_append_left _ (.tail _ (.tail _ (.tail _ (.head _)))), mem_out y (ck ⟨n, hk⟩) 0 (k0_off3_inb _) (off3 _) hj hh⟩
    · rcases List.mem_append.mp hp with hp | hp
      · simp only [List.mem_cons, List.not_mem_nil, or_false] at hp
        rcases hp with rfl | rfl | rfl | rfl
        · exact fun x => tileB_emb (blk arg2 arg3 arg4 arg5 arg6 arg7 arg8 arg9 arg10 arg11 X2 X3 X4 X5 X6 X7 X8 X9 X10 X11) s (ck ⟨n, hk⟩) 3 (k0_off18_inb _) (off18 _) x
        · exact fun x => tileB_emb (blk arg2 arg3 arg4 arg5 arg6 arg7 arg8 arg9 arg10 arg11 X2 X3 X4 X5 X6 X7 X8 X9 X10 X11) s (ck ⟨n, hk⟩) 2 (k0_off16_inb _) (off16 _) x
        · exact fun x => tileB_emb (blk arg2 arg3 arg4 arg5 arg6 arg7 arg8 arg9 arg10 arg11 X2 X3 X4 X5 X6 X7 X8 X9 X10 X11) s (ck ⟨n, hk⟩) 1 (k0_off14_inb _) (off14 _) x
        · exact fun x => tileB_emb (blk arg2 arg3 arg4 arg5 arg6 arg7 arg8 arg9 arg10 arg11 X2 X3 X4 X5 X6 X7 X8 X9 X10 X11) s (ck ⟨n, hk⟩) 0 (k0_off12_inb _) (off12 _) x
      · exact iB p hp
    · by_cases hy' : 3 - (y 1).val / 64 < n
      · obtain ⟨p, hp, hm⟩ := cB y hy'
        exact ⟨p, List.mem_append_right _ hp, hm⟩
      · have h1 : (y 1).val < 256 := (y 1).isLt
        have hj : (y 1).val / 64 = (rv (ck ⟨n, hk⟩)).val := by
          show _ = 3 - n
          omega
        have h2 : (y 2).val < 1024 := (y 2).isLt
        have h4 : (y 2).val / 256 = 3 ∨ (y 2).val / 256 = 2 ∨ (y 2).val / 256 = 1 ∨ (y 2).val / 256 = 0 := by omega
        rcases h4 with hh | hh | hh | hh
        · exact ⟨_, List.mem_append_left _ (.head _), mem_out y (rv (ck ⟨n, hk⟩)) 3 (k0_off18_inb _) (off18 _) hj hh⟩
        · exact ⟨_, List.mem_append_left _ (.tail _ (.head _)), mem_out y (rv (ck ⟨n, hk⟩)) 2 (k0_off16_inb _) (off16 _) hj hh⟩
        · exact ⟨_, List.mem_append_left _ (.tail _ (.tail _ (.head _))), mem_out y (rv (ck ⟨n, hk⟩)) 1 (k0_off14_inb _) (off14 _) hj hh⟩
        · exact ⟨_, List.mem_append_left _ (.tail _ (.tail _ (.tail _ (.head _)))), mem_out y (rv (ck ⟨n, hk⟩)) 0 (k0_off12_inb _) (off12 _) hj hh⟩
    · rw [show stAfter (blk arg2 arg3 arg4 arg5 arg6 arg7 arg8 arg9 arg10 arg11 X2 X3 X4 X5 X6 X7 X8 X9 X10 X11) s (n + 1) = stNext (blk arg2 arg3 arg4 arg5 arg6 arg7 arg8 arg9 arg10 arg11 X2 X3 X4 X5 X6 X7 X8 X9 X10 X11) (stAfter (blk arg2 arg3 arg4 arg5 arg6 arg7 arg8 arg9 arg10 arg11 X2 X3 X4 X5 X6 X7 X8 X9 X10 X11) s n) (ck ⟨n, hk⟩) from stAfter_succ _ _ (ck ⟨n, hk⟩)]
      rw [View.writes_append]
      funext y
      refine View.read_writes_apply_of_pieces _ _ (stNext (blk arg2 arg3 arg4 arg5 arg6 arg7 arg8 arg9 arg10 arg11 X2 X3 X4 X5 X6 X7 X8 X9 X10 X11) (stAfter (blk arg2 arg3 arg4 arg5 arg6 arg7 arg8 arg9 arg10 arg11 X2 X3 X4 X5 X6 X7 X8 X9 X10 X11) s n) (ck ⟨n, hk⟩)) _ (fun p hp => ?_) y ?_
      · simp only [List.mem_cons, List.not_mem_nil, or_false] at hp
        rcases hp with rfl | rfl | rfl | rfl | rfl | rfl | rfl | rfl
        · exact fun x => stNext_embB _ _ (ck ⟨n, hk⟩) 3 inb_S2x4x256x128_S1x1x256x128_1_3_0_0 rfl x
        · exact fun x => stNext_embB _ _ (ck ⟨n, hk⟩) 2 inb_S2x4x256x128_S1x1x256x128_1_2_0_0 rfl x
        · exact fun x => stNext_embB _ _ (ck ⟨n, hk⟩) 1 inb_S2x4x256x128_S1x1x256x128_1_1_0_0 rfl x
        · exact fun x => stNext_embB _ _ (ck ⟨n, hk⟩) 0 inb_S2x4x256x128_S1x1x256x128_1_0_0_0 rfl x
        · exact fun x => stNext_embF _ _ (ck ⟨n, hk⟩) 3 inb_S2x4x256x128_S1x1x256x128_0_3_0_0 rfl x
        · exact fun x => stNext_embF _ _ (ck ⟨n, hk⟩) 2 inb_S2x4x256x128_S1x1x256x128_0_2_0_0 rfl x
        · exact fun x => stNext_embF _ _ (ck ⟨n, hk⟩) 1 inb_S2x4x256x128_S1x1x256x128_0_1_0_0 rfl x
        · exact fun x => stNext_embF _ _ (ck ⟨n, hk⟩) 0 inb_S2x4x256x128_S1x1x256x128_0_0_0_0 rfl x
      · have h0 : (y 0).val < 2 := (y 0).isLt
        have h1 : (y 1).val < 4 := (y 1).isLt
        have hh : (y 1).val = 3 ∨ (y 1).val = 2 ∨ (y 1).val = 1 ∨ (y 1).val = 0 := by omega
        have hd : (y 0).val = 1 ∨ (y 0).val = 0 := by omega
        rcases hd with hd | hd <;> rcases hh with hh | hh | hh | hh
        · exact ⟨_, .head _, mem_st y 1 3 inb_S2x4x256x128_S1x1x256x128_1_3_0_0 rfl hd hh⟩
        · exact ⟨_, .tail _ (.head _), mem_st y 1 2 inb_S2x4x256x128_S1x1x256x128_1_2_0_0 rfl hd hh⟩
        · exact ⟨_, .tail _ (.tail _ (.head _)), mem_st y 1 1 inb_S2x4x256x128_S1x1x256x128_1_1_0_0 rfl hd hh⟩
        · exact ⟨_, .tail _ (.tail _ (.tail _ (.head _))), mem_st y 1 0 inb_S2x4x256x128_S1x1x256x128_1_0_0_0 rfl hd hh⟩
        · exact ⟨_, .tail _ (.tail _ (.tail _ (.tail _ (.head _)))), mem_st y 0 3 inb_S2x4x256x128_S1x1x256x128_0_3_0_0 rfl hd hh⟩
        · exact ⟨_, .tail _ (.tail _ (.tail _ (.tail _ (.tail _ (.head _))))), mem_st y 0 2 inb_S2x4x256x128_S1x1x256x128_0_2_0_0 rfl hd hh⟩
        · exact ⟨_, .tail _ (.tail _ (.tail _ (.tail _ (.tail _ (.tail _ (.head _)))))), mem_st y 0 1 inb_S2x4x256x128_S1x1x256x128_0_1_0_0 rfl hd hh⟩
        · exact ⟨_, .tail _ (.tail _ (.tail _ (.tail _ (.tail _ (.tail _ (.tail _ (.head _))))))), mem_st y 0 0 inb_S2x4x256x128_S1x1x256x128_0_0_0_0 rfl hd hh⟩

/-- What the whole loop leaves in the forward output, the backward output and the states. -/
theorem loop_reads (G12 : BufTy.Contents (Elt F) arg12.view.ty) (G13 : BufTy.Contents (Elt F) arg13.view.ty)
    (G14 : BufTy.Contents (Elt F) arg14.view.ty) (s : Vec F S2x4x256x128 .f32) (hs : arg14.view.read (Elt F) G14 = s)
    (n : ℕ) (hn : n = 4) :
    arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).1) = tileF (blk arg2 arg3 arg4 arg5 arg6 arg7 arg8 arg9 arg10 arg11 X2 X3 X4 X5 X6 X7 X8 X9 X10 X11) s
    ∧ arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).2.1) = tileB (blk arg2 arg3 arg4 arg5 arg6 arg7 arg8 arg9 arg10 arg11 X2 X3 X4 X5 X6 X7 X8 X9 X10 X11) s
    ∧ arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 n).2.2) = stAfter (blk arg2 arg3 arg4 arg5 arg6 arg7 arg8 arg9 arg10 arg11 X2 X3 X4 X5 X6 X7 X8 X9 X10 X11) s 4 := by
  subst hn
  obtain ⟨⟨iF, cF⟩, ⟨iB, cB⟩, iS⟩ := loop_pieces (F := F) 𝒱 c bd i arg2 harg2 arg3 harg3 arg4 harg4 arg5 harg5 arg6 harg6 arg7 harg7 arg8 harg8 arg9 harg9 arg10 harg10 arg11 harg11 arg12 harg12 arg13 harg13 arg14 harg14 X2 X3 X4 X5 X6 X7 X8 X9 X10 X11 G12 G13 G14 s hs 4 le_rfl
  refine ⟨funext fun y => View.read_writes_apply_of_pieces _ _ _ _ iF y (cF y ?_),
    funext fun y => View.read_writes_apply_of_pieces _ _ _ _ iB y (cB y ?_), iS⟩
  · have : (y 1).val < 256 := (y 1).isLt
    omega
  · omega

end Loop

end Cert.KernelIdeal.Hand

end
-- ==== Proof.Run.lean ====
module

public import proofs.«01_k».proof.Proof.Body
public import proofs.«01_k».proof.Proof.Gen.KernelIdeal.Frame.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The states at the start of a sequence. -/
def st0 : Vec F S2x4x256x128 .f32 := k0_pay1

set_option maxHeartbeats 2000000 in
/-- At the first point of a sequence the body starts from zero states and leaves the tile's outputs and states. -/
theorem runA (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S2x384x512 .bf16) (harg10 : arg10.IsWhole) (arg11 : Memref sig .tc .vmem S2x1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S2x4x256x128 .f32) (harg14 : arg14.IsWhole) (hc0 : cond0_0 i)
    (X : Blocks F) (E : Set ℕ) (K : PUnit → sProp 𝕄) :
    iprop(owns (c : Thread nD τ) arg2 fullShare X.q ∗ owns (c : Thread nD τ) arg3 fullShare X.k ∗ owns (c : Thread nD τ) arg4 fullShare X.v ∗ owns (c : Thread nD τ) arg5 fullShare X.lr ∗ owns (c : Thread nD τ) arg6 fullShare X.qb ∗ owns (c : Thread nD τ) arg7 fullShare X.kb ∗ owns (c : Thread nD τ) arg8 fullShare X.vb ∗ owns (c : Thread nD τ) arg9 fullShare X.lrb ∗ owns (c : Thread nD τ) arg10 fullShare X.up ∗ owns (c : Thread nD τ) arg11 fullShare X.ub ∗ (∃ d, owns (c : Thread nD τ) arg12 fullShare d) ∗ (∃ d, owns (c : Thread nD τ) arg13 fullShare d) ∗ (∃ d, owns (c : Thread nD τ) arg14 fullShare d)
      ∗ (iprop(owns (c : Thread nD τ) arg2 fullShare X.q ∗ owns (c : Thread nD τ) arg3 fullShare X.k ∗ owns (c : Thread nD τ) arg4 fullShare X.v ∗ owns (c : Thread nD τ) arg5 fullShare X.lr ∗ owns (c : Thread nD τ) arg6 fullShare X.qb ∗ owns (c : Thread nD τ) arg7 fullShare X.kb ∗ owns (c : Thread nD τ) arg8 fullShare X.vb ∗ owns (c : Thread nD τ) arg9 fullShare X.lrb ∗ owns (c : Thread nD τ) arg10 fullShare X.up ∗ owns (c : Thread nD τ) arg11 fullShare X.ub ∗ owns (c : Thread nD τ) arg12 fullShare (tileF X st0) ∗ owns (c : Thread nD τ) arg13 fullShare (tileB X st0) ∗ owns (c : Thread nD τ) arg14 fullShare (stAfter X st0 4)) -∗ K ⟨⟩))
    ⊢ wp frame (wpE (defs₀ (F := F)) Variants.none c none) E (cc0_gla_scan i arg2 harg2 arg3 harg3 arg4 harg4 arg5 harg5 arg6 harg6 arg7 harg7 arg8 harg8 arg9 harg9 arg10 harg10 arg11 harg11 arg12 harg12 arg13 harg13 arg14 harg14) K := by
  have hX : blk arg2 arg3 arg4 arg5 arg6 arg7 arg8 arg9 arg10 arg11 (harg2.unread X.q) (harg3.unread X.k) (harg4.unread X.v) (harg5.unread X.lr) (harg6.unread X.qb) (harg7.unread X.kb) (harg8.unread X.vb) (harg9.unread X.lrb) (harg10.unread X.up) (harg11.unread X.ub) = X := by
    show Blocks.mk (arg2.view.read (Elt F) (harg2.unread X.q)) (arg3.view.read (Elt F) (harg3.unread X.k)) (arg4.view.read (Elt F) (harg4.unread X.v)) (arg5.view.read (Elt F) (harg5.unread X.lr)) (arg6.view.read (Elt F) (harg6.unread X.qb)) (arg7.view.read (Elt F) (harg7.unread X.kb)) (arg8.view.read (Elt F) (harg8.unread X.vb)) (arg9.view.read (Elt F) (harg9.unread X.lrb)) (arg10.view.read (Elt F) (harg10.unread X.up)) (arg11.view.read (Elt F) (harg11.unread X.ub)) = X
    rw [harg2.read_unread, harg3.read_unread, harg4.read_unread, harg5.read_unread, harg6.read_unread, harg7.read_unread, harg8.read_unread, harg9.read_unread, harg10.read_unread, harg11.read_unread]
  simp only [cc0_gla_scan_eq_skeleton]; unfold cc0_gla_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  have L := loop_reads (F := F) Variants.none c none i arg2 harg2 arg3 harg3 arg4 harg4 arg5 harg5 arg6 harg6 arg7 harg7 arg8 harg8 arg9 harg9 arg10 harg10 arg11 harg11 arg12 harg12 arg13 harg13 arg14 harg14 (harg2.unread X.q) (harg3.unread X.k) (harg4.unread X.v) (harg5.unread X.lr) (harg6.unread X.qb) (harg7.unread X.kb) (harg8.unread X.vb) (harg9.unread X.lrb) (harg10.unread X.up) (harg11.unread X.ub) f10 f11 (arg14.view.writes (Elt F) arg14.view.junk [⟨Rect.unit (s := S2x4x256x128) ![0, 0, 0, 0] S2x4x256x128.size inb_S2x4x256x128_S2x4x256x128_0_0_0_0, k0_pay1 (F := F)⟩]) st0 (View.read_writes_full _ _ _ _ _) _ trips_eq
  rw [hX] at L
  isplitl [H10]
  · iexists _; isplitr
    swap; · iexact H10
    ipureintro; exact L.1
  isplitl [H11]
  · iexists _; isplitr
    swap; · iexact H11
    ipureintro; exact L.2.1
  iexists _; isplitr
  swap; · iexact HS0
  ipureintro; refine Eq.trans (congrArg _ (View.writes_append _ _ _ _)) L.2.2

set_option maxHeartbeats 2000000 in
/-- At any other point the body goes on from the states it finds. -/
theorem runB (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x1024 .f32) (harg4 : arg4.IsWhole) (arg5 : Memref sig .tc .vmem S1x256x128 .f32) (harg5 : arg5.IsWhole) (arg6 : Memref sig .tc .vmem S1x256x512 .f32) (harg6 : arg6.IsWhole) (arg7 : Memref sig .tc .vmem S1x256x512 .f32) (harg7 : arg7.IsWhole) (arg8 : Memref sig .tc .vmem S1x256x1024 .f32) (harg8 : arg8.IsWhole) (arg9 : Memref sig .tc .vmem S1x256x128 .f32) (harg9 : arg9.IsWhole) (arg10 : Memref sig .tc .vmem S2x384x512 .bf16) (harg10 : arg10.IsWhole) (arg11 : Memref sig .tc .vmem S2x1x512 .f32) (harg11 : arg11.IsWhole) (arg12 : Memref sig .tc .vmem S1x256x1024 .f32) (harg12 : arg12.IsWhole) (arg13 : Memref sig .tc .vmem S1x256x1024 .f32) (harg13 : arg13.IsWhole) (arg14 : Memref sig .tc .vmem S2x4x256x128 .f32) (harg14 : arg14.IsWhole) (hc0 : ¬cond0_0 i)
    (X : Blocks F) (xs0 : Vec F S2x4x256x128 .f32) (E : Set ℕ) (K : PUnit → sProp 𝕄) :
    iprop(owns (c : Thread nD τ) arg2 fullShare X.q ∗ owns (c : Thread nD τ) arg3 fullShare X.k ∗ owns (c : Thread nD τ) arg4 fullShare X.v ∗ owns (c : Thread nD τ) arg5 fullShare X.lr ∗ owns (c : Thread nD τ) arg6 fullShare X.qb ∗ owns (c : Thread nD τ) arg7 fullShare X.kb ∗ owns (c : Thread nD τ) arg8 fullShare X.vb ∗ owns (c : Thread nD τ) arg9 fullShare X.lrb ∗ owns (c : Thread nD τ) arg10 fullShare X.up ∗ owns (c : Thread nD τ) arg11 fullShare X.ub ∗ (∃ d, owns (c : Thread nD τ) arg12 fullShare d) ∗ (∃ d, owns (c : Thread nD τ) arg13 fullShare d) ∗ owns (c : Thread nD τ) arg14 fullShare xs0
      ∗ (iprop(owns (c : Thread nD τ) arg2 fullShare X.q ∗ owns (c : Thread nD τ) arg3 fullShare X.k ∗ owns (c : Thread nD τ) arg4 fullShare X.v ∗ owns (c : Thread nD τ) arg5 fullShare X.lr ∗ owns (c : Thread nD τ) arg6 fullShare X.qb ∗ owns (c : Thread nD τ) arg7 fullShare X.kb ∗ owns (c : Thread nD τ) arg8 fullShare X.vb ∗ owns (c : Thread nD τ) arg9 fullShare X.lrb ∗ owns (c : Thread nD τ) arg10 fullShare X.up ∗ owns (c : Thread nD τ) arg11 fullShare X.ub ∗ owns (c : Thread nD τ) arg12 fullShare (tileF X xs0) ∗ owns (c : Thread nD τ) arg13 fullShare (tileB X xs0) ∗ owns (c : Thread nD τ) arg14 fullShare (stAfter X xs0 4)) -∗ K ⟨⟩))
    ⊢ wp frame (wpE (defs₀ (F := F)) Variants.none c none) E (cc0_gla_scan i arg2 harg2 arg3 harg3 arg4 harg4 arg5 harg5 arg6 harg6 arg7 harg7 arg8 harg8 arg9 harg9 arg10 harg10 arg11 harg11 arg12 harg12 arg13 harg13 arg14 harg14) K := by
  have hX : blk arg2 arg3 arg4 arg5 arg6 arg7 arg8 arg9 arg10 arg11 (harg2.unread X.q) (harg3.unread X.k) (harg4.unread X.v) (harg5.unread X.lr) (harg6.unread X.qb) (harg7.unread X.kb) (harg8.unread X.vb) (harg9.unread X.lrb) (harg10.unread X.up) (harg11.unread X.ub) = X := by
    show Blocks.mk (arg2.view.read (Elt F) (harg2.unread X.q)) (arg3.view.read (Elt F) (harg3.unread X.k)) (arg4.view.read (Elt F) (harg4.unread X.v)) (arg5.view.read (Elt F) (harg5.unread X.lr)) (arg6.view.read (Elt F) (harg6.unread X.qb)) (arg7.view.read (Elt F) (harg7.unread X.kb)) (arg8.view.read (Elt F) (harg8.unread X.vb)) (arg9.view.read (Elt F) (harg9.unread X.lrb)) (arg10.view.read (Elt F) (harg10.unread X.up)) (arg11.view.read (Elt F) (harg11.unread X.ub)) = X
    rw [harg2.read_unread, harg3.read_unread, harg4.read_unread, harg5.read_unread, harg6.read_unread, harg7.read_unread, harg8.read_unread, harg9.read_unread, harg10.read_unread, harg11.read_unread]
  simp only [cc0_gla_scan_eq_skeleton]; unfold cc0_gla_scan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  have L := loop_reads (F := F) Variants.none c none i arg2 harg2 arg3 harg3 arg4 harg4 arg5 harg5 arg6 harg6 arg7 harg7 arg8 harg8 arg9 harg9 arg10 harg10 arg11 harg11 arg12 harg12 arg13 harg13 arg14 harg14 (harg2.unread X.q) (harg3.unread X.k) (harg4.unread X.v) (harg5.unread X.lr) (harg6.unread X.qb) (harg7.unread X.kb) (harg8.unread X.vb) (harg9.unread X.lrb) (harg10.unread X.up) (harg11.unread X.ub) f10 f11 (harg14.unread xs0) xs0 (harg14.read_unread _) _ trips_eq
  rw [hX] at L
  isplitl [H10]
  · iexists _; isplitr
    swap; · iexact H10
    ipureintro; exact L.1
  isplitl [H11]
  · iexists _; isplitr
    swap; · iexact H11
    ipureintro; exact L.2.1
  iexists _; isplitr
  swap; · iexact HS0
  ipureintro; exact L.2.2

end Cert.KernelIdeal.Hand

end
-- ==== Proof.Frame.lean ====
module

public import proofs.«01_k».proof.Proof.Run
public import Idealize.ShloMosaic.Lib.Claim
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ten input blocks of point `t`. -/
def blocks (c : Dev nD) (t : Fin cfg0.N) : Blocks F where
  q := iblk m c 0 t
  k := iblk m c 1 t
  v := iblk m c 2 t
  lr := iblk m c 3 t
  qb := iblk m c 4 t
  kb := iblk m c 5 t
  vb := iblk m c 6 t
  lrb := iblk m c 7 t
  up := iblk m c 8 t
  ub := iblk m c 9 t

/-- The states after point `n`: a sequence starts with zero states at every sixteenth point. -/
def stEnd (c : Dev nD) : (n : ℕ) → n < cfg0.N → Vec F S2x4x256x128 .f32
  | 0, hn => stAfter (blocks m c ⟨0, hn⟩) st0 4
  | n + 1, hn => stAfter (blocks m c ⟨n + 1, hn⟩)
      (if (n + 1) % 16 = 0 then st0 else stEnd c n (Nat.lt_of_succ_lt hn)) 4

/-- The states before point `t`. -/
def stBeg (c : Dev nD) (t : Fin cfg0.N) : Vec F S2x4x256x128 .f32 :=
  if t.val % 16 = 0 then st0 else stEnd m c (t.val - 1) (Nat.lt_of_le_of_lt (Nat.sub_le _ _) t.isLt)

theorem stEnd_eq (c : Dev nD) (t : Fin cfg0.N) : stEnd m c t.val t.isLt = stAfter (blocks m c t) (stBeg m c t) 4 := by
  obtain ⟨n, hn⟩ := t
  cases n with
  | zero => rfl
  | succ n => rfl

theorem stBeg_first (c : Dev nD) (t : Fin cfg0.N) (h0 : t.val % 16 = 0) : stBeg m c t = st0 := if_pos h0

theorem stBeg_next (c : Dev nD) (t : Fin cfg0.N) (h0 : ¬t.val % 16 = 0) :
    stBeg m c t = stEnd m c (t.val - 1) (Nat.lt_of_le_of_lt (Nat.sub_le _ _) t.isLt) := if_neg h0

/-- What holds between the points: before the first nothing is known of the states; after point `n` they are `stEnd n`. -/
def PhiS (c : Dev nD) : (n : ℕ) → n ≤ cfg0.N → sProp 𝕄
  | 0, _ => Pipeline.ΦA spec0 c
  | n + 1, hn => iprop(iprop(owns (c : Thread nD τ) scM0_0 fullShare (stEnd m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (stEnd m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (stEnd m c (n - 1) (by omega))) ∗ (∃ r, prngReg c r)) := by
  cases n with
  | zero => exact absurd rfl hz
  | succ n => rfl

/-- The pipeline's proof data: each input buffer keeps its block, the output buffers end at the two tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tileF (blocks m c t) (stBeg m c t)
    | ⟨11, _⟩ => tileB (blocks m c t) (stBeg m c t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = tileF (blocks m c t) (stBeg m c t) := by dsimp only [dats]
theorem after0_11 (c : Dev nD) (t : Fin cfg0.N) : (dats m 0 c).after 11 t = tileB (blocks m c t) (stBeg m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- What the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 2000000 in
/-- The body at any point: the first of a sequence starts from zero states, any other goes on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ, stEnd_eq]
  have hN : t.val < 64 := lt_of_lt_of_eq t.isLt (show cfg0.N = 64 from N_0)
  by_cases h0 : t.val % 16 = 0
  · by_cases hz : t.val = 0
    · rw [PhiS_castSucc m c t, PhiS_zero m c _ _ hz, PhiA0_eq, stBeg_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) _ _ _ _ _ _ _ _ _ _ _ _ _ _ _ _ _ _ _ _ _ _ _ _ _ _ ((hcond0_0 t).mpr h0) (blocks m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      iintro ⟨H0, H1, H2, H3, H4, H5, H6, H7, H8, H9, H10, H11, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [PhiS_castSucc m c t, PhiS_pos m c _ _ hz, stBeg_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) _ _ _ _ _ _ _ _ _ _ _ _ _ _ _ _ _ _ _ _ _ _ _ _ _ _ ((hcond0_0 t).mpr h0) (blocks m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexists _; iexact HS0
      iintro ⟨H0, H1, H2, H3, H4, H5, H6, H7, H8, H9, H10, H11, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
  · by_cases hz : t.val = 0
    · exfalso; omega
    · rw [PhiS_castSucc m c t, PhiS_pos m c _ _ hz, stBeg_next m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB c (grid0.coords t) _ _ _ _ _ _ _ _ _ _ _ _ _ _ _ _ _ _ _ _ _ _ _ _ _ _ (fun h => h0 ((hcond0_0 t).mp h)) (blocks m c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [HS0]; · iexact HS0
      iintro ⟨H0, H1, H2, H3, H4, H5, H6, H7, H8, H9, H10, H11, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS0, Hg⟩
  isplitl [HS0]
  · iexists _; iexact HS0
  iexact Hg

set_option backward.isDefEq.respectTransparency.types false in
/-- The launch: every run ends with the pipeline's arrays at what the proof data say, and every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every run ends, with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

theorem flushed10 (c : Dev nD) (t : Fin cfg0.N) :
    (dats m 0 c).flushed 10 t = (cfg0.win 10).cut (grid0.coords t) (tileF (blocks m c t) (stBeg m c t)) := by
  show (cfg0.win 10).cut (grid0.coords t) ((dats m 0 c).after 10 t) = _
  rw [after0_10]

theorem idx_inj10 : ∀ t t' : Fin cfg0.N, win0_10.index t = win0_10.index t' → t = t' :=
  (by decide +kernel : ∀ t t' : Fin grid0.N, win0_10.index t = win0_10.index t' → t = t')

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- Block `t` of the final array is the tile point `t` wrote back. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

theorem flushed11 (c : Dev nD) (t : Fin cfg0.N) :
    (dats m 0 c).flushed 11 t = (cfg0.win 11).cut (grid0.coords t) (tileB (blocks m c t) (stBeg m c t)) := by
  show (cfg0.win 11).cut (grid0.coords t) ((dats m 0 c).after 11 t) = _
  rw [after0_11]

theorem idx_inj11 : ∀ t t' : Fin cfg0.N, win0_11.index t = win0_11.index t' → t = t' :=
  (by decide +kernel : ∀ t t' : Fin grid0.N, win0_11.index t = win0_11.index t' → t = t')

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- Block `t` of the final array is the tile point `t` wrote back. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 7).trans (((dats m 0 c).arrAt_in 7 rfl _).trans ((A_eq m c 7).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Every run ends with the two output arrays at the pipeline's final contents and the arguments unchanged. -/
theorem run_blocks : θ_run defs (onTc (τ := τ) (main (F := F))) ⟨m, fun _ => 0, ρ⟩ fun r => ∀ c : Dev nD,
      r.2.mem ((c : Thread nD τ).loc main_v19_0) = (dats m 0 c).arrAt 10 cfg0.N
      ∧ r.2.mem ((c : Thread nD τ).loc main_v19_1) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 10, (h c).1 11, kept_main_arg0 m r h c, kept_main_arg1 m r h c,
      kept_main_arg2 m r h c, kept_main_arg3 m r h c⟩)
    (run_main m ρ)

end Cert.KernelIdeal.Hand

end
-- ==== Proof.KFrame.lean ====
/-
  The printed kernel's frame. It has the same text as its idealization, whose frame holds of any float values.
-/
module

public import proofs.«01_k».proof.Proof.Frame
public import proofs.«01_k».proof.Proof.Gen.Kernel
public import proofs.«01_k».proof.Defs
public import Idealize.ShloMosaic.Lib.Tactic

@[expose] public section

set_option maxRecDepth 65536

noncomputable section

namespace Cert.Kernel.Hand

open Idealize.ShloMosaic Idealize.ShloMosaic.TcCoe Idealize.ShloMosaic.Tactic Idealize.SL.Sem

set_option maxHeartbeats 2000000 in
/-- The kernel's frame claim is its idealization's at the bit-exact values. -/
theorem frame_eq : (Cert.quiescent_Kernel : Prop)
    = (∀ (m : (ℓ : Loc Cert.KernelIdeal.nD Cert.KernelIdeal.τ Cert.KernelIdeal.sig) → Buf (Elt Bits) ℓ) (g : Dev Cert.KernelIdeal.nD → PrngReg), True →
  θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) := by sl_kernel_rfl

/-- The kernel leaves its arguments as they were, with every counter at zero. -/
theorem frame : Cert.quiescent_Kernel := frame_eq.mpr fun m g _ => Cert.KernelIdeal.Hand.frame m g

end Cert.Kernel.Hand

end
-- ==== Proof.Spec.lean ====
/-
  The gated linear attention scan, written once for both programs: what one chunk of 64 rows puts out and what
  state it leaves, and the recurrence over the 64 chunks of a sequence.
-/
module

public import Idealize.ShloMosaic.PureOps
public import Idealize.ShloMosaic.Lib.Pointwise

@[expose] public section

noncomputable section

open Idealize.ShloMosaic

namespace Cert.Gla

/-- The scale `128^(-1/2)` of the queries, the float32 word it is written as. -/
abbrev scale : EReal := Ideal.ofBits .f32 0x3DB504F3#32

/-- The gate normalizer 16. -/
abbrev sixteen : EReal := Ideal.ofBits .f32 0x41800000#32

/-- One chunk's output: the causally masked scores times the values, plus the queries times the incoming state. -/
def chunkOut (q k b : Fin 64 → Fin 128 → EReal) (v : Fin 64 → Fin 256 → EReal) (S : Fin 128 → Fin 256 → EReal)
    (r : Fin 64) (e : Fin 256) : EReal :=
  (∑ r' : Fin 64, (if r' ≤ r then ∑ c : Fin 128, (q r c * scale * Ideal.exp (b r c)) * (k r' c * Ideal.exp (-(b r' c))) else 0) * v r' e)
    + ∑ c : Fin 128, (q r c * scale * Ideal.exp (b r c)) * S c e

/-- The state a chunk leaves: the incoming state decayed by the whole chunk's gates, plus the decayed keys times the values. -/
def chunkNew (k b : Fin 64 → Fin 128 → EReal) (v : Fin 64 → Fin 256 → EReal) (S : Fin 128 → Fin 256 → EReal)
    (c : Fin 128) (e : Fin 256) : EReal :=
  S c e * Ideal.exp (b 63 c) + ∑ r : Fin 64, (k r c * Ideal.exp (b 63 c - b r c)) * v r e

/-- `log σ`, in the form that does not overflow. -/
def logSig (A : EReal) : EReal := min A 0 - Ideal.log (1 + Ideal.exp (-(max A (-A))))

/-- Row `r` of chunk `n`. -/
def row (n r : Fin 64) : Fin 4096 := ⟨64 * n.val + r.val, by omega⟩

/-- Where a direction's `T`-th row lies in the sequence: direction 1 runs from the end. -/
def pos (d : Fin 2) (T : Fin 4096) : Fin 4096 := if d = 0 then T else Fin.rev T

section

variable (P : Fin 4 → Fin 4096 → Fin 6144 → EReal) (L : Fin 4 → Fin 4096 → Fin 128 → EReal)
  (U : Fin 2 → Fin 16 → Fin 512 → EReal) (B : Fin 2 → Fin 512 → EReal) (d : Fin 2) (b h : Fin 4)

/-- A direction's queries, by chunk and row. -/
def Q (n r : Fin 64) (c : Fin 128) : EReal := P b (pos d (row n r)) ⟨3072 + 128 * h.val + c.val, by omega⟩

/-- A direction's keys. -/
def K (n r : Fin 64) (c : Fin 128) : EReal := P b (pos d (row n r)) ⟨3584 + 128 * h.val + c.val, by omega⟩

/-- A direction's values. -/
def W (n r : Fin 64) (e : Fin 256) : EReal := P b (pos d (row n r)) ⟨4096 + 256 * h.val + e.val, by omega⟩

/-- A gate before `log σ`: the direction's 16 ranks, projected up, and the bias. -/
def pre (n r : Fin 64) (c : Fin 128) : EReal :=
  (∑ j : Fin 16, L b (pos d (row n r)) ⟨16 * d.val + j.val, by omega⟩ * U d j ⟨128 * h.val + c.val, by omega⟩)
    + B d ⟨128 * h.val + c.val, by omega⟩

/-- A log gate. -/
def gate (n r : Fin 64) (c : Fin 128) : EReal := Ideal.div (logSig (pre L U B d b h n r c)) sixteen

/-- The log gates summed from a chunk's first row. -/
def cum (n r : Fin 64) (c : Fin 128) : EReal := ∑ r' : Fin 64, if r' ≤ r then gate L U B d b h n r' c else 0

/-- The state after the first `n` chunks. -/
def state : ℕ → Fin 128 → Fin 256 → EReal
  | 0 => fun _ _ => 0
  | n + 1 => if hn : n < 64 then
      chunkNew (K P d b h ⟨n, hn⟩) (cum L U B d b h ⟨n, hn⟩) (W P d b h ⟨n, hn⟩) (state n)
    else state n

theorem state_succ (n : Fin 64) : state P L U B d b h (n.val + 1)
    = chunkNew (K P d b h n) (cum L U B d b h n) (W P d b h n) (state P L U B d b h n.val) := by
  rw [state, dif_pos n.isLt]

/-- The scan's output. -/
def out (n r : Fin 64) (e : Fin 256) : EReal :=
  chunkOut (Q P d b h n) (K P d b h n) (cum L U B d b h n) (W P d b h n) (state P L U B d b h n.val) r e

end

end Cert.Gla
-- ==== Proof.KChunk.lean ====
/-
  The kernel's chunk, entry by entry. The backward direction's rows run from the last, so each lemma is stated for the
  rows in an order `σ`: the identity forward, the reversal backward.
-/
module

public import proofs.«01_k».proof.Proof.Body
public import proofs.«01_k».proof.Proof.Spec
public import Idealize.ShloMosaic.Lib.FinSumWindow

@[expose] public section

set_option maxRecDepth 65536

noncomputable section

open Idealize.ShloMosaic Idealize.ShloMosaic.TcCoe Idealize.SL.Sem

namespace Cert.KernelIdeal.Hand

open Cert.KernelIdeal Cert.KernelIdeal.Gen Cert.Gla

variable (msk : IVec S64x64 1) (σ : Equiv.Perm (Fin 64))
  (hm : ∀ r r' : Fin 64, msk (Idealize.ShloMosaic.ix2 (σ r) (σ r')) = if r' ≤ r then 1#1 else 0#1)

include hm in
set_option maxHeartbeats 2000000 in
/-- A chunk's output. -/
theorem chOut_eq (q k : Vec Ideal S1x64x128 .f32) (v : Vec Ideal S1x64x256 .f32) (st : Vec Ideal S1x1x256x128 .f32)
    (b : FVec Ideal S64x128 .f32) (r : Fin 64) (e : Fin 256) :
    chOut msk q k v st b (Idealize.ShloMosaic.ix3 0 (σ r) e)
      = chunkOut (fun r c => q (Idealize.ShloMosaic.ix3 0 (σ r) c)) (fun r c => k (Idealize.ShloMosaic.ix3 0 (σ r) c))
          (fun r c => b (Idealize.ShloMosaic.ix2 (σ r) c)) (fun r e => v (Idealize.ShloMosaic.ix3 0 (σ r) e))
          (fun c e => st (Idealize.ShloMosaic.ix4 0 0 e c)) r e := by
  unfold chunkOut
  pointwise [chOut, k0_pay147, k0_pay139, k0_pay88, k0_pay8, k0_pay89, k0_pay6, k0_pay7, k0_pay90, k0_pay11, k0_pay87]
  congr 1
  rw [← Equiv.sum_comp σ]
  refine Finset.sum_congr rfl fun r' _ => ?_
  rw [hm]
  by_cases h : r' ≤ r <;> simp [h, Scalar.select, Ideal.ofBits]

set_option maxHeartbeats 2000000 in
/-- The state a forward chunk leaves. -/
theorem chStF_eq (k : Vec Ideal S1x64x128 .f32) (v : Vec Ideal S1x64x256 .f32) (st : Vec Ideal S1x1x256x128 .f32)
    (b : FVec Ideal S64x128 .f32) (c : Fin 128) (e : Fin 256) :
    chStF k v st b (Idealize.ShloMosaic.ix4 0 0 e c)
      = chunkNew (fun r c => k (Idealize.ShloMosaic.ix3 0 r c))
          (fun r c => b (Idealize.ShloMosaic.ix2 r c)) (fun r e => v (Idealize.ShloMosaic.ix3 0 r e))
          (fun c e => st (Idealize.ShloMosaic.ix4 0 0 e c)) c e := by
  unfold chunkNew
  pointwise [chStF, k0_pay148, k0_pay91, k0_pay88, k0_pay8, k0_pay7, k0_pay11]
  congr 1
  exact Finset.sum_congr rfl fun r' _ => mul_comm _ _

set_option maxHeartbeats 2000000 in
/-- The state a backward chunk leaves. -/
theorem chStB_eq (k : Vec Ideal S1x64x128 .f32) (v : Vec Ideal S1x64x256 .f32) (st : Vec Ideal S1x1x256x128 .f32)
    (b : FVec Ideal S64x128 .f32) (c : Fin 128) (e : Fin 256) :
    chStB k v st b (Idealize.ShloMosaic.ix4 0 0 e c)
      = chunkNew (fun r c => k (Idealize.ShloMosaic.ix3 0 (Fin.rev r) c))
          (fun r c => b (Idealize.ShloMosaic.ix2 (Fin.rev r) c)) (fun r e => v (Idealize.ShloMosaic.ix3 0 (Fin.rev r) e))
          (fun c e => st (Idealize.ShloMosaic.ix4 0 0 e c)) c e := by
  unfold chunkNew
  pointwise [chStB, k0_pay148, k0_pay117, k0_pay114, k0_pay8, k0_pay7, k0_pay11]
  congr 1
  rw [← Equiv.sum_comp Fin.revPerm]
  exact Finset.sum_congr rfl fun r' _ => mul_comm _ _

/-- Sixteen is the real sixteen. -/
theorem sixteen_eq : sixteen = ((16 : ℝ) : EReal) := by
  unfold sixteen
  simp [Ideal.ofBits, Ideal.ieee, -EReal.coe_mul]; norm_num

/-- `log (1 + exp (-|A|))` is a real number, and not negative. -/
theorem log_real (A : EReal) : ∃ l : ℝ, Ideal.log (1 + Ideal.exp (-(max A (-A)))) = (l : EReal) := by
  have key : ∀ z : ℝ, 0 ≤ z → Ideal.log (1 + (z : EReal)) = ((Real.log (1 + z) : ℝ) : EReal) := fun z hz => by
    rw [← EReal.coe_one, ← EReal.coe_add]
    show (if 1 + z ≤ 0 then (⊥ : EReal) else _) = _
    rw [if_neg (by linarith)]
  induction A with
  | bot => exact ⟨_, by
      rw [EReal.neg_bot, max_eq_right bot_le, EReal.neg_top, show Ideal.exp ⊥ = ((0 : ℝ) : EReal) from rfl]; exact key 0 le_rfl⟩
  | top => exact ⟨_, by
      rw [EReal.neg_top, max_eq_left bot_le, EReal.neg_top, show Ideal.exp ⊥ = ((0 : ℝ) : EReal) from rfl]; exact key 0 le_rfl⟩
  | coe a => exact ⟨_, by
      rw [show Ideal.exp (-(max (a : EReal) (-a))) = ((Real.exp (-(max a (-a))) : ℝ) : EReal) by
        rw [← EReal.coe_neg, ← EReal.coe_strictMono.monotone.map_max, ← EReal.coe_neg]; rfl]
      exact key _ (Real.exp_pos _).le⟩

/-- A log gate is never `+∞`. -/
theorem gate_ne_top (A : EReal) : Ideal.div (logSig A) sixteen ≠ ⊤ := by
  obtain ⟨l, hl⟩ := log_real A
  have h16 : sixteen ≠ 0 := by rw [sixteen_eq]; exact_mod_cast (by norm_num : (16 : ℝ) ≠ 0)
  unfold Ideal.div logSig
  rw [if_neg h16, hl, sixteen_eq]
  have hm : min A 0 ≤ 0 := min_le_right _ _
  generalize min A 0 = z at hm
  induction z with
  | bot =>
    rw [EReal.bot_sub, ← EReal.coe_inv, EReal.bot_mul_coe_of_pos (by norm_num)]
    exact bot_ne_top
  | top => exact absurd hm (by simp)
  | coe a => rw [← EReal.coe_inv, ← EReal.coe_sub, ← EReal.coe_mul]; exact EReal.coe_ne_top _

/-- A number that is not infinite. -/
def Fin' (x : EReal) : Prop := x ≠ ⊤ ∧ x ≠ ⊥

theorem Fin'.sub_self {x : EReal} (h : Fin' x) : x - x = 0 := EReal.sub_self h.1 h.2

/-- One gate: the three-part product, with the middle and last parts' zeros left in. -/
def gateRaw (lr : Fin 128 → EReal) (up : Fin 384 → EReal) (ub : EReal) : EReal :=
  Ideal.div (logSig ((∑ x : Fin 384, (if hx : x.val < 128 then lr ⟨x.val, hx⟩
    else if hx' : x.val - 128 < 128 then lr ⟨x.val - 128, hx'⟩ - lr ⟨x.val - 128, hx'⟩
    else lr ⟨x.val - 128 - 128, by omega⟩) * up x) + ub)) sixteen

set_option maxHeartbeats 2000000 in
theorem gate_eq (lr : Vec Ideal S1x64x128 .f32) (up : Vec Ideal S1x384x128 .bf16) (ub : Vec Ideal S1x1x128 .f32)
    (r : Fin 64) (c : Fin 128) :
    k0_pay56 (k0_pay5 lr) (k0_pay9 up) (k0_pay10 ub) (Idealize.ShloMosaic.ix2 r c)
      = gateRaw (fun x => lr (Idealize.ShloMosaic.ix3 0 r x)) (fun x => up (Idealize.ShloMosaic.ix3 0 x c))
          (ub (Idealize.ShloMosaic.ix3 0 0 c)) := by
  unfold gateRaw logSig
  pointwise [k0_pay56, k0_pay5, k0_pay9, k0_pay10]
  simp only [zero_sub]
  rfl

/-- The three-part product is the product over the 16 ranks of the direction: the middle part of the left factor is
    zero (its entries are finite), the last part of the right factor is zero, and so is all of the padding. -/
theorem gateRaw_eq (d : Fin 2) (lr : Fin 128 → EReal) (up : Fin 384 → EReal) (ub : EReal) (hl : ∀ x, Fin' (lr x))
    (hu : ∀ x : Fin 384, x.val < 128 → ¬(16 * d.val ≤ x.val ∧ x.val < 16 * d.val + 16) → up x = 0)
    (hu' : ∀ x : Fin 384, 256 ≤ x.val → up x = 0) :
    gateRaw lr up ub = Ideal.div (logSig ((∑ j : Fin 16, lr ⟨16 * d.val + j.val, by omega⟩
      * up ⟨16 * d.val + j.val, by omega⟩) + ub)) sixteen := by
  unfold gateRaw
  rw [Idealize.ShloMosaic.FinSumWindow.sum_window (16 * d.val) (W := 16) (by omega)]
  · congr 3
    refine Finset.sum_congr rfl fun j _ => ?_
    rw [dif_pos (show 16 * d.val + j.val < 128 by omega)]
  · intro x hx
    split
    · rename_i h
      rw [hu x h hx, mul_zero]
    · split
      · rename_i h h'
        rw [(hl _).sub_self, zero_mul]
      · rename_i h h'
        rw [hu' x (by omega), mul_zero]

theorem sitofp_one : (FloatOps.sitofp (F := Ideal) FTy.f32 (BitVec.setWidth 32 (1#1)) : EReal) = 1 := by
  show (((BitVec.setWidth 32 (1#1)).toInt : ℝ) : EReal) = 1
  rw [show (BitVec.setWidth 32 (1#1)).toInt = 1 by decide]
  norm_num

theorem sitofp_zero : (FloatOps.sitofp (F := Ideal) FTy.f32 (BitVec.setWidth 32 (0#1)) : EReal) = 0 := by
  show (((BitVec.setWidth 32 (0#1)).toInt : ℝ) : EReal) = 0
  rw [show (BitVec.setWidth 32 (0#1)).toInt = 0 by decide]
  norm_num

/-- The forward mask keeps the rows up to `r`. -/
theorem mask_fwd (r r' : Fin 64) : k0_pay55 (Idealize.ShloMosaic.ix2 r r') = if r' ≤ r then 1#1 else 0#1 := by
  revert r r'
  pointwise [k0_pay55]
  decide

/-- The backward mask keeps the rows from `r` on. -/
theorem mask_bwd (r r' : Fin 64) :
    k0_pay66 (Idealize.ShloMosaic.ix2 (Fin.revPerm r) (Fin.revPerm r')) = if r' ≤ r then 1#1 else 0#1 := by
  revert r r'
  pointwise [k0_pay66]
  decide

include hm in
set_option maxHeartbeats 2000000 in
/-- The cumulative gates: the second part of the two-part product adds nothing, as no gate is `+∞`. -/
theorem chCum_eq (lr : Vec Ideal S1x64x128 .f32) (up : Vec Ideal S1x384x128 .bf16) (ub : Vec Ideal S1x1x128 .f32)
    (g : Fin 64 → Fin 128 → EReal)
    (hg : ∀ r c, k0_pay56 (k0_pay5 lr) (k0_pay9 up) (k0_pay10 ub) (Idealize.ShloMosaic.ix2 (σ r) c) = g r c)
    (hf : ∀ r c, g r c ≠ ⊤) (r : Fin 64) (c : Fin 128) :
    chCum msk lr up ub (Idealize.ShloMosaic.ix2 (σ r) c) = ∑ r' : Fin 64, if r' ≤ r then g r' c else 0 := by
  unfold chCum
  generalize k0_pay56 (k0_pay5 lr) (k0_pay9 up) (k0_pay10 ub) = G at *
  pointwise [k0_pay75]
  rw [← Finset.sum_add_distrib, ← Equiv.sum_comp σ]
  refine Finset.sum_congr rfl fun r' _ => ?_
  rw [hm, hg]
  by_cases h : r' ≤ r
  · rw [if_pos h, if_pos h, sitofp_one, one_mul, one_mul]
    by_cases hb : g r' c = ⊥
    · rw [hb]; rfl
    · rw [EReal.sub_self (hf r' c) hb, add_zero]
  · rw [if_neg h, if_neg h, sitofp_zero, zero_mul, zero_mul, add_zero]

end Cert.KernelIdeal.Hand
-- ==== Proof.KHost.lean ====
/-
  The arrays the host lines hand the kernel: the up-projections of the two directions, padded to 128 ranks and laid
  out for a three-part product, and the bias as [2, 1, 512].
-/
module

public import proofs.«01_k».proof.Proof.Gen.KernelIdeal.Frame.Runs
public import proofs.«01_k».proof.Proof.KChunk
public import Idealize.ShloMosaic.Lib.Routing.OpsSet
public import Idealize.ShloMosaic.Lib.Tactic
public import Idealize.ShloMosaic.Lib.StableHlo.RunRead

@[expose] public section

set_option maxRecDepth 65536

noncomputable section

open Idealize.ShloMosaic Idealize.ShloMosaic.TcCoe Idealize.SL.Sem

namespace Cert.KernelIdeal.Hand

open Cert.KernelIdeal Cert.KernelIdeal.Gen Cert.Gla

/-- A 16-row table written into a [2, 128, 512] array at literal offsets, read at an entry. -/
theorem scatter_rows {α : Type} (x0 : S2x128x512.Idx → α) (idx : IVec S2 32) (upd : S16x512.Idx → α) (i0 p : ℕ)
    (hi : i0 < 2) (hp : p + 16 ≤ 128) (h0 : (idx (Idealize.ShloMosaic.ix1 0)).toInt = i0) (h1 : (idx (Idealize.ShloMosaic.ix1 1)).toInt = p)
    (d : Fin 2) (r : Fin 128) (c : Fin 512) :
    Host.scatter scatter_S2x128x512_S2_S16x512_01_0_01_0 (fun _ b => b) x0 idx upd (Idealize.ShloMosaic.ix3 d r c)
      = if h : d.val = i0 ∧ p ≤ r.val ∧ r.val < p + 16 then upd (Idealize.ShloMosaic.ix2 ⟨r.val - p, by omega⟩ c)
        else x0 (Idealize.ShloMosaic.ix3 d r c) := by
  have hs0 : ∀ k : S16x512.Idx, scatter_S2x128x512_S2_S16x512_01_0_01_0.start k idx 0 = i0 := fun k => by
    rw [← h0]; unfold ScatterDims.start; rw [dif_pos (by decide)]
    exact congrArg (fun j => (idx j).toInt) (funext fun b => by match b with | ⟨0, _⟩ => rfl)
  have hs1 : ∀ k : S16x512.Idx, scatter_S2x128x512_S2_S16x512_01_0_01_0.start k idx 1 = p := fun k => by
    rw [← h1]; unfold ScatterDims.start; rw [dif_pos (by decide)]
    exact congrArg (fun j => (idx j).toInt) (funext fun b => by match b with | ⟨0, _⟩ => rfl)
  have hs2 : ∀ k : S16x512.Idx, scatter_S2x128x512_S2_S16x512_01_0_01_0.start k idx 2 = 0 := fun k => by
    unfold ScatterDims.start; rw [dif_neg (by decide)]
  have hw0 : ∀ k : S16x512.Idx, scatter_S2x128x512_S2_S16x512_01_0_01_0.window k 0 = 0 := fun k => by
    unfold ScatterDims.window; rw [dif_neg (by decide)]
  have hw1 : ∀ k : S16x512.Idx, scatter_S2x128x512_S2_S16x512_01_0_01_0.window k 1 = (k 0).val := fun k => by
    unfold ScatterDims.window; rw [dif_pos (by decide)]; rfl
  have hw2 : ∀ k : S16x512.Idx, scatter_S2x128x512_S2_S16x512_01_0_01_0.window k 2 = (k 1).val := fun k => by
    unfold ScatterDims.window; rw [dif_pos (by decide)]; rfl
  have lands : ∀ k : S16x512.Idx, scatter_S2x128x512_S2_S16x512_01_0_01_0.resultIdx? k idx = some (Idealize.ShloMosaic.ix3 d r c)
      ↔ d.val = i0 ∧ p + (k 0).val = r.val ∧ (k 1).val = c.val := fun k => by
    rw [Routing.resultIdx?_eq_some]
    constructor
    · intro h
      have a0 := h 0; have a1 := h 1; have a2 := h 2
      rw [hs0, hw0] at a0; rw [hs1, hw1] at a1; rw [hs2, hw2] at a2
      have e0 : ((Idealize.ShloMosaic.ix3 d r c : S2x128x512.Idx) 0).val = d.val := rfl
      have e1 : ((Idealize.ShloMosaic.ix3 d r c : S2x128x512.Idx) 1).val = r.val := rfl
      have e2 : ((Idealize.ShloMosaic.ix3 d r c : S2x128x512.Idx) 2).val = c.val := rfl
      omega
    · rintro ⟨h0, h1, h2⟩ a
      match a with
      | ⟨0, _⟩ => exact (congrArg₂ (fun (x : ℤ) (y : ℕ) => x + y) (hs0 k) (hw0 k)).trans (by show (i0 : ℤ) + (0 : ℕ) = (d.val : ℤ); omega)
      | ⟨1, _⟩ => exact (congrArg₂ (fun (x : ℤ) (y : ℕ) => x + y) (hs1 k) (hw1 k)).trans (by show (p : ℤ) + ((k 0).val : ℕ) = (r.val : ℤ); omega)
      | ⟨2, _⟩ => exact (congrArg₂ (fun (x : ℤ) (y : ℕ) => x + y) (hs2 k) (hw2 k)).trans (by show (0 : ℤ) + ((k 1).val : ℕ) = (c.val : ℤ); omega)
  split
  · rename_i h
    refine Routing.scatter_set_hit _ x0 idx upd _ _ (fun k hk => ?_) (Idealize.ShloMosaic.ix2 ⟨r.val - p, by omega⟩ c)
      ((lands _).2 ⟨h.1, ?_, rfl⟩)
    · obtain ⟨q0, q1, q2⟩ := (lands k).1 hk
      refine congrArg upd (funext fun b => Fin.ext ?_)
      match b with
      | ⟨0, _⟩ => show (k 0).val = r.val - p; omega
      | ⟨1, _⟩ => exact q2
    · show p + (r.val - p) = r.val; omega
  · rename_i h
    refine Routing.scatter_set_miss _ x0 idx upd _ fun k hk => h ?_
    obtain ⟨q0, q1, q2⟩ := (lands k).1 hk
    have hlt : (k 0).val < 16 := (k 0).isLt
    exact ⟨q0, by omega, by omega⟩

section

variable {F : FTy → Type} [FloatOps F] (m : (ℓ : Loc nD τ sig) → Buf (Elt F) ℓ) (c : Dev nD)

/-- The up-projections, direction `d` in rows `16 d …` of 128 rows of zeros. -/
def upPad (U : FVec F S2x16x512 .f32) : FVec F S2x128x512 .f32 :=
  Host.scatter scatter_S2x128x512_S2_S16x512_01_0_01_0 (fun _ b => b)
    (Host.scatter scatter_S2x128x512_S2_S16x512_01_0_01_0 (fun _ b => b)
      (broadcastInDim S2x128x512 ![] bcast_S_S2x128x512 (constant S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (shapeCast S16x512 (extractStridedSlice S1x16x512 ![0, 0, 0] U slices_S2x16x512_S1x16x512_0_0_0) shapeCasts_S1x16x512_S16x512))
    (concatenate S2 0 [⟨S1, broadcastInDim S1 ![] bcast_S_S1 (constantI S_ 32 1#32)⟩, ⟨S1, broadcastInDim S1 ![] bcast_S_S1 (constantI S_ 32 16#32)⟩] concatenates_S1_S1_S2_d0)
    (shapeCast S16x512 (extractStridedSlice S1x16x512 ![1, 0, 0] U slices_S2x16x512_S1x16x512_1_0_0) shapeCasts_S1x16x512_S16x512)

/-- The three parts of the up-projections, one under the other. -/
def upThree (X : FVec F S2x128x512 .f32) : FVec F S2x384x512 .bf16 :=
  concatenate S2x384x512 1 [⟨S2x128x512, truncf .bf16 X bitsLt_bf16_f32⟩, ⟨S2x128x512, truncf .bf16 X bitsLt_bf16_f32⟩,
    ⟨S2x128x512, truncf .bf16 (subf X (extf .f32 (truncf .bf16 X bitsLt_bf16_f32) bitsLt_bf16_f32)) bitsLt_bf16_f32⟩]
    concatenates_S2x128x512_S2x128x512_S2x128x512_S2x384x512_d1

theorem part0 : (![main_v13, main_v13, main_v16] : Fin 3 → Ref sig .tc) 0 = main_v13 := rfl
theorem part1 : (![main_v13, main_v13, main_v16] : Fin 3 → Ref sig .tc) 1 = main_v13 := rfl
theorem part2 : (![main_v13, main_v13, main_v16] : Fin 3 → Ref sig .tc) 2 = main_v16 := rfl

theorem V_main_v12 : V m c main_v12 = upPad (V m c main_arg2) := by
  unfold upPad
  after_reads_simp
  try rfl

theorem V_main_v13 : V m c main_v13 = (truncf .bf16 (V m c main_v12 : FVec F S2x128x512 .f32) bitsLt_bf16_f32 : FVec F S2x128x512 .bf16) := by
  after_reads_simp
  try rfl

theorem V_main_v16 : V m c main_v16 = (truncf .bf16 (subf (V m c main_v12 : FVec F S2x128x512 .f32) (extf .f32 (V m c main_v13 : FVec F S2x128x512 .bf16) bitsLt_bf16_f32)) bitsLt_bf16_f32 : FVec F S2x128x512 .bf16) := by
  after_reads_simp
  try rfl

theorem V_main_v17' : V m c main_v17 = concatenate S2x384x512 1 [⟨S2x128x512, (V m c main_v13 : FVec F S2x128x512 .bf16)⟩,
    ⟨S2x128x512, (V m c main_v13 : FVec F S2x128x512 .bf16)⟩, ⟨S2x128x512, (V m c main_v16 : FVec F S2x128x512 .bf16)⟩]
    concatenates_S2x128x512_S2x128x512_S2x128x512_S2x384x512_d1 := by
  after_reads_simp [StableHlo.unaryIndexed_result', StableHlo.binaryIndexed_result', part0, part1, part2]
  try rfl

/-- The up-projections the kernel is called with. -/
theorem V_main_v17 : V m c main_v17 = upThree (upPad (V m c main_arg2)) := by
  rw [V_main_v17', V_main_v16, V_main_v13, V_main_v12]
  rfl

set_option maxHeartbeats 2000000 in
theorem V_main_v18 : V m c main_v18 = shapeCast S2x1x512 (V m c main_arg3) shapeCasts_S2x512_S2x1x512 := by
  after_reads_simp
  all_goals rfl

end

set_option maxHeartbeats 2000000 in
/-- An entry of the padded up-projections. -/
theorem upPad_apply (U : FVec Ideal S2x16x512 .f32) (d : Fin 2) (r : Fin 128) (c : Fin 512) :
    upPad U (Idealize.ShloMosaic.ix3 d r c)
      = if h : 16 * d.val ≤ r.val ∧ r.val < 16 * d.val + 16 then U (Idealize.ShloMosaic.ix3 d ⟨r.val - 16 * d.val, by omega⟩ c) else 0 := by
  unfold upPad
  rw [scatter_rows _ _ _ 1 16 (by omega) (by omega) (by pointwise []; try rfl) (by pointwise []; try rfl),
    scatter_rows _ _ _ 0 0 (by omega) (by omega) (by pointwise []; try rfl) (by pointwise []; try rfl)]
  by_cases h1 : d = 1
  · subst h1
    by_cases h : 16 * (1 : Fin 2).val ≤ r.val ∧ r.val < 16 * (1 : Fin 2).val + 16
    · rw [dif_pos h, dif_pos (by exact ⟨rfl, h⟩)]
      pointwise []
    · rw [dif_neg h, dif_neg (fun q => h q.2), dif_neg (fun q => absurd q.1 (by decide))]
      pointwise []
  · have h0 : d = 0 := by omega
    subst h0
    rw [dif_neg (fun q => absurd q.1 (by decide))]
    by_cases h : 16 * (0 : Fin 2).val ≤ r.val ∧ r.val < 16 * (0 : Fin 2).val + 16
    · rw [dif_pos h, dif_pos (by exact ⟨rfl, h⟩)]
      pointwise []
    · rw [dif_neg h, dif_neg (fun q => h q.2)]
      pointwise []

set_option maxHeartbeats 2000000 in
/-- An entry of the three parts. -/
theorem upThree_apply (X : FVec Ideal S2x128x512 .f32) (d : Fin 2) (x : Fin 384) (c : Fin 512) :
    upThree X (Idealize.ShloMosaic.ix3 d x c)
      = if h : x.val < 128 then X (Idealize.ShloMosaic.ix3 d ⟨x.val, h⟩ c)
        else if h' : x.val - 128 < 128 then X (Idealize.ShloMosaic.ix3 d ⟨x.val - 128, h'⟩ c)
        else X (Idealize.ShloMosaic.ix3 d ⟨x.val - 128 - 128, by omega⟩ c) - X (Idealize.ShloMosaic.ix3 d ⟨x.val - 128 - 128, by omega⟩ c) := by
  pointwise [upThree]

end Cert.KernelIdeal.Hand
-- ==== Proof.KBlocks.lean ====
/-
  What the kernel's blocks hold: entries of the argument arrays, by grid point.
-/
module

public import proofs.«01_k».proof.Proof.Frame
public import proofs.«01_k».proof.Proof.KHost
public import Idealize.ShloMosaic.Lib.Pipeline.ValueKit

@[expose] public section

set_option maxRecDepth 65536

noncomputable section

open Idealize.ShloMosaic Idealize.ShloMosaic.TcCoe Idealize.SL.Sem

namespace Cert.KernelIdeal.Hand

open Cert.KernelIdeal Cert.KernelIdeal.Gen Cert.Gla

theorem t_lt (t : Fin cfg0.N) : t.val < 64 := lt_of_lt_of_eq t.isLt N_0

/-- Every window's block index at a grid point. -/
theorem idx (t : Fin grid0.N) :
    win0_0.index t = ![t.val / 16, t.val % 16, 6] ∧ win0_1.index t = ![t.val / 16, t.val % 16, 7]
    ∧ win0_2.index t = ![t.val / 16, t.val % 16, 4] ∧ win0_3.index t = ![t.val / 16, t.val % 16, 0]
    ∧ win0_4.index t = ![t.val / 16, 15 - t.val % 16, 6] ∧ win0_5.index t = ![t.val / 16, 15 - t.val % 16, 7]
    ∧ win0_6.index t = ![t.val / 16, 15 - t.val % 16, 4] ∧ win0_7.index t = ![t.val / 16, 15 - t.val % 16, 0]
    ∧ win0_8.index t = ![0, 0, 0] ∧ win0_9.index t = ![0, 0, 0]
    ∧ win0_10.index t = ![t.val / 16, t.val % 16, 0] ∧ win0_11.index t = ![t.val / 16, 15 - t.val % 16, 0] :=
  (by decide +kernel : ∀ t : Fin grid0.N,
    win0_0.index t = ![t.val / 16, t.val % 16, 6] ∧ win0_1.index t = ![t.val / 16, t.val % 16, 7]
    ∧ win0_2.index t = ![t.val / 16, t.val % 16, 4] ∧ win0_3.index t = ![t.val / 16, t.val % 16, 0]
    ∧ win0_4.index t = ![t.val / 16, 15 - t.val % 16, 6] ∧ win0_5.index t = ![t.val / 16, 15 - t.val % 16, 7]
    ∧ win0_6.index t = ![t.val / 16, 15 - t.val % 16, 4] ∧ win0_7.index t = ![t.val / 16, 15 - t.val % 16, 0]
    ∧ win0_8.index t = ![0, 0, 0] ∧ win0_9.index t = ![0, 0, 0]
    ∧ win0_10.index t = ![t.val / 16, t.val % 16, 0] ∧ win0_11.index t = ![t.val / 16, 15 - t.val % 16, 0]) t

/-- The batch of a point. -/
def bt (t : Fin cfg0.N) : Fin 4 := ⟨t.val / 16, by have := t_lt t; omega⟩

/-- The chunk of trip `k` at a point. -/
def ch (t : Fin cfg0.N) (k : Fin 4) : Fin 64 := ⟨4 * (t.val % 16) + k.val, by omega⟩

theorem bt_val (t : Fin cfg0.N) : (bt t).val = t.val / 16 := rfl

/-- Forward, trip `k` of a point takes rows `64 k …` of the point's block. -/
theorem pos0_val (t : Fin cfg0.N) (k : Fin 4) (r : Fin 64) :
    (pos 0 (row (ch t k) r)).val = 256 * (t.val % 16) + 64 * k.val + r.val := by
  show 64 * (4 * (t.val % 16) + k.val) + r.val = _
  omega

/-- Backward, it takes the rows of the point's block from the last. -/
theorem pos1_val (t : Fin cfg0.N) (k : Fin 4) (r : Fin 64) :
    (pos 1 (row (ch t k) r)).val = 256 * (15 - t.val % 16) + 64 * (3 - k.val) + (63 - r.val) := by
  show 4096 - (64 * (4 * (t.val % 16) + k.val) + r.val + 1) = _
  omega

theorem rv_val (k : Fin 4) : (rv k).val = 3 - k.val := rfl

variable {F : FTy → Type} [FloatOps F] (m : (ℓ : Loc nD τ sig) → Buf (Elt F) ℓ) (c : Dev nD) (t : Fin cfg0.N)

/-- The projections, by batch, position and column. -/
abbrev arrP (b : Fin 4) (T : Fin 4096) (x : Fin 6144) : F .f32 := m ((c : Thread nD τ).loc main_arg0) (Idealize.ShloMosaic.ix3 b T x)
/-- The low-rank gate inputs. -/
abbrev arrL (b : Fin 4) (T : Fin 4096) (x : Fin 128) : F .f32 := m ((c : Thread nD τ).loc main_arg1) (Idealize.ShloMosaic.ix3 b T x)
/-- The gates' up-projections. -/
abbrev arrU (d : Fin 2) (j : Fin 16) (x : Fin 512) : F .f32 := m ((c : Thread nD τ).loc main_arg2) (Idealize.ShloMosaic.ix3 d j x)
/-- The gates' biases. -/
abbrev arrB (d : Fin 2) (x : Fin 512) : F .f32 := m ((c : Thread nD τ).loc main_arg3) (Idealize.ShloMosaic.ix2 d x)

set_option maxHeartbeats 2000000 in
theorem q_fwd (k h : Fin 4) (r : Fin 64) (x : Fin 128) :
    qAt (blocks m c t).q k h (Idealize.ShloMosaic.ix3 0 r x)
      = arrP m c (bt t) (pos 0 (row (ch t k) r)) (⟨3072 + 128 * h.val + x.val, by omega⟩ : Fin 6144) := by
  have e := idx t
  have hV := V_main_arg0 m c
  unfold arrP
  rw [← hV]
  show iblk m c 0 t _ = _
  blk_ext [iblk, e, bt_val, pos0_val, rv_val, Fin.val_rev]

set_option maxHeartbeats 2000000 in
theorem k_fwd (k h : Fin 4) (r : Fin 64) (x : Fin 128) :
    qAt (blocks m c t).k k h (Idealize.ShloMosaic.ix3 0 r x)
      = arrP m c (bt t) (pos 0 (row (ch t k) r)) (⟨3584 + 128 * h.val + x.val, by omega⟩ : Fin 6144) := by
  have e := idx t
  have hV := V_main_arg0 m c
  unfold arrP
  rw [← hV]
  show iblk m c 1 t _ = _
  blk_ext [iblk, e, bt_val, pos0_val, rv_val, Fin.val_rev]

set_option maxHeartbeats 2000000 in
theorem v_fwd (k h : Fin 4) (r : Fin 64) (x : Fin 256) :
    vAt (blocks m c t).v k h (Idealize.ShloMosaic.ix3 0 r x)
      = arrP m c (bt t) (pos 0 (row (ch t k) r)) (⟨4096 + 256 * h.val + x.val, by omega⟩ : Fin 6144) := by
  have e := idx t
  have hV := V_main_arg0 m c
  unfold arrP
  rw [← hV]
  show iblk m c 2 t _ = _
  blk_ext [iblk, e, bt_val, pos0_val, rv_val, Fin.val_rev]

set_option maxHeartbeats 2000000 in
theorem l_fwd (k : Fin 4) (r : Fin 64) (x : Fin 128) :
    lrAt (blocks m c t).lr k (Idealize.ShloMosaic.ix3 0 r x)
      = arrL m c (bt t) (pos 0 (row (ch t k) r)) x := by
  have e := idx t
  have hV := V_main_arg1 m c
  unfold arrL
  rw [← hV]
  show iblk m c 3 t _ = _
  blk_ext [iblk, e, bt_val, pos0_val, rv_val, Fin.val_rev]
  rfl

set_option maxHeartbeats 2000000 in
theorem q_bwd (k h : Fin 4) (r : Fin 64) (x : Fin 128) :
    qAt (blocks m c t).qb (rv k) h (Idealize.ShloMosaic.ix3 0 (Fin.rev r) x)
      = arrP m c (bt t) (pos 1 (row (ch t k) r)) (⟨3072 + 128 * h.val + x.val, by omega⟩ : Fin 6144) := by
  have e := idx t
  have hV := V_main_arg0 m c
  unfold arrP
  rw [← hV]
  show iblk m c 4 t _ = _
  blk_ext [iblk, e, bt_val, pos1_val, rv_val, Fin.val_rev]

set_option maxHeartbeats 2000000 in
theorem k_bwd (k h : Fin 4) (r : Fin 64) (x : Fin 128) :
    qAt (blocks m c t).kb (rv k) h (Idealize.ShloMosaic.ix3 0 (Fin.rev r) x)
      = arrP m c (bt t) (pos 1 (row (ch t k) r)) (⟨3584 + 128 * h.val + x.val, by omega⟩ : Fin 6144) := by
  have e := idx t
  have hV := V_main_arg0 m c
  unfold arrP
  rw [← hV]
  show iblk m c 5 t _ = _
  blk_ext [iblk, e, bt_val, pos1_val, rv_val, Fin.val_rev]

set_option maxHeartbeats 2000000 in
theorem v_bwd (k h : Fin 4) (r : Fin 64) (x : Fin 256) :
    vAt (blocks m c t).vb (rv k) h (Idealize.ShloMosaic.ix3 0 (Fin.rev r) x)
      = arrP m c (bt t) (pos 1 (row (ch t k) r)) (⟨4096 + 256 * h.val + x.val, by omega⟩ : Fin 6144) := by
  have e := idx t
  have hV := V_main_arg0 m c
  unfold arrP
  rw [← hV]
  show iblk m c 6 t _ = _
  blk_ext [iblk, e, bt_val, pos1_val, rv_val, Fin.val_rev]

set_option maxHeartbeats 2000000 in
theorem l_bwd (k : Fin 4) (r : Fin 64) (x : Fin 128) :
    lrAt (blocks m c t).lrb (rv k) (Idealize.ShloMosaic.ix3 0 (Fin.rev r) x)
      = arrL m c (bt t) (pos 1 (row (ch t k) r)) x := by
  have e := idx t
  have hV := V_main_arg1 m c
  unfold arrL
  rw [← hV]
  show iblk m c 7 t _ = _
  blk_ext [iblk, e, bt_val, pos1_val, rv_val, Fin.val_rev]
  rfl

set_option maxHeartbeats 2000000 in
theorem up_at (d : Fin 2) (h : Fin 4) (x : Fin 384) (y : Fin 128) :
    upAt (blocks m c t).up d h (Idealize.ShloMosaic.ix3 0 x y)
      = upThree (upPad (m ((c : Thread nD τ).loc main_arg2))) (Idealize.ShloMosaic.ix3 d x (⟨128 * h.val + y.val, by omega⟩ : Fin 512)) := by
  have e := idx t
  rw [← V_main_arg2 m c, ← V_main_v17 m c]
  show iblk m c 8 t _ = _
  blk_ext [iblk, e]
  rfl

set_option maxHeartbeats 2000000 in
theorem ub_at (d : Fin 2) (h : Fin 4) (y : Fin 128) :
    ubAt (blocks m c t).ub d h (Idealize.ShloMosaic.ix3 0 0 y)
      = arrB m c d (⟨128 * h.val + y.val, by omega⟩ : Fin 512) := by
  have e := idx t
  unfold arrB
  rw [← V_main_arg3 m c]
  refine Eq.trans (b := V m c main_v18 (Idealize.ShloMosaic.ix3 d 0 (⟨128 * h.val + y.val, by omega⟩ : Fin 512))) ?_ ?_
  · show iblk m c 9 t _ = _
    blk_ext [iblk, e]
  · rw [V_main_v18]
    pointwise []

end Cert.KernelIdeal.Hand
-- ==== Proof.KValue.lean ====
/-
  The kernel's results, entry by entry: the scan of `Spec.lean` over the argument arrays.
-/
module

public import proofs.«01_k».proof.Proof.KBlocks

@[expose] public section

set_option maxRecDepth 65536

noncomputable section

open Idealize.ShloMosaic Idealize.ShloMosaic.TcCoe Idealize.SL.Sem

namespace Cert.KernelIdeal.Hand

open Cert.KernelIdeal Cert.KernelIdeal.Gen Cert.Gla

variable (m : (ℓ : Loc nD τ sig) → Buf (Elt Ideal) ℓ) (c : Dev nD)

/-- The low-rank gate inputs and the up-projections are finite. -/
structure Finite : Prop where
  l : ∀ b T x, Fin' (arrL m c b T x)
  u : ∀ d j x, Fin' (arrU m c d j x)

variable {m c} (hF : Finite m c)

/-- The queries' kernel of a direction: the rows in its order. -/
abbrev sC (d : Fin 2) (b h : Fin 4) : ℕ → Fin 128 → Fin 256 → EReal := state (arrP m c) (arrL m c) (arrU m c) (arrB m c) d b h

include hF in
theorem upPad_fin (d : Fin 2) (r : Fin 128) (x : Fin 512) : Fin' (upPad (F := Ideal) (m ((c : Thread nD τ).loc main_arg2)) (Idealize.ShloMosaic.ix3 d r x)) := by
  rw [upPad_apply]
  split
  · exact hF.u _ _ _
  · exact ⟨EReal.zero_ne_top, EReal.zero_ne_bot⟩

include hF in
/-- One gate of a direction. -/
theorem gate_at (d : Fin 2) (t : Fin cfg0.N) (k h : Fin 4) (r : Fin 64) (x : Fin 128) (lr : Vec Ideal S1x64x128 .f32) (r' : Fin 64)
    (hl : ∀ y, lr (Idealize.ShloMosaic.ix3 0 r' y) = arrL m c (bt t) (pos d (row (ch t k) r)) y) :
    k0_pay56 (k0_pay5 lr) (k0_pay9 (upAt (blocks m c t).up d h)) (k0_pay10 (ubAt (blocks m c t).ub d h)) (Idealize.ShloMosaic.ix2 r' x)
      = gate (arrL m c) (arrU m c) (arrB m c) d (bt t) h (ch t k) r x := by
  rw [gate_eq, gateRaw_eq d]
  · unfold gate pre
    rw [ub_at]
    congr 3
    refine Finset.sum_congr rfl fun j _ => ?_
    rw [hl, up_at, upThree_apply, dif_pos (show 16 * d.val + j.val < 128 by omega), upPad_apply,
      dif_pos ⟨Nat.le_add_right _ _, by show 16 * d.val + j.val < 16 * d.val + 16; omega⟩]
    congr 2
    refine congrArg (fun q => Idealize.ShloMosaic.ix3 d q _) (Fin.ext ?_)
    show 16 * d.val + j.val - 16 * d.val = j.val
    omega
  · intro y; rw [hl]; exact hF.l _ _ _
  · intro y hy hn
    rw [up_at, upThree_apply, dif_pos hy, upPad_apply, dif_neg hn]
  · intro y hy
    rw [up_at, upThree_apply, dif_neg (by omega), dif_neg (by omega)]
    exact (upPad_fin hF _ _ _).sub_self

include hF in
theorem cumF_at (t : Fin cfg0.N) (k h : Fin 4) (r : Fin 64) (x : Fin 128) :
    cumF (blocks m c t) k h (Idealize.ShloMosaic.ix2 r x) = cum (arrL m c) (arrU m c) (arrB m c) 0 (bt t) h (ch t k) r x := by
  unfold cumF cum
  exact chCum_eq k0_pay55 (Equiv.refl _) mask_fwd _ _ _ (fun r x => gate (arrL m c) (arrU m c) (arrB m c) 0 (bt t) h (ch t k) r x)
    (fun r x => gate_at hF 0 t k h r x _ r (fun y => l_fwd m c t k r y)) (fun r x => gate_ne_top _) r x

include hF in
theorem cumB_at (t : Fin cfg0.N) (k h : Fin 4) (r : Fin 64) (x : Fin 128) :
    cumB (blocks m c t) (rv k) h (Idealize.ShloMosaic.ix2 (Fin.rev r) x) = cum (arrL m c) (arrU m c) (arrB m c) 1 (bt t) h (ch t k) r x := by
  unfold cumB cum
  exact chCum_eq k0_pay66 Fin.revPerm mask_bwd _ _ _ (fun r x => gate (arrL m c) (arrU m c) (arrB m c) 1 (bt t) h (ch t k) r x)
    (fun r x => gate_at hF 1 t k h r x _ (Fin.rev r) (fun y => l_bwd m c t k r y)) (fun r x => gate_ne_top _) r x

/-- The states held before trip `k` of a point are the scan's after its first `4 τ + k` chunks. -/
def Holds (m : (ℓ : Loc nD τ sig) → Buf (Elt Ideal) ℓ) (c : Dev nD) (b : Fin 4) (n : ℕ) (s : Vec Ideal S2x4x256x128 .f32) : Prop :=
  ∀ (d : Fin 2) (h : Fin 4) (e : Fin 256) (x : Fin 128),
    s (Idealize.ShloMosaic.ix4 d h e x) = state (arrP m c) (arrL m c) (arrU m c) (arrB m c) d b h n x e

include hF in
theorem holds_next (t : Fin cfg0.N) (k : Fin 4) (s : Vec Ideal S2x4x256x128 .f32) (hs : Holds m c (bt t) (4 * (t.val % 16) + k.val) s) :
    Holds m c (bt t) (4 * (t.val % 16) + k.val + 1) (stNext (blocks m c t) s k) := by
  intro d h e x
  have hst := state_succ (arrP m c) (arrL m c) (arrU m c) (arrB m c) d (bt t) h (ch t k)
  rw [show 4 * (t.val % 16) + k.val + 1 = (ch t k).val + 1 from rfl, hst]
  have hs' : state (arrP m c) (arrL m c) (arrU m c) (arrB m c) d (bt t) h (ch t k).val = fun x e => s (Idealize.ShloMosaic.ix4 d h e x) :=
    funext fun x => funext fun e => (hs d h e x).symm
  rw [hs']
  by_cases hd : d = 0
  · subst hd
    refine (if_pos rfl).trans ?_
    refine (chStF_eq _ _ _ _ x e).trans ?_
    congr 1
    · funext r x; exact k_fwd m c t k h r x
    · funext r x; exact cumF_at hF t k h r x
    · funext r x; exact v_fwd m c t k h r x
  · have hd : d = 1 := by omega
    subst hd
    refine (if_neg (show ¬(1 : Fin 2).val = 0 by decide)).trans ?_
    refine (chStB_eq _ _ _ _ x e).trans ?_
    congr 1
    · funext r x; exact k_bwd m c t k h r x
    · funext r x; exact cumB_at hF t k h r x
    · funext r x; exact v_bwd m c t k h r x

include hF in
theorem holds_after (t : Fin cfg0.N) (s : Vec Ideal S2x4x256x128 .f32) (hs : Holds m c (bt t) (4 * (t.val % 16)) s) :
    ∀ n, n ≤ 4 → Holds m c (bt t) (4 * (t.val % 16) + n) (stAfter (blocks m c t) s n)
  | 0, _ => hs
  | n + 1, hn => by
    have h := holds_next hF t ⟨n, hn⟩ _ (holds_after t s hs n (by omega))
    rw [show stAfter (blocks m c t) s (n + 1) = stNext (blocks m c t) (stAfter (blocks m c t) s n) ⟨n, hn⟩ from
      stAfter_succ (blocks m c t) s ⟨n, hn⟩]
    exact h

theorem holds_zero (b : Fin 4) : Holds m c b 0 st0 := by
  intro d h e x
  show st0 (Idealize.ShloMosaic.ix4 d h e x) = 0
  unfold st0
  pointwise [k0_pay1]

include hF in
/-- Before every point the states are the scan's. -/
theorem holds_beg : ∀ n (hn : n < cfg0.N), Holds m c (bt ⟨n, hn⟩) (4 * (n % 16)) (stBeg m c ⟨n, hn⟩)
  | 0, hn => by rw [stBeg_first m c ⟨0, hn⟩ rfl]; exact holds_zero _
  | n + 1, hn => by
    by_cases h0 : (n + 1) % 16 = 0
    · rw [stBeg_first m c ⟨n + 1, hn⟩ h0, h0]; exact holds_zero _
    · rw [stBeg_next m c ⟨n + 1, hn⟩ h0]
      have hn' : n < cfg0.N := Nat.lt_of_succ_lt hn
      have h := holds_after hF ⟨n, hn'⟩ _ (holds_beg n hn') 4 le_rfl
      rw [← stEnd_eq] at h
      rw [show bt ⟨n + 1, hn⟩ = bt ⟨n, hn'⟩ from Fin.ext (by show (n + 1) / 16 = n / 16; omega),
        show 4 * ((n + 1) % 16) = 4 * (n % 16) + 4 by omega]
      exact h

include hF in
theorem holds_trip (t : Fin cfg0.N) (k : Fin 4) : Holds m c (bt t) (ch t k).val (stAfter (blocks m c t) (stBeg m c t) k.val) :=
  holds_after hF t _ (holds_beg hF t.val t.isLt) k.val (by omega)

include hF in
/-- A forward chunk's output. -/
theorem outF_at (t : Fin cfg0.N) (k h : Fin 4) (r : Fin 64) (e : Fin 256) :
    outF (blocks m c t) (stAfter (blocks m c t) (stBeg m c t) k.val) k h (Idealize.ShloMosaic.ix3 0 r e)
      = out (arrP m c) (arrL m c) (arrU m c) (arrB m c) 0 (bt t) h (ch t k) r e := by
  refine (chOut_eq k0_pay55 (Equiv.refl _) mask_fwd _ _ _ _ _ r e).trans ?_
  unfold out
  congr 1
  · funext r x; exact q_fwd m c t k h r x
  · funext r x; exact k_fwd m c t k h r x
  · funext r x; exact cumF_at hF t k h r x
  · funext r x; exact v_fwd m c t k h r x
  · funext x e; exact holds_trip hF t k 0 h e x

include hF in
/-- A backward chunk's output. -/
theorem outB_at (t : Fin cfg0.N) (k h : Fin 4) (r : Fin 64) (e : Fin 256) :
    outB (blocks m c t) (stAfter (blocks m c t) (stBeg m c t) k.val) (rv k) h (Idealize.ShloMosaic.ix3 0 (Fin.rev r) e)
      = out (arrP m c) (arrL m c) (arrU m c) (arrB m c) 1 (bt t) h (ch t k) r e := by
  refine (chOut_eq k0_pay66 Fin.revPerm mask_bwd _ _ _ _ _ r e).trans ?_
  unfold out
  congr 1
  · funext r x; exact q_bwd m c t k h r x
  · funext r x; exact k_bwd m c t k h r x
  · funext r x; exact cumB_at hF t k h r x
  · funext r x; exact v_bwd m c t k h r x
  · funext x e; exact holds_trip hF t k 1 h e x

/-- The result of direction `d` at an entry: position `T` is the direction's row `pos d T`. -/
def result (m : (ℓ : Loc nD τ sig) → Buf (Elt Ideal) ℓ) (c : Dev nD) (d : Fin 2) : FVec Ideal S4x4096x1024 .f32 := fun y =>
  out (arrP m c) (arrL m c) (arrU m c) (arrB m c) d (y 0) ⟨(y 2).val / 256, by have : (y 2).val < 1024 := (y 2).isLt; omega⟩
    ⟨(pos d (y 1)).val / 64, by omega⟩ ⟨(pos d (y 1)).val % 64, Nat.mod_lt _ (by omega)⟩ ⟨(y 2).val % 256, Nat.mod_lt _ (by omega)⟩

theorem ix3_cut (y : S1x256x1024.Idx) : y = Idealize.ShloMosaic.ix3 0 (y 1) (y 2) := by
  funext a
  match a with
  | ⟨0, _⟩ => exact Subsingleton.elim (α := Fin 1) _ _
  | ⟨1, _⟩ => rfl
  | ⟨2, _⟩ => rfl

include hF in
/-- Forward tile `t` at an entry. -/
theorem tileF_at (t : Fin cfg0.N) (y1 : Fin 256) (y2 : Fin 1024) :
    tileF (blocks m c t) (stBeg m c t) (Idealize.ShloMosaic.ix3 0 y1 y2)
      = result m c 0 (Idealize.ShloMosaic.ix3 (bt t) (⟨256 * (t.val % 16) + y1.val, by omega⟩ : Fin 4096) y2) := by
  refine (outF_at hF t ⟨y1.val / 64, by omega⟩ ⟨y2.val / 256, by omega⟩ ⟨y1.val % 64, by omega⟩ ⟨y2.val % 256, by omega⟩).trans ?_
  unfold result
  refine congrArg₂ (fun n r => out (arrP m c) (arrL m c) (arrU m c) (arrB m c) 0 (bt t) ⟨y2.val / 256, by omega⟩ n r ⟨y2.val % 256, by omega⟩)
    (Fin.ext ?_) (Fin.ext ?_)
  · show 4 * (t.val % 16) + y1.val / 64 = (256 * (t.val % 16) + y1.val) / 64; omega
  · show y1.val % 64 = (256 * (t.val % 16) + y1.val) % 64; omega

include hF in
/-- Backward tile `t` at an entry. -/
theorem tileB_at (t : Fin cfg0.N) (y1 : Fin 256) (y2 : Fin 1024) :
    tileB (blocks m c t) (stBeg m c t) (Idealize.ShloMosaic.ix3 0 y1 y2)
      = result m c 1 (Idealize.ShloMosaic.ix3 (bt t) (⟨256 * (15 - t.val % 16) + y1.val, by omega⟩ : Fin 4096) y2) := by
  have e := outB_at hF t ⟨3 - y1.val / 64, by omega⟩ ⟨y2.val / 256, by omega⟩ ⟨63 - y1.val % 64, by omega⟩ ⟨y2.val % 256, by omega⟩
  rw [show rv ⟨3 - y1.val / 64, by omega⟩ = ⟨y1.val / 64, by omega⟩ from Fin.ext (by show 3 - (3 - y1.val / 64) = y1.val / 64; omega),
    show Fin.rev (⟨63 - y1.val % 64, by omega⟩ : Fin 64) = ⟨y1.val % 64, by omega⟩ from
      Fin.ext (by show 64 - (63 - y1.val % 64 + 1) = y1.val % 64; omega)] at e
  refine Eq.trans ?_ (e.trans ?_)
  · rfl
  unfold result
  have hp : (pos 1 (⟨256 * (15 - t.val % 16) + y1.val, by omega⟩ : Fin 4096)).val = 4095 - (256 * (15 - t.val % 16) + y1.val) := by
    show 4096 - (256 * (15 - t.val % 16) + y1.val + 1) = _; omega
  refine congrArg₂ (fun n r => out (arrP m c) (arrL m c) (arrU m c) (arrB m c) 1 (bt t) ⟨y2.val / 256, by omega⟩ n r ⟨y2.val % 256, by omega⟩)
    (Fin.ext ?_) (Fin.ext ?_)
  · show 4 * (t.val % 16) + (3 - y1.val / 64) = (pos 1 (⟨256 * (15 - t.val % 16) + y1.val, by omega⟩ : Fin 4096)).val / 64
    rw [hp]; omega
  · show 63 - y1.val % 64 = (pos 1 (⟨256 * (15 - t.val % 16) + y1.val, by omega⟩ : Fin 4096)).val % 64
    rw [hp]; omega

include hF in
set_option maxHeartbeats 2000000 in
/-- The forward result. -/
theorem arrAt10 : (dats m 0 c).arrAt 10 cfg0.N = result m c 0 := by
  refine (dats m 0 c).arrAt_eq_of_covers 10 _ (by decide +kernel) fun t hf y => ?_
  have e := idx t
  blk_simp
  rw [after0_10]
  rw [show y = Idealize.ShloMosaic.ix3 0 (y 1) (y 2) from ix3_cut y]
  refine (tileF_at hF t (y 1) (y 2)).trans ?_
  blk_ext [e, bt_val]

include hF in
set_option maxHeartbeats 2000000 in
/-- The backward result. -/
theorem arrAt11 : (dats m 0 c).arrAt 11 cfg0.N = result m c 1 := by
  refine (dats m 0 c).arrAt_eq_of_covers 11 _ (by decide +kernel) fun t hf y => ?_
  have e := idx t
  blk_simp
  rw [after0_11]
  rw [show y = Idealize.ShloMosaic.ix3 0 (y 1) (y 2) from ix3_cut y]
  refine (tileB_at hF t (y 1) (y 2)).trans ?_
  blk_ext [e, bt_val]

end Cert.KernelIdeal.Hand
-- ==== Proof.RefEntry.lean ====
/-
  What the plain program's loop starts from: the contents of its buffers at the loop's entry, one equation per
  buffer, each in terms of the buffers it is computed from (every buffer is written once, so the equations can all
  be stated of the same contents).
-/
module

public import proofs.«01_k».proof.Proof.Gen.ReferenceIdeal.Run

@[expose] public section

noncomputable section

open Idealize.ShloMosaic Idealize.ShloMosaic.TcCoe Idealize.SL.Sem

namespace Cert.ReferenceIdeal.Hand

open Cert.ReferenceIdeal Cert.ReferenceIdeal.Gen Cert.ReferenceIdeal.Value Idealize.ShloMosaic.StableHlo

variable {F : FTy → Type} [FloatOps F]

/-- The stretches before the loop, each with the buffers it writes. -/
abbrev pre : List (List (HloOp τ sig (Elt F)) × List (Ref sig .tc)) :=
  [(hostOps0, hostOps0_W), (hostOps0_1, hostOps0_1_W), (hostOps0_2, hostOps0_2_W), (hostOps0_3, hostOps0_3_W), (hostOps0_4, hostOps0_4_W), (hostOps0_5, hostOps0_5_W), (hostOps0_6, hostOps0_6_W), (hostOps0_7, hostOps0_7_W), (hostOps0_8, hostOps0_8_W), (hostOps0_9, hostOps0_9_W), (hostOps0_10, hostOps0_10_W), (hostOps0_11, hostOps0_11_W), (hostOps0_12, hostOps0_12_W), (hostOps0_13, hostOps0_13_W), (hostOps0_14, hostOps0_14_W), (hostOps0_15, hostOps0_15_W), (hostOps0_16, hostOps0_16_W), (hostOps0_17, hostOps0_17_W), (hostOps0_18, hostOps0_18_W)]

/-- The buffers each stretch writes. -/
abbrev preW : List (List (Ref sig .tc)) := [hostOps0_W, hostOps0_1_W, hostOps0_2_W, hostOps0_3_W, hostOps0_4_W, hostOps0_5_W, hostOps0_6_W, hostOps0_7_W, hostOps0_8_W, hostOps0_9_W, hostOps0_10_W, hostOps0_11_W, hostOps0_12_W, hostOps0_13_W, hostOps0_14_W, hostOps0_15_W, hostOps0_16_W, hostOps0_17_W, hostOps0_18_W]

/-- Every stretch writes the buffers listed for it only. -/
theorem pre_writes : ∀ p ∈ (pre : List (List (HloOp τ sig (Elt F)) × List (Ref sig .tc))),
    p.1.Forall fun op => op.writes ⊆ (p.2.map (Proc.devRef (τ := τ) .tc)).toFinset := by
  intro p hp
  fin_cases hp
  · exact hostOps0_writes
  · exact hostOps0_1_writes
  · exact hostOps0_2_writes
  · exact hostOps0_3_writes
  · exact hostOps0_4_writes
  · exact hostOps0_5_writes
  · exact hostOps0_6_writes
  · exact hostOps0_7_writes
  · exact hostOps0_8_writes
  · exact hostOps0_9_writes
  · exact hostOps0_10_writes
  · exact hostOps0_11_writes
  · exact hostOps0_12_writes
  · exact hostOps0_13_writes
  · exact hostOps0_14_writes
  · exact hostOps0_15_writes
  · exact hostOps0_16_writes
  · exact hostOps0_17_writes
  · exact hostOps0_18_writes

/-- A buffer no stretch of a list writes keeps its contents through the list. -/
theorem keepL (r : Ref sig .tc) : ∀ (L : List (List (HloOp τ sig (Elt F)) × List (Ref sig .tc))) (V : Valuation τ sig (Elt F)),
    (∀ p ∈ L, p.1.Forall fun op => op.writes ⊆ (p.2.map (Proc.devRef (τ := τ) .tc)).toFinset) →
    (∀ p ∈ L, r ∉ p.2) → afterL (L.map (·.1)) V (Proc.devRef .tc r) = V (Proc.devRef .tc r)
  | [], V, _, _ => rfl
  | p :: L, V, hw, hr =>
    (keepL r L (after p.1 V) (fun q hq => hw q (List.mem_cons_of_mem _ hq)) (fun q hq => hr q (List.mem_cons_of_mem _ hq))).trans
      (after_of_writes_sub p.1 _ (hw p List.mem_cons_self) (hr p List.mem_cons_self))

/-- Running one list of stretches and then another. -/
theorem afterL_app : ∀ (L L' : List (List (HloOp τ sig (Elt F)))) (V : Valuation τ sig (Elt F)),
    afterL (L ++ L') V = afterL L' (afterL L V)
  | [], L', V => rfl
  | p :: L, L', V => afterL_app L L' (after p V)

variable (m : (ℓ : Loc nD τ sig) → Buf (Elt F) ℓ) (c : Dev nD)

/-- The contents after the first `k` stretches. -/
def upTo (k : ℕ) : Valuation τ sig (Elt F) := afterL ((pre.take k).map (·.1)) (launchContents m c)

/-- The contents at the loop's entry. -/
def entry : Valuation τ sig (Elt F) := entryContents preI m c

/-- A buffer the later stretches do not write has its final contents after the first `k` stretches. -/
theorem keep (k : ℕ) (r : Ref sig .tc) (h : ∀ w ∈ preW.drop k, r ∉ w) :
    upTo m c k (Proc.devRef .tc r) = entry m c (Proc.devRef .tc r) := by
  have e : entry m c = afterL (((pre (F := F)).drop k).map (·.1)) (upTo m c k) := by
    unfold upTo
    rw [← afterL_app, ← List.map_append, List.take_append_drop]
    rfl
  rw [e]
  exact (keepL r _ _ (fun p hp => pre_writes p (List.mem_of_mem_drop hp))
    (fun p hp => h p.2 (by
      rw [show preW = (pre (F := F)).map (·.2) from rfl, ← List.map_drop]
      exact List.mem_map_of_mem hp))).symm

/-- `log σ` of every entry, as the plain program computes it: the negative of `softplus` of the negative. -/
def logSig (x : FVec F S4x4096x512 .f32) : FVec F S4x4096x512 .f32 :=
  Host.negf (select (cmpf .une (subf (Host.negf x) (broadcastInDim S4x4096x512 ![] bcast_S_S4x4096x512 (constant S_ .f32 0x00000000#32))) (subf (Host.negf x) (broadcastInDim S4x4096x512 ![] bcast_S_S4x4096x512 (constant S_ .f32 0x00000000#32))))
    (addf (Host.negf x) (broadcastInDim S4x4096x512 ![] bcast_S_S4x4096x512 (constant S_ .f32 0x00000000#32)))
    (addf (maximumf (Host.negf x) (broadcastInDim S4x4096x512 ![] bcast_S_S4x4096x512 (constant S_ .f32 0x00000000#32)))
      (Host.log1p (Host.exp (Host.negf (Host.absf (subf (Host.negf x) (broadcastInDim S4x4096x512 ![] bcast_S_S4x4096x512 (constant S_ .f32 0x00000000#32)))))))))

set_option maxRecDepth 65536 in
set_option maxHeartbeats 2000000 in
/-- `main_v7` as its stretch leaves it. -/
theorem at_main_v7 (V : Valuation τ sig (Elt F)) : after hostOps0 V (Proc.devRef .tc main_v7) = mulf (shapeCast S4x4096x4x128 (extractStridedSlice S4x4096x512 ![0, 0, 3072] (V (Proc.devRef .tc main_arg0)) slices_S4x4096x6144_S4x4096x512_0_0_3072) shapeCasts_S4x4096x512_S4x4096x4x128) (broadcastInDim S4x4096x4x128 ![] bcast_S_S4x4096x4x128 (constant S_ .f32 0x3DB504F3#32)) := by
  after_reads_simp
  all_goals rfl

/-- `main_v7` at the loop's entry. -/
theorem entry_main_v7 : entry m c (Proc.devRef .tc main_v7) = mulf (shapeCast S4x4096x4x128 (extractStridedSlice S4x4096x512 ![0, 0, 3072] (entry m c (Proc.devRef .tc main_arg0)) slices_S4x4096x6144_S4x4096x512_0_0_3072) shapeCasts_S4x4096x512_S4x4096x4x128) (broadcastInDim S4x4096x4x128 ![] bcast_S_S4x4096x4x128 (constant S_ .f32 0x3DB504F3#32)) := by
  have h := at_main_v7 (upTo m c 0)
  rw [keep m c 0 main_arg0 (by decide)] at h
  exact (keep m c 1 main_v7 (by decide)).symm.trans h

set_option maxRecDepth 65536 in
set_option maxHeartbeats 2000000 in
/-- `main_v8` as its stretch leaves it. -/
theorem at_main_v8 (V : Valuation τ sig (Elt F)) : after hostOps0 V (Proc.devRef .tc main_v8) = shapeCast S4x4096x4x128 (extractStridedSlice S4x4096x512 ![0, 0, 3584] (V (Proc.devRef .tc main_arg0)) slices_S4x4096x6144_S4x4096x512_0_0_3584) shapeCasts_S4x4096x512_S4x4096x4x128 := by
  after_reads_simp
  all_goals rfl

/-- `main_v8` at the loop's entry. -/
theorem entry_main_v8 : entry m c (Proc.devRef .tc main_v8) = shapeCast S4x4096x4x128 (extractStridedSlice S4x4096x512 ![0, 0, 3584] (entry m c (Proc.devRef .tc main_arg0)) slices_S4x4096x6144_S4x4096x512_0_0_3584) shapeCasts_S4x4096x512_S4x4096x4x128 := by
  have h := at_main_v8 (upTo m c 0)
  rw [keep m c 0 main_arg0 (by decide)] at h
  exact (keep m c 1 main_v8 (by decide)).symm.trans h

set_option maxRecDepth 65536 in
set_option maxHeartbeats 2000000 in
/-- `main_v9` as its stretch leaves it. -/
theorem at_main_v9 (V : Valuation τ sig (Elt F)) : after hostOps0 V (Proc.devRef .tc main_v9) = shapeCast S4x4096x4x256 (extractStridedSlice S4x4096x1024 ![0, 0, 4096] (V (Proc.devRef .tc main_arg0)) slices_S4x4096x6144_S4x4096x1024_0_0_4096) shapeCasts_S4x4096x1024_S4x4096x4x256 := by
  after_reads_simp
  all_goals rfl

/-- `main_v9` at the loop's entry. -/
theorem entry_main_v9 : entry m c (Proc.devRef .tc main_v9) = shapeCast S4x4096x4x256 (extractStridedSlice S4x4096x1024 ![0, 0, 4096] (entry m c (Proc.devRef .tc main_arg0)) slices_S4x4096x6144_S4x4096x1024_0_0_4096) shapeCasts_S4x4096x1024_S4x4096x4x256 := by
  have h := at_main_v9 (upTo m c 0)
  rw [keep m c 0 main_arg0 (by decide)] at h
  exact (keep m c 1 main_v9 (by decide)).symm.trans h

set_option maxRecDepth 65536 in
set_option maxHeartbeats 2000000 in
/-- `main_v3` as its stretch leaves it. -/
theorem at_main_v3 (V : Valuation τ sig (Elt F)) : after hostOps0 V (Proc.devRef .tc main_v3) = extractStridedSlice S4x4096x16 ![0, 0, 0] (V (Proc.devRef .tc main_arg1)) slices_S4x4096x128_S4x4096x16_0_0_0 := by
  after_reads_simp
  all_goals rfl

/-- `main_v3` at the loop's entry. -/
theorem entry_main_v3 : entry m c (Proc.devRef .tc main_v3) = extractStridedSlice S4x4096x16 ![0, 0, 0] (entry m c (Proc.devRef .tc main_arg1)) slices_S4x4096x128_S4x4096x16_0_0_0 := by
  have h := at_main_v3 (upTo m c 0)
  rw [keep m c 0 main_arg1 (by decide)] at h
  exact (keep m c 1 main_v3 (by decide)).symm.trans h

set_option maxRecDepth 65536 in
set_option maxHeartbeats 2000000 in
/-- `main_v4` as its stretch leaves it. -/
theorem at_main_v4 (V : Valuation τ sig (Elt F)) : after hostOps0 V (Proc.devRef .tc main_v4) = extractStridedSlice S4x4096x16 ![0, 0, 16] (V (Proc.devRef .tc main_arg1)) slices_S4x4096x128_S4x4096x16_0_0_16 := by
  after_reads_simp
  all_goals rfl

/-- `main_v4` at the loop's entry. -/
theorem entry_main_v4 : entry m c (Proc.devRef .tc main_v4) = extractStridedSlice S4x4096x16 ![0, 0, 16] (entry m c (Proc.devRef .tc main_arg1)) slices_S4x4096x128_S4x4096x16_0_0_16 := by
  have h := at_main_v4 (upTo m c 0)
  rw [keep m c 0 main_arg1 (by decide)] at h
  exact (keep m c 1 main_v4 (by decide)).symm.trans h

set_option maxRecDepth 65536 in
set_option maxHeartbeats 2000000 in
/-- `main_v10` as its stretch leaves it. -/
theorem at_main_v10 (V : Valuation τ sig (Elt F)) : after hostOps0_1 V (Proc.devRef .tc main_v10) = Host.reverse [1] (V (Proc.devRef .tc main_v7)) := by
  after_reads_simp
  all_goals rfl

/-- `main_v10` at the loop's entry. -/
theorem entry_main_v10 : entry m c (Proc.devRef .tc main_v10) = Host.reverse [1] (entry m c (Proc.devRef .tc main_v7)) := by
  have h := at_main_v10 (upTo m c 1)
  rw [keep m c 1 main_v7 (by decide)] at h
  exact (keep m c 2 main_v10 (by decide)).symm.trans h

set_option maxRecDepth 65536 in
set_option maxHeartbeats 2000000 in
/-- `main_v12` as its stretch leaves it. -/
theorem at_main_v12 (V : Valuation τ sig (Elt F)) : after hostOps0_3 V (Proc.devRef .tc main_v12) = Host.reverse [1] (V (Proc.devRef .tc main_v8)) := by
  after_reads_simp
  all_goals rfl

/-- `main_v12` at the loop's entry. -/
theorem entry_main_v12 : entry m c (Proc.devRef .tc main_v12) = Host.reverse [1] (entry m c (Proc.devRef .tc main_v8)) := by
  have h := at_main_v12 (upTo m c 3)
  rw [keep m c 3 main_v8 (by decide)] at h
  exact (keep m c 4 main_v12 (by decide)).symm.trans h

set_option maxRecDepth 65536 in
set_option maxHeartbeats 2000000 in
/-- `main_v14` as its stretch leaves it. -/
theorem at_main_v14 (V : Valuation τ sig (Elt F)) : after hostOps0_5 V (Proc.devRef .tc main_v14) = Host.reverse [1] (V (Proc.devRef .tc main_v9)) := by
  after_reads_simp
  all_goals rfl

/-- `main_v14` at the loop's entry. -/
theorem entry_main_v14 : entry m c (Proc.devRef .tc main_v14) = Host.reverse [1] (entry m c (Proc.devRef .tc main_v9)) := by
  have h := at_main_v14 (upTo m c 5)
  rw [keep m c 5 main_v9 (by decide)] at h
  exact (keep m c 6 main_v14 (by decide)).symm.trans h

set_option maxRecDepth 65536 in
set_option maxHeartbeats 2000000 in
/-- `main_v11` as its stretch leaves it. -/
theorem at_main_v11 (V : Valuation τ sig (Elt F)) : after hostOps0_2 V (Proc.devRef .tc main_v11) = concatenate S8x4096x4x128 0 [⟨S4x4096x4x128, (V (Proc.devRef .tc main_v7))⟩, ⟨S4x4096x4x128, (V (Proc.devRef .tc main_v10))⟩] concatenates_S4x4096x4x128_S4x4096x4x128_S8x4096x4x128_d0 := by
  after_reads_simp
  all_goals rfl

/-- `main_v11` at the loop's entry. -/
theorem entry_main_v11 : entry m c (Proc.devRef .tc main_v11) = concatenate S8x4096x4x128 0 [⟨S4x4096x4x128, (entry m c (Proc.devRef .tc main_v7))⟩, ⟨S4x4096x4x128, (entry m c (Proc.devRef .tc main_v10))⟩] concatenates_S4x4096x4x128_S4x4096x4x128_S8x4096x4x128_d0 := by
  have h := at_main_v11 (upTo m c 2)
  rw [keep m c 2 main_v7 (by decide)] at h
  rw [keep m c 2 main_v10 (by decide)] at h
  exact (keep m c 3 main_v11 (by decide)).symm.trans h

set_option maxRecDepth 65536 in
set_option maxHeartbeats 2000000 in
/-- `main_v13` as its stretch leaves it. -/
theorem at_main_v13 (V : Valuation τ sig (Elt F)) : after hostOps0_4 V (Proc.devRef .tc main_v13) = concatenate S8x4096x4x128 0 [⟨S4x4096x4x128, (V (Proc.devRef .tc main_v8))⟩, ⟨S4x4096x4x128, (V (Proc.devRef .tc main_v12))⟩] concatenates_S4x4096x4x128_S4x4096x4x128_S8x4096x4x128_d0 := by
  after_reads_simp
  all_goals rfl

/-- `main_v13` at the loop's entry. -/
theorem entry_main_v13 : entry m c (Proc.devRef .tc main_v13) = concatenate S8x4096x4x128 0 [⟨S4x4096x4x128, (entry m c (Proc.devRef .tc main_v8))⟩, ⟨S4x4096x4x128, (entry m c (Proc.devRef .tc main_v12))⟩] concatenates_S4x4096x4x128_S4x4096x4x128_S8x4096x4x128_d0 := by
  have h := at_main_v13 (upTo m c 4)
  rw [keep m c 4 main_v8 (by decide)] at h
  rw [keep m c 4 main_v12 (by decide)] at h
  exact (keep m c 5 main_v13 (by decide)).symm.trans h

set_option maxRecDepth 65536 in
set_option maxHeartbeats 2000000 in
/-- `main_v15` as its stretch leaves it. -/
theorem at_main_v15 (V : Valuation τ sig (Elt F)) : after hostOps0_6 V (Proc.devRef .tc main_v15) = concatenate S8x4096x4x256 0 [⟨S4x4096x4x256, (V (Proc.devRef .tc main_v9))⟩, ⟨S4x4096x4x256, (V (Proc.devRef .tc main_v14))⟩] concatenates_S4x4096x4x256_S4x4096x4x256_S8x4096x4x256_d0 := by
  after_reads_simp
  all_goals rfl

/-- `main_v15` at the loop's entry. -/
theorem entry_main_v15 : entry m c (Proc.devRef .tc main_v15) = concatenate S8x4096x4x256 0 [⟨S4x4096x4x256, (entry m c (Proc.devRef .tc main_v9))⟩, ⟨S4x4096x4x256, (entry m c (Proc.devRef .tc main_v14))⟩] concatenates_S4x4096x4x256_S4x4096x4x256_S8x4096x4x256_d0 := by
  have h := at_main_v15 (upTo m c 6)
  rw [keep m c 6 main_v9 (by decide)] at h
  rw [keep m c 6 main_v14 (by decide)] at h
  exact (keep m c 7 main_v15 (by decide)).symm.trans h

set_option maxRecDepth 65536 in
set_option maxHeartbeats 2000000 in
/-- `main_v23` as its stretch leaves it. -/
theorem at_main_v23 (V : Valuation τ sig (Elt F)) : after hostOps0_6 V (Proc.devRef .tc main_v23) = addf (Host.dotGeneral dot_S4x4096x16_S16x512_S4x4096x512_2_0_01_1_n_n none (V (Proc.devRef .tc main_v3)) (shapeCast S16x512 (extractStridedSlice S1x16x512 ![0, 0, 0] (V (Proc.devRef .tc main_arg2)) slices_S2x16x512_S1x16x512_0_0_0) shapeCasts_S1x16x512_S16x512)) (broadcastInDim S4x4096x512 ![0, 1, 2] bcast_S1x1x512_S4x4096x512_0_1_2 (broadcastInDim S1x1x512 ![2] bcast_S512_S1x1x512_2 (shapeCast S512 (extractStridedSlice S1x512 ![0, 0] (V (Proc.devRef .tc main_arg3)) slices_S2x512_S1x512_0_0) shapeCasts_S1x512_S512))) := by
  after_reads_simp
  all_goals rfl

/-- `main_v23` at the loop's entry. -/
theorem entry_main_v23 : entry m c (Proc.devRef .tc main_v23) = addf (Host.dotGeneral dot_S4x4096x16_S16x512_S4x4096x512_2_0_01_1_n_n none (entry m c (Proc.devRef .tc main_v3)) (shapeCast S16x512 (extractStridedSlice S1x16x512 ![0, 0, 0] (entry m c (Proc.devRef .tc main_arg2)) slices_S2x16x512_S1x16x512_0_0_0) shapeCasts_S1x16x512_S16x512)) (broadcastInDim S4x4096x512 ![0, 1, 2] bcast_S1x1x512_S4x4096x512_0_1_2 (broadcastInDim S1x1x512 ![2] bcast_S512_S1x1x512_2 (shapeCast S512 (extractStridedSlice S1x512 ![0, 0] (entry m c (Proc.devRef .tc main_arg3)) slices_S2x512_S1x512_0_0) shapeCasts_S1x512_S512))) := by
  have h := at_main_v23 (upTo m c 6)
  rw [keep m c 6 main_v3 (by decide)] at h
  rw [keep m c 6 main_arg2 (by decide)] at h
  rw [keep m c 6 main_arg3 (by decide)] at h
  exact (keep m c 7 main_v23 (by decide)).symm.trans h

set_option maxRecDepth 65536 in
set_option maxHeartbeats 2000000 in
/-- `main_v35` as its stretch leaves it. -/
theorem at_main_v35 (V : Valuation τ sig (Elt F)) : after hostOps0_8 V (Proc.devRef .tc main_v35) = addf (Host.dotGeneral dot_S4x4096x16_S16x512_S4x4096x512_2_0_01_1_n_n none (V (Proc.devRef .tc main_v4)) (shapeCast S16x512 (extractStridedSlice S1x16x512 ![1, 0, 0] (V (Proc.devRef .tc main_arg2)) slices_S2x16x512_S1x16x512_1_0_0) shapeCasts_S1x16x512_S16x512)) (broadcastInDim S4x4096x512 ![0, 1, 2] bcast_S1x1x512_S4x4096x512_0_1_2 (broadcastInDim S1x1x512 ![2] bcast_S512_S1x1x512_2 (shapeCast S512 (extractStridedSlice S1x512 ![1, 0] (V (Proc.devRef .tc main_arg3)) slices_S2x512_S1x512_1_0) shapeCasts_S1x512_S512))) := by
  after_reads_simp
  all_goals rfl

/-- `main_v35` at the loop's entry. -/
theorem entry_main_v35 : entry m c (Proc.devRef .tc main_v35) = addf (Host.dotGeneral dot_S4x4096x16_S16x512_S4x4096x512_2_0_01_1_n_n none (entry m c (Proc.devRef .tc main_v4)) (shapeCast S16x512 (extractStridedSlice S1x16x512 ![1, 0, 0] (entry m c (Proc.devRef .tc main_arg2)) slices_S2x16x512_S1x16x512_1_0_0) shapeCasts_S1x16x512_S16x512)) (broadcastInDim S4x4096x512 ![0, 1, 2] bcast_S1x1x512_S4x4096x512_0_1_2 (broadcastInDim S1x1x512 ![2] bcast_S512_S1x1x512_2 (shapeCast S512 (extractStridedSlice S1x512 ![1, 0] (entry m c (Proc.devRef .tc main_arg3)) slices_S2x512_S1x512_1_0) shapeCasts_S1x512_S512))) := by
  have h := at_main_v35 (upTo m c 8)
  rw [keep m c 8 main_v4 (by decide)] at h
  rw [keep m c 8 main_arg2 (by decide)] at h
  rw [keep m c 8 main_arg3 (by decide)] at h
  exact (keep m c 9 main_v35 (by decide)).symm.trans h

set_option maxRecDepth 65536 in
set_option maxHeartbeats 2000000 in
/-- `main_v24` as its stretch leaves it. -/
theorem at_main_v24 (V : Valuation τ sig (Elt F)) : after hostOps0_7 V (Proc.devRef .tc main_v24) = logSig (V (Proc.devRef .tc main_v23)) := by
  after_reads_simp
  all_goals rfl

/-- `main_v24` at the loop's entry. -/
theorem entry_main_v24 : entry m c (Proc.devRef .tc main_v24) = logSig (entry m c (Proc.devRef .tc main_v23)) := by
  have h := at_main_v24 (upTo m c 7)
  rw [keep m c 7 main_v23 (by decide)] at h
  exact (keep m c 8 main_v24 (by decide)).symm.trans h

set_option maxRecDepth 65536 in
set_option maxHeartbeats 2000000 in
/-- `main_v36` as its stretch leaves it. -/
theorem at_main_v36 (V : Valuation τ sig (Elt F)) : after hostOps0_9 V (Proc.devRef .tc main_v36) = logSig (V (Proc.devRef .tc main_v35)) := by
  after_reads_simp
  all_goals rfl

/-- `main_v36` at the loop's entry. -/
theorem entry_main_v36 : entry m c (Proc.devRef .tc main_v36) = logSig (entry m c (Proc.devRef .tc main_v35)) := by
  have h := at_main_v36 (upTo m c 9)
  rw [keep m c 9 main_v35 (by decide)] at h
  exact (keep m c 10 main_v36 (by decide)).symm.trans h

set_option maxRecDepth 65536 in
set_option maxHeartbeats 2000000 in
/-- `main_v27` as its stretch leaves it. -/
theorem at_main_v27 (V : Valuation τ sig (Elt F)) : after hostOps0_8 V (Proc.devRef .tc main_v27) = shapeCast S4x4096x4x128 (Host.divf (V (Proc.devRef .tc main_v24)) (broadcastInDim S4x4096x512 ![] bcast_S_S4x4096x512 (constant S_ .f32 0x41800000#32))) shapeCasts_S4x4096x512_S4x4096x4x128 := by
  after_reads_simp
  all_goals rfl

/-- `main_v27` at the loop's entry. -/
theorem entry_main_v27 : entry m c (Proc.devRef .tc main_v27) = shapeCast S4x4096x4x128 (Host.divf (entry m c (Proc.devRef .tc main_v24)) (broadcastInDim S4x4096x512 ![] bcast_S_S4x4096x512 (constant S_ .f32 0x41800000#32))) shapeCasts_S4x4096x512_S4x4096x4x128 := by
  have h := at_main_v27 (upTo m c 8)
  rw [keep m c 8 main_v24 (by decide)] at h
  exact (keep m c 9 main_v27 (by decide)).symm.trans h

set_option maxRecDepth 65536 in
set_option maxHeartbeats 2000000 in
/-- `main_v39` as its stretch leaves it. -/
theorem at_main_v39 (V : Valuation τ sig (Elt F)) : after hostOps0_10 V (Proc.devRef .tc main_v39) = shapeCast S4x4096x4x128 (Host.divf (V (Proc.devRef .tc main_v36)) (broadcastInDim S4x4096x512 ![] bcast_S_S4x4096x512 (constant S_ .f32 0x41800000#32))) shapeCasts_S4x4096x512_S4x4096x4x128 := by
  after_reads_simp
  all_goals rfl

/-- `main_v39` at the loop's entry. -/
theorem entry_main_v39 : entry m c (Proc.devRef .tc main_v39) = shapeCast S4x4096x4x128 (Host.divf (entry m c (Proc.devRef .tc main_v36)) (broadcastInDim S4x4096x512 ![] bcast_S_S4x4096x512 (constant S_ .f32 0x41800000#32))) shapeCasts_S4x4096x512_S4x4096x4x128 := by
  have h := at_main_v39 (upTo m c 10)
  rw [keep m c 10 main_v36 (by decide)] at h
  exact (keep m c 11 main_v39 (by decide)).symm.trans h

set_option maxRecDepth 65536 in
set_option maxHeartbeats 2000000 in
/-- `main_v40` as its stretch leaves it. -/
theorem at_main_v40 (V : Valuation τ sig (Elt F)) : after hostOps0_11 V (Proc.devRef .tc main_v40) = Host.reverse [1] (V (Proc.devRef .tc main_v39)) := by
  after_reads_simp
  all_goals rfl

/-- `main_v40` at the loop's entry. -/
theorem entry_main_v40 : entry m c (Proc.devRef .tc main_v40) = Host.reverse [1] (entry m c (Proc.devRef .tc main_v39)) := by
  have h := at_main_v40 (upTo m c 11)
  rw [keep m c 11 main_v39 (by decide)] at h
  exact (keep m c 12 main_v40 (by decide)).symm.trans h

set_option maxRecDepth 65536 in
set_option maxHeartbeats 2000000 in
/-- `main_v43` as its stretch leaves it. -/
theorem at_main_v43 (V : Valuation τ sig (Elt F)) : after hostOps0_12 V (Proc.devRef .tc main_v43) = transpose S64x8x4x64x128 [1, 0, 3, 2, 4] (shapeCast S8x64x64x4x128 ((V (Proc.devRef .tc main_v11))) shapeCasts_S8x4096x4x128_S8x64x64x4x128) transposes_S8x64x64x4x128_S64x8x4x64x128_1_0_3_2_4 := by
  after_reads_simp
  all_goals rfl

/-- `main_v43` at the loop's entry. -/
theorem entry_main_v43 : entry m c (Proc.devRef .tc main_v43) = transpose S64x8x4x64x128 [1, 0, 3, 2, 4] (shapeCast S8x64x64x4x128 ((entry m c (Proc.devRef .tc main_v11))) shapeCasts_S8x4096x4x128_S8x64x64x4x128) transposes_S8x64x64x4x128_S64x8x4x64x128_1_0_3_2_4 := by
  have h := at_main_v43 (upTo m c 12)
  rw [keep m c 12 main_v11 (by decide)] at h
  exact (keep m c 13 main_v43 (by decide)).symm.trans h

set_option maxRecDepth 65536 in
set_option maxHeartbeats 2000000 in
/-- `main_v45` as its stretch leaves it. -/
theorem at_main_v45 (V : Valuation τ sig (Elt F)) : after hostOps0_12 V (Proc.devRef .tc main_v45) = transpose S64x8x4x64x128 [1, 0, 3, 2, 4] (shapeCast S8x64x64x4x128 ((V (Proc.devRef .tc main_v13))) shapeCasts_S8x4096x4x128_S8x64x64x4x128) transposes_S8x64x64x4x128_S64x8x4x64x128_1_0_3_2_4 := by
  after_reads_simp
  all_goals rfl

/-- `main_v45` at the loop's entry. -/
theorem entry_main_v45 : entry m c (Proc.devRef .tc main_v45) = transpose S64x8x4x64x128 [1, 0, 3, 2, 4] (shapeCast S8x64x64x4x128 ((entry m c (Proc.devRef .tc main_v13))) shapeCasts_S8x4096x4x128_S8x64x64x4x128) transposes_S8x64x64x4x128_S64x8x4x64x128_1_0_3_2_4 := by
  have h := at_main_v45 (upTo m c 12)
  rw [keep m c 12 main_v13 (by decide)] at h
  exact (keep m c 13 main_v45 (by decide)).symm.trans h

set_option maxRecDepth 65536 in
set_option maxHeartbeats 2000000 in
/-- `main_v47` as its stretch leaves it. -/
theorem at_main_v47 (V : Valuation τ sig (Elt F)) : after hostOps0_12 V (Proc.devRef .tc main_v47) = transpose S64x8x4x64x256 [1, 0, 3, 2, 4] (shapeCast S8x64x64x4x256 ((V (Proc.devRef .tc main_v15))) shapeCasts_S8x4096x4x256_S8x64x64x4x256) transposes_S8x64x64x4x256_S64x8x4x64x256_1_0_3_2_4 := by
  after_reads_simp
  all_goals rfl

/-- `main_v47` at the loop's entry. -/
theorem entry_main_v47 : entry m c (Proc.devRef .tc main_v47) = transpose S64x8x4x64x256 [1, 0, 3, 2, 4] (shapeCast S8x64x64x4x256 ((entry m c (Proc.devRef .tc main_v15))) shapeCasts_S8x4096x4x256_S8x64x64x4x256) transposes_S8x64x64x4x256_S64x8x4x64x256_1_0_3_2_4 := by
  have h := at_main_v47 (upTo m c 12)
  rw [keep m c 12 main_v15 (by decide)] at h
  exact (keep m c 13 main_v47 (by decide)).symm.trans h

set_option maxRecDepth 65536 in
set_option maxHeartbeats 2000000 in
/-- `main_v49` as its stretch leaves it. -/
theorem at_main_v49 (V : Valuation τ sig (Elt F)) : after hostOps0_12 V (Proc.devRef .tc main_v49) = transpose S64x8x4x64x128 [1, 0, 3, 2, 4] (shapeCast S8x64x64x4x128 (concatenate S8x4096x4x128 0 [⟨S4x4096x4x128, (V (Proc.devRef .tc main_v27))⟩, ⟨S4x4096x4x128, (V (Proc.devRef .tc main_v40))⟩] concatenates_S4x4096x4x128_S4x4096x4x128_S8x4096x4x128_d0) shapeCasts_S8x4096x4x128_S8x64x64x4x128) transposes_S8x64x64x4x128_S64x8x4x64x128_1_0_3_2_4 := by
  after_reads_simp
  all_goals rfl

/-- `main_v49` at the loop's entry. -/
theorem entry_main_v49 : entry m c (Proc.devRef .tc main_v49) = transpose S64x8x4x64x128 [1, 0, 3, 2, 4] (shapeCast S8x64x64x4x128 (concatenate S8x4096x4x128 0 [⟨S4x4096x4x128, (entry m c (Proc.devRef .tc main_v27))⟩, ⟨S4x4096x4x128, (entry m c (Proc.devRef .tc main_v40))⟩] concatenates_S4x4096x4x128_S4x4096x4x128_S8x4096x4x128_d0) shapeCasts_S8x4096x4x128_S8x64x64x4x128) transposes_S8x64x64x4x128_S64x8x4x64x128_1_0_3_2_4 := by
  have h := at_main_v49 (upTo m c 12)
  rw [keep m c 12 main_v27 (by decide)] at h
  rw [keep m c 12 main_v40 (by decide)] at h
  exact (keep m c 13 main_v49 (by decide)).symm.trans h

set_option maxRecDepth 65536 in
set_option maxHeartbeats 2000000 in
/-- `main_v50` as its stretch leaves it. -/
theorem at_main_v50 (V : Valuation τ sig (Elt F)) : after hostOps0_13 V (Proc.devRef .tc main_v50) = Host.reduceWindowAdd ![1, 1, 1, 64, 1] ![1, 1, 1, 1, 1] ![0, 0, 0, 63, 0] ![0, 0, 0, 0, 0] (V (Proc.devRef .tc main_v49)) (broadcastInDim S_ ![] bcast_S_S_ (constant S_ .f32 0x00000000#32)) reduceWindows_S64x8x4x64x128_S64x8x4x64x128_w1s1p0_0_w1s1p0_0_w1s1p0_0_w64s1p63_0_w1s1p0_0 h_S_ := by
  after_reads_simp
  all_goals rfl

/-- `main_v50` at the loop's entry. -/
theorem entry_main_v50 : entry m c (Proc.devRef .tc main_v50) = Host.reduceWindowAdd ![1, 1, 1, 64, 1] ![1, 1, 1, 1, 1] ![0, 0, 0, 63, 0] ![0, 0, 0, 0, 0] (entry m c (Proc.devRef .tc main_v49)) (broadcastInDim S_ ![] bcast_S_S_ (constant S_ .f32 0x00000000#32)) reduceWindows_S64x8x4x64x128_S64x8x4x64x128_w1s1p0_0_w1s1p0_0_w1s1p0_0_w64s1p63_0_w1s1p0_0 h_S_ := by
  have h := at_main_v50 (upTo m c 13)
  rw [keep m c 13 main_v49 (by decide)] at h
  exact (keep m c 14 main_v50 (by decide)).symm.trans h

set_option maxRecDepth 65536 in
set_option maxHeartbeats 2000000 in
/-- `main_v53` as its stretch leaves it. -/
theorem at_main_v53 (V : Valuation τ sig (Elt F)) : after hostOps0_14 V (Proc.devRef .tc main_v53) = mulf (V (Proc.devRef .tc main_v43)) (Host.exp (V (Proc.devRef .tc main_v50))) := by
  after_reads_simp
  all_goals rfl

/-- `main_v53` at the loop's entry. -/
theorem entry_main_v53 : entry m c (Proc.devRef .tc main_v53) = mulf (entry m c (Proc.devRef .tc main_v43)) (Host.exp (entry m c (Proc.devRef .tc main_v50))) := by
  have h := at_main_v53 (upTo m c 14)
  rw [keep m c 14 main_v43 (by decide)] at h
  rw [keep m c 14 main_v50 (by decide)] at h
  exact (keep m c 15 main_v53 (by decide)).symm.trans h

set_option maxRecDepth 65536 in
set_option maxHeartbeats 2000000 in
/-- `main_v56` as its stretch leaves it. -/
theorem at_main_v56 (V : Valuation τ sig (Elt F)) : after hostOps0_14 V (Proc.devRef .tc main_v56) = mulf (V (Proc.devRef .tc main_v45)) (Host.exp (Host.negf (V (Proc.devRef .tc main_v50)))) := by
  after_reads_simp
  all_goals rfl

/-- `main_v56` at the loop's entry. -/
theorem entry_main_v56 : entry m c (Proc.devRef .tc main_v56) = mulf (entry m c (Proc.devRef .tc main_v45)) (Host.exp (Host.negf (entry m c (Proc.devRef .tc main_v50)))) := by
  have h := at_main_v56 (upTo m c 14)
  rw [keep m c 14 main_v45 (by decide)] at h
  rw [keep m c 14 main_v50 (by decide)] at h
  exact (keep m c 15 main_v56 (by decide)).symm.trans h

set_option maxRecDepth 65536 in
set_option maxHeartbeats 2000000 in
/-- `main_v60` as its stretch leaves it. -/
theorem at_main_v60 (V : Valuation τ sig (Elt F)) : after hostOps0_14 V (Proc.devRef .tc main_v60) = mulf (V (Proc.devRef .tc main_v45)) (Host.exp (subf (broadcastInDim S64x8x4x64x128 ![0, 1, 2, 3, 4] bcast_S64x8x4x1x128_S64x8x4x64x128_0_1_2_3_4 (extractStridedSlice S64x8x4x1x128 ![0, 0, 0, 63, 0] (V (Proc.devRef .tc main_v50)) slices_S64x8x4x64x128_S64x8x4x1x128_0_0_0_63_0)) (V (Proc.devRef .tc main_v50)))) := by
  after_reads_simp
  all_goals rfl

/-- `main_v60` at the loop's entry. -/
theorem entry_main_v60 : entry m c (Proc.devRef .tc main_v60) = mulf (entry m c (Proc.devRef .tc main_v45)) (Host.exp (subf (broadcastInDim S64x8x4x64x128 ![0, 1, 2, 3, 4] bcast_S64x8x4x1x128_S64x8x4x64x128_0_1_2_3_4 (extractStridedSlice S64x8x4x1x128 ![0, 0, 0, 63, 0] (entry m c (Proc.devRef .tc main_v50)) slices_S64x8x4x64x128_S64x8x4x1x128_0_0_0_63_0)) (entry m c (Proc.devRef .tc main_v50)))) := by
  have h := at_main_v60 (upTo m c 14)
  rw [keep m c 14 main_v45 (by decide)] at h
  rw [keep m c 14 main_v50 (by decide)] at h
  exact (keep m c 15 main_v60 (by decide)).symm.trans h

set_option maxRecDepth 65536 in
set_option maxHeartbeats 2000000 in
/-- `main_v51` as its stretch leaves it. -/
theorem at_main_v51 (V : Valuation τ sig (Elt F)) : after hostOps0_14 V (Proc.devRef .tc main_v51) = extractStridedSlice S64x8x4x1x128 ![0, 0, 0, 63, 0] (V (Proc.devRef .tc main_v50)) slices_S64x8x4x64x128_S64x8x4x1x128_0_0_0_63_0 := by
  after_reads_simp
  all_goals rfl

/-- `main_v51` at the loop's entry. -/
theorem entry_main_v51 : entry m c (Proc.devRef .tc main_v51) = extractStridedSlice S64x8x4x1x128 ![0, 0, 0, 63, 0] (entry m c (Proc.devRef .tc main_v50)) slices_S64x8x4x64x128_S64x8x4x1x128_0_0_0_63_0 := by
  have h := at_main_v51 (upTo m c 14)
  rw [keep m c 14 main_v50 (by decide)] at h
  exact (keep m c 15 main_v51 (by decide)).symm.trans h

set_option maxRecDepth 65536 in
set_option maxHeartbeats 2000000 in
/-- `main_v61` as its stretch leaves it. -/
theorem at_main_v61 (V : Valuation τ sig (Elt F)) : after hostOps0_14 V (Proc.devRef .tc main_v61) = broadcastInDim S64x64 ![] bcast_S_S64x64 (constantI S_ 1 1#1) := by
  after_reads_simp
  all_goals rfl

/-- `main_v61` at the loop's entry. -/
theorem entry_main_v61 : entry m c (Proc.devRef .tc main_v61) = broadcastInDim S64x64 ![] bcast_S_S64x64 (constantI S_ 1 1#1) := by
  have h := at_main_v61 (upTo m c 14)
  exact (keep m c 15 main_v61 (by decide)).symm.trans h

set_option maxRecDepth 65536 in
set_option maxHeartbeats 2000000 in
/-- `main_v62` as its stretch leaves it. -/
theorem at_main_v62 (V : Valuation τ sig (Elt F)) : after hostOps0_15 V (Proc.devRef .tc main_v62) = select (cmpi .sge (addi (iotaInDim S64x64 32 0) (broadcastInDim S64x64 ![] bcast_S_S64x64 (constantI S_ 32 0#32))) (iotaInDim S64x64 32 1)) (V (Proc.devRef .tc main_v61)) (broadcastInDim S64x64 ![] bcast_S_S64x64 (constantI S_ 1 0#1)) := by
  after_reads_simp
  all_goals rfl

/-- `main_v62` at the loop's entry. -/
theorem entry_main_v62 : entry m c (Proc.devRef .tc main_v62) = select (cmpi .sge (addi (iotaInDim S64x64 32 0) (broadcastInDim S64x64 ![] bcast_S_S64x64 (constantI S_ 32 0#32))) (iotaInDim S64x64 32 1)) (entry m c (Proc.devRef .tc main_v61)) (broadcastInDim S64x64 ![] bcast_S_S64x64 (constantI S_ 1 0#1)) := by
  have h := at_main_v62 (upTo m c 15)
  rw [keep m c 15 main_v61 (by decide)] at h
  exact (keep m c 16 main_v62 (by decide)).symm.trans h

set_option maxRecDepth 65536 in
set_option maxHeartbeats 2000000 in
/-- `main_v63` as its stretch leaves it. -/
theorem at_main_v63 (V : Valuation τ sig (Elt F)) : after hostOps0_16 V (Proc.devRef .tc main_v63) = Host.dotGeneral dot_S64x8x4x64x128_S64x8x4x64x128_S64x8x4x64x64_4_4_3_3_012_012 none (V (Proc.devRef .tc main_v53)) (V (Proc.devRef .tc main_v56)) := by
  after_reads_simp
  all_goals rfl

/-- `main_v63` at the loop's entry. -/
theorem entry_main_v63 : entry m c (Proc.devRef .tc main_v63) = Host.dotGeneral dot_S64x8x4x64x128_S64x8x4x64x128_S64x8x4x64x64_4_4_3_3_012_012 none (entry m c (Proc.devRef .tc main_v53)) (entry m c (Proc.devRef .tc main_v56)) := by
  have h := at_main_v63 (upTo m c 16)
  rw [keep m c 16 main_v53 (by decide)] at h
  rw [keep m c 16 main_v56 (by decide)] at h
  exact (keep m c 17 main_v63 (by decide)).symm.trans h

set_option maxRecDepth 65536 in
set_option maxHeartbeats 2000000 in
/-- `main_cst_2` as its stretch leaves it. -/
theorem at_main_cst_2 (V : Valuation τ sig (Elt F)) : after hostOps0_16 V (Proc.devRef .tc main_cst_2) = constant S_ .f32 0x00000000#32 := by
  after_reads_simp
  all_goals rfl

/-- `main_cst_2` at the loop's entry. -/
theorem entry_main_cst_2 : entry m c (Proc.devRef .tc main_cst_2) = constant S_ .f32 0x00000000#32 := by
  have h := at_main_cst_2 (upTo m c 16)
  exact (keep m c 17 main_cst_2 (by decide)).symm.trans h

set_option maxRecDepth 65536 in
set_option maxHeartbeats 2000000 in
/-- `main_v64` as its stretch leaves it. -/
theorem at_main_v64 (V : Valuation τ sig (Elt F)) : after hostOps0_17 V (Proc.devRef .tc main_v64) = select (broadcastInDim S64x8x4x64x64 ![3, 4] bcast_S64x64_S64x8x4x64x64_3_4 (V (Proc.devRef .tc main_v62))) (V (Proc.devRef .tc main_v63)) (broadcastInDim S64x8x4x64x64 ![] bcast_S_S64x8x4x64x64 (V (Proc.devRef .tc main_cst_2))) := by
  after_reads_simp
  all_goals rfl

/-- `main_v64` at the loop's entry. -/
theorem entry_main_v64 : entry m c (Proc.devRef .tc main_v64) = select (broadcastInDim S64x8x4x64x64 ![3, 4] bcast_S64x64_S64x8x4x64x64_3_4 (entry m c (Proc.devRef .tc main_v62))) (entry m c (Proc.devRef .tc main_v63)) (broadcastInDim S64x8x4x64x64 ![] bcast_S_S64x8x4x64x64 (entry m c (Proc.devRef .tc main_cst_2))) := by
  have h := at_main_v64 (upTo m c 17)
  rw [keep m c 17 main_v62 (by decide)] at h
  rw [keep m c 17 main_v63 (by decide)] at h
  rw [keep m c 17 main_cst_2 (by decide)] at h
  exact (keep m c 18 main_v64 (by decide)).symm.trans h

set_option maxRecDepth 65536 in
set_option maxHeartbeats 2000000 in
/-- `main_v70_0` as its stretch leaves it. -/
theorem at_main_v70_0 (V : Valuation τ sig (Elt F)) : after hostOps0_18 V (Proc.devRef .tc main_v70_0) = (V (Proc.devRef .tc main_v53)) := by
  after_reads_simp
  all_goals rfl

/-- `main_v70_0` at the loop's entry. -/
theorem entry_main_v70_0 : entry m c (Proc.devRef .tc main_v70_0) = (entry m c (Proc.devRef .tc main_v53)) := by
  have h := at_main_v70_0 (upTo m c 18)
  rw [keep m c 18 main_v53 (by decide)] at h
  exact (keep m c 19 main_v70_0 (by decide)).symm.trans h

set_option maxRecDepth 65536 in
set_option maxHeartbeats 2000000 in
/-- `main_v70_1` as its stretch leaves it. -/
theorem at_main_v70_1 (V : Valuation τ sig (Elt F)) : after hostOps0_18 V (Proc.devRef .tc main_v70_1) = (V (Proc.devRef .tc main_v60)) := by
  after_reads_simp
  all_goals rfl

/-- `main_v70_1` at the loop's entry. -/
theorem entry_main_v70_1 : entry m c (Proc.devRef .tc main_v70_1) = (entry m c (Proc.devRef .tc main_v60)) := by
  have h := at_main_v70_1 (upTo m c 18)
  rw [keep m c 18 main_v60 (by decide)] at h
  exact (keep m c 19 main_v70_1 (by decide)).symm.trans h

set_option maxRecDepth 65536 in
set_option maxHeartbeats 2000000 in
/-- `main_v70_2` as its stretch leaves it. -/
theorem at_main_v70_2 (V : Valuation τ sig (Elt F)) : after hostOps0_18 V (Proc.devRef .tc main_v70_2) = (V (Proc.devRef .tc main_v47)) := by
  after_reads_simp
  all_goals rfl

/-- `main_v70_2` at the loop's entry. -/
theorem entry_main_v70_2 : entry m c (Proc.devRef .tc main_v70_2) = (entry m c (Proc.devRef .tc main_v47)) := by
  have h := at_main_v70_2 (upTo m c 18)
  rw [keep m c 18 main_v47 (by decide)] at h
  exact (keep m c 19 main_v70_2 (by decide)).symm.trans h

set_option maxRecDepth 65536 in
set_option maxHeartbeats 2000000 in
/-- `main_v70_3` as its stretch leaves it. -/
theorem at_main_v70_3 (V : Valuation τ sig (Elt F)) : after hostOps0_18 V (Proc.devRef .tc main_v70_3) = Host.exp (shapeCast S64x8x4x128 (V (Proc.devRef .tc main_v51)) shapeCasts_S64x8x4x1x128_S64x8x4x128) := by
  after_reads_simp
  all_goals rfl

/-- `main_v70_3` at the loop's entry. -/
theorem entry_main_v70_3 : entry m c (Proc.devRef .tc main_v70_3) = Host.exp (shapeCast S64x8x4x128 (entry m c (Proc.devRef .tc main_v51)) shapeCasts_S64x8x4x1x128_S64x8x4x128) := by
  have h := at_main_v70_3 (upTo m c 18)
  rw [keep m c 18 main_v51 (by decide)] at h
  exact (keep m c 19 main_v70_3 (by decide)).symm.trans h

set_option maxRecDepth 65536 in
set_option maxHeartbeats 2000000 in
/-- `main_v70_4` as its stretch leaves it. -/
theorem at_main_v70_4 (V : Valuation τ sig (Elt F)) : after hostOps0_18 V (Proc.devRef .tc main_v70_4) = Host.dotGeneral dot_S64x8x4x64x64_S64x8x4x64x256_S64x8x4x64x256_4_3_3_4_012_012 none (V (Proc.devRef .tc main_v64)) (V (Proc.devRef .tc main_v47)) := by
  after_reads_simp
  all_goals rfl

/-- `main_v70_4` at the loop's entry. -/
theorem entry_main_v70_4 : entry m c (Proc.devRef .tc main_v70_4) = Host.dotGeneral dot_S64x8x4x64x64_S64x8x4x64x256_S64x8x4x64x256_4_3_3_4_012_012 none (entry m c (Proc.devRef .tc main_v64)) (entry m c (Proc.devRef .tc main_v47)) := by
  have h := at_main_v70_4 (upTo m c 18)
  rw [keep m c 18 main_v64 (by decide)] at h
  rw [keep m c 18 main_v47 (by decide)] at h
  exact (keep m c 19 main_v70_4 (by decide)).symm.trans h

set_option maxRecDepth 65536 in
set_option maxHeartbeats 2000000 in
/-- `main_v70_5` as its stretch leaves it. -/
theorem at_main_v70_5 (V : Valuation τ sig (Elt F)) : after hostOps0_18 V (Proc.devRef .tc main_v70_5) = constantI S_ 32 0#32 := by
  after_reads_simp
  all_goals rfl

/-- `main_v70_5` at the loop's entry. -/
theorem entry_main_v70_5 : entry m c (Proc.devRef .tc main_v70_5) = constantI S_ 32 0#32 := by
  have h := at_main_v70_5 (upTo m c 18)
  exact (keep m c 19 main_v70_5 (by decide)).symm.trans h

set_option maxRecDepth 65536 in
set_option maxHeartbeats 2000000 in
/-- `main_v70_6` as its stretch leaves it. -/
theorem at_main_v70_6 (V : Valuation τ sig (Elt F)) : after hostOps0_18 V (Proc.devRef .tc main_v70_6) = broadcastInDim S8x4x128x256 ![] bcast_S_S8x4x128x256 (constant S_ .f32 0x00000000#32) := by
  after_reads_simp
  all_goals rfl

/-- `main_v70_6` at the loop's entry. -/
theorem entry_main_v70_6 : entry m c (Proc.devRef .tc main_v70_6) = broadcastInDim S8x4x128x256 ![] bcast_S_S8x4x128x256 (constant S_ .f32 0x00000000#32) := by
  have h := at_main_v70_6 (upTo m c 18)
  exact (keep m c 19 main_v70_6 (by decide)).symm.trans h

/-- Argument 0 at the loop's entry. -/
theorem entry_main_arg0 : entry m c (Proc.devRef .tc main_arg0) = m ((c.tc : Thread nD τ).loc main_arg0) :=
  (keep m c 0 main_arg0 (by decide)).symm.trans rfl

/-- Argument 1 at the loop's entry. -/
theorem entry_main_arg1 : entry m c (Proc.devRef .tc main_arg1) = m ((c.tc : Thread nD τ).loc main_arg1) :=
  (keep m c 0 main_arg1 (by decide)).symm.trans rfl

/-- Argument 2 at the loop's entry. -/
theorem entry_main_arg2 : entry m c (Proc.devRef .tc main_arg2) = m ((c.tc : Thread nD τ).loc main_arg2) :=
  (keep m c 0 main_arg2 (by decide)).symm.trans rfl

/-- Argument 3 at the loop's entry. -/
theorem entry_main_arg3 : entry m c (Proc.devRef .tc main_arg3) = m ((c.tc : Thread nD τ).loc main_arg3) :=
  (keep m c 0 main_arg3 (by decide)).symm.trans rfl

end Cert.ReferenceIdeal.Hand

end
-- ==== Proof.RefCum.lean ====
/-
  The plain program's running sum, and its `log σ`.
-/
module

public import proofs.«01_k».proof.Proof.RefEntry
public import proofs.«01_k».proof.Proof.KChunk
public import Idealize.ShloMosaic.Lib.IdealHost

@[expose] public section

set_option maxRecDepth 65536

noncomputable section

open Idealize.ShloMosaic Idealize.ShloMosaic.TcCoe Idealize.SL.Sem

namespace Cert.ReferenceIdeal.Hand

open Cert.ReferenceIdeal Cert.ReferenceIdeal.Gen Cert.Gla

/-- The window's positions are its 64 rows. -/
def rows64 : Fin 64 ≃ (⟨5, ![1, 1, 1, 64, 1]⟩ : Shape).Idx where
  toFun k := ix5 (0 : Fin 1) (0 : Fin 1) (0 : Fin 1) k (0 : Fin 1)
  invFun w := w 3
  left_inv k := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- Adding up a list of terms from zero. -/
theorem foldl_sum {N : ℕ} (g : Fin N → EReal) : (List.finRange N).foldl (fun r n => r + g n) 0 = ∑ n, g n := by
  rw [Fin.sum_univ_def, List.sum_eq_foldl, List.foldl_map]

/-- The running sum over a chunk's rows. -/
theorem cumsum_at (x : FVec Ideal S64x8x4x64x128 .f32) (v : FVec Ideal S_ .f32) (hv : ∀ y, v y = (0 : EReal))
    (hw : S64x8x4x64x128.ReduceWindows ![1, 1, 1, 64, 1] ![1, 1, 1, 1, 1] ![0, 0, 0, 63, 0] ![0, 0, 0, 0, 0] S64x8x4x64x128)
    (hu : 0 < S_.numel) (n : Fin 64) (β : Fin 8) (h : Fin 4) (r : Fin 64) (c : Fin 128) :
    Host.reduceWindowAdd ![1, 1, 1, 64, 1] ![1, 1, 1, 1, 1] ![0, 0, 0, 63, 0] ![0, 0, 0, 0, 0] x v hw hu (ix5 n β h r c)
      = ∑ r' : Fin 64, if r' ≤ r then x (ix5 n β h r' c) else (0 : EReal) := by
  let F : (⟨5, ![1, 1, 1, 64, 1]⟩ : Shape).Idx → EReal := fun w =>
    let p : Fin 5 → Nat := fun a => (ix5 n β h r c a).val * (![1, 1, 1, 1, 1] : Fin 5 → ℕ) a + (w a).val
    if hin : ∀ a : Fin 5, (![0, 0, 0, 63, 0] : Fin 5 → ℕ) a ≤ p a ∧ p a - (![0, 0, 0, 63, 0] : Fin 5 → ℕ) a < S64x8x4x64x128.size a
      then x (fun a => ⟨p a - (![0, 0, 0, 63, 0] : Fin 5 → ℕ) a, (hin a).2⟩) else (0 : EReal)
  have e1 : Host.reduceWindowAdd ![1, 1, 1, 64, 1] ![1, 1, 1, 1, 1] ![0, 0, 0, 63, 0] ![0, 0, 0, 0, 0] x v hw hu (ix5 n β h r c)
      = (List.finRange (⟨5, ![1, 1, 1, 64, 1]⟩ : Shape).numel).foldl
          (fun s k => s + F ((⟨5, ![1, 1, 1, 64, 1]⟩ : Shape).rowMajor.symm k)) (0 : EReal) := by
    have h0 := hv (Shape.Idx.first hu)
    show List.foldl _ (v (Shape.Idx.first hu)) _ = _
    rw [h0]
    refine congrArg (fun f => List.foldl f (0 : EReal) _) ?_
    funext s k
    refine congrArg (s + ·) ?_
    exact dite_congr rfl (fun _ => rfl) (fun _ => rfl)
  rw [e1, foldl_sum, Equiv.sum_comp (⟨5, ![1, 1, 1, 64, 1]⟩ : Shape).rowMajor.symm F, ← Equiv.sum_comp rows64 F]
  have e2 : ∀ k : Fin 64, F (rows64 k) = if hk : 63 ≤ r.val + k.val then x (ix5 n β h ⟨r.val + k.val - 63, by omega⟩ c) else (0 : EReal) := by
    intro k
    have hn := n.isLt; have hβ := β.isLt; have hh := h.isLt; have hr := r.isLt; have hc := c.isLt; have hk' := k.isLt
    by_cases hk : 63 ≤ r.val + k.val
    · rw [dif_pos hk]
      refine (dif_pos ?_).trans (congrArg x (funext fun a => Fin.ext ?_))
      · intro a
        match a with
        | ⟨0, _⟩ => exact ⟨Nat.zero_le _, show n.val * 1 + 0 - 0 < 64 by omega⟩
        | ⟨1, _⟩ => exact ⟨Nat.zero_le _, show β.val * 1 + 0 - 0 < 8 by omega⟩
        | ⟨2, _⟩ => exact ⟨Nat.zero_le _, show h.val * 1 + 0 - 0 < 4 by omega⟩
        | ⟨3, _⟩ => exact ⟨show 63 ≤ r.val * 1 + k.val by omega, show r.val * 1 + k.val - 63 < 64 by omega⟩
        | ⟨4, _⟩ => exact ⟨Nat.zero_le _, show c.val * 1 + 0 - 0 < 128 by omega⟩
      · match a with
        | ⟨0, _⟩ => show n.val * 1 + 0 - 0 = n.val; omega
        | ⟨1, _⟩ => show β.val * 1 + 0 - 0 = β.val; omega
        | ⟨2, _⟩ => show h.val * 1 + 0 - 0 = h.val; omega
        | ⟨3, _⟩ => show r.val * 1 + k.val - 63 = r.val + k.val - 63; omega
        | ⟨4, _⟩ => show c.val * 1 + 0 - 0 = c.val; omega
    · rw [dif_neg hk]
      refine dif_neg fun hin => hk ?_
      have h3 : 63 ≤ r.val * 1 + k.val := (hin 3).1
      omega
  rw [Finset.sum_congr rfl fun k _ => e2 k]
  have e3 : ∀ k : Fin 64, (if hk : 63 ≤ r.val + k.val then x (ix5 n β h ⟨r.val + k.val - 63, by omega⟩ c) else (0 : EReal))
      = if 63 ≤ r.val + k.val then x (ix5 n β h ⟨r.val + k.val - 63, by omega⟩ c) else (0 : EReal) := fun k => by split <;> rfl
  rw [Finset.sum_congr rfl fun k _ => e3 k, ← Finset.sum_filter, ← Finset.sum_filter]
  refine Finset.sum_bij' (fun k _ => ⟨r.val + k.val - 63, by omega⟩) (fun r' hr' => ⟨r'.val + 63 - r.val, by
      have := (Finset.mem_filter.1 hr').2; have : r'.val ≤ r.val := this; omega⟩) ?_ ?_ ?_ ?_ ?_
  · intro k hk
    refine Finset.mem_filter.2 ⟨Finset.mem_univ _, ?_⟩
    show r.val + k.val - 63 ≤ r.val
    omega
  · intro r' hr'
    refine Finset.mem_filter.2 ⟨Finset.mem_univ _, ?_⟩
    have : r'.val ≤ r.val := (Finset.mem_filter.1 hr').2
    show 63 ≤ r.val + (r'.val + 63 - r.val)
    omega
  · intro k hk
    have : 63 ≤ r.val + k.val := (Finset.mem_filter.1 hk).2
    refine Fin.ext ?_
    show r.val + k.val - 63 + 63 - r.val = k.val
    omega
  · intro r' hr'
    have : r'.val ≤ r.val := (Finset.mem_filter.1 hr').2
    refine Fin.ext ?_
    show r.val + (r'.val + 63 - r.val) - 63 = r'.val
    omega
  · intro k hk
    rfl

/-- The plain program's `log σ`, a guarded softplus of the negation, is `log σ`. -/
theorem logSig_at (A : EReal) :
    -(if -A ≠ -A then -A else max (-A) 0 + Ideal.log1p (Ideal.exp (-FloatOps.absf (F := Ideal) (φ := .f32) (-A)))) = Gla.logSig A := by
  rw [if_neg (fun hne => hne rfl)]
  have e : FloatOps.absf (F := Ideal) (φ := .f32) (-A : EReal) = max A (-A) := by
    show max (-A) (-(-A)) = _
    rw [neg_neg, max_comm]
  rw [e]
  obtain ⟨l, hl⟩ := Cert.KernelIdeal.Hand.log_real A
  have e2 : Ideal.log1p (Ideal.exp (-(max A (-A)))) = Ideal.log (1 + Ideal.exp (-(max A (-A)))) := rfl
  unfold Gla.logSig
  rw [e2, hl, EReal.neg_add (Or.inr (EReal.coe_ne_top l)) (Or.inr (EReal.coe_ne_bot l))]
  congr 1
  rcases le_total A 0 with hA | hA
  · rw [min_eq_left hA, max_eq_left (by simpa using hA), neg_neg]
  · rw [min_eq_right hA, max_eq_right (by simpa using hA), neg_zero]

end Cert.ReferenceIdeal.Hand
-- ==== Proof.RefRead.lean ====
/-
  The plain program's arrays before its loop, entry by entry.
-/
module

public import proofs.«01_k».proof.Proof.RefCum
public import proofs.«01_k».proof.Proof.Spec
public import Idealize.ShloMosaic.Lib.IdealHost

@[expose] public section

set_option maxRecDepth 65536

noncomputable section

open Idealize.ShloMosaic Idealize.ShloMosaic.TcCoe Idealize.SL.Sem

namespace Cert.ReferenceIdeal.Hand

open Cert.ReferenceIdeal Cert.ReferenceIdeal.Gen Cert.Gla

variable (m : (ℓ : Loc nD τ sig) → Buf (Elt Ideal) ℓ) (c : Dev nD)

/-- Direction `d` of batch `b` among the 8 merged batches. -/
def dir (d : Fin 2) (b : Fin 4) : Fin 8 := ⟨4 * d.val + b.val, by omega⟩

/-- The arguments by their coordinates. -/
def aP (b : Fin 4) (T : Fin 4096) (x : Fin 6144) : EReal := m ((c : Thread nD τ).loc main_arg0) (ix3 b T x)
@[inherit_doc aP] def aL (b : Fin 4) (T : Fin 4096) (x : Fin 128) : EReal := m ((c : Thread nD τ).loc main_arg1) (ix3 b T x)
@[inherit_doc aP] def aU (d : Fin 2) (j : Fin 16) (x : Fin 512) : EReal := m ((c : Thread nD τ).loc main_arg2) (ix3 d j x)
@[inherit_doc aP] def aB (d : Fin 2) (x : Fin 512) : EReal := m ((c : Thread nD τ).loc main_arg3) (ix2 d x)

theorem arg0_at (b : Fin 4) (T : Fin 4096) (x : Fin 6144) : entry m c (Proc.devRef .tc main_arg0) (ix3 b T x) = aP m c b T x := by
  rw [entry_main_arg0]; rfl
theorem arg1_at (b : Fin 4) (T : Fin 4096) (x : Fin 128) : entry m c (Proc.devRef .tc main_arg1) (ix3 b T x) = aL m c b T x := by
  rw [entry_main_arg1]; rfl
theorem arg2_at (d : Fin 2) (j : Fin 16) (x : Fin 512) : entry m c (Proc.devRef .tc main_arg2) (ix3 d j x) = aU m c d j x := by
  rw [entry_main_arg2]; rfl
theorem arg3_at (d : Fin 2) (x : Fin 512) : entry m c (Proc.devRef .tc main_arg3) (ix2 d x) = aB m c d x := by
  rw [entry_main_arg3]; rfl

/-- Both directions of an array, one behind the other: the second's rows from the end. -/
theorem both_at (f : Fin 4 → Fin 4096 → EReal) (d : Fin 2) (b : Fin 4) (n r : Fin 64) (y : EReal)
    (h0 : ∀ h : (dir d b).val < 4, y = f ⟨(dir d b).val, h⟩ ⟨n.val * 64 + r.val, by omega⟩)
    (h1 : ∀ h : ¬(dir d b).val < 4, y = f ⟨(dir d b).val - 4, by omega⟩ (Fin.rev ⟨n.val * 64 + r.val, by omega⟩)) :
    y = f b (pos d (row n r)) := by
  have hd : d = 0 ∨ d = 1 := by omega
  rcases hd with rfl | rfl
  · have h : (dir 0 b).val < 4 := by show 4 * 0 + b.val < 4; omega
    rw [h0 h]
    refine congrArg₂ f (Fin.ext ?_) (Fin.ext ?_)
    · show 4 * 0 + b.val = b.val; omega
    · show n.val * 64 + r.val = 64 * n.val + r.val; omega
  · have h : ¬(dir 1 b).val < 4 := by show ¬(4 * 1 + b.val < 4); omega
    rw [h1 h]
    refine congrArg₂ f (Fin.ext ?_) ?_
    · show 4 * 1 + b.val - 4 = b.val; omega
    · show Fin.rev _ = Fin.rev _
      refine congrArg Fin.rev (Fin.ext ?_)
      show n.val * 64 + r.val = 64 * n.val + r.val; omega

theorem v7_at (b h : Fin 4) (T : Fin 4096) (x : Fin 128) :
    entry m c (Proc.devRef .tc main_v7) (ix4 b T h x) = aP m c b T ⟨3072 + (h.val * 128 + x.val), by omega⟩ * scale := by
  rw [entry_main_v7]
  pointwise []
  exact congrArg (· * scale) (arg0_at m c _ _ _)

theorem rev128_at (X : FVec Ideal S4x4096x4x128 .f32) (b h : Fin 4) (T : Fin 4096) (x : Fin 128) :
    Host.reverse [1] X (ix4 b T h x) = X (ix4 b (Fin.rev T) h x) := by
  refine congrArg X (funext fun a => ?_)
  match a with
  | ⟨0, _⟩ => rfl
  | ⟨1, _⟩ => rfl
  | ⟨2, _⟩ => rfl
  | ⟨3, _⟩ => rfl

theorem rev256_at (X : FVec Ideal S4x4096x4x256 .f32) (b h : Fin 4) (T : Fin 4096) (x : Fin 256) :
    Host.reverse [1] X (ix4 b T h x) = X (ix4 b (Fin.rev T) h x) := by
  refine congrArg X (funext fun a => ?_)
  match a with
  | ⟨0, _⟩ => rfl
  | ⟨1, _⟩ => rfl
  | ⟨2, _⟩ => rfl
  | ⟨3, _⟩ => rfl

theorem cut128_at (Z : FVec Ideal S8x4096x4x128 .f32) (n : Fin 64) (β : Fin 8) (h : Fin 4) (r : Fin 64) (x : Fin 128) :
    transpose S64x8x4x64x128 [1, 0, 3, 2, 4] (shapeCast S8x64x64x4x128 Z shapeCasts_S8x4096x4x128_S8x64x64x4x128)
      transposes_S8x64x64x4x128_S64x8x4x64x128_1_0_3_2_4 (ix5 n β h r x) = Z (ix4 β ⟨n.val * 64 + r.val, by omega⟩ h x) := by
  pointwise []

theorem join128_at (X Y : FVec Ideal S4x4096x4x128 .f32) (T : Fin 4096) (β : Fin 8) (h : Fin 4) (x : Fin 128) :
    concatenate S8x4096x4x128 0 [⟨S4x4096x4x128, X⟩, ⟨S4x4096x4x128, Y⟩] concatenates_S4x4096x4x128_S4x4096x4x128_S8x4096x4x128_d0 (ix4 β T h x)
      = if hd : β.val < 4 then X (ix4 ⟨β.val, hd⟩ T h x) else Y (ix4 ⟨β.val - 4, by omega⟩ T h x) := by
  pointwise []

/-- An array of both directions, merged and cut into chunks, at a direction. -/
theorem merge128_at (X Y : FVec Ideal S4x4096x4x128 .f32) (f : Fin 4 → Fin 4096 → EReal) (n : Fin 64) (d : Fin 2) (b h : Fin 4) (r : Fin 64) (x : Fin 128)
    (hX : d = 0 → ∀ b T, X (ix4 b T h x) = f b T) (hY : d = 1 → ∀ b T, Y (ix4 b T h x) = f b (Fin.rev T)) :
    transpose S64x8x4x64x128 [1, 0, 3, 2, 4] (shapeCast S8x64x64x4x128 (concatenate S8x4096x4x128 0 [⟨S4x4096x4x128, X⟩, ⟨S4x4096x4x128, Y⟩]
      concatenates_S4x4096x4x128_S4x4096x4x128_S8x4096x4x128_d0) shapeCasts_S8x4096x4x128_S8x64x64x4x128) transposes_S8x64x64x4x128_S64x8x4x64x128_1_0_3_2_4
        (ix5 n (dir d b) h r x) = f b (pos d (row n r)) := by
  rw [cut128_at, join128_at]
  refine both_at f d b n r _ (fun hd => ?_) (fun hd => ?_)
  · rw [dif_pos hd]
    exact hX (Fin.ext (by have : 4 * d.val + b.val < 4 := hd; show d.val = 0; omega)) _ _
  · rw [dif_neg hd]
    exact hY (Fin.ext (by have : ¬4 * d.val + b.val < 4 := hd; show d.val = 1; omega)) _ _

theorem cut256_at (Z : FVec Ideal S8x4096x4x256 .f32) (n : Fin 64) (β : Fin 8) (h : Fin 4) (r : Fin 64) (x : Fin 256) :
    transpose S64x8x4x64x256 [1, 0, 3, 2, 4] (shapeCast S8x64x64x4x256 Z shapeCasts_S8x4096x4x256_S8x64x64x4x256)
      transposes_S8x64x64x4x256_S64x8x4x64x256_1_0_3_2_4 (ix5 n β h r x) = Z (ix4 β ⟨n.val * 64 + r.val, by omega⟩ h x) := by
  pointwise []

theorem join256_at (X Y : FVec Ideal S4x4096x4x256 .f32) (T : Fin 4096) (β : Fin 8) (h : Fin 4) (x : Fin 256) :
    concatenate S8x4096x4x256 0 [⟨S4x4096x4x256, X⟩, ⟨S4x4096x4x256, Y⟩] concatenates_S4x4096x4x256_S4x4096x4x256_S8x4096x4x256_d0 (ix4 β T h x)
      = if hd : β.val < 4 then X (ix4 ⟨β.val, hd⟩ T h x) else Y (ix4 ⟨β.val - 4, by omega⟩ T h x) := by
  pointwise []

/-- An array of both directions, merged and cut into chunks, at a direction. -/
theorem merge256_at (X Y : FVec Ideal S4x4096x4x256 .f32) (f : Fin 4 → Fin 4096 → EReal) (n : Fin 64) (d : Fin 2) (b h : Fin 4) (r : Fin 64) (x : Fin 256)
    (hX : d = 0 → ∀ b T, X (ix4 b T h x) = f b T) (hY : d = 1 → ∀ b T, Y (ix4 b T h x) = f b (Fin.rev T)) :
    transpose S64x8x4x64x256 [1, 0, 3, 2, 4] (shapeCast S8x64x64x4x256 (concatenate S8x4096x4x256 0 [⟨S4x4096x4x256, X⟩, ⟨S4x4096x4x256, Y⟩]
      concatenates_S4x4096x4x256_S4x4096x4x256_S8x4096x4x256_d0) shapeCasts_S8x4096x4x256_S8x64x64x4x256) transposes_S8x64x64x4x256_S64x8x4x64x256_1_0_3_2_4
        (ix5 n (dir d b) h r x) = f b (pos d (row n r)) := by
  rw [cut256_at, join256_at]
  refine both_at f d b n r _ (fun hd => ?_) (fun hd => ?_)
  · rw [dif_pos hd]
    exact hX (Fin.ext (by have : 4 * d.val + b.val < 4 := hd; show d.val = 0; omega)) _ _
  · rw [dif_neg hd]
    exact hY (Fin.ext (by have : ¬4 * d.val + b.val < 4 := hd; show d.val = 1; omega)) _ _

theorem v8_at (b h : Fin 4) (T : Fin 4096) (x : Fin 128) :
    entry m c (Proc.devRef .tc main_v8) (ix4 b T h x) = aP m c b T ⟨3584 + (h.val * 128 + x.val), by omega⟩ := by
  rw [entry_main_v8]
  pointwise []
  exact arg0_at m c _ _ _

theorem v9_at (b h : Fin 4) (T : Fin 4096) (x : Fin 256) :
    entry m c (Proc.devRef .tc main_v9) (ix4 b T h x) = aP m c b T ⟨4096 + (h.val * 256 + x.val), by omega⟩ := by
  rw [entry_main_v9]
  pointwise []
  exact arg0_at m c _ _ _

theorem arr_eq {N : ℕ} (P : Fin 4 → Fin 4096 → Fin N → EReal) (b : Fin 4) (T : Fin 4096) {x x' : Fin N} (hx : x.val = x'.val) :
    P b T x = P b T x' := by
  rw [Fin.ext hx]

theorem v43_at (d : Fin 2) (b h : Fin 4) (n r : Fin 64) (x : Fin 128) :
    entry m c (Proc.devRef .tc main_v43) (ix5 n (dir d b) h r x) = Q (aP m c) d b h n r x * scale := by
  rw [entry_main_v43, entry_main_v11, entry_main_v10]
  rw [merge128_at _ _ (fun b T => aP m c b T ⟨3072 + (h.val * 128 + x.val), by omega⟩ * scale) n d b h r x (fun _ b T => v7_at m c b h T x)
    (fun _ b T => (rev128_at _ b h T x).trans (v7_at m c b h _ x))]
  exact congrArg (· * scale) (arr_eq (aP m c) b _ (by show 3072 + (h.val * 128 + x.val) = 3072 + 128 * h.val + x.val; omega))

theorem v45_at (d : Fin 2) (b h : Fin 4) (n r : Fin 64) (x : Fin 128) :
    entry m c (Proc.devRef .tc main_v45) (ix5 n (dir d b) h r x) = K (aP m c) d b h n r x := by
  rw [entry_main_v45, entry_main_v13, entry_main_v12]
  rw [merge128_at _ _ (fun b T => aP m c b T ⟨3584 + (h.val * 128 + x.val), by omega⟩) n d b h r x (fun _ b T => v8_at m c b h T x)
    (fun _ b T => (rev128_at _ b h T x).trans (v8_at m c b h _ x))]
  exact arr_eq (aP m c) b _ (by show 3584 + (h.val * 128 + x.val) = 3584 + 128 * h.val + x.val; omega)

theorem v47_at (d : Fin 2) (b h : Fin 4) (n r : Fin 64) (x : Fin 256) :
    entry m c (Proc.devRef .tc main_v47) (ix5 n (dir d b) h r x) = W (aP m c) d b h n r x := by
  rw [entry_main_v47, entry_main_v15, entry_main_v14]
  rw [merge256_at _ _ (fun b T => aP m c b T ⟨4096 + (h.val * 256 + x.val), by omega⟩) n d b h r x (fun _ b T => v9_at m c b h T x)
    (fun _ b T => (rev256_at _ b h T x).trans (v9_at m c b h _ x))]
  exact arr_eq (aP m c) b _ (by show 4096 + (h.val * 256 + x.val) = 4096 + 256 * h.val + x.val; omega)

end Cert.ReferenceIdeal.Hand
-- ==== Proof.RefGate.lean ====
/-
  The plain program's gates, running sums and decayed arrays, entry by entry.
-/
module

public import proofs.«01_k».proof.Proof.RefRead

@[expose] public section

set_option maxRecDepth 65536

noncomputable section

open Idealize.ShloMosaic Idealize.ShloMosaic.TcCoe Idealize.SL.Sem

namespace Cert.ReferenceIdeal.Hand

open Cert.ReferenceIdeal Cert.ReferenceIdeal.Gen Cert.Gla

variable (m : (ℓ : Loc nD τ sig) → Buf (Elt Ideal) ℓ) (c : Dev nD)

/-- A gate at a row of the sequence, before its division: `log σ` of the projected ranks and the bias. -/
def gateAt (d : Fin 2) (b : Fin 4) (T : Fin 4096) (x : Fin 512) : EReal :=
  Gla.logSig ((∑ j : Fin 16, aL m c b T ⟨16 * d.val + j.val, by omega⟩ * aU m c d j x) + aB m c d x)

theorem v24_at (b : Fin 4) (T : Fin 4096) (x : Fin 512) :
    entry m c (Proc.devRef .tc main_v24) (ix3 b T x) = gateAt m c 0 b T x := by
  rw [entry_main_v24, entry_main_v23, entry_main_v3]
  pointwise [logSig]
  refine (logSig_at _).trans (congrArg Gla.logSig (congrArg₂ (· + ·) (Finset.sum_congr rfl fun j _ => congrArg₂ (· * ·) ?_ (arg2_at m c _ _ _)) (arg3_at m c _ _)))
  refine (arg1_at m c _ _ _).trans (arr_eq (aL m c) b T ?_)
  show j.val = 16 * 0 + j.val
  omega

theorem v36_at (b : Fin 4) (T : Fin 4096) (x : Fin 512) :
    entry m c (Proc.devRef .tc main_v36) (ix3 b T x) = gateAt m c 1 b T x := by
  rw [entry_main_v36, entry_main_v35, entry_main_v4]
  pointwise [logSig]
  refine (logSig_at _).trans (congrArg Gla.logSig (congrArg₂ (· + ·) (Finset.sum_congr rfl fun j _ => congrArg₂ (· * ·) ?_ (arg2_at m c _ _ _)) (arg3_at m c _ _)))
  refine (arg1_at m c _ _ _).trans (arr_eq (aL m c) b T ?_)
  show 16 + j.val = 16 * 1 + j.val
  omega

theorem v27_at (b h : Fin 4) (T : Fin 4096) (x : Fin 128) :
    entry m c (Proc.devRef .tc main_v27) (ix4 b T h x) = Ideal.div (gateAt m c 0 b T ⟨h.val * 128 + x.val, by omega⟩) sixteen := by
  rw [entry_main_v27]
  pointwise []
  rw [v24_at]

theorem v39_at (b h : Fin 4) (T : Fin 4096) (x : Fin 128) :
    entry m c (Proc.devRef .tc main_v39) (ix4 b T h x) = Ideal.div (gateAt m c 1 b T ⟨h.val * 128 + x.val, by omega⟩) sixteen := by
  rw [entry_main_v39]
  pointwise []
  rw [v36_at]

theorem v49_at (d : Fin 2) (b h : Fin 4) (n r : Fin 64) (x : Fin 128) :
    entry m c (Proc.devRef .tc main_v49) (ix5 n (dir d b) h r x) = gate (aL m c) (aU m c) (aB m c) d b h n r x := by
  rw [entry_main_v49, entry_main_v40]
  rw [merge128_at _ _ (fun b T => Ideal.div (gateAt m c d b T ⟨h.val * 128 + x.val, by omega⟩) sixteen) n d b h r x
    (fun hd b T => by rw [v27_at, hd])
    (fun hd b T => (rev128_at _ b h T x).trans (by rw [v39_at, hd]))]
  have e : (⟨h.val * 128 + x.val, by omega⟩ : Fin 512) = ⟨128 * h.val + x.val, by omega⟩ := Fin.ext (by show h.val * 128 + x.val = 128 * h.val + x.val; omega)
  show Ideal.div (gateAt m c d b (pos d (row n r)) ⟨h.val * 128 + x.val, _⟩) sixteen = _
  rw [e]
  rfl

theorem v50_at (d : Fin 2) (b h : Fin 4) (n r : Fin 64) (x : Fin 128) :
    entry m c (Proc.devRef .tc main_v50) (ix5 n (dir d b) h r x) = cum (aL m c) (aU m c) (aB m c) d b h n r x := by
  rw [entry_main_v50]
  refine (cumsum_at _ _ ?_ _ _ n (dir d b) h r x).trans (Finset.sum_congr rfl fun r' _ => by rw [v49_at])
  intro y
  exact Ideal.ofBits_zero_f32

end Cert.ReferenceIdeal.Hand
-- ==== Proof.RefPre.lean ====
/-
  The plain program's arrays before its loop, entry by entry.
-/
module

public import proofs.«01_k».proof.Proof.RefGate

@[expose] public section

set_option maxRecDepth 65536

noncomputable section

open Idealize.ShloMosaic Idealize.ShloMosaic.TcCoe Idealize.SL.Sem

namespace Cert.ReferenceIdeal.Hand

open Cert.ReferenceIdeal Cert.ReferenceIdeal.Gen Cert.Gla

variable (m : (ℓ : Loc nD τ sig) → Buf (Elt Ideal) ℓ) (c : Dev nD)

theorem mulExp_at (X Y : FVec Ideal S64x8x4x64x128 .f32) (i : S64x8x4x64x128.Idx) : mulf X (Host.exp Y) i = X i * Ideal.exp (Y i) := rfl

theorem mulExpNeg_at (X Y : FVec Ideal S64x8x4x64x128 .f32) (i : S64x8x4x64x128.Idx) :
    mulf X (Host.exp (Host.negf Y)) i = X i * Ideal.exp (-(Y i)) := rfl

theorem mulExpSub_at (X Y : FVec Ideal S64x8x4x64x128 .f32) (n : Fin 64) (β : Fin 8) (h : Fin 4) (r : Fin 64) (x : Fin 128) :
    mulf X (Host.exp (subf (broadcastInDim S64x8x4x64x128 ![0, 1, 2, 3, 4] bcast_S64x8x4x1x128_S64x8x4x64x128_0_1_2_3_4
      (extractStridedSlice S64x8x4x1x128 ![0, 0, 0, 63, 0] Y slices_S64x8x4x64x128_S64x8x4x1x128_0_0_0_63_0)) Y)) (ix5 n β h r x)
      = X (ix5 n β h r x) * Ideal.exp (Y (ix5 n β h 63 x) - Y (ix5 n β h r x)) := by
  pointwise []

theorem last_at (Y : FVec Ideal S64x8x4x64x128 .f32) (n : Fin 64) (β : Fin 8) (h : Fin 4) (x : Fin 128) :
    Host.exp (F := Ideal) (shapeCast S64x8x4x128 (extractStridedSlice S64x8x4x1x128 ![0, 0, 0, 63, 0] Y slices_S64x8x4x64x128_S64x8x4x1x128_0_0_0_63_0)
      shapeCasts_S64x8x4x1x128_S64x8x4x128) (ix4 n β h x) = Ideal.exp (Y (ix5 n β h 63 x)) := by
  pointwise []

/-- The causal mask. -/
theorem mask_at (r r' : Fin 64) (a : EReal) :
    Scalar.select (Scalar.select (IntOp.cmpi CmpIPredicate.sge (IntOp.addi (BitVec.ofNat 32 r.val) 0#32) (BitVec.ofNat 32 r'.val)) 1#1 0#1) a 0
      = if r' ≤ r then a else 0 := by
  have e : Scalar.select (IntOp.cmpi CmpIPredicate.sge (IntOp.addi (BitVec.ofNat 32 r.val) 0#32) (BitVec.ofNat 32 r'.val)) 1#1 0#1
      = if r' ≤ r then 1#1 else 0#1 := (by decide +kernel : ∀ r r' : Fin 64,
        Scalar.select (IntOp.cmpi CmpIPredicate.sge (IntOp.addi (BitVec.ofNat 32 r.val) 0#32) (BitVec.ofNat 32 r'.val)) 1#1 0#1
          = if r' ≤ r then 1#1 else 0#1) r r'
  rw [e]
  by_cases h : r' ≤ r
  · rw [if_pos h, if_pos h]; rfl
  · rw [if_neg h, if_neg h]; rfl

theorem scores_at (X Y : FVec Ideal S64x8x4x64x128 .f32) (n : Fin 64) (β : Fin 8) (h : Fin 4) (r r' : Fin 64) :
    Host.dotGeneral dot_S64x8x4x64x128_S64x8x4x64x128_S64x8x4x64x64_4_4_3_3_012_012 none X Y (ix5 n β h r r')
      = ∑ x : Fin 128, X (ix5 n β h r x) * Y (ix5 n β h r' x) := by
  pointwise []

theorem intra_at (X : FVec Ideal S64x8x4x64x64 .f32) (Y : FVec Ideal S64x8x4x64x256 .f32) (n : Fin 64) (β : Fin 8) (h : Fin 4) (r : Fin 64) (e : Fin 256) :
    Host.dotGeneral dot_S64x8x4x64x64_S64x8x4x64x256_S64x8x4x64x256_4_3_3_4_012_012 none X Y (ix5 n β h r e)
      = ∑ r' : Fin 64, X (ix5 n β h r r') * Y (ix5 n β h r' e) := by
  pointwise []

theorem masked_at (Z : FVec Ideal S64x8x4x64x64 .f32) (n : Fin 64) (β : Fin 8) (h : Fin 4) (r r' : Fin 64) :
    select (broadcastInDim S64x8x4x64x64 ![3, 4] bcast_S64x64_S64x8x4x64x64_3_4
      (select (cmpi .sge (addi (iotaInDim S64x64 32 0) (broadcastInDim S64x64 ![] bcast_S_S64x64 (constantI S_ 32 0#32))) (iotaInDim S64x64 32 1))
        (broadcastInDim S64x64 ![] bcast_S_S64x64 (constantI S_ 1 1#1)) (broadcastInDim S64x64 ![] bcast_S_S64x64 (constantI S_ 1 0#1))))
      Z (broadcastInDim S64x8x4x64x64 ![] bcast_S_S64x8x4x64x64 (constant (F := Ideal) S_ .f32 0x00000000#32)) (ix5 n β h r r')
      = if r' ≤ r then Z (ix5 n β h r r') else 0 := by
  refine Eq.trans ?_ (mask_at r r' _)
  pointwise []

/-- The decayed queries. -/
theorem q_at (d : Fin 2) (b h : Fin 4) (n r : Fin 64) (x : Fin 128) :
    entry m c (Proc.devRef .tc main_v53) (ix5 n (dir d b) h r x)
      = Q (aP m c) d b h n r x * scale * Ideal.exp (cum (aL m c) (aU m c) (aB m c) d b h n r x) := by
  rw [entry_main_v53, mulExp_at, v43_at, v50_at]

/-- The keys, divided by the decay from the chunk's first row. -/
theorem kBeg_at (d : Fin 2) (b h : Fin 4) (n r : Fin 64) (x : Fin 128) :
    entry m c (Proc.devRef .tc main_v56) (ix5 n (dir d b) h r x)
      = K (aP m c) d b h n r x * Ideal.exp (-(cum (aL m c) (aU m c) (aB m c) d b h n r x)) := by
  rw [entry_main_v56, mulExpNeg_at, v45_at, v50_at]

/-- The keys, decayed to the chunk's end. -/
theorem kEnd_at (d : Fin 2) (b h : Fin 4) (n r : Fin 64) (x : Fin 128) :
    entry m c (Proc.devRef .tc main_v60) (ix5 n (dir d b) h r x)
      = K (aP m c) d b h n r x * Ideal.exp (cum (aL m c) (aU m c) (aB m c) d b h n 63 x - cum (aL m c) (aU m c) (aB m c) d b h n r x) := by
  rw [entry_main_v60, mulExpSub_at, v45_at, v50_at, v50_at]

/-- A chunk's whole decay. -/
theorem decay_at (d : Fin 2) (b h : Fin 4) (n : Fin 64) (x : Fin 128) :
    entry m c (Proc.devRef .tc main_v70_3) (ix4 n (dir d b) h x) = Ideal.exp (cum (aL m c) (aU m c) (aB m c) d b h n 63 x) := by
  rw [entry_main_v70_3, entry_main_v51, last_at, v50_at]

/-- The part of the output that stays within a chunk. -/
theorem oIntra_at (d : Fin 2) (b h : Fin 4) (n r : Fin 64) (e : Fin 256) :
    entry m c (Proc.devRef .tc main_v70_4) (ix5 n (dir d b) h r e)
      = (∑ r' : Fin 64, (if r' ≤ r then ∑ x : Fin 128, (Q (aP m c) d b h n r x * scale * Ideal.exp (cum (aL m c) (aU m c) (aB m c) d b h n r x))
          * (K (aP m c) d b h n r' x * Ideal.exp (-(cum (aL m c) (aU m c) (aB m c) d b h n r' x))) else 0) * W (aP m c) d b h n r' e : EReal) := by
  rw [entry_main_v70_4]
  refine (intra_at _ _ n (dir d b) h r e).trans ?_
  refine Finset.sum_congr rfl fun r' _ => ?_
  rw [v47_at, entry_main_v64, entry_main_v62, entry_main_v61, entry_main_cst_2, masked_at, entry_main_v63, scores_at]
  refine congrArg (· * _) ?_
  split
  · exact Finset.sum_congr rfl fun x _ => by rw [q_at, kBeg_at]
  · rfl

end Cert.ReferenceIdeal.Hand
-- ==== Proof.RefStep.lean ====
/-
  One step of the plain program's loop, entry by entry.
-/
module

public import proofs.«01_k».proof.Proof.RefPre
public import Idealize.ShloMosaic.Lib.WordCmp

@[expose] public section

set_option maxRecDepth 65536

noncomputable section

open Idealize.ShloMosaic Idealize.ShloMosaic.TcCoe Idealize.SL.Sem

namespace Cert.ReferenceIdeal.Hand

open Cert.ReferenceIdeal Cert.ReferenceIdeal.Gen Cert.Gla

/-- A chunk of a rank-5 array of width 128, taken at a start that is a natural below 64. -/
theorem pick128_at (X : FVec Ideal S64x8x4x64x128 .f32) (st : Fin 5 → Int) (n : Fin 64) (hst : ∀ a, st a = ((![n.val, 0, 0, 0, 0] : Fin 5 → ℕ) a : Int))
    (β : Fin 8) (h : Fin 4) (r : Fin 64) (x : Fin 128) :
    shapeCast S8x4x64x128 (Host.dynamicSlice S1x8x4x64x128 X st sliceFits_S64x8x4x64x128_S1x8x4x64x128) shapeCasts_S1x8x4x64x128_S8x4x64x128 (ix4 β h r x)
      = X (ix5 n β h r x) := by
  have hk : S64x8x4x64x128.Slices ![n.val, 0, 0, 0, 0] S1x8x4x64x128 := by
    refine ⟨rfl, fun a => ?_⟩
    match a with
    | ⟨0, _⟩ => show n.val + 1 ≤ 64; omega
    | ⟨1, _⟩ => exact le_refl 8
    | ⟨2, _⟩ => exact le_refl 4
    | ⟨3, _⟩ => exact le_refl 64
    | ⟨4, _⟩ => exact le_refl 128
  rw [WordCmp.dynamicSlice_eq_extract _ X st _ ![n.val, 0, 0, 0, 0] hk hst]
  generalize hY : extractStridedSlice S1x8x4x64x128 ![n.val, 0, 0, 0, 0] X hk = Y
  have e : shapeCast S8x4x64x128 Y shapeCasts_S1x8x4x64x128_S8x4x64x128 (ix4 β h r x) = Y (ix5 0 β h r x) := by pointwise []
  rw [e, ← hY]
  refine congrArg X (funext fun a => Fin.ext ?_)
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _

@[inherit_doc pick128_at]
theorem pick256_at (X : FVec Ideal S64x8x4x64x256 .f32) (st : Fin 5 → Int) (n : Fin 64) (hst : ∀ a, st a = ((![n.val, 0, 0, 0, 0] : Fin 5 → ℕ) a : Int))
    (β : Fin 8) (h : Fin 4) (r : Fin 64) (x : Fin 256) :
    shapeCast S8x4x64x256 (Host.dynamicSlice S1x8x4x64x256 X st sliceFits_S64x8x4x64x256_S1x8x4x64x256) shapeCasts_S1x8x4x64x256_S8x4x64x256 (ix4 β h r x)
      = X (ix5 n β h r x) := by
  have hk : S64x8x4x64x256.Slices ![n.val, 0, 0, 0, 0] S1x8x4x64x256 := by
    refine ⟨rfl, fun a => ?_⟩
    match a with
    | ⟨0, _⟩ => show n.val + 1 ≤ 64; omega
    | ⟨1, _⟩ => exact le_refl 8
    | ⟨2, _⟩ => exact le_refl 4
    | ⟨3, _⟩ => exact le_refl 64
    | ⟨4, _⟩ => exact le_refl 256
  rw [WordCmp.dynamicSlice_eq_extract _ X st _ ![n.val, 0, 0, 0, 0] hk hst]
  generalize hY : extractStridedSlice S1x8x4x64x256 ![n.val, 0, 0, 0, 0] X hk = Y
  have e : shapeCast S8x4x64x256 Y shapeCasts_S1x8x4x64x256_S8x4x64x256 (ix4 β h r x) = Y (ix5 0 β h r x) := by pointwise []
  rw [e, ← hY]
  refine congrArg X (funext fun a => Fin.ext ?_)
  match a with
  | ⟨0, _⟩ => rfl
  | ⟨1, _⟩ => exact Nat.zero_add _
  | ⟨2, _⟩ => exact Nat.zero_add _
  | ⟨3, _⟩ => exact Nat.zero_add _
  | ⟨4, _⟩ => exact Nat.zero_add _

/-- A chunk's row of a rank-4 array. -/
theorem pickRow_at (X : FVec Ideal S64x8x4x128 .f32) (st : Fin 4 → Int) (n : Fin 64) (hst : ∀ a, st a = ((![n.val, 0, 0, 0] : Fin 4 → ℕ) a : Int))
    (β : Fin 8) (h : Fin 4) (x : Fin 128) :
    shapeCast S8x4x128 (Host.dynamicSlice S1x8x4x128 X st sliceFits_S64x8x4x128_S1x8x4x128) shapeCasts_S1x8x4x128_S8x4x128 (ix3 β h x)
      = X (ix4 n β h x) := by
  have hk : S64x8x4x128.Slices ![n.val, 0, 0, 0] S1x8x4x128 := by
    refine ⟨rfl, fun a => ?_⟩
    match a with
    | ⟨0, _⟩ => show n.val + 1 ≤ 64; omega
    | ⟨1, _⟩ => exact le_refl 8
    | ⟨2, _⟩ => exact le_refl 4
    | ⟨3, _⟩ => exact le_refl 128
  rw [WordCmp.dynamicSlice_eq_extract _ X st _ ![n.val, 0, 0, 0] hk hst]
  generalize hY : extractStridedSlice S1x8x4x128 ![n.val, 0, 0, 0] X hk = Y
  have e : shapeCast S8x4x128 Y shapeCasts_S1x8x4x128_S8x4x128 (ix3 β h x) = Y (ix4 0 β h x) := by pointwise []
  rw [e, ← hY]
  refine congrArg X (funext fun a => Fin.ext ?_)
  match a with
  | ⟨0, _⟩ => rfl
  | ⟨1, _⟩ => exact Nat.zero_add _
  | ⟨2, _⟩ => exact Nat.zero_add _
  | ⟨3, _⟩ => exact Nat.zero_add _

/-- The state's update: the decayed state plus the keys times the values. -/
theorem stateNew_at (S : FVec Ideal S8x4x128x256 .f32) (D : FVec Ideal S8x4x128 .f32) (A : FVec Ideal S8x4x64x128 .f32) (B : FVec Ideal S8x4x64x256 .f32)
    (β : Fin 8) (h : Fin 4) (x : Fin 128) (e : Fin 256) :
    addf (mulf S (broadcastInDim S8x4x128x256 ![0, 1, 2, 3] bcast_S8x4x128x1_S8x4x128x256_0_1_2_3 (broadcastInDim S8x4x128x1 ![0, 1, 2] bcast_S8x4x128_S8x4x128x1_0_1_2 D)))
      (Host.dotGeneral dot_S8x4x64x128_S8x4x64x256_S8x4x128x256_2_2_3_3_01_01 none A B) (ix4 β h x e)
      = S (ix4 β h x e) * D (ix3 β h x) + ∑ r : Fin 64, A (ix4 β h r x) * B (ix4 β h r e) := by
  pointwise []

/-- A chunk's output. -/
theorem outNew_at (O : FVec Ideal S8x4x64x256 .f32) (A : FVec Ideal S8x4x64x128 .f32) (S : FVec Ideal S8x4x128x256 .f32)
    (β : Fin 8) (h : Fin 4) (r : Fin 64) (e : Fin 256) :
    broadcastInDim S1x8x4x64x256 ![1, 2, 3, 4] bcast_S8x4x64x256_S1x8x4x64x256_1_2_3_4
      (addf O (Host.dotGeneral dot_S8x4x64x128_S8x4x128x256_S8x4x64x256_3_2_2_3_01_01 none A S)) (ix5 0 β h r e)
      = O (ix4 β h r e) + ∑ x : Fin 128, A (ix4 β h r x) * S (ix4 β h x e) := by
  pointwise []

/-- Writing one chunk of the outputs. -/
theorem put_at (X : FVec Ideal S64x8x4x64x256 .f32) (Y : FVec Ideal S1x8x4x64x256 .f32) (st : Fin 5 → Int) (n : Fin 64)
    (hst : ∀ a, st a = ((![n.val, 0, 0, 0, 0] : Fin 5 → ℕ) a : Int)) (n' : Fin 64) (β : Fin 8) (h : Fin 4) (r : Fin 64) (e : Fin 256) :
    Host.dynamicUpdateSlice X Y st updateFits_S64x8x4x64x256_S1x8x4x64x256 (ix5 n' β h r e)
      = if n' = n then Y (ix5 0 β h r e) else X (ix5 n' β h r e) := by
  have hk : S64x8x4x64x256.Slices ![n.val, 0, 0, 0, 0] S1x8x4x64x256 := by
    refine ⟨rfl, fun a => ?_⟩
    match a with
    | ⟨0, _⟩ => show n.val + 1 ≤ 64; omega
    | ⟨1, _⟩ => exact le_refl 8
    | ⟨2, _⟩ => exact le_refl 4
    | ⟨3, _⟩ => exact le_refl 64
    | ⟨4, _⟩ => exact le_refl 256
  rw [WordCmp.dynamicUpdateSlice_eq_update X Y st _ ![n.val, 0, 0, 0, 0] hk hst]
  by_cases hn : n' = n
  · subst hn
    rw [if_pos rfl]
    refine (dif_pos ?_).trans (congrArg Y (funext fun a => Fin.ext ?_))
    · intro a
      match a with
      | ⟨0, _⟩ => exact ⟨le_refl _, Nat.lt_succ_self _⟩
      | ⟨1, _⟩ => exact ⟨Nat.zero_le _, show β.val < 0 + 8 by omega⟩
      | ⟨2, _⟩ => exact ⟨Nat.zero_le _, show h.val < 0 + 4 by omega⟩
      | ⟨3, _⟩ => exact ⟨Nat.zero_le _, show r.val < 0 + 64 by omega⟩
      | ⟨4, _⟩ => exact ⟨Nat.zero_le _, show e.val < 0 + 256 by omega⟩
    · match a with
      | ⟨0, _⟩ => exact Nat.sub_self _
      | ⟨1, _⟩ => rfl
      | ⟨2, _⟩ => rfl
      | ⟨3, _⟩ => rfl
      | ⟨4, _⟩ => rfl
  · rw [if_neg hn]
    refine dif_neg fun hin => hn (Fin.ext ?_)
    have h0 : n.val ≤ n'.val ∧ n'.val < n.val + 1 := hin 0
    omega

end Cert.ReferenceIdeal.Hand
-- ==== Proof.RefLoop.lean ====
/-
  The plain program's loop: after `k` steps, the state after `k` chunks and the outputs of the chunks passed.
-/
module

public import proofs.«01_k».proof.Proof.RefStep

@[expose] public section

set_option maxRecDepth 65536

noncomputable section

open Idealize.ShloMosaic Idealize.ShloMosaic.TcCoe Idealize.SL.Sem

namespace Cert.ReferenceIdeal.Hand

open Cert.ReferenceIdeal Cert.ReferenceIdeal.Gen Cert.ReferenceIdeal.Value Cert.Gla

/-- The word of a natural below 64, read as an integer. -/
theorem word_toInt (n : Fin 64) : (BitVec.ofNat 32 n.val).toInt = (n.val : Int) :=
  (by decide : ∀ n : Fin 64, (BitVec.ofNat 32 n.val).toInt = (n.val : Int)) n

/-- The starts of a rank-5 chunk. -/
theorem start5 (V : S_.Idx → BitVec 32) (n : Fin 64) (hV : ∀ i, V i = BitVec.ofNat 32 n.val) (a : Fin 5) :
    (((![V, constantI S_ 32 0#32, constantI S_ 32 0#32, constantI S_ 32 0#32, constantI S_ 32 0#32] : Fin 5 → S_.Idx → BitVec 32) a (Shape.Idx.first h_S_)).toInt)
      = ((![n.val, 0, 0, 0, 0] : Fin 5 → ℕ) a : Int) := by
  match a with
  | ⟨0, _⟩ => exact (congrArg BitVec.toInt (hV _)).trans (word_toInt n)
  | ⟨1, _⟩ => rfl
  | ⟨2, _⟩ => rfl
  | ⟨3, _⟩ => rfl
  | ⟨4, _⟩ => rfl

/-- The starts of a rank-4 chunk. -/
theorem start4 (V : S_.Idx → BitVec 32) (n : Fin 64) (hV : ∀ i, V i = BitVec.ofNat 32 n.val) (a : Fin 4) :
    (((![V, constantI S_ 32 0#32, constantI S_ 32 0#32, constantI S_ 32 0#32] : Fin 4 → S_.Idx → BitVec 32) a (Shape.Idx.first h_S_)).toInt)
      = ((![n.val, 0, 0, 0] : Fin 4 → ℕ) a : Int) := by
  match a with
  | ⟨0, _⟩ => exact (congrArg BitVec.toInt (hV _)).trans (word_toInt n)
  | ⟨1, _⟩ => rfl
  | ⟨2, _⟩ => rfl
  | ⟨3, _⟩ => rfl

variable (V : Valuation τ sig (Elt Ideal)) (n : Fin 64) (hV : ∀ i, V (Proc.devRef .tc main_v70_5) i = BitVec.ofNat 32 n.val)

include hV in
/-- The state a step leaves. -/
theorem step_state_at (β : Fin 8) (h : Fin 4) (x : Fin 128) (e : Fin 256) (s y : EReal) (k w : Fin 64 → EReal)
    (hs : V (Proc.devRef .tc main_v70_6) (ix4 β h x e) = s) (hy : V (Proc.devRef .tc main_v70_3) (ix4 n β h x) = y)
    (hk : ∀ r, V (Proc.devRef .tc main_v70_1) (ix5 n β h r x) = k r) (hw : ∀ r, V (Proc.devRef .tc main_v70_2) (ix5 n β h r e) = w r) :
    step_main_v70_6 V (ix4 β h x e) = s * y + ∑ r : Fin 64, k r * w r := by
  refine (stateNew_at _ _ _ _ β h x e).trans ?_
  refine congrArg₂ (· + ·) (congrArg₂ (· * ·) hs ?_) (Finset.sum_congr rfl fun r _ => congrArg₂ (· * ·) ?_ ?_)
  · exact (pickRow_at _ _ n (start4 _ n hV) β h x).trans hy
  · exact (pick128_at _ _ n (start5 _ n hV) β h r x).trans (hk r)
  · exact (pick256_at _ _ n (start5 _ n hV) β h r e).trans (hw r)

include hV in
/-- The outputs a step leaves. -/
theorem step_out_at (n' : Fin 64) (β : Fin 8) (h : Fin 4) (r : Fin 64) (e : Fin 256) (o : EReal) (q s : Fin 128 → EReal)
    (ho : V (Proc.devRef .tc main_v70_4) (ix5 n β h r e) = o) (hq : ∀ x, V (Proc.devRef .tc main_v70_0) (ix5 n β h r x) = q x)
    (hs : ∀ x, V (Proc.devRef .tc main_v70_6) (ix4 β h x e) = s x) :
    step_main_v70_7 V (ix5 n' β h r e) = if n' = n then o + ∑ x : Fin 128, q x * s x else V (Proc.devRef .tc main_v70_7) (ix5 n' β h r e) := by
  refine (put_at _ _ _ n (start5 _ n hV) n' β h r e).trans ?_
  refine if_congr Iff.rfl ?_ rfl
  refine (outNew_at _ _ _ β h r e).trans ?_
  refine congrArg₂ (· + ·) ?_ (Finset.sum_congr rfl fun x _ => congrArg₂ (· * ·) ?_ (hs x))
  · exact (pick256_at _ _ n (start5 _ n hV) β h r e).trans ho
  · exact (pick128_at _ _ n (start5 _ n hV) β h r x).trans (hq x)

end Cert.ReferenceIdeal.Hand
-- ==== Proof.RefValue.lean ====
/-
  The plain program's results are the scan's outputs.
-/
module

public import proofs.«01_k».proof.Proof.RefLoop

@[expose] public section

set_option maxRecDepth 65536

noncomputable section

open Idealize.ShloMosaic Idealize.ShloMosaic.TcCoe Idealize.SL.Sem

namespace Cert.ReferenceIdeal.Hand

open Cert.ReferenceIdeal Cert.ReferenceIdeal.Gen Cert.ReferenceIdeal.Value Cert.Gla

variable (m : (ℓ : Loc nD τ sig) → Buf (Elt Ideal) ℓ) (c : Dev nD)

/-- What holds of the carried buffers after `k` steps. -/
structure Inv (k : ℕ) (V : Valuation τ sig (Elt Ideal)) : Prop where
  count : ∀ i, V (Proc.devRef .tc main_v70_5) i = BitVec.ofNat 32 k
  q : V (Proc.devRef .tc main_v70_0) = entry m c (Proc.devRef .tc main_v53)
  key : V (Proc.devRef .tc main_v70_1) = entry m c (Proc.devRef .tc main_v60)
  v : V (Proc.devRef .tc main_v70_2) = entry m c (Proc.devRef .tc main_v47)
  g : V (Proc.devRef .tc main_v70_3) = entry m c (Proc.devRef .tc main_v70_3)
  o : V (Proc.devRef .tc main_v70_4) = entry m c (Proc.devRef .tc main_v70_4)
  s : ∀ d b h x e, V (Proc.devRef .tc main_v70_6) (ix4 (dir d b) h x e) = state (aP m c) (aL m c) (aU m c) (aB m c) d b h k x e
  out : ∀ (n : Fin 64) d b h r e, n.val < k →
    V (Proc.devRef .tc main_v70_7) (ix5 n (dir d b) h r e) = out (aP m c) (aL m c) (aU m c) (aB m c) d b h n r e

theorem inv_zero : Inv m c 0 (entry m c) where
  count i := by rw [entry_main_v70_5]; rfl
  q := entry_main_v70_0 m c
  key := entry_main_v70_1 m c
  v := entry_main_v70_2 m c
  g := rfl
  o := rfl
  s d b h x e := by
    rw [entry_main_v70_6]
    exact Ideal.ofBits_zero_f32
  out n d b h r e hn := absurd hn (Nat.not_lt_zero _)

theorem word_succ (n : Fin 64) : BitVec.ofNat 32 n.val + 1#32 = BitVec.ofNat 32 (n.val + 1) :=
  (by decide : ∀ n : Fin 64, BitVec.ofNat 32 n.val + 1#32 = BitVec.ofNat 32 (n.val + 1)) n

theorem inv_succ (n : Fin 64) (V : Valuation τ sig (Elt Ideal)) (I : Inv m c n.val V) : Inv m c (n.val + 1) (STEP V) where
  count i := by
    rw [STEP_main_v70_5]
    exact (congrArg (· + 1#32) (I.count i)).trans (word_succ n)
  q := (STEP_main_v70_0 V).trans I.q
  key := (STEP_main_v70_1 V).trans I.key
  v := (STEP_main_v70_2 V).trans I.v
  g := (STEP_main_v70_3 V).trans I.g
  o := (STEP_main_v70_4 V).trans I.o
  s d b h x e := by
    rw [STEP_main_v70_6, state_succ]
    exact step_state_at V n I.count (dir d b) h x e _ _ _ _ (I.s d b h x e)
      ((congrFun I.g _).trans (decay_at m c d b h n x))
      (fun r => (congrFun I.key _).trans (kEnd_at m c d b h n r x))
      (fun r => (congrFun I.v _).trans (v47_at m c d b h n r e))
  out n' d b h r e hn := by
    rw [STEP_main_v70_7]
    refine (step_out_at V n I.count n' (dir d b) h r e _ _ _
      ((congrFun I.o _).trans (oIntra_at m c d b h n r e))
      (fun x => (congrFun I.q _).trans (q_at m c d b h n r x))
      (fun x => I.s d b h x e)).trans ?_
    by_cases h' : n' = n
    · subst h'
      rw [if_pos rfl]
      rfl
    · rw [if_neg h']
      exact I.out n' d b h r e (lt_of_le_of_ne (Nat.lt_succ_iff.1 hn) fun hv => h' (Fin.ext hv))

theorem inv : ∀ k : ℕ, k ≤ 64 → Inv m c k (STEP^[k] (entry m c))
  | 0, _ => inv_zero m c
  | k + 1, hk => by
    rw [Function.iterate_succ_apply']
    exact inv_succ m c ⟨k, hk⟩ _ (inv k (by omega))

/-- A direction's result: row `T` is the output of its row of the direction's order. -/
def result (d : Fin 2) : FVec Ideal S4x4096x1024 .f32 := fun y =>
  out (aP m c) (aL m c) (aU m c) (aB m c) d (y 0) ⟨(y 2).val / 256, by have := (y 2).isLt; change _ < 1024 at this; omega⟩
    ⟨(pos d (y 1)).val / 64, by have := (pos d (y 1)).isLt; omega⟩ ⟨(pos d (y 1)).val % 64, by omega⟩ ⟨(y 2).val % 256, by omega⟩

/-- The chunked outputs as one array per merged batch. -/
theorem glue_at (Z : FVec Ideal S64x8x4x64x256 .f32) (β : Fin 8) (T : Fin 4096) (h : Fin 4) (e : Fin 256) :
    shapeCast S8x4096x4x256 (transpose S8x64x64x4x256 [1, 0, 3, 2, 4] Z transposes_S64x8x4x64x256_S8x64x64x4x256_1_0_3_2_4) shapeCasts_S8x64x64x4x256_S8x4096x4x256 (ix4 β T h e)
      = Z (ix5 ⟨T.val / 64, by omega⟩ β h ⟨T.val % 64, by omega⟩ e) := by
  pointwise []

theorem low_at (Z : FVec Ideal S8x4096x4x256 .f32) (b : Fin 4) (T : Fin 4096) (h : Fin 4) (e : Fin 256) :
    extractStridedSlice S4x4096x4x256 ![0, 0, 0, 0] Z slices_S8x4096x4x256_S4x4096x4x256_0_0_0_0 (ix4 b T h e) = Z (ix4 (dir 0 b) T h e) := by
  refine congrArg Z (funext fun a => Fin.ext ?_)
  match a with
  | ⟨0, _⟩ => show 0 + b.val = 4 * 0 + b.val; omega
  | ⟨1, _⟩ => exact Nat.zero_add _
  | ⟨2, _⟩ => exact Nat.zero_add _
  | ⟨3, _⟩ => exact Nat.zero_add _

theorem high_at (Z : FVec Ideal S8x4096x4x256 .f32) (b : Fin 4) (T : Fin 4096) (h : Fin 4) (e : Fin 256) :
    extractStridedSlice S4x4096x4x256 ![4, 0, 0, 0] Z slices_S8x4096x4x256_S4x4096x4x256_4_0_0_0 (ix4 b T h e) = Z (ix4 (dir 1 b) T h e) := by
  refine congrArg Z (funext fun a => Fin.ext ?_)
  match a with
  | ⟨0, _⟩ => show 4 + b.val = 4 * 1 + b.val; omega
  | ⟨1, _⟩ => exact Nat.zero_add _
  | ⟨2, _⟩ => exact Nat.zero_add _
  | ⟨3, _⟩ => exact Nat.zero_add _

theorem heads_at (Z : FVec Ideal S4x4096x4x256 .f32) (b : Fin 4) (T : Fin 4096) (y : Fin 1024) :
    shapeCast S4x4096x1024 Z shapeCasts_S4x4096x4x256_S4x4096x1024 (ix3 b T y) = Z (ix4 b T ⟨y.val / 256, by omega⟩ ⟨y.val % 256, by omega⟩) := by
  pointwise []

theorem out76 : out_main_v76 (STEP^[64] (entry m c)) = result m c 0 := by
  funext y
  obtain ⟨b, T, x, rfl⟩ : ∃ (b : Fin 4) (T : Fin 4096) (x : Fin 1024), y = ix3 b T x := ⟨y 0, y 1, y 2, by funext a; match a with | ⟨0, _⟩ => rfl | ⟨1, _⟩ => rfl | ⟨2, _⟩ => rfl⟩
  refine (heads_at _ b T x).trans ((low_at _ b T _ _).trans ((glue_at _ _ _ _ _).trans ?_))
  exact (inv m c 64 (le_refl _)).out _ 0 b _ _ _ (by show T.val / 64 < 64; omega)

theorem out77 : out_main_v77 (STEP^[64] (entry m c)) = result m c 1 := by
  funext y
  obtain ⟨b, T, x, rfl⟩ : ∃ (b : Fin 4) (T : Fin 4096) (x : Fin 1024), y = ix3 b T x := ⟨y 0, y 1, y 2, by funext a; match a with | ⟨0, _⟩ => rfl | ⟨1, _⟩ => rfl | ⟨2, _⟩ => rfl⟩
  refine (heads_at _ b T x).trans ((rev256_at _ b _ T _).trans ((high_at _ b _ _ _).trans ((glue_at _ _ _ _ _).trans ?_)))
  exact (inv m c 64 (le_refl _)).out _ 1 b _ _ _ (by show (Fin.rev T).val / 64 < 64; have := (Fin.rev T).isLt; omega)

end Cert.ReferenceIdeal.Hand
-- ==== Proof.Equal.lean ====
/-
  The claims about the idealization and the plain program: their frames, and that their results are equal.
-/
module

public import proofs.«01_k».proof.Defs
public import proofs.«01_k».proof.Proof.KValue
public import proofs.«01_k».proof.Proof.RefValue
public import Idealize.ShloMosaic.Lib.ReduceAll

@[expose] public section

set_option maxRecDepth 65536

noncomputable section

open Idealize.ShloMosaic Idealize.ShloMosaic.TcCoe Idealize.SL.Sem

namespace Cert.Proof

/-- The precondition's side conditions. -/
instance preFacts : Cert.Pre_finite.Facts where
  bcast_S_S4x4096x128 := by decide
  reducesTo_S4x4096x128_S_d0_1_2 := by decide
  h_S_ := by decide
  bcast_S_S2x16x512 := by decide
  reducesTo_S2x16x512_S_d0_1_2 := by decide

/-- An entry whose absolute value is below infinity is finite. -/
theorem fin_of_lt (x : EReal) (h : FloatOps.cmpf (F := Ideal) (φ := .f32) .olt (FloatOps.hostAbsf (F := Ideal) (φ := .f32) x) (Ideal.ofBits .f32 0x7F800000#32) = 1#1) :
    Cert.KernelIdeal.Hand.Fin' x := by
  have ht : Ideal.ofBits .f32 0x7F800000#32 = (⊤ : EReal) := by simp [Ideal.ofBits, Ideal.ieee]
  rw [ht] at h
  have h' : max x (-x) < ⊤ := by
    by_contra hn
    have e : FloatOps.cmpf (F := Ideal) (φ := .f32) .olt (FloatOps.hostAbsf (F := Ideal) (φ := .f32) x) (⊤ : EReal) = 0#1 := by
      show Ideal.cmp .olt (max x (-x)) (⊤ : EReal) = 0#1
      simp [Ideal.cmp, hn]
    rw [e] at h
    exact absurd h (by decide)
  refine ⟨fun hx => ?_, fun hx => ?_⟩
  · rw [hx] at h'; exact absurd h' (by simp)
  · rw [hx] at h'; exact absurd h' (by simp)

/-- The precondition says that the low-rank gate inputs and their up-projections are finite. -/
theorem finite_of_pre (m : (ℓ : Loc Cert.KernelIdeal.nD Cert.KernelIdeal.τ Cert.KernelIdeal.sig) → Buf (Elt Ideal) ℓ)
    (hp : Cert.Pre_KernelIdeal_finite m) (c : Dev Cert.KernelIdeal.nD) : Cert.KernelIdeal.Hand.Finite m c := by
  have h0 : IntOp.andi _ _ = 1#1 := congrFun (hp c) ix0
  obtain ⟨h1, h2⟩ := IntOp.andi_eq_one.1 h0
  haveI : Subsingleton Cert.Pre_finite.S_.Idx := ⟨fun a b => funext fun k => k.elim0⟩
  exact ⟨fun b T x => fin_of_lt _ (Host.reduce_andi_all _ _ _ _ _ h1 (ix3 b T x)), fun d j x => fin_of_lt _ (Host.reduce_andi_all _ _ _ _ _ h2 (ix3 d j x))⟩

/-- The idealization leaves its arguments as they were, with every counter at zero. -/
theorem frame_ideal : Cert.quiescent_KernelIdeal := fun m g _ => Cert.KernelIdeal.Hand.frame m g

/-- The plain program leaves its arguments as they were, with every counter at zero. -/
theorem frame_reference : Cert.quiescent_ReferenceIdeal := fun m g _ =>
  (θ_run _ _ _).mono (fun r h => ⟨fun c => (h c).2.2, sem_eq_zero_of_no_sems (by decide) r.2⟩) (Cert.ReferenceIdeal.Value.run m g)

/-- On equal arguments the two programs' results are the same. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (d : Fin 2) : Cert.ReferenceIdeal.Hand.result m' c d = Cert.KernelIdeal.Hand.result m c d := by
  have hP : Cert.ReferenceIdeal.Hand.aP m' c = Cert.KernelIdeal.Hand.arrP m c := funext fun b => funext fun T => funext fun x => congrFun e0 (ix3 b T x)
  have hL : Cert.ReferenceIdeal.Hand.aL m' c = Cert.KernelIdeal.Hand.arrL m c := funext fun b => funext fun T => funext fun x => congrFun e1 (ix3 b T x)
  have hU : Cert.ReferenceIdeal.Hand.aU m' c = Cert.KernelIdeal.Hand.arrU m c := funext fun b => funext fun T => funext fun x => congrFun e2 (ix3 b T x)
  have hB : Cert.ReferenceIdeal.Hand.aB m' c = Cert.KernelIdeal.Hand.arrB m c := funext fun b => funext fun x => congrFun e3 (ix2 b x)
  funext y
  unfold Cert.ReferenceIdeal.Hand.result
  rw [hP, hL, hU, hB]
  rfl

/-- The idealized kernel and the plain program have equal results. -/
theorem algebraic : Cert.algebraic_KernelIdeal_ReferenceIdeal_pre_finite := fun m g m' g' hp he =>
  ⟨fun c => Cert.KernelIdeal.Hand.result m c 0, fun c => Cert.KernelIdeal.Hand.result m c 1,
    (θ_run _ _ _).mono (fun _ h c => ⟨(h c).1.trans (Cert.KernelIdeal.Hand.arrAt10 (finite_of_pre m hp c)),
      (h c).2.1.trans (Cert.KernelIdeal.Hand.arrAt11 (finite_of_pre m hp c)), (h c).2.2⟩) (Cert.KernelIdeal.Hand.run_blocks m g),
    (θ_run _ _ _).mono (fun _ h c => ⟨(h c).1.trans ((Cert.ReferenceIdeal.Hand.out76 m' c).trans
        (result_eq m m' c (he c).1 (he c).2.1 (he c).2.2.1 (he c).2.2.2 0)),
      (h c).2.1.trans ((Cert.ReferenceIdeal.Hand.out77 m' c).trans (result_eq m m' c (he c).1 (he c).2.1 (he c).2.2.1 (he c).2.2.2 1)),
      (h c).2.2⟩) (Cert.ReferenceIdeal.Value.run m' g')⟩

end Cert.Proof

end
-- ==== Proof.FfnUp.lean ====
/-
  The feed-forward part's first product: squared ReLU of the rows times the weights, tile by tile in the kernel and as one
  product in the plain program.
-/
module

public import proofs.«01_k».proof.Proof.Gen.Kernel2.Frame
public import proofs.«01_k».proof.Proof.Gen.Kernel2Ideal.Value
public import proofs.«01_k».proof.Proof.Gen.Reference2Ideal.Run
public import proofs.«01_k».proof.Defs
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- The square of a number's positive part. -/
def sqRelu (z : EReal) : EReal := max z 0 * max z 0

/-- The batch of a row, when the 4096 rows of each batch follow one another. -/
def bat (I : Fin 16384) : Fin 4 := ⟨I.val / 4096, by omega⟩
/-- The position of a row in its batch. -/
def pos (I : Fin 16384) : Fin 4096 := ⟨I.val % 4096, by omega⟩

/-- An entry of the first product: row `I`, column `j`, the second layer's weights. -/
def up (A : Fin 4 → Fin 4096 → Fin 2048 → EReal) (W : Fin 2 → Fin 2048 → Fin 8192 → EReal) (I : Fin 16384) (j : Fin 8192) : EReal :=
  sqRelu (∑ k : Fin 2048, A (bat I) (pos I) k * W 1 k j)

end Cert.Ffn

namespace Cert.Kernel2Ideal.Hand

open Cert.Kernel2Ideal Cert.Kernel2Ideal.Gen Cert.Ffn

/-- The rows. -/
abbrev arrH (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The weights. -/
abbrev arrW (m : (ℓ : Loc nD τ sig) → Buf (Elt Ideal) ℓ) (c : Dev nD) (i : Fin 2) (k : Fin 2048) (j : Fin 8192) : EReal :=
  m ((c : Thread nD τ).loc main_arg1) (Idealize.ShloMosaic.ix3 i k j)

variable (m : (ℓ : Loc nD τ sig) → Buf (Elt Ideal) ℓ) (c : Dev nD)

/-- The rows as the kernel gets them. -/
theorem V_main_v1 : Gen.V m c main_v1 = (truncf .bf16 (shapeCast S16384x2048 (Gen.V m c main_arg0) shapeCasts_S4x4096x2048_S16384x2048 : FVec Ideal S16384x2048 .f32) bitsLt_bf16_f32 : FVec Ideal S16384x2048 .bf16) := by
  after_reads_simp
  all_goals rfl

/-- The weights as the kernel gets them. -/
theorem V_main_v2 : Gen.V m c main_v2 = (truncf .bf16 (Gen.V m c main_arg1 : FVec Ideal S2x2048x8192 .f32) bitsLt_bf16_f32 : FVec Ideal S2x2048x8192 .bf16) := by
  after_reads_simp
  all_goals rfl

theorem rows_at (X : FVec Ideal S4x4096x2048 .f32) (I : Fin 16384) (k : Fin 2048) :
    (truncf .bf16 (shapeCast S16384x2048 X shapeCasts_S4x4096x2048_S16384x2048 : FVec Ideal S16384x2048 .f32) bitsLt_bf16_f32 : FVec Ideal S16384x2048 .bf16)
      (Idealize.ShloMosaic.ix2 I k) = X (Idealize.ShloMosaic.ix3 (bat I) (pos I) k) := by
  pointwise []
  rfl

/-- A tile at an entry. -/
theorem tile_at (x0 : Vec Ideal S1024x2048 .bf16) (x1 : Vec Ideal S1x2048x1024 .bf16) (r : Fin 1024) (j : Fin 1024) :
    out0_2 x0 x1 (Idealize.ShloMosaic.ix2 r j)
      = sqRelu (∑ k : Fin 2048, x0 (Idealize.ShloMosaic.ix2 r k) * x1 (Idealize.ShloMosaic.ix3 0 k j)) := by
  unfold sqRelu out0_2
  rw [show View.ld x0 r0_0 = x0 from View.ld_unit_lit _ _ (by decide), show View.ld x1 r0_1 = x1 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val / 8, 0] ∧ win0_1.index t = ![1, 0, t.val % 8] ∧ win0_2.index t = ![t.val / 8, t.val % 8] :=
  (by decide +kernel : ∀ t : Fin grid0.N,
    win0_0.index t = ![t.val / 8, 0] ∧ win0_1.index t = ![1, 0, t.val % 8] ∧ win0_2.index t = ![t.val / 8, t.val % 8]) t

theorem t_lt (t : Fin cfg0.N) : t.val < 128 := lt_of_lt_of_eq t.isLt N_0

/-- Row `r` of point `t`'s tile in the whole array. -/
def gRow (t : Fin cfg0.N) (r : Fin 1024) : Fin 16384 := ⟨1024 * (t.val / 8) + r.val, by have := t_lt t; omega⟩
/-- Column `j` of point `t`'s tile in the whole array. -/
def gCol (t : Fin cfg0.N) (j : Fin 1024) : Fin 8192 := ⟨1024 * (t.val % 8) + j.val, by omega⟩

theorem gRow_val (t : Fin cfg0.N) (r : Fin 1024) : (gRow t r).val = 1024 * (t.val / 8) + r.val := rfl
theorem gCol_val (t : Fin cfg0.N) (j : Fin 1024) : (gCol t j).val = 1024 * (t.val % 8) + j.val := rfl

set_option maxHeartbeats 2000000 in
theorem h_blk (t : Fin cfg0.N) (r : Fin 1024) (k : Fin 2048) :
    iblk m c 0 t (Idealize.ShloMosaic.ix2 r k) = Gen.V m c main_v1 (Idealize.ShloMosaic.ix2 (gRow t r) k) := by
  have e := idx t
  blk_ext [iblk, e, gRow_val]

set_option maxHeartbeats 2000000 in
theorem w_blk (t : Fin cfg0.N) (k : Fin 2048) (j : Fin 1024) :
    iblk m c 1 t (Idealize.ShloMosaic.ix3 0 k j) = Gen.V m c main_v2 (Idealize.ShloMosaic.ix3 1 k (gCol t j)) := by
  have e := idx t
  blk_ext [iblk, e, gCol_val]

/-- The whole product. -/
def result (m : (ℓ : Loc nD τ sig) → Buf (Elt Ideal) ℓ) (c : Dev nD) : FVec Ideal S16384x8192 .bf16 := fun y =>
  up (arrH m c) (arrW m c) (y 0) (y 1)

/-- Point `t`'s tile at an entry. -/
theorem tile_eq (t : Fin cfg0.N) (r j : Fin 1024) :
    out0_2 (iblk m c 0 t) (iblk m c 1 t) (Idealize.ShloMosaic.ix2 r j) = up (arrH m c) (arrW m c) (gRow t r) (gCol t j) := by
  rw [tile_at]
  unfold up
  congr 1
  refine Finset.sum_congr rfl fun k _ => ?_
  rw [h_blk, w_blk, V_main_v1, V_main_v2, V_main_arg0, V_main_arg1]
  exact congrArg₂ (fun a b : EReal => a * b) (rows_at _ _ _) rfl

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel2Ideal.Hand

namespace Cert.Reference2Ideal.Hand

open Cert.Reference2Ideal Cert.Reference2Ideal.Gen Cert.Ffn

theorem wts_at (W : FVec Ideal S2x2048x8192 .f32) (k : Fin 2048) (j : Fin 8192) :
    shapeCast S2048x8192 (extractStridedSlice S1x2048x8192 ![1, 0, 0] W slices_S2x2048x8192_S1x2048x8192_1_0_0) shapeCasts_S1x2048x8192_S2048x8192
      (ix2 k j) = W (ix3 1 k j) := by
  pointwise []

theorem dot_at (X : FVec Ideal S4x4096x2048 .f32) (W : FVec Ideal S2048x8192 .f32) (b : Fin 4) (T : Fin 4096) (j : Fin 8192) :
    Host.dotGeneral dot_S4x4096x2048_S2048x8192_S4x4096x8192_2_0_01_1_n_n none X W (ix3 b T j) = ∑ k : Fin 2048, X (ix3 b T k) * W (ix2 k j) := by
  pointwise []

theorem relu_at (Z : FVec Ideal S4x4096x8192 .f32) (I : Fin 16384) (j : Fin 8192) :
    (truncf .bf16 (shapeCast S16384x8192 (mulf (maximumf Z (broadcastInDim S4x4096x8192 ![] bcast_S_S4x4096x8192 (constant (F := Ideal) S_ .f32 0x00000000#32)))
      (maximumf Z (broadcastInDim S4x4096x8192 ![] bcast_S_S4x4096x8192 (constant (F := Ideal) S_ .f32 0x00000000#32)))) shapeCasts_S4x4096x8192_S16384x8192 : FVec Ideal S16384x8192 .f32) bitsLt_bf16_f32 : FVec Ideal S16384x8192 .bf16)
      (ix2 I j) = sqRelu (Z (ix3 (bat I) (pos I) j)) := by
  unfold sqRelu
  pointwise []
  rfl

/-- The whole product is the plain program's result, on equal arguments. -/
theorem out_eq (X : FVec Ideal S4x4096x2048 .f32) (W : FVec Ideal S2x2048x8192 .f32) :
    (truncf .bf16 (shapeCast S16384x8192 (mulf (maximumf (Host.dotGeneral dot_S4x4096x2048_S2048x8192_S4x4096x8192_2_0_01_1_n_n none X (shapeCast _ (extractStridedSlice S1x2048x8192 ![1, 0, 0] W slices_S2x2048x8192_S1x2048x8192_1_0_0) shapeCasts_S1x2048x8192_S2048x8192)) (broadcastInDim S4x4096x8192 ![] bcast_S_S4x4096x8192 (constant (F := Ideal) S_ .f32 0x00000000#32)))
      (maximumf (Host.dotGeneral dot_S4x4096x2048_S2048x8192_S4x4096x8192_2_0_01_1_n_n none X (shapeCast _ (extractStridedSlice S1x2048x8192 ![1, 0, 0] W slices_S2x2048x8192_S1x2048x8192_1_0_0) shapeCasts_S1x2048x8192_S2048x8192)) (broadcastInDim S4x4096x8192 ![] bcast_S_S4x4096x8192 (constant (F := Ideal) S_ .f32 0x00000000#32)))) shapeCasts_S4x4096x8192_S16384x8192 : FVec Ideal S16384x8192 .f32) bitsLt_bf16_f32 : FVec Ideal S16384x8192 .bf16)
      = fun y => up (fun b T x => X (ix3 b T x)) (fun i k j => W (ix3 i k j)) (y 0) (y 1) := by
  funext y
  rw [show y = ix2 (y 0) (y 1) from eq_ix2 y]
  refine (relu_at _ _ _).trans ?_
  unfold up
  congr 1
  refine (dot_at _ _ _ _ _).trans (Finset.sum_congr rfl fun k _ => ?_)
  exact congrArg (fun z : EReal => X (ix3 (bat (y 0)) (pos (y 0)) k) * z) (wts_at _ _ _)

end Cert.Reference2Ideal.Hand

namespace Cert.Ffn

/-- The first product's kernel leaves its arguments as they were, with every counter at zero. -/
theorem frame_kernel2 : Cert.quiescent_Kernel2 := fun m g _ => Cert.Kernel2.Gen.frame m g

/-- So does its idealization. -/
theorem frame_ideal2 : Cert.quiescent_Kernel2Ideal := fun m g _ => Cert.Kernel2Ideal.Gen.frame m g

/-- So does the plain program. -/
theorem frame_reference2 : Cert.quiescent_Reference2Ideal := fun m g _ =>
  (θ_run _ _ _).mono (fun r h => ⟨fun c => (h c).2, sem_eq_zero_of_no_sems (by decide) r.2⟩) (Cert.Reference2Ideal.Value.run m g)

/-- The idealized kernel and the plain program have equal results. -/
theorem algebraic2 : Cert.algebraic_Kernel2Ideal_Reference2Ideal := fun m g m' g' _ he =>
  ⟨fun c => Cert.Kernel2Ideal.Hand.result m c,
    (θ_run _ _ _).mono (fun _ h c => ⟨(h c).1.trans (Cert.Kernel2Ideal.Hand.arrAt2 m c), (h c).2⟩) (Cert.Kernel2Ideal.Value.run_blocks m g),
    (θ_run _ _ _).mono (fun _ h c => ⟨(h c).1.trans ((Cert.Reference2Ideal.Hand.out_eq _ _).trans (by rw [(he c).1, (he c).2]; rfl)),
      (h c).2⟩) (Cert.Reference2Ideal.Value.run m' g')⟩

end Cert.Ffn
-- ==== Proof.FfnDown.lean ====
/-
  The feed-forward part's second product with the gate and the residual, tile by tile in the kernel and as one product in the
  plain program.
-/
module

public import proofs.«01_k».proof.Proof.Gen.Kernel3.Frame
public import proofs.«01_k».proof.Proof.Gen.Kernel3Ideal.Value
public import proofs.«01_k».proof.Proof.Gen.Reference3Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- An entry of the second product with its gate and residual: row `I`, column `j`, the second layer's weights. -/
def down (X : Fin 4 → Fin 4096 → Fin 2048 → EReal) (G : Fin 4 → Fin 2048 → EReal) (H : Fin 16384 → Fin 8192 → EReal)
    (W : Fin 2 → Fin 8192 → Fin 2048 → EReal) (I : Fin 16384) (j : Fin 2048) : EReal :=
  X (bat I) (pos I) j + G (bat I) j * ∑ k : Fin 8192, H I k * W 1 k j

end Cert.Ffn

namespace Cert.Kernel3Ideal.Hand

open Cert.Kernel3Ideal Cert.Kernel3Ideal.Gen Cert.Ffn

/-- The residual stream. -/
abbrev arrX (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The gate of each batch. -/
abbrev arrG (m : (ℓ : Loc nD τ sig) → Buf (Elt Ideal) ℓ) (c : Dev nD) (b : Fin 4) (x : Fin 2048) : EReal :=
  m ((c : Thread nD τ).loc main_arg1) (Idealize.ShloMosaic.ix3 b 0 x)
/-- The hidden rows. -/
abbrev arrH (m : (ℓ : Loc nD τ sig) → Buf (Elt Ideal) ℓ) (c : Dev nD) (I : Fin 16384) (k : Fin 8192) : EReal :=
  m ((c : Thread nD τ).loc main_arg2) (Idealize.ShloMosaic.ix2 I k)
/-- The weights. -/
abbrev arrW (m : (ℓ : Loc nD τ sig) → Buf (Elt Ideal) ℓ) (c : Dev nD) (i : Fin 2) (k : Fin 8192) (j : Fin 2048) : EReal :=
  m ((c : Thread nD τ).loc main_arg3) (Idealize.ShloMosaic.ix3 i k j)

variable (m : (ℓ : Loc nD τ sig) → Buf (Elt Ideal) ℓ) (c : Dev nD)

/-- The weights as the kernel gets them. -/
theorem V_main_v0 : Gen.V m c main_v0 = (truncf .bf16 (Gen.V m c main_arg3 : FVec Ideal S2x8192x2048 .f32) bitsLt_bf16_f32 : FVec Ideal S2x8192x2048 .bf16) := by
  after_reads_simp
  all_goals rfl

/-- The residual stream as the kernel gets it. -/
theorem V_main_v1 : Gen.V m c main_v1 = (shapeCast S16384x2048 (Gen.V m c main_arg0) shapeCasts_S4x4096x2048_S16384x2048 : FVec Ideal S16384x2048 .f32) := by
  after_reads_simp
  all_goals rfl

theorem rows_at (X : FVec Ideal S4x4096x2048 .f32) (I : Fin 16384) (k : Fin 2048) :
    (shapeCast S16384x2048 X shapeCasts_S4x4096x2048_S16384x2048 : FVec Ideal S16384x2048 .f32) (Idealize.ShloMosaic.ix2 I k)
      = X (Idealize.ShloMosaic.ix3 (bat I) (pos I) k) := by
  pointwise []
  rfl

/-- A tile at an entry. -/
theorem tile_at (x0 : Vec Ideal S512x8192 .bf16) (x1 : Vec Ideal S1x8192x512 .bf16) (x2 : Vec Ideal S512x512 .f32) (x3 : Vec Ideal S1x1x512 .f32)
    (r j : Fin 512) :
    out0_4 x0 x1 x2 x3 (Idealize.ShloMosaic.ix2 r j)
      = x2 (Idealize.ShloMosaic.ix2 r j) + x3 (Idealize.ShloMosaic.ix3 0 0 j)
          * ∑ k : Fin 8192, x0 (Idealize.ShloMosaic.ix2 r k) * x1 (Idealize.ShloMosaic.ix3 0 k j) := by
  unfold out0_4
  rw [show View.ld x0 r0_0 = x0 from View.ld_unit_lit _ _ (by decide), show View.ld x1 r0_1 = x1 from View.ld_unit_lit _ _ (by decide),
    show View.ld x2 r0_2 = x2 from View.ld_unit_lit _ _ (by decide), show View.ld x3 r0_3 = x3 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val % 32, 0] ∧ win0_1.index t = ![1, 0, t.val / 32] ∧ win0_2.index t = ![t.val % 32, t.val / 32]
    ∧ win0_3.index t = ![t.val % 32 / 8, 0, t.val / 32] ∧ win0_4.index t = ![t.val % 32, t.val / 32] :=
  (by decide +kernel : ∀ t : Fin grid0.N,
    win0_0.index t = ![t.val % 32, 0] ∧ win0_1.index t = ![1, 0, t.val / 32] ∧ win0_2.index t = ![t.val % 32, t.val / 32]
    ∧ win0_3.index t = ![t.val % 32 / 8, 0, t.val / 32] ∧ win0_4.index t = ![t.val % 32, t.val / 32]) t

theorem t_lt (t : Fin cfg0.N) : t.val < 128 := lt_of_lt_of_eq t.isLt N_0

/-- Row `r` of point `t`'s tile in the whole array. -/
def gRow (t : Fin cfg0.N) (r : Fin 512) : Fin 16384 := ⟨512 * (t.val % 32) + r.val, by omega⟩
/-- Column `j` of point `t`'s tile in the whole array. -/
def gCol (t : Fin cfg0.N) (j : Fin 512) : Fin 2048 := ⟨512 * (t.val / 32) + j.val, by have := t_lt t; omega⟩

theorem gRow_val (t : Fin cfg0.N) (r : Fin 512) : (gRow t r).val = 512 * (t.val % 32) + r.val := rfl
theorem gCol_val (t : Fin cfg0.N) (j : Fin 512) : (gCol t j).val = 512 * (t.val / 32) + j.val := rfl
theorem bat_val (t : Fin cfg0.N) (r : Fin 512) : (bat (gRow t r)).val = t.val % 32 / 8 := by
  show (512 * (t.val % 32) + r.val) / 4096 = _; omega

set_option maxHeartbeats 2000000 in
theorem h_blk (t : Fin cfg0.N) (r : Fin 512) (k : Fin 8192) :
    iblk m c 0 t (Idealize.ShloMosaic.ix2 r k) = Gen.V m c main_arg2 (Idealize.ShloMosaic.ix2 (gRow t r) k) := by
  have e := idx t
  blk_ext [iblk, e, gRow_val]

set_option maxHeartbeats 2000000 in
theorem w_blk (t : Fin cfg0.N) (k : Fin 8192) (j : Fin 512) :
    iblk m c 1 t (Idealize.ShloMosaic.ix3 0 k j) = Gen.V m c main_v0 (Idealize.ShloMosaic.ix3 1 k (gCol t j)) := by
  have e := idx t
  blk_ext [iblk, e, gCol_val]

set_option maxHeartbeats 2000000 in
theorem x_blk (t : Fin cfg0.N) (r j : Fin 512) :
    iblk m c 2 t (Idealize.ShloMosaic.ix2 r j) = Gen.V m c main_v1 (Idealize.ShloMosaic.ix2 (gRow t r) (gCol t j)) := by
  have e := idx t
  blk_ext [iblk, e, gRow_val, gCol_val]

set_option maxHeartbeats 2000000 in
theorem g_blk (t : Fin cfg0.N) (r j : Fin 512) :
    iblk m c 3 t (Idealize.ShloMosaic.ix3 0 0 j) = Gen.V m c main_arg1 (Idealize.ShloMosaic.ix3 (bat (gRow t r)) 0 (gCol t j)) := by
  have e := idx t
  blk_ext [iblk, e, bat_val, gCol_val]

/-- The whole result. -/
def result (m : (ℓ : Loc nD τ sig) → Buf (Elt Ideal) ℓ) (c : Dev nD) : FVec Ideal S16384x2048 .f32 := fun y =>
  down (arrX m c) (arrG m c) (arrH m c) (arrW m c) (y 0) (y 1)

/-- Point `t`'s tile at an entry. -/
theorem tile_eq (t : Fin cfg0.N) (r j : Fin 512) :
    out0_4 (iblk m c 0 t) (iblk m c 1 t) (iblk m c 2 t) (iblk m c 3 t) (Idealize.ShloMosaic.ix2 r j)
      = down (arrX m c) (arrG m c) (arrH m c) (arrW m c) (gRow t r) (gCol t j) := by
  rw [tile_at, x_blk, g_blk m c t r j, V_main_v1, V_main_arg0, V_main_arg1]
  unfold down
  refine congrArg₂ (fun a b : EReal => a + b) (rows_at _ _ _) (congrArg (fun b : EReal => _ * b) ?_)
  refine Finset.sum_congr rfl fun k _ => ?_
  rw [h_blk, w_blk, V_main_v0, V_main_arg2, V_main_arg3]
  rfl

set_option maxHeartbeats 2000000 in
/-- The array after the run. -/
theorem arrAt4 : (dats m 0 c).arrAt 4 cfg0.N = result m c := by
  refine (dats m 0 c).arrAt_eq_of_covers 4 _ (by decide +kernel) fun t hf y => ?_
  have e := idx t
  blk_simp
  rw [after0_4]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel3Ideal.Hand

namespace Cert.Reference3Ideal.Hand

open Cert.Reference3Ideal Cert.Reference3Ideal.Gen Cert.Ffn

theorem wts_at (W : FVec Ideal S2x8192x2048 .f32) (k : Fin 8192) (j : Fin 2048) :
    shapeCast S8192x2048 (extractStridedSlice S1x8192x2048 ![1, 0, 0] W slices_S2x8192x2048_S1x8192x2048_1_0_0) shapeCasts_S1x8192x2048_S8192x2048
      (ix2 k j) = W (ix3 1 k j) := by
  pointwise []

theorem dot_at (X : FVec Ideal S4x4096x8192 .f32) (W : FVec Ideal S8192x2048 .f32) (b : Fin 4) (T : Fin 4096) (j : Fin 2048) :
    Host.dotGeneral dot_S4x4096x8192_S8192x2048_S4x4096x2048_2_0_01_1_n_n none X W (ix3 b T j) = ∑ k : Fin 8192, X (ix3 b T k) * W (ix2 k j) := by
  pointwise []

theorem hid_row (H : FVec Ideal S16384x8192 .bf16) (b : Fin 4) (T : Fin 4096) (k : Fin 8192) :
    shapeCast S4x4096x8192 (extf (F := Ideal) .f32 H bitsLt_bf16_f32) shapeCasts_S16384x8192_S4x4096x8192 (ix3 b T k)
      = H (ix2 (⟨b.val * 4096 + T.val, by omega⟩ : Fin 16384) k) := by
  pointwise []

theorem hid_at (H : FVec Ideal S16384x8192 .bf16) (I : Fin 16384) (k : Fin 8192) :
    shapeCast S4x4096x8192 (extf (F := Ideal) .f32 H bitsLt_bf16_f32) shapeCasts_S16384x8192_S4x4096x8192 (ix3 (bat I) (pos I) k) = H (ix2 I k) :=
  (hid_row H _ _ k).trans (congrArg (fun I' : Fin 16384 => H (ix2 I' k))
    (Fin.ext (by show I.val / 4096 * 4096 + I.val % 4096 = I.val; omega)))

theorem gated_at (X Z : FVec Ideal S4x4096x2048 .f32) (G : FVec Ideal S4x1x2048 .f32) (I : Fin 16384) (j : Fin 2048) :
    shapeCast S16384x2048 (addf X (mulf (broadcastInDim S4x4096x2048 ![0, 1, 2] bcast_S4x1x2048_S4x4096x2048_0_1_2 G) Z)) shapeCasts_S4x4096x2048_S16384x2048 (ix2 I j)
      = X (ix3 (bat I) (pos I) j) + G (ix3 (bat I) 0 j) * Z (ix3 (bat I) (pos I) j) := by
  pointwise []
  rfl

/-- The plain program's result at every entry. -/
theorem out_eq (X : FVec Ideal S4x4096x2048 .f32) (G : FVec Ideal S4x1x2048 .f32) (H : FVec Ideal S16384x8192 .bf16) (W : FVec Ideal S2x8192x2048 .f32) :
    shapeCast S16384x2048 (addf X (mulf (broadcastInDim S4x4096x2048 ![0, 1, 2] bcast_S4x1x2048_S4x4096x2048_0_1_2 G) (Host.dotGeneral dot_S4x4096x8192_S8192x2048_S4x4096x2048_2_0_01_1_n_n none
      (shapeCast _ (extf .f32 H bitsLt_bf16_f32) shapeCasts_S16384x8192_S4x4096x8192)
      (shapeCast _ (extractStridedSlice S1x8192x2048 ![1, 0, 0] W slices_S2x8192x2048_S1x8192x2048_1_0_0) shapeCasts_S1x8192x2048_S8192x2048)))) shapeCasts_S4x4096x2048_S16384x2048
      = fun y => down (fun b T x => X (ix3 b T x)) (fun b x => G (ix3 b 0 x)) (fun I k => H (ix2 I k)) (fun i k j => W (ix3 i k j)) (y 0) (y 1) := by
  funext y
  rw [show y = ix2 (y 0) (y 1) from eq_ix2 y]
  refine (gated_at _ _ _ _ _).trans ?_
  unfold down
  refine congrArg (fun z : EReal => X (ix3 (bat (y 0)) (pos (y 0)) (y 1)) + G (ix3 (bat (y 0)) 0 (y 1)) * z) ?_
  refine (dot_at _ _ _ _ _).trans (Finset.sum_congr rfl fun k _ => ?_)
  exact congrArg₂ (fun a b : EReal => a * b) (hid_at _ _ _) (wts_at _ _ _)

end Cert.Reference3Ideal.Hand

namespace Cert.Ffn

/-- The second product's kernel leaves its arguments as they were, with every counter at zero. -/
theorem frame_kernel3 : Cert.quiescent_Kernel3 := fun m g _ => Cert.Kernel3.Gen.frame m g

/-- So does its idealization. -/
theorem frame_ideal3 : Cert.quiescent_Kernel3Ideal := fun m g _ => Cert.Kernel3Ideal.Gen.frame m g

/-- So does the plain program. -/
theorem frame_reference3 : Cert.quiescent_Reference3Ideal := fun m g _ =>
  (θ_run _ _ _).mono (fun r h => ⟨fun c => (h c).2, sem_eq_zero_of_no_sems (by decide) r.2⟩) (Cert.Reference3Ideal.Value.run m g)

/-- The idealized kernel and the plain program have equal results. -/
theorem algebraic3 : Cert.algebraic_Kernel3Ideal_Reference3Ideal := fun m g m' g' _ he =>
  ⟨fun c => Cert.Kernel3Ideal.Hand.result m c,
    (θ_run _ _ _).mono (fun _ h c => ⟨(h c).1.trans (Cert.Kernel3Ideal.Hand.arrAt4 m c), (h c).2⟩) (Cert.Kernel3Ideal.Value.run_blocks m g),
    (θ_run _ _ _).mono (fun _ h c => ⟨(h c).1.trans ((Cert.Reference3Ideal.Hand.out_eq _ _ _ _).trans
      (by rw [(he c).1, (he c).2.1, (he c).2.2.1, (he c).2.2.2]; rfl)), (h c).2⟩) (Cert.Reference3Ideal.Value.run m' g')⟩

end Cert.Ffn
-- ==== Proof.LastNorm.lean ====
/-
  The last norm: row by row in tiles in the kernel and on the whole array in the plain program.
-/
module

public import proofs.«01_k».proof.Proof.Gen.Kernel4.Frame
public import proofs.«01_k».proof.Proof.Gen.Kernel4Ideal.Value
public import proofs.«01_k».proof.Proof.Gen.Reference4Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- A row divided by the root of its mean square (with a small number added), times the norm's weight. -/
def rmsAt (R : Fin 2048 → EReal) (g : EReal) (j : Fin 2048) : EReal :=
  R j * Ideal.rsqrt (Ideal.div (∑ k : Fin 2048, R k * R k) (Ideal.ofBits .f32 0x45000000#32) + Ideal.ofBits .f32 0x358637BD#32) * g

end Cert.Ffn

namespace Cert.Kernel4Ideal.Hand

open Cert.Kernel4Ideal Cert.Kernel4Ideal.Gen Cert.Ffn

variable (m : (ℓ : Loc nD τ sig) → Buf (Elt Ideal) ℓ) (c : Dev nD)

/-- The rows. -/
abbrev arrX (b : Fin 4) (T : Fin 4096) (x : Fin 2048) : EReal := m ((c : Thread nD τ).loc main_arg0) (Idealize.ShloMosaic.ix3 b T x)
/-- The norm's weights. -/
abbrev arrG (x : Fin 2048) : EReal := m ((c : Thread nD τ).loc main_arg1) (Idealize.ShloMosaic.ix1 x)

theorem V_main_v0 : Gen.V m c main_v0 = (shapeCast S1x2048 (Gen.V m c main_arg1) shapeCasts_S2048_S1x2048 : FVec Ideal S1x2048 .f32) := by
  after_reads_simp
  all_goals rfl

theorem g_at (g : FVec Ideal S2048 .f32) (j : Fin 2048) :
    (shapeCast S1x2048 g shapeCasts_S2048_S1x2048 : FVec Ideal S1x2048 .f32) (Idealize.ShloMosaic.ix2 0 j) = g (Idealize.ShloMosaic.ix1 j) := by
  pointwise []

/-- A tile at an entry. -/
theorem tile_at (x0 : Vec Ideal S1x512x2048 .f32) (x1 : Vec Ideal S1x2048 .f32) (r : Fin 512) (j : Fin 2048) :
    out0_2 x0 x1 (Idealize.ShloMosaic.ix3 0 r j)
      = rmsAt (fun k => x0 (Idealize.ShloMosaic.ix3 0 r k)) (x1 (Idealize.ShloMosaic.ix2 0 j)) j := by
  unfold out0_2
  rw [show View.ld x0 r0_0 = x0 from View.ld_unit_lit _ _ (by decide), show View.ld x1 r0_1 = x1 from View.ld_unit_lit _ _ (by decide)]
  refine (congrFun (View.canon_cons_unit_lit _ _ [] (by decide)) _).trans ?_
  unfold rmsAt
  pointwise [k0_pay1]

/-- Every window's block index at a grid point. -/
theorem idx (t : Fin grid0.N) :
    win0_0.index t = ![t.val / 8, t.val % 8, 0] ∧ win0_1.index t = ![0, 0] ∧ win0_2.index t = ![t.val / 8, t.val % 8, 0] :=
  (by decide +kernel : ∀ t : Fin grid0.N,
    win0_0.index t = ![t.val / 8, t.val % 8, 0] ∧ win0_1.index t = ![0, 0] ∧ win0_2.index t = ![t.val / 8, t.val % 8, 0]) t

theorem t_lt (t : Fin cfg0.N) : t.val < 32 := lt_of_lt_of_eq t.isLt N_0

/-- Point `t`'s batch. -/
def gBat (t : Fin cfg0.N) : Fin 4 := ⟨t.val / 8, by have := t_lt t; omega⟩
/-- Row `r` of point `t`'s tile in its batch. -/
def gRow (t : Fin cfg0.N) (r : Fin 512) : Fin 4096 := ⟨512 * (t.val % 8) + r.val, by omega⟩

theorem gBat_val (t : Fin cfg0.N) : (gBat t).val = t.val / 8 := rfl
theorem gRow_val (t : Fin cfg0.N) (r : Fin 512) : (gRow t r).val = 512 * (t.val % 8) + r.val := rfl

set_option maxHeartbeats 2000000 in
theorem x_blk (t : Fin cfg0.N) (r : Fin 512) (k : Fin 2048) :
    iblk m c 0 t (Idealize.ShloMosaic.ix3 0 r k) = Gen.V m c main_arg0 (Idealize.ShloMosaic.ix3 (gBat t) (gRow t r) k) := by
  have e := idx t
  blk_ext [iblk, e, gBat_val, gRow_val]

set_option maxHeartbeats 2000000 in
theorem g_blk (t : Fin cfg0.N) (j : Fin 2048) :
    iblk m c 1 t (Idealize.ShloMosaic.ix2 0 j) = Gen.V m c main_v0 (Idealize.ShloMosaic.ix2 0 j) := by
  have e := idx t
  blk_ext [iblk, e]

/-- The whole result. -/
def result : FVec Ideal S4x4096x2048 .f32 := fun y => rmsAt (arrX m c (y 0) (y 1)) (arrG m c (y 2)) (y 2)

/-- Point `t`'s tile at an entry. -/
theorem tile_eq (t : Fin cfg0.N) (r : Fin 512) (j : Fin 2048) :
    out0_2 (iblk m c 0 t) (iblk m c 1 t) (Idealize.ShloMosaic.ix3 0 r j)
      = rmsAt (arrX m c (gBat t) (gRow t r)) (arrG m c j) j := by
  rw [tile_at, g_blk, V_main_v0, V_main_arg1]
  refine congrArg₂ (fun R g => rmsAt R g j) (funext fun k => ?_) (g_at _ _)
  rw [x_blk, V_main_arg0]

theorem ix3_cut (y : S1x512x2048.Idx) : y = Idealize.ShloMosaic.ix3 0 (y 1) (y 2) := by
  funext a
  match a with
  | ⟨0, _⟩ => exact Subsingleton.elim (α := Fin 1) _ _
  | ⟨1, _⟩ => rfl
  | ⟨2, _⟩ => rfl

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix3 0 (y 1) (y 2) from ix3_cut y]
  refine (tile_eq m c t (y 1) (y 2)).trans ?_
  show result m c (Idealize.ShloMosaic.ix3 (gBat t) (gRow t (y 1)) (y 2)) = _
  blk_ext [e, gBat_val]
  exact (gRow_val t (y 1)).trans (by omega)

end Cert.Kernel4Ideal.Hand

namespace Cert.Reference4Ideal.Hand

open Cert.Reference4Ideal Cert.Reference4Ideal.Gen Cert.Ffn

/-- The plain program's result at an entry. -/
theorem out_at (X : FVec Ideal S4x4096x2048 .f32) (g : FVec Ideal S2048 .f32) (b : Fin 4) (T : Fin 4096) (j : Fin 2048) :
    mulf (mulf X (broadcastInDim S4x4096x2048 ![0, 1, 2] bcast_S4x4096x1_S4x4096x2048_0_1_2 (Host.rsqrt (addf (Host.divf (broadcastInDim S4x4096x1 ![0, 1] bcast_S4x4096_S4x4096x1_0_1
      (Host.reduceAdd (mulf X X) (constant S_ .f32 0x00000000#32) reducesTo_S4x4096x2048_S4x4096_d2 h_S_)) (broadcastInDim S4x4096x1 ![] bcast_S_S4x4096x1 (constant S_ .f32 0x45000000#32)))
      (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 g)) (ix3 b T j)
      = rmsAt (fun k => X (ix3 b T k)) (g (ix1 j)) j := by
  unfold rmsAt
  pointwise []

/-- The plain program's result. -/
theorem out_eq (X : FVec Ideal S4x4096x2048 .f32) (g : FVec Ideal S2048 .f32) :
    mulf (mulf X (broadcastInDim S4x4096x2048 ![0, 1, 2] bcast_S4x4096x1_S4x4096x2048_0_1_2 (Host.rsqrt (addf (Host.divf (broadcastInDim S4x4096x1 ![0, 1] bcast_S4x4096_S4x4096x1_0_1
      (Host.reduceAdd (mulf X X) (constant S_ .f32 0x00000000#32) reducesTo_S4x4096x2048_S4x4096_d2 h_S_)) (broadcastInDim S4x4096x1 ![] bcast_S_S4x4096x1 (constant S_ .f32 0x45000000#32)))
      (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 g))
      = fun y => rmsAt (fun k => X (ix3 (y 0) (y 1) k)) (g (ix1 (y 2))) (y 2) := by
  funext y
  rw [show y = ix3 (y 0) (y 1) (y 2) from eq_ix3 y]
  exact out_at _ _ _ _ _

end Cert.Reference4Ideal.Hand

namespace Cert.Ffn

/-- The last norm's kernel leaves its arguments as they were, with every counter at zero. -/
theorem frame_kernel4 : Cert.quiescent_Kernel4 := fun m g _ => Cert.Kernel4.Gen.frame m g

/-- So does its idealization. -/
theorem frame_ideal4 : Cert.quiescent_Kernel4Ideal := fun m g _ => Cert.Kernel4Ideal.Gen.frame m g

/-- So does the plain program. -/
theorem frame_reference4 : Cert.quiescent_Reference4Ideal := fun m g _ =>
  (θ_run _ _ _).mono (fun r h => ⟨fun c => (h c).2, sem_eq_zero_of_no_sems (by decide) r.2⟩) (Cert.Reference4Ideal.Value.run m g)

/-- The idealized kernel and the plain program have equal results. -/
theorem algebraic4 : Cert.algebraic_Kernel4Ideal_Reference4Ideal := fun m g m' g' _ he =>
  ⟨fun c => Cert.Kernel4Ideal.Hand.result m c,
    (θ_run _ _ _).mono (fun _ h c => ⟨(h c).1.trans (Cert.Kernel4Ideal.Hand.arrAt2 m c), (h c).2⟩) (Cert.Kernel4Ideal.Value.run_blocks m g),
    (θ_run _ _ _).mono (fun _ h c => ⟨(h c).1.trans ((Cert.Reference4Ideal.Hand.out_eq _ _).trans
      (by rw [(he c).1, (he c).2]; rfl)), (h c).2⟩) (Cert.Reference4Ideal.Value.run m' g')⟩

end Cert.Ffn
-- ==== Proof.ModNorm.lean ====
/-
  The norm with a scale and a shift per batch: row by row in tiles in the kernel and on the whole array in the plain program.
-/
module

public import proofs.«01_k».proof.Proof.Gen.Kernel5.Frame
public import proofs.«01_k».proof.Proof.Gen.Kernel5Ideal.Value
public import proofs.«01_k».proof.Proof.Gen.Reference5Ideal.Run
public import proofs.«01_k».proof.Proof.LastNorm
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- The norm at an entry, times one more than the scale, plus the shift. -/
def modAt (R : Fin 2048 → EReal) (g s h : EReal) (j : Fin 2048) : EReal := rmsAt R g j * (Ideal.ofBits .f32 0x3F800000#32 + s) + h

end Cert.Ffn

namespace Cert.Kernel5Ideal.Hand

open Cert.Kernel5Ideal Cert.Kernel5Ideal.Gen Cert.Ffn

variable (m : (ℓ : Loc nD τ sig) → Buf (Elt Ideal) ℓ) (c : Dev nD)

/-- The rows. -/
abbrev arrX (b : Fin 4) (T : Fin 4096) (x : Fin 2048) : EReal := m ((c : Thread nD τ).loc main_arg0) (Idealize.ShloMosaic.ix3 b T x)
/-- The norm's weights. -/
abbrev arrG (x : Fin 2048) : EReal := m ((c : Thread nD τ).loc main_arg1) (Idealize.ShloMosaic.ix1 x)
/-- The scales. -/
abbrev arrS (b : Fin 4) (x : Fin 2048) : EReal := m ((c : Thread nD τ).loc main_arg2) (Idealize.ShloMosaic.ix3 b 0 x)
/-- The shifts. -/
abbrev arrH (b : Fin 4) (x : Fin 2048) : EReal := m ((c : Thread nD τ).loc main_arg3) (Idealize.ShloMosaic.ix3 b 0 x)

theorem V_main_v0 : Gen.V m c main_v0 = (shapeCast S1x2048 (Gen.V m c main_arg1) shapeCasts_S2048_S1x2048 : FVec Ideal S1x2048 .f32) := by
  after_reads_simp
  all_goals rfl

theorem g_at (g : FVec Ideal S2048 .f32) (j : Fin 2048) :
    (shapeCast S1x2048 g shapeCasts_S2048_S1x2048 : FVec Ideal S1x2048 .f32) (Idealize.ShloMosaic.ix2 0 j) = g (Idealize.ShloMosaic.ix1 j) := by
  pointwise []

/-- A tile at an entry. -/
theorem tile_at (x0 : Vec Ideal S1x512x2048 .f32) (x1 : Vec Ideal S1x2048 .f32) (x2 x3 : Vec Ideal S1x1x2048 .f32) (r : Fin 512) (j : Fin 2048) :
    out0_4 x0 x1 x2 x3 (Idealize.ShloMosaic.ix3 0 r j)
      = modAt (fun k => x0 (Idealize.ShloMosaic.ix3 0 r k)) (x1 (Idealize.ShloMosaic.ix2 0 j)) (x2 (Idealize.ShloMosaic.ix3 0 0 j))
          (x3 (Idealize.ShloMosaic.ix3 0 0 j)) j := by
  unfold out0_4
  rw [show View.ld x0 r0_0 = x0 from View.ld_unit_lit _ _ (by decide), show View.ld x1 r0_1 = x1 from View.ld_unit_lit _ _ (by decide),
    show View.ld x2 r0_2 = x2 from View.ld_unit_lit _ _ (by decide), show View.ld x3 r0_2 = x3 from View.ld_unit_lit _ _ (by decide)]
  refine (congrFun (View.canon_cons_unit_lit _ _ [] (by decide)) _).trans ?_
  unfold modAt rmsAt
  pointwise [k0_pay1]

/-- Every window's block index at a grid point. -/
theorem idx (t : Fin grid0.N) :
    win0_0.index t = ![t.val / 8, t.val % 8, 0] ∧ win0_1.index t = ![0, 0] ∧ win0_2.index t = ![t.val / 8, 0, 0]
    ∧ win0_3.index t = ![t.val / 8, 0, 0] ∧ win0_4.index t = ![t.val / 8, t.val % 8, 0] :=
  (by decide +kernel : ∀ t : Fin grid0.N,
    win0_0.index t = ![t.val / 8, t.val % 8, 0] ∧ win0_1.index t = ![0, 0] ∧ win0_2.index t = ![t.val / 8, 0, 0]
    ∧ win0_3.index t = ![t.val / 8, 0, 0] ∧ win0_4.index t = ![t.val / 8, t.val % 8, 0]) t

theorem t_lt (t : Fin cfg0.N) : t.val < 32 := lt_of_lt_of_eq t.isLt N_0

/-- Point `t`'s batch. -/
def gBat (t : Fin cfg0.N) : Fin 4 := ⟨t.val / 8, by have := t_lt t; omega⟩
/-- Row `r` of point `t`'s tile in its batch. -/
def gRow (t : Fin cfg0.N) (r : Fin 512) : Fin 4096 := ⟨512 * (t.val % 8) + r.val, by omega⟩

theorem gBat_val (t : Fin cfg0.N) : (gBat t).val = t.val / 8 := rfl
theorem gRow_val (t : Fin cfg0.N) (r : Fin 512) : (gRow t r).val = 512 * (t.val % 8) + r.val := rfl

set_option maxHeartbeats 2000000 in
theorem x_blk (t : Fin cfg0.N) (r : Fin 512) (k : Fin 2048) :
    iblk m c 0 t (Idealize.ShloMosaic.ix3 0 r k) = Gen.V m c main_arg0 (Idealize.ShloMosaic.ix3 (gBat t) (gRow t r) k) := by
  have e := idx t
  blk_ext [iblk, e, gBat_val, gRow_val]

set_option maxHeartbeats 2000000 in
theorem g_blk (t : Fin cfg0.N) (j : Fin 2048) :
    iblk m c 1 t (Idealize.ShloMosaic.ix2 0 j) = Gen.V m c main_v0 (Idealize.ShloMosaic.ix2 0 j) := by
  have e := idx t
  blk_ext [iblk, e]

set_option maxHeartbeats 2000000 in
theorem s_blk (t : Fin cfg0.N) (j : Fin 2048) :
    iblk m c 2 t (Idealize.ShloMosaic.ix3 0 0 j) = Gen.V m c main_arg2 (Idealize.ShloMosaic.ix3 (gBat t) 0 j) := by
  have e := idx t
  blk_ext [iblk, e, gBat_val]

set_option maxHeartbeats 2000000 in
theorem h_blk (t : Fin cfg0.N) (j : Fin 2048) :
    iblk m c 3 t (Idealize.ShloMosaic.ix3 0 0 j) = Gen.V m c main_arg3 (Idealize.ShloMosaic.ix3 (gBat t) 0 j) := by
  have e := idx t
  blk_ext [iblk, e, gBat_val]

/-- The whole result. -/
def result : FVec Ideal S4x4096x2048 .bf16 := fun y =>
  modAt (arrX m c (y 0) (y 1)) (arrG m c (y 2)) (arrS m c (y 0) (y 2)) (arrH m c (y 0) (y 2)) (y 2)

/-- Point `t`'s tile at an entry. -/
theorem tile_eq (t : Fin cfg0.N) (r : Fin 512) (j : Fin 2048) :
    out0_4 (iblk m c 0 t) (iblk m c 1 t) (iblk m c 2 t) (iblk m c 3 t) (Idealize.ShloMosaic.ix3 0 r j)
      = modAt (arrX m c (gBat t) (gRow t r)) (arrG m c j) (arrS m c (gBat t) j) (arrH m c (gBat t) j) j := by
  rw [tile_at, g_blk, V_main_v0, V_main_arg1, s_blk, h_blk, V_main_arg2, V_main_arg3]
  refine congrArg₂ (fun R g => modAt R g (arrS m c (gBat t) j) (arrH m c (gBat t) j) j) (funext fun k => ?_) (g_at _ _)
  rw [x_blk, V_main_arg0]

theorem ix3_cut (y : S1x512x2048.Idx) : y = Idealize.ShloMosaic.ix3 0 (y 1) (y 2) := by
  funext a
  match a with
  | ⟨0, _⟩ => exact Subsingleton.elim (α := Fin 1) _ _
  | ⟨1, _⟩ => rfl
  | ⟨2, _⟩ => rfl

set_option maxHeartbeats 2000000 in
/-- The array after the run. -/
theorem arrAt4 : (dats m 0 c).arrAt 4 cfg0.N = result m c := by
  refine (dats m 0 c).arrAt_eq_of_covers 4 _ (by decide +kernel) fun t hf y => ?_
  have e := idx t
  blk_simp
  rw [after0_4]
  rw [show y = Idealize.ShloMosaic.ix3 0 (y 1) (y 2) from ix3_cut y]
  refine (tile_eq m c t (y 1) (y 2)).trans ?_
  show result m c (Idealize.ShloMosaic.ix3 (gBat t) (gRow t (y 1)) (y 2)) = _
  blk_ext [e, gBat_val]
  exact (gRow_val t (y 1)).trans (by omega)

end Cert.Kernel5Ideal.Hand

namespace Cert.Reference5Ideal.Hand

open Cert.Reference5Ideal Cert.Reference5Ideal.Gen Cert.Ffn

/-- The plain program's result at an entry. -/
theorem out_at (X : FVec Ideal S4x4096x2048 .f32) (g : FVec Ideal S2048 .f32) (s h : FVec Ideal S4x1x2048 .f32) (b : Fin 4) (T : Fin 4096) (j : Fin 2048) :
    (truncf .bf16 (addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1
      (Host.reduceAdd (mulf X X) (constant (F := Ideal) S_ .f32 0x00000000#32) reducesTo_S4x4096x2048_S4x4096_d2 h_S_)) (broadcastInDim S4x4096x1 ![] bcast_S_S4x4096x1 (constant S_ .f32 0x45000000#32)))
      (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 g)))
      (broadcastInDim S4x4096x2048 ![0, 1, 2] bcast_S4x1x2048_S4x4096x2048_0_1_2 (addf (broadcastInDim S4x1x2048 ![] bcast_S_S4x1x2048 (constant S_ .f32 0x3F800000#32)) s)))
      (broadcastInDim S4x4096x2048 ![0, 1, 2] bcast_S4x1x2048_S4x4096x2048_0_1_2 h)) bitsLt_bf16_f32 : FVec Ideal S4x4096x2048 .bf16) (ix3 b T j)
      = modAt (fun k => X (ix3 b T k)) (g (ix1 j)) (s (ix3 b 0 j)) (h (ix3 b 0 j)) j := by
  unfold modAt rmsAt
  pointwise []

/-- The plain program's result. -/
theorem out_eq (X : FVec Ideal S4x4096x2048 .f32) (g : FVec Ideal S2048 .f32) (s h : FVec Ideal S4x1x2048 .f32) :
    (truncf .bf16 (addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1
      (Host.reduceAdd (mulf X X) (constant (F := Ideal) S_ .f32 0x00000000#32) reducesTo_S4x4096x2048_S4x4096_d2 h_S_)) (broadcastInDim S4x4096x1 ![] bcast_S_S4x4096x1 (constant S_ .f32 0x45000000#32)))
      (broadcastInDim S4x4096x1 ![] bcast_S_S4x4096x1 (constant S_ .f32 0x358637BD#32))))))
      (broadcastInDim S4x4096x2048 ![0, 1, 2] bcast_S1x1x2048_S4x4096x2048_0_1_2 (broadcastInDim S1x1x2048 ![2] bcast_S2048_S1x1x2048_2 g)))
      (broadcastInDim S4x4096x2048 ![0, 1, 2] bcast_S4x1x2048_S4x4096x2048_0_1_2 (addf (broadcastInDim S4x1x2048 ![] bcast_S_S4x1x2048 (constant S_ .f32 0x3F800000#32)) s)))
      (broadcastInDim S4x4096x2048 ![0, 1, 2] bcast_S4x1x2048_S4x4096x2048_0_1_2 h)) bitsLt_bf16_f32 : FVec Ideal S4x4096x2048 .bf16)
      = fun y => modAt (fun k => X (ix3 (y 0) (y 1) k)) (g (ix1 (y 2))) (s (ix3 (y 0) 0 (y 2))) (h (ix3 (y 0) 0 (y 2))) (y 2) := by
  funext y
  rw [show y = ix3 (y 0) (y 1) (y 2) from eq_ix3 y]
  exact out_at _ _ _ _ _ _ _

end Cert.Reference5Ideal.Hand

namespace Cert.Ffn

/-- The norm's kernel leaves its arguments as they were, with every counter at zero. -/
theorem frame_kernel5 : Cert.quiescent_Kernel5 := fun m g _ => Cert.Kernel5.Gen.frame m g

/-- So does its idealization. -/
theorem frame_ideal5 : Cert.quiescent_Kernel5Ideal := fun m g _ => Cert.Kernel5Ideal.Gen.frame m g

/-- So does the plain program. -/
theorem frame_reference5 : Cert.quiescent_Reference5Ideal := fun m g _ =>
  (θ_run _ _ _).mono (fun r h => ⟨fun c => (h c).2, sem_eq_zero_of_no_sems (by decide) r.2⟩) (Cert.Reference5Ideal.Value.run m g)

/-- The idealized kernel and the plain program have equal results. -/
theorem algebraic5 : Cert.algebraic_Kernel5Ideal_Reference5Ideal := fun m g m' g' _ he =>
  ⟨fun c => Cert.Kernel5Ideal.Hand.result m c,
    (θ_run _ _ _).mono (fun _ h c => ⟨(h c).1.trans (Cert.Kernel5Ideal.Hand.arrAt4 m c), (h c).2⟩) (Cert.Kernel5Ideal.Value.run_blocks m g),
    (θ_run _ _ _).mono (fun _ h c => ⟨(h c).1.trans ((Cert.Reference5Ideal.Hand.out_eq _ _ _ _).trans
      (by rw [(he c).1, (he c).2.1, (he c).2.2.1, (he c).2.2.2]; rfl)), (h c).2⟩) (Cert.Reference5Ideal.Value.run m' g')⟩

end Cert.Ffn
-- ==== Proof.MixProj.lean ====
/-
  The RWKV part's projection of its shifted rows to receptances, keys or values: tile by tile in the kernel and as one product in
  the plain program.
-/
module

public import proofs.«01_k».proof.Proof.Gen.Kernel6.Frame
public import proofs.«01_k».proof.Proof.Gen.Kernel6Ideal.Value
public import proofs.«01_k».proof.Proof.Gen.Reference6Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- An entry of the projection: row `I`, column `j`. -/
def mixProj (A : Fin 4 → Fin 4096 → Fin 2048 → EReal) (W : Fin 2048 → Fin 2048 → EReal) (I : Fin 16384) (j : Fin 2048) : EReal :=
  ∑ k : Fin 2048, A (bat I) (pos I) k * W k j

end Cert.Ffn

namespace Cert.Kernel6Ideal.Hand

open Cert.Kernel6Ideal Cert.Kernel6Ideal.Gen Cert.Ffn

/-- The rows. -/
abbrev arrH (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The weights. -/
abbrev arrW (m : (ℓ : Loc nD τ sig) → Buf (Elt Ideal) ℓ) (c : Dev nD) (k : Fin 2048) (j : Fin 2048) : EReal :=
  m ((c : Thread nD τ).loc main_arg1) (Idealize.ShloMosaic.ix2 k j)

variable (m : (ℓ : Loc nD τ sig) → Buf (Elt Ideal) ℓ) (c : Dev nD)

/-- The rows as the kernel gets them. -/
theorem V_main_v1 : Gen.V m c main_v1 = (truncf .bf16 (shapeCast S16384x2048 (Gen.V m c main_arg0) shapeCasts_S4x4096x2048_S16384x2048 : FVec Ideal S16384x2048 .f32) bitsLt_bf16_f32 : FVec Ideal S16384x2048 .bf16) := by
  after_reads_simp
  all_goals rfl

/-- The weights as the kernel gets them. -/
theorem V_main_v3 : Gen.V m c main_v3 = (broadcastInDim S1x2048x2048 ![1, 2] bcast_S2048x2048_S1x2048x2048_1_2 (truncf .bf16 (Gen.V m c main_arg1 : FVec Ideal S2048x2048 .f32) bitsLt_bf16_f32 : FVec Ideal S2048x2048 .bf16) : FVec Ideal S1x2048x2048 .bf16) := by
  after_reads_simp
  all_goals rfl

theorem wts_at (W : FVec Ideal S2048x2048 .f32) (k j : Fin 2048) :
    (broadcastInDim S1x2048x2048 ![1, 2] bcast_S2048x2048_S1x2048x2048_1_2 (truncf .bf16 W bitsLt_bf16_f32 : FVec Ideal S2048x2048 .bf16) : FVec Ideal S1x2048x2048 .bf16)
      (Idealize.ShloMosaic.ix3 0 k j) = W (Idealize.ShloMosaic.ix2 k j) := by
  pointwise []

theorem rows_at (X : FVec Ideal S4x4096x2048 .f32) (I : Fin 16384) (k : Fin 2048) :
    (truncf .bf16 (shapeCast S16384x2048 X shapeCasts_S4x4096x2048_S16384x2048 : FVec Ideal S16384x2048 .f32) bitsLt_bf16_f32 : FVec Ideal S16384x2048 .bf16)
      (Idealize.ShloMosaic.ix2 I k) = X (Idealize.ShloMosaic.ix3 (bat I) (pos I) k) := by
  pointwise []
  rfl

/-- A tile at an entry. -/
theorem tile_at (x0 : Vec Ideal S1024x2048 .bf16) (x1 : Vec Ideal S1x2048x1024 .bf16) (r : Fin 1024) (j : Fin 1024) :
    out0_2 x0 x1 (Idealize.ShloMosaic.ix2 r j)
      = (∑ k : Fin 2048, x0 (Idealize.ShloMosaic.ix2 r k) * x1 (Idealize.ShloMosaic.ix3 0 k j)) := by
  unfold out0_2
  rw [show View.ld x0 r0_0 = x0 from View.ld_unit_lit _ _ (by decide), show View.ld x1 r0_1 = x1 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val / 2, 0] ∧ win0_1.index t = ![0, 0, t.val % 2] ∧ win0_2.index t = ![t.val / 2, t.val % 2] :=
  (by decide +kernel : ∀ t : Fin grid0.N,
    win0_0.index t = ![t.val / 2, 0] ∧ win0_1.index t = ![0, 0, t.val % 2] ∧ win0_2.index t = ![t.val / 2, t.val % 2]) t

theorem t_lt (t : Fin cfg0.N) : t.val < 32 := lt_of_lt_of_eq t.isLt N_0

/-- Row `r` of point `t`'s tile in the whole array. -/
def gRow (t : Fin cfg0.N) (r : Fin 1024) : Fin 16384 := ⟨1024 * (t.val / 2) + r.val, by have := t_lt t; omega⟩
/-- Column `j` of point `t`'s tile in the whole array. -/
def gCol (t : Fin cfg0.N) (j : Fin 1024) : Fin 2048 := ⟨1024 * (t.val % 2) + j.val, by omega⟩

theorem gRow_val (t : Fin cfg0.N) (r : Fin 1024) : (gRow t r).val = 1024 * (t.val / 2) + r.val := rfl
theorem gCol_val (t : Fin cfg0.N) (j : Fin 1024) : (gCol t j).val = 1024 * (t.val % 2) + j.val := rfl

set_option maxHeartbeats 2000000 in
theorem h_blk (t : Fin cfg0.N) (r : Fin 1024) (k : Fin 2048) :
    iblk m c 0 t (Idealize.ShloMosaic.ix2 r k) = Gen.V m c main_v1 (Idealize.ShloMosaic.ix2 (gRow t r) k) := by
  have e := idx t
  blk_ext [iblk, e, gRow_val]

set_option maxHeartbeats 2000000 in
theorem w_blk (t : Fin cfg0.N) (k : Fin 2048) (j : Fin 1024) :
    iblk m c 1 t (Idealize.ShloMosaic.ix3 0 k j) = Gen.V m c main_v3 (Idealize.ShloMosaic.ix3 0 k (gCol t j)) := by
  have e := idx t
  blk_ext [iblk, e, gCol_val]

/-- The whole product. -/
def result (m : (ℓ : Loc nD τ sig) → Buf (Elt Ideal) ℓ) (c : Dev nD) : FVec Ideal S16384x2048 .bf16 := fun y =>
  mixProj (arrH m c) (arrW m c) (y 0) (y 1)

/-- Point `t`'s tile at an entry. -/
theorem tile_eq (t : Fin cfg0.N) (r j : Fin 1024) :
    out0_2 (iblk m c 0 t) (iblk m c 1 t) (Idealize.ShloMosaic.ix2 r j) = mixProj (arrH m c) (arrW m c) (gRow t r) (gCol t j) := by
  rw [tile_at]
  unfold mixProj
  refine Finset.sum_congr rfl fun k _ => ?_
  rw [h_blk, w_blk, V_main_v1, V_main_v3, V_main_arg0, V_main_arg1]
  exact congrArg₂ (fun a b : EReal => a * b) (rows_at _ _ _) (wts_at _ _ _)

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel6Ideal.Hand

namespace Cert.Reference6Ideal.Hand

open Cert.Reference6Ideal Cert.Reference6Ideal.Gen Cert.Ffn

theorem dot_at (X : FVec Ideal S4x4096x2048 .f32) (W : FVec Ideal S2048x2048 .f32) (b : Fin 4) (T : Fin 4096) (j : Fin 2048) :
    Host.dotGeneral dot_S4x4096x2048_S2048x2048_S4x4096x2048_2_0_01_1_n_n none X W (ix3 b T j) = ∑ k : Fin 2048, X (ix3 b T k) * W (ix2 k j) := by
  pointwise []

theorem rows_at (Z : FVec Ideal S4x4096x2048 .f32) (I : Fin 16384) (j : Fin 2048) :
    (truncf .bf16 (shapeCast S16384x2048 Z shapeCasts_S4x4096x2048_S16384x2048 : FVec Ideal S16384x2048 .f32) bitsLt_bf16_f32 : FVec Ideal S16384x2048 .bf16)
      (ix2 I j) = Z (ix3 (bat I) (pos I) j) := by
  pointwise []
  rfl

/-- The plain program's result at every entry. -/
theorem out_eq (X : FVec Ideal S4x4096x2048 .f32) (W : FVec Ideal S2048x2048 .f32) :
    (truncf .bf16 (shapeCast S16384x2048 (Host.dotGeneral dot_S4x4096x2048_S2048x2048_S4x4096x2048_2_0_01_1_n_n none X W) shapeCasts_S4x4096x2048_S16384x2048 : FVec Ideal S16384x2048 .f32) bitsLt_bf16_f32 : FVec Ideal S16384x2048 .bf16)
      = fun y => mixProj (fun b T x => X (ix3 b T x)) (fun k j => W (ix2 k j)) (y 0) (y 1) := by
  funext y
  rw [show y = ix2 (y 0) (y 1) from eq_ix2 y]
  exact (rows_at _ _ _).trans (dot_at _ _ _ _ _)

end Cert.Reference6Ideal.Hand

namespace Cert.Ffn

/-- The projection's kernel leaves its arguments as they were, with every counter at zero. -/
theorem frame_kernel6 : Cert.quiescent_Kernel6 := fun m g _ => Cert.Kernel6.Gen.frame m g

/-- So does its idealization. -/
theorem frame_ideal6 : Cert.quiescent_Kernel6Ideal := fun m g _ => Cert.Kernel6Ideal.Gen.frame m g

/-- So does the plain program. -/
theorem frame_reference6 : Cert.quiescent_Reference6Ideal := fun m g _ =>
  (θ_run _ _ _).mono (fun r h => ⟨fun c => (h c).2, sem_eq_zero_of_no_sems (by decide) r.2⟩) (Cert.Reference6Ideal.Value.run m g)

/-- The idealized kernel and the plain program have equal results. -/
theorem algebraic6 : Cert.algebraic_Kernel6Ideal_Reference6Ideal := fun m g m' g' _ he =>
  ⟨fun c => Cert.Kernel6Ideal.Hand.result m c,
    (θ_run _ _ _).mono (fun _ h c => ⟨(h c).1.trans (Cert.Kernel6Ideal.Hand.arrAt2 m c), (h c).2⟩) (Cert.Kernel6Ideal.Value.run_blocks m g),
    (θ_run _ _ _).mono (fun _ h c => ⟨(h c).1.trans ((Cert.Reference6Ideal.Hand.out_eq _ _).trans (by rw [(he c).1, (he c).2]; rfl)),
      (h c).2⟩) (Cert.Reference6Ideal.Value.run m' g')⟩

end Cert.Ffn
-- ==== Proof.MixOut.lean ====
/-
  The RWKV part's output product with the gate and the residual: tile by tile in the kernel and as one product in the plain
  program.
-/
module

public import proofs.«01_k».proof.Proof.Gen.Kernel7.Frame
public import proofs.«01_k».proof.Proof.Gen.Kernel7Ideal.Value
public import proofs.«01_k».proof.Proof.Gen.Reference7Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- An entry of the output product with its gate and residual: row `I`, column `j`. -/
def mixOut (X : Fin 4 → Fin 4096 → Fin 2048 → EReal) (G : Fin 4 → Fin 2048 → EReal) (H : Fin 16384 → Fin 2048 → EReal)
    (W : Fin 2048 → Fin 2048 → EReal) (I : Fin 16384) (j : Fin 2048) : EReal :=
  X (bat I) (pos I) j + G (bat I) j * ∑ k : Fin 2048, H I k * W k j

end Cert.Ffn

namespace Cert.Kernel7Ideal.Hand

open Cert.Kernel7Ideal Cert.Kernel7Ideal.Gen Cert.Ffn

/-- The residual stream. -/
abbrev arrX (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The gate of each batch. -/
abbrev arrG (m : (ℓ : Loc nD τ sig) → Buf (Elt Ideal) ℓ) (c : Dev nD) (b : Fin 4) (x : Fin 2048) : EReal :=
  m ((c : Thread nD τ).loc main_arg1) (Idealize.ShloMosaic.ix3 b 0 x)
/-- The mixed rows. -/
abbrev arrH (m : (ℓ : Loc nD τ sig) → Buf (Elt Ideal) ℓ) (c : Dev nD) (I : Fin 16384) (k : Fin 2048) : EReal :=
  m ((c : Thread nD τ).loc main_arg2) (Idealize.ShloMosaic.ix2 I k)
/-- The weights. -/
abbrev arrW (m : (ℓ : Loc nD τ sig) → Buf (Elt Ideal) ℓ) (c : Dev nD) (k : Fin 2048) (j : Fin 2048) : EReal :=
  m ((c : Thread nD τ).loc main_arg3) (Idealize.ShloMosaic.ix2 k j)

variable (m : (ℓ : Loc nD τ sig) → Buf (Elt Ideal) ℓ) (c : Dev nD)

/-- The weights as the kernel gets them. -/
theorem V_main_v2 : Gen.V m c main_v2 = (broadcastInDim S1x2048x2048 ![1, 2] bcast_S2048x2048_S1x2048x2048_1_2 (truncf .bf16 (Gen.V m c main_arg3 : FVec Ideal S2048x2048 .f32) bitsLt_bf16_f32 : FVec Ideal S2048x2048 .bf16) : FVec Ideal S1x2048x2048 .bf16) := by
  after_reads_simp
  all_goals rfl

theorem wts_at (W : FVec Ideal S2048x2048 .f32) (k j : Fin 2048) :
    (broadcastInDim S1x2048x2048 ![1, 2] bcast_S2048x2048_S1x2048x2048_1_2 (truncf .bf16 W bitsLt_bf16_f32 : FVec Ideal S2048x2048 .bf16) : FVec Ideal S1x2048x2048 .bf16)
      (Idealize.ShloMosaic.ix3 0 k j) = W (Idealize.ShloMosaic.ix2 k j) := by
  pointwise []

/-- The residual stream as the kernel gets it. -/
theorem V_main_v1 : Gen.V m c main_v1 = (shapeCast S16384x2048 (Gen.V m c main_arg0) shapeCasts_S4x4096x2048_S16384x2048 : FVec Ideal S16384x2048 .f32) := by
  after_reads_simp
  all_goals rfl

theorem rows_at (X : FVec Ideal S4x4096x2048 .f32) (I : Fin 16384) (k : Fin 2048) :
    (shapeCast S16384x2048 X shapeCasts_S4x4096x2048_S16384x2048 : FVec Ideal S16384x2048 .f32) (Idealize.ShloMosaic.ix2 I k)
      = X (Idealize.ShloMosaic.ix3 (bat I) (pos I) k) := by
  pointwise []
  rfl

/-- A tile at an entry. -/
theorem tile_at (x0 : Vec Ideal S1024x2048 .bf16) (x1 : Vec Ideal S1x2048x1024 .bf16) (x2 : Vec Ideal S1024x1024 .f32) (x3 : Vec Ideal S1x1x1024 .f32)
    (r j : Fin 1024) :
    out0_4 x0 x1 x2 x3 (Idealize.ShloMosaic.ix2 r j)
      = x2 (Idealize.ShloMosaic.ix2 r j) + x3 (Idealize.ShloMosaic.ix3 0 0 j)
          * ∑ k : Fin 2048, x0 (Idealize.ShloMosaic.ix2 r k) * x1 (Idealize.ShloMosaic.ix3 0 k j) := by
  unfold out0_4
  rw [show View.ld x0 r0_0 = x0 from View.ld_unit_lit _ _ (by decide), show View.ld x1 r0_1 = x1 from View.ld_unit_lit _ _ (by decide),
    show View.ld x2 r0_2 = x2 from View.ld_unit_lit _ _ (by decide), show View.ld x3 r0_3 = x3 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val / 2, 0] ∧ win0_1.index t = ![0, 0, t.val % 2] ∧ win0_2.index t = ![t.val / 2, t.val % 2]
    ∧ win0_3.index t = ![t.val / 2 / 4, 0, t.val % 2] ∧ win0_4.index t = ![t.val / 2, t.val % 2] :=
  (by decide +kernel : ∀ t : Fin grid0.N,
    win0_0.index t = ![t.val / 2, 0] ∧ win0_1.index t = ![0, 0, t.val % 2] ∧ win0_2.index t = ![t.val / 2, t.val % 2]
    ∧ win0_3.index t = ![t.val / 2 / 4, 0, t.val % 2] ∧ win0_4.index t = ![t.val / 2, t.val % 2]) t

theorem t_lt (t : Fin cfg0.N) : t.val < 32 := lt_of_lt_of_eq t.isLt N_0

/-- Row `r` of point `t`'s tile in the whole array. -/
def gRow (t : Fin cfg0.N) (r : Fin 1024) : Fin 16384 := ⟨1024 * (t.val / 2) + r.val, by have := t_lt t; omega⟩
/-- Column `j` of point `t`'s tile in the whole array. -/
def gCol (t : Fin cfg0.N) (j : Fin 1024) : Fin 2048 := ⟨1024 * (t.val % 2) + j.val, by omega⟩

theorem gRow_val (t : Fin cfg0.N) (r : Fin 1024) : (gRow t r).val = 1024 * (t.val / 2) + r.val := rfl
theorem gCol_val (t : Fin cfg0.N) (j : Fin 1024) : (gCol t j).val = 1024 * (t.val % 2) + j.val := rfl
theorem bat_val (t : Fin cfg0.N) (r : Fin 1024) : (bat (gRow t r)).val = t.val / 2 / 4 := by
  show (1024 * (t.val / 2) + r.val) / 4096 = _; omega

set_option maxHeartbeats 2000000 in
theorem h_blk (t : Fin cfg0.N) (r : Fin 1024) (k : Fin 2048) :
    iblk m c 0 t (Idealize.ShloMosaic.ix2 r k) = Gen.V m c main_arg2 (Idealize.ShloMosaic.ix2 (gRow t r) k) := by
  have e := idx t
  blk_ext [iblk, e, gRow_val]

set_option maxHeartbeats 2000000 in
theorem w_blk (t : Fin cfg0.N) (k : Fin 2048) (j : Fin 1024) :
    iblk m c 1 t (Idealize.ShloMosaic.ix3 0 k j) = Gen.V m c main_v2 (Idealize.ShloMosaic.ix3 0 k (gCol t j)) := by
  have e := idx t
  blk_ext [iblk, e, gCol_val]

set_option maxHeartbeats 2000000 in
theorem x_blk (t : Fin cfg0.N) (r j : Fin 1024) :
    iblk m c 2 t (Idealize.ShloMosaic.ix2 r j) = Gen.V m c main_v1 (Idealize.ShloMosaic.ix2 (gRow t r) (gCol t j)) := by
  have e := idx t
  blk_ext [iblk, e, gRow_val, gCol_val]

set_option maxHeartbeats 2000000 in
theorem g_blk (t : Fin cfg0.N) (r j : Fin 1024) :
    iblk m c 3 t (Idealize.ShloMosaic.ix3 0 0 j) = Gen.V m c main_arg1 (Idealize.ShloMosaic.ix3 (bat (gRow t r)) 0 (gCol t j)) := by
  have e := idx t
  blk_ext [iblk, e, bat_val, gCol_val]

/-- The whole result. -/
def result (m : (ℓ : Loc nD τ sig) → Buf (Elt Ideal) ℓ) (c : Dev nD) : FVec Ideal S16384x2048 .f32 := fun y =>
  mixOut (arrX m c) (arrG m c) (arrH m c) (arrW m c) (y 0) (y 1)

/-- Point `t`'s tile at an entry. -/
theorem tile_eq (t : Fin cfg0.N) (r j : Fin 1024) :
    out0_4 (iblk m c 0 t) (iblk m c 1 t) (iblk m c 2 t) (iblk m c 3 t) (Idealize.ShloMosaic.ix2 r j)
      = mixOut (arrX m c) (arrG m c) (arrH m c) (arrW m c) (gRow t r) (gCol t j) := by
  rw [tile_at, x_blk, g_blk m c t r j, V_main_v1, V_main_arg0, V_main_arg1]
  unfold mixOut
  refine congrArg₂ (fun a b : EReal => a + b) (rows_at _ _ _) (congrArg (fun b : EReal => _ * b) ?_)
  refine Finset.sum_congr rfl fun k _ => ?_
  rw [h_blk, w_blk, V_main_v2, V_main_arg2, V_main_arg3]
  exact congrArg (fun b : EReal => _ * b) (wts_at _ _ _)

set_option maxHeartbeats 2000000 in
/-- The array after the run. -/
theorem arrAt4 : (dats m 0 c).arrAt 4 cfg0.N = result m c := by
  refine (dats m 0 c).arrAt_eq_of_covers 4 _ (by decide +kernel) fun t hf y => ?_
  have e := idx t
  blk_simp
  rw [after0_4]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel7Ideal.Hand

namespace Cert.Reference7Ideal.Hand

open Cert.Reference7Ideal Cert.Reference7Ideal.Gen Cert.Ffn

theorem dot_at (X : FVec Ideal S4x4096x2048 .f32) (W : FVec Ideal S2048x2048 .f32) (b : Fin 4) (T : Fin 4096) (j : Fin 2048) :
    Host.dotGeneral dot_S4x4096x2048_S2048x2048_S4x4096x2048_2_0_01_1_n_n none X W (ix3 b T j) = ∑ k : Fin 2048, X (ix3 b T k) * W (ix2 k j) := by
  pointwise []

theorem hid_row (H : FVec Ideal S16384x2048 .bf16) (b : Fin 4) (T : Fin 4096) (k : Fin 2048) :
    shapeCast S4x4096x2048 (extf (F := Ideal) .f32 H bitsLt_bf16_f32) shapeCasts_S16384x2048_S4x4096x2048 (ix3 b T k)
      = H (ix2 (⟨b.val * 4096 + T.val, by omega⟩ : Fin 16384) k) := by
  pointwise []

theorem hid_at (H : FVec Ideal S16384x2048 .bf16) (I : Fin 16384) (k : Fin 2048) :
    shapeCast S4x4096x2048 (extf (F := Ideal) .f32 H bitsLt_bf16_f32) shapeCasts_S16384x2048_S4x4096x2048 (ix3 (bat I) (pos I) k) = H (ix2 I k) :=
  (hid_row H _ _ k).trans (congrArg (fun I' : Fin 16384 => H (ix2 I' k))
    (Fin.ext (by show I.val / 4096 * 4096 + I.val % 4096 = I.val; omega)))

theorem gated_at (X Z : FVec Ideal S4x4096x2048 .f32) (G : FVec Ideal S4x1x2048 .f32) (I : Fin 16384) (j : Fin 2048) :
    shapeCast S16384x2048 (addf X (mulf (broadcastInDim S4x4096x2048 ![0, 1, 2] bcast_S4x1x2048_S4x4096x2048_0_1_2 G) Z)) shapeCasts_S4x4096x2048_S16384x2048 (ix2 I j)
      = X (ix3 (bat I) (pos I) j) + G (ix3 (bat I) 0 j) * Z (ix3 (bat I) (pos I) j) := by
  pointwise []
  rfl

/-- The plain program's result at every entry. -/
theorem out_eq (X : FVec Ideal S4x4096x2048 .f32) (G : FVec Ideal S4x1x2048 .f32) (H : FVec Ideal S16384x2048 .bf16) (W : FVec Ideal S2048x2048 .f32) :
    shapeCast S16384x2048 (addf X (mulf (broadcastInDim S4x4096x2048 ![0, 1, 2] bcast_S4x1x2048_S4x4096x2048_0_1_2 G) (Host.dotGeneral dot_S4x4096x2048_S2048x2048_S4x4096x2048_2_0_01_1_n_n none
      (shapeCast _ (extf .f32 H bitsLt_bf16_f32) shapeCasts_S16384x2048_S4x4096x2048) W))) shapeCasts_S4x4096x2048_S16384x2048
      = fun y => mixOut (fun b T x => X (ix3 b T x)) (fun b x => G (ix3 b 0 x)) (fun I k => H (ix2 I k)) (fun k j => W (ix2 k j)) (y 0) (y 1) := by
  funext y
  rw [show y = ix2 (y 0) (y 1) from eq_ix2 y]
  refine (gated_at _ _ _ _ _).trans ?_
  unfold mixOut
  refine congrArg (fun z : EReal => X (ix3 (bat (y 0)) (pos (y 0)) (y 1)) + G (ix3 (bat (y 0)) 0 (y 1)) * z) ?_
  refine (dot_at _ _ _ _ _).trans (Finset.sum_congr rfl fun k _ => ?_)
  exact congrArg₂ (fun a b : EReal => a * b) (hid_at _ _ _) rfl

end Cert.Reference7Ideal.Hand

namespace Cert.Ffn

/-- The output product's kernel leaves its arguments as they were, with every counter at zero. -/
theorem frame_kernel7 : Cert.quiescent_Kernel7 := fun m g _ => Cert.Kernel7.Gen.frame m g

/-- So does its idealization. -/
theorem frame_ideal7 : Cert.quiescent_Kernel7Ideal := fun m g _ => Cert.Kernel7Ideal.Gen.frame m g

/-- So does the plain program. -/
theorem frame_reference7 : Cert.quiescent_Reference7Ideal := fun m g _ =>
  (θ_run _ _ _).mono (fun r h => ⟨fun c => (h c).2, sem_eq_zero_of_no_sems (by decide) r.2⟩) (Cert.Reference7Ideal.Value.run m g)

/-- The idealized kernel and the plain program have equal results. -/
theorem algebraic7 : Cert.algebraic_Kernel7Ideal_Reference7Ideal := fun m g m' g' _ he =>
  ⟨fun c => Cert.Kernel7Ideal.Hand.result m c,
    (θ_run _ _ _).mono (fun _ h c => ⟨(h c).1.trans (Cert.Kernel7Ideal.Hand.arrAt4 m c), (h c).2⟩) (Cert.Kernel7Ideal.Value.run_blocks m g),
    (θ_run _ _ _).mono (fun _ h c => ⟨(h c).1.trans ((Cert.Reference7Ideal.Hand.out_eq _ _ _ _).trans
      (by rw [(he c).1, (he c).2.1, (he c).2.2.1, (he c).2.2.2]; rfl)), (h c).2⟩) (Cert.Reference7Ideal.Value.run m' g')⟩

end Cert.Ffn
-- ==== Proof.InProj.lean ====
/-
  The first layer's input projection, of its 6144 main columns: tile by tile in the kernel, and as a part of one product in
  the plain program.
-/
module

public import proofs.«01_k».proof.Proof.Gen.Kernel8.Frame
public import proofs.«01_k».proof.Proof.Gen.Kernel8Ideal.Value
public import proofs.«01_k».proof.Proof.Gen.Reference8Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- A main column among all columns of the weights. -/
def mainCol (j : Fin 6144) : Fin 6176 := ⟨j.val, by omega⟩

theorem mainCol_val (j : Fin 6144) : (mainCol j).val = j.val := rfl

/-- An entry of the projection: row `I`, main column `j`. -/
def inProj (A : Fin 4 → Fin 4096 → Fin 2048 → EReal) (W : Fin 2048 → Fin 6176 → EReal) (I : Fin 16384) (j : Fin 6144) : EReal :=
  ∑ k : Fin 2048, A (bat I) (pos I) k * W k (mainCol j)

end Cert.Ffn

namespace Cert.Kernel8Ideal.Hand

open Cert.Kernel8Ideal Cert.Kernel8Ideal.Gen Cert.Ffn

/-- The rows. -/
abbrev arrH (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The weights. -/
abbrev arrW (m : (ℓ : Loc nD τ sig) → Buf (Elt Ideal) ℓ) (c : Dev nD) (k : Fin 2048) (j : Fin 6176) : EReal :=
  m ((c : Thread nD τ).loc main_arg1) (Idealize.ShloMosaic.ix2 k j)

variable (m : (ℓ : Loc nD τ sig) → Buf (Elt Ideal) ℓ) (c : Dev nD)

/-- The rows as the kernel gets them. -/
theorem V_main_v1 : Gen.V m c main_v1 = (truncf .bf16 (shapeCast S16384x2048 (Gen.V m c main_arg0) shapeCasts_S4x4096x2048_S16384x2048 : FVec Ideal S16384x2048 .f32) bitsLt_bf16_f32 : FVec Ideal S16384x2048 .bf16) := by
  after_reads_simp
  all_goals rfl

/-- The weights as the kernel gets them. -/
theorem V_main_v3 : Gen.V m c main_v3 = (broadcastInDim S1x2048x6176 ![1, 2] bcast_S2048x6176_S1x2048x6176_1_2 (truncf .bf16 (Gen.V m c main_arg1 : FVec Ideal S2048x6176 .f32) bitsLt_bf16_f32 : FVec Ideal S2048x6176 .bf16) : FVec Ideal S1x2048x6176 .bf16) := by
  after_reads_simp
  all_goals rfl

theorem wts_at (W : FVec Ideal S2048x6176 .f32) (k : Fin 2048) (j : Fin 6176) :
    (broadcastInDim S1x2048x6176 ![1, 2] bcast_S2048x6176_S1x2048x6176_1_2 (truncf .bf16 W bitsLt_bf16_f32 : FVec Ideal S2048x6176 .bf16) : FVec Ideal S1x2048x6176 .bf16)
      (Idealize.ShloMosaic.ix3 0 k j) = W (Idealize.ShloMosaic.ix2 k j) := by
  pointwise []

theorem rows_at (X : FVec Ideal S4x4096x2048 .f32) (I : Fin 16384) (k : Fin 2048) :
    (truncf .bf16 (shapeCast S16384x2048 X shapeCasts_S4x4096x2048_S16384x2048 : FVec Ideal S16384x2048 .f32) bitsLt_bf16_f32 : FVec Ideal S16384x2048 .bf16)
      (Idealize.ShloMosaic.ix2 I k) = X (Idealize.ShloMosaic.ix3 (bat I) (pos I) k) := by
  pointwise []
  rfl

/-- A tile at an entry. -/
theorem tile_at (c : Dev nD) (i : grid0.Coords) (a3 : Memref sig .tc .vmem S1024x2048 .bf16) (h3 : a3.IsWhole)
    (a4 : Memref sig .tc .vmem S1x2048x1024 .bf16) (h4 : a4.IsWhole) (a5 : Memref sig .tc .vmem S1024x1024 .f32) (h5 : a5.IsWhole)
    (x0 : Vec Ideal S1024x2048 .bf16) (x1 : Vec Ideal S1x2048x1024 .bf16) (r j : Fin 1024) :
    out0_A_2 c i a3 h3 a4 h4 a5 h5 x0 x1 (Idealize.ShloMosaic.ix2 r j)
      = ∑ k : Fin 2048, x0 (Idealize.ShloMosaic.ix2 r k) * x1 (Idealize.ShloMosaic.ix3 0 k j) := by
  unfold out0_A_2 kernelRun0_A
  rw [View.read_writes_junk_eq_canon]
  refine (congrFun (View.canon_cons_unit_lit _ _ [] (by decide)) _).trans ?_
  simp only [View.readAt_eq_ld, h3.read_unread, h4.read_unread]
  rw [show View.ld x0 (Rect.unit (s := S1024x2048) ![0, 0] S1024x2048.size inb_S1024x2048_S1024x2048_0_0) = x0 from View.ld_unit_lit _ _ (by decide),
    show View.ld x1 (Rect.unit (s := S1x2048x1024) ![0, 0, 0] S1x2048x1024.size inb_S1x2048x1024_S1x2048x1024_0_0_0) = x1 from View.ld_unit_lit _ _ (by decide)]
  pointwise [k0_pay1]

/-- Every window's block index at a grid point. -/
theorem idx (t : Fin grid0.N) :
    win0_0.index t = ![t.val / 6, 0] ∧ win0_1.index t = ![0, 0, t.val % 6] ∧ win0_2.index t = ![t.val / 6, t.val % 6] :=
  (by decide +kernel : ∀ t : Fin grid0.N,
    win0_0.index t = ![t.val / 6, 0] ∧ win0_1.index t = ![0, 0, t.val % 6] ∧ win0_2.index t = ![t.val / 6, t.val % 6]) t

theorem t_lt (t : Fin cfg0.N) : t.val < 96 := lt_of_lt_of_eq t.isLt N_0

/-- Row `r` of point `t`'s tile in the whole array. -/
def gRow (t : Fin cfg0.N) (r : Fin 1024) : Fin 16384 := ⟨1024 * (t.val / 6) + r.val, by have := t_lt t; omega⟩
/-- Column `j` of point `t`'s tile in the whole array. -/
def gCol (t : Fin cfg0.N) (j : Fin 1024) : Fin 6144 := ⟨1024 * (t.val % 6) + j.val, by omega⟩

theorem gRow_val (t : Fin cfg0.N) (r : Fin 1024) : (gRow t r).val = 1024 * (t.val / 6) + r.val := rfl
theorem gCol_val (t : Fin cfg0.N) (j : Fin 1024) : (gCol t j).val = 1024 * (t.val % 6) + j.val := rfl

set_option maxHeartbeats 2000000 in
theorem h_blk (t : Fin cfg0.N) (r : Fin 1024) (k : Fin 2048) :
    iblk m c 0 t (Idealize.ShloMosaic.ix2 r k) = Gen.V m c main_v1 (Idealize.ShloMosaic.ix2 (gRow t r) k) := by
  have e := idx t
  blk_ext [iblk, e, gRow_val]

set_option maxHeartbeats 2000000 in
theorem w_blk (t : Fin cfg0.N) (k : Fin 2048) (j : Fin 1024) :
    X0_1 m c t (Idealize.ShloMosaic.ix3 0 k j) = Gen.V m c main_v3 (Idealize.ShloMosaic.ix3 0 k (mainCol (gCol t j))) := by
  have e := idx t
  unfold X0_1 Pipeline.Window.fill
  rw [dif_pos (moved0_1 t _)]
  blk_ext [iblk, e, mainCol_val, gCol_val]

/-- The whole product. -/
def result (m : (ℓ : Loc nD τ sig) → Buf (Elt Ideal) ℓ) (c : Dev nD) : FVec Ideal S16384x6144 .f32 := fun y =>
  inProj (arrH m c) (arrW m c) (y 0) (y 1)

/-- Point `t`'s tile at an entry. -/
theorem tile_eq (t : Fin cfg0.N) (r j : Fin 1024) :
    outsAt0 m c t (Idealize.ShloMosaic.ix2 r j) = inProj (arrH m c) (arrW m c) (gRow t r) (gCol t j) := by
  unfold outsAt0
  rw [tile_at]
  unfold inProj
  refine Finset.sum_congr rfl fun k _ => ?_
  rw [h_blk, w_blk, V_main_v1, V_main_v3, V_main_arg0, V_main_arg1]
  exact congrArg₂ (fun a b : EReal => a * b) (rows_at _ _ _) (wts_at _ _ _)

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel8Ideal.Hand

namespace Cert.Reference8Ideal.Hand

open Cert.Reference8Ideal Cert.Reference8Ideal.Gen Cert.Ffn

theorem dot_at (X : FVec Ideal S4x4096x2048 .f32) (W : FVec Ideal S2048x6176 .f32) (b : Fin 4) (T : Fin 4096) (j : Fin 6176) :
    Host.dotGeneral dot_S4x4096x2048_S2048x6176_S4x4096x6176_2_0_01_1_n_n none X W (ix3 b T j) = ∑ k : Fin 2048, X (ix3 b T k) * W (ix2 k j) := by
  pointwise []

theorem rows_at (Z : FVec Ideal S4x4096x6176 .f32) (I : Fin 16384) (j : Fin 6144) :
    (shapeCast S16384x6144 (extractStridedSlice S4x4096x6144 ![0, 0, 0] Z slices_S4x4096x6176_S4x4096x6144_0_0_0) shapeCasts_S4x4096x6144_S16384x6144 : FVec Ideal S16384x6144 .f32)
      (ix2 I j) = Z (ix3 (bat I) (pos I) (mainCol j)) := by
  pointwise []
  rfl

/-- The plain program's result at every entry. -/
theorem out_eq (X : FVec Ideal S4x4096x2048 .f32) (W : FVec Ideal S2048x6176 .f32) :
    (shapeCast S16384x6144 (extractStridedSlice S4x4096x6144 ![0, 0, 0] (Host.dotGeneral dot_S4x4096x2048_S2048x6176_S4x4096x6176_2_0_01_1_n_n none X W) slices_S4x4096x6176_S4x4096x6144_0_0_0) shapeCasts_S4x4096x6144_S16384x6144 : FVec Ideal S16384x6144 .f32)
      = fun y => inProj (fun b T x => X (ix3 b T x)) (fun k j => W (ix2 k j)) (y 0) (y 1) := by
  funext y
  rw [show y = ix2 (y 0) (y 1) from eq_ix2 y]
  exact (rows_at _ _ _).trans (dot_at _ _ _ _ _)

end Cert.Reference8Ideal.Hand

namespace Cert.Ffn

/-- The projection's kernel leaves its arguments as they were, with every counter at zero. -/
theorem frame_kernel8 : Cert.quiescent_Kernel8 := fun m g _ => Cert.Kernel8.Gen.frame m g

/-- So does its idealization. -/
theorem frame_ideal8 : Cert.quiescent_Kernel8Ideal := fun m g _ => Cert.Kernel8Ideal.Gen.frame m g

/-- So does the plain program. -/
theorem frame_reference8 : Cert.quiescent_Reference8Ideal := fun m g _ =>
  (θ_run _ _ _).mono (fun r h => ⟨fun c => (h c).2, sem_eq_zero_of_no_sems (by decide) r.2⟩) (Cert.Reference8Ideal.Value.run m g)

/-- The idealized kernel and the plain program have equal results. -/
theorem algebraic8 : Cert.algebraic_Kernel8Ideal_Reference8Ideal := fun m g m' g' _ he =>
  ⟨fun c => Cert.Kernel8Ideal.Hand.result m c,
    (θ_run _ _ _).mono (fun _ h c => ⟨(h c).1.trans (Cert.Kernel8Ideal.Hand.arrAt2 m c), (h c).2⟩) (Cert.Kernel8Ideal.Value.run_blocks m g),
    (θ_run _ _ _).mono (fun _ h c => ⟨(h c).1.trans ((Cert.Reference8Ideal.Hand.out_eq _ _).trans (by rw [(he c).1, (he c).2]; rfl)),
      (h c).2⟩) (Cert.Reference8Ideal.Value.run m' g')⟩

end Cert.Ffn
-- ==== Proof.OutProj.lean ====
/-
  The first layer's output product with the gate and the residual: two half products per tile in the kernel, one product of
  the joined rows in the plain program.
-/
module

public import proofs.«01_k».proof.Proof.Gen.Kernel9.Frame
public import proofs.«01_k».proof.Proof.Gen.Kernel9Ideal.Value
public import proofs.«01_k».proof.Proof.Gen.Reference9Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- A row of the weights' first half. -/
def lo (k : Fin 1024) : Fin 2048 := ⟨k.val, by omega⟩
/-- A row of the weights' second half. -/
def hi (k : Fin 1024) : Fin 2048 := ⟨1024 + k.val, by omega⟩

theorem lo_val (k : Fin 1024) : (lo k).val = k.val := rfl
theorem hi_val (k : Fin 1024) : (hi k).val = 1024 + k.val := rfl

/-- A sum over the joined rows is the two halves' sums. -/
theorem sum_halves (f : Fin 2048 → EReal) : ∑ k : Fin 2048, f k = ∑ k : Fin 1024, f (lo k) + ∑ k : Fin 1024, f (hi k) :=
  Fin.sum_univ_add (a := 1024) (b := 1024) f

/-- An entry of the output product with its gate and residual: row `I`, column `j`, the rows given as two halves. -/
def halvesOut (X : Fin 4 → Fin 4096 → Fin 2048 → EReal) (G : Fin 4 → Fin 2048 → EReal) (A B : Fin 4 → Fin 4096 → Fin 1024 → EReal)
    (W : Fin 2048 → Fin 2048 → EReal) (I : Fin 16384) (j : Fin 2048) : EReal :=
  X (bat I) (pos I) j + G (bat I) j
    * (∑ k : Fin 1024, A (bat I) (pos I) k * W (lo k) j + ∑ k : Fin 1024, B (bat I) (pos I) k * W (hi k) j)

end Cert.Ffn

namespace Cert.Kernel9Ideal.Hand

open Cert.Kernel9Ideal Cert.Kernel9Ideal.Gen Cert.Ffn

/-- The residual stream. -/
abbrev arrX (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The gate of each batch. -/
abbrev arrG (m : (ℓ : Loc nD τ sig) → Buf (Elt Ideal) ℓ) (c : Dev nD) (b : Fin 4) (x : Fin 2048) : EReal :=
  m ((c : Thread nD τ).loc main_arg1) (Idealize.ShloMosaic.ix3 b 0 x)
/-- The Hyena rows. -/
abbrev arrA (m : (ℓ : Loc nD τ sig) → Buf (Elt Ideal) ℓ) (c : Dev nD) (b : Fin 4) (T : Fin 4096) (x : Fin 1024) : EReal :=
  m ((c : Thread nD τ).loc main_arg2) (Idealize.ShloMosaic.ix3 b T x)
/-- The GLA rows. -/
abbrev arrB (m : (ℓ : Loc nD τ sig) → Buf (Elt Ideal) ℓ) (c : Dev nD) (b : Fin 4) (T : Fin 4096) (x : Fin 1024) : EReal :=
  m ((c : Thread nD τ).loc main_arg3) (Idealize.ShloMosaic.ix3 b T x)
/-- The weights. -/
abbrev arrW (m : (ℓ : Loc nD τ sig) → Buf (Elt Ideal) ℓ) (c : Dev nD) (k : Fin 2048) (j : Fin 2048) : EReal :=
  m ((c : Thread nD τ).loc main_arg4) (Idealize.ShloMosaic.ix2 k j)

variable (m : (ℓ : Loc nD τ sig) → Buf (Elt Ideal) ℓ) (c : Dev nD)

/-- The weights as the kernel gets them. -/
theorem V_W : Gen.V m c main_v4 = (broadcastInDim S1x2048x2048 ![1, 2] bcast_S2048x2048_S1x2048x2048_1_2 (truncf .bf16 (Gen.V m c main_arg4 : FVec Ideal S2048x2048 .f32) bitsLt_bf16_f32 : FVec Ideal S2048x2048 .bf16) : FVec Ideal S1x2048x2048 .bf16) := by
  after_reads_simp
  all_goals rfl

theorem wts_at (W : FVec Ideal S2048x2048 .f32) (k j : Fin 2048) :
    (broadcastInDim S1x2048x2048 ![1, 2] bcast_S2048x2048_S1x2048x2048_1_2 (truncf .bf16 W bitsLt_bf16_f32 : FVec Ideal S2048x2048 .bf16) : FVec Ideal S1x2048x2048 .bf16)
      (Idealize.ShloMosaic.ix3 0 k j) = W (Idealize.ShloMosaic.ix2 k j) := by
  pointwise []

/-- The residual stream as the kernel gets it. -/
theorem V_X : Gen.V m c main_v3 = (shapeCast S16384x2048 (Gen.V m c main_arg0) shapeCasts_S4x4096x2048_S16384x2048 : FVec Ideal S16384x2048 .f32) := by
  after_reads_simp
  all_goals rfl

/-- The Hyena rows as the kernel gets them. -/
theorem V_A : Gen.V m c main_v0 = (shapeCast S16384x1024 (Gen.V m c main_arg2) shapeCasts_S4x4096x1024_S16384x1024 : FVec Ideal S16384x1024 .f32) := by
  after_reads_simp
  all_goals rfl

/-- The GLA rows as the kernel gets them. -/
theorem V_B : Gen.V m c main_v2 = (shapeCast S16384x1024 (Gen.V m c main_arg3) shapeCasts_S4x4096x1024_S16384x1024 : FVec Ideal S16384x1024 .bf16) := by
  after_reads_simp
  all_goals rfl

theorem half_at {e : FTy} (X : FVec Ideal S4x4096x1024 e) (I : Fin 16384) (k : Fin 1024) :
    (shapeCast S16384x1024 X shapeCasts_S4x4096x1024_S16384x1024 : FVec Ideal S16384x1024 e) (Idealize.ShloMosaic.ix2 I k)
      = X (Idealize.ShloMosaic.ix3 (bat I) (pos I) k) := by
  pointwise []
  rfl

theorem rows_at (X : FVec Ideal S4x4096x2048 .f32) (I : Fin 16384) (k : Fin 2048) :
    (shapeCast S16384x2048 X shapeCasts_S4x4096x2048_S16384x2048 : FVec Ideal S16384x2048 .f32) (Idealize.ShloMosaic.ix2 I k)
      = X (Idealize.ShloMosaic.ix3 (bat I) (pos I) k) := by
  pointwise []
  rfl

/-- A tile at an entry. -/
theorem tile_at (x0 : Vec Ideal S1024x1024 .f32) (x1 : Vec Ideal S1x1024x1024 .bf16) (x2 : Vec Ideal S1024x1024 .bf16) (x3 : Vec Ideal S1x1024x1024 .bf16)
    (x4 : Vec Ideal S1024x1024 .f32) (x5 : Vec Ideal S1x1x1024 .f32) (r j : Fin 1024) :
    out0_6 x0 x1 x2 x3 x4 x5 (Idealize.ShloMosaic.ix2 r j)
      = x4 (Idealize.ShloMosaic.ix2 r j) + x5 (Idealize.ShloMosaic.ix3 0 0 j)
          * (∑ k : Fin 1024, x0 (Idealize.ShloMosaic.ix2 r k) * x1 (Idealize.ShloMosaic.ix3 0 k j)
            + ∑ k : Fin 1024, x2 (Idealize.ShloMosaic.ix2 r k) * x3 (Idealize.ShloMosaic.ix3 0 k j)) := by
  unfold out0_6
  rw [show View.ld x0 r0_0 = x0 from View.ld_unit_lit _ _ (by decide), show View.ld x1 r0_1 = x1 from View.ld_unit_lit _ _ (by decide),
    show View.ld x2 r0_0 = x2 from View.ld_unit_lit _ _ (by decide), show View.ld x3 r0_1 = x3 from View.ld_unit_lit _ _ (by decide),
    show View.ld x4 r0_0 = x4 from View.ld_unit_lit _ _ (by decide), show View.ld x5 r0_2 = x5 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val / 2, 0] ∧ win0_1.index t = ![0, 0, t.val % 2] ∧ win0_2.index t = ![t.val / 2, 0] ∧ win0_3.index t = ![0, 1, t.val % 2]
    ∧ win0_4.index t = ![t.val / 2, t.val % 2] ∧ win0_5.index t = ![t.val / 2 / 4, 0, t.val % 2] ∧ win0_6.index t = ![t.val / 2, t.val % 2] :=
  (by decide +kernel : ∀ t : Fin grid0.N,
    win0_0.index t = ![t.val / 2, 0] ∧ win0_1.index t = ![0, 0, t.val % 2] ∧ win0_2.index t = ![t.val / 2, 0] ∧ win0_3.index t = ![0, 1, t.val % 2]
    ∧ win0_4.index t = ![t.val / 2, t.val % 2] ∧ win0_5.index t = ![t.val / 2 / 4, 0, t.val % 2] ∧ win0_6.index t = ![t.val / 2, t.val % 2]) t

theorem t_lt (t : Fin cfg0.N) : t.val < 32 := lt_of_lt_of_eq t.isLt N_0

/-- Row `r` of point `t`'s tile in the whole array. -/
def gRow (t : Fin cfg0.N) (r : Fin 1024) : Fin 16384 := ⟨1024 * (t.val / 2) + r.val, by have := t_lt t; omega⟩
/-- Column `j` of point `t`'s tile in the whole array. -/
def gCol (t : Fin cfg0.N) (j : Fin 1024) : Fin 2048 := ⟨1024 * (t.val % 2) + j.val, by omega⟩

theorem gRow_val (t : Fin cfg0.N) (r : Fin 1024) : (gRow t r).val = 1024 * (t.val / 2) + r.val := rfl
theorem gCol_val (t : Fin cfg0.N) (j : Fin 1024) : (gCol t j).val = 1024 * (t.val % 2) + j.val := rfl
theorem bat_val (t : Fin cfg0.N) (r : Fin 1024) : (bat (gRow t r)).val = t.val / 2 / 4 := by
  show (1024 * (t.val / 2) + r.val) / 4096 = _; omega

set_option maxHeartbeats 2000000 in
theorem a_blk (t : Fin cfg0.N) (r k : Fin 1024) :
    iblk m c 0 t (Idealize.ShloMosaic.ix2 r k) = Gen.V m c main_v0 (Idealize.ShloMosaic.ix2 (gRow t r) k) := by
  have e := idx t
  blk_ext [iblk, e, gRow_val]

set_option maxHeartbeats 2000000 in
theorem wa_blk (t : Fin cfg0.N) (k j : Fin 1024) :
    iblk m c 1 t (Idealize.ShloMosaic.ix3 0 k j) = Gen.V m c main_v4 (Idealize.ShloMosaic.ix3 0 (lo k) (gCol t j)) := by
  have e := idx t
  blk_ext [iblk, e, gCol_val, lo_val]

set_option maxHeartbeats 2000000 in
theorem b_blk (t : Fin cfg0.N) (r k : Fin 1024) :
    iblk m c 2 t (Idealize.ShloMosaic.ix2 r k) = Gen.V m c main_v2 (Idealize.ShloMosaic.ix2 (gRow t r) k) := by
  have e := idx t
  blk_ext [iblk, e, gRow_val]

set_option maxHeartbeats 2000000 in
theorem wb_blk (t : Fin cfg0.N) (k j : Fin 1024) :
    iblk m c 3 t (Idealize.ShloMosaic.ix3 0 k j) = Gen.V m c main_v4 (Idealize.ShloMosaic.ix3 0 (hi k) (gCol t j)) := by
  have e := idx t
  blk_ext [iblk, e, gCol_val, hi_val]

set_option maxHeartbeats 2000000 in
theorem x_blk (t : Fin cfg0.N) (r j : Fin 1024) :
    iblk m c 4 t (Idealize.ShloMosaic.ix2 r j) = Gen.V m c main_v3 (Idealize.ShloMosaic.ix2 (gRow t r) (gCol t j)) := by
  have e := idx t
  blk_ext [iblk, e, gRow_val, gCol_val]

set_option maxHeartbeats 2000000 in
theorem g_blk (t : Fin cfg0.N) (r j : Fin 1024) :
    iblk m c 5 t (Idealize.ShloMosaic.ix3 0 0 j) = Gen.V m c main_arg1 (Idealize.ShloMosaic.ix3 (bat (gRow t r)) 0 (gCol t j)) := by
  have e := idx t
  blk_ext [iblk, e, bat_val, gCol_val]

/-- The whole result. -/
def result (m : (ℓ : Loc nD τ sig) → Buf (Elt Ideal) ℓ) (c : Dev nD) : FVec Ideal S16384x2048 .f32 := fun y =>
  halvesOut (arrX m c) (arrG m c) (arrA m c) (arrB m c) (arrW m c) (y 0) (y 1)

/-- Point `t`'s tile at an entry. -/
theorem tile_eq (t : Fin cfg0.N) (r j : Fin 1024) :
    out0_6 (iblk m c 0 t) (iblk m c 1 t) (iblk m c 2 t) (iblk m c 3 t) (iblk m c 4 t) (iblk m c 5 t) (Idealize.ShloMosaic.ix2 r j)
      = halvesOut (arrX m c) (arrG m c) (arrA m c) (arrB m c) (arrW m c) (gRow t r) (gCol t j) := by
  rw [tile_at, x_blk, g_blk m c t r j, V_X, V_main_arg0, V_main_arg1]
  unfold halvesOut
  refine congrArg₂ (fun a b : EReal => a + b) (rows_at _ _ _) (congrArg (fun b : EReal => _ * b) (congrArg₂ (fun a b : EReal => a + b) ?_ ?_))
  · refine Finset.sum_congr rfl fun k _ => ?_
    rw [a_blk, wa_blk, V_A, V_W, V_main_arg2, V_main_arg4]
    exact congrArg₂ (fun a b : EReal => a * b) (half_at _ _ _) (wts_at _ _ _)
  · refine Finset.sum_congr rfl fun k _ => ?_
    rw [b_blk, wb_blk, V_B, V_W, V_main_arg3, V_main_arg4]
    exact congrArg₂ (fun a b : EReal => a * b) (half_at _ _ _) (wts_at _ _ _)

set_option maxHeartbeats 2000000 in
/-- The array after the run. -/
theorem arrAt6 : (dats m 0 c).arrAt 6 cfg0.N = result m c := by
  refine (dats m 0 c).arrAt_eq_of_covers 6 _ (by decide +kernel) fun t hf y => ?_
  have e := idx t
  blk_simp
  rw [after0_6]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel9Ideal.Hand

namespace Cert.Reference9Ideal.Hand

open Cert.Reference9Ideal Cert.Reference9Ideal.Gen Cert.Ffn

theorem dot_at (X : FVec Ideal S4x4096x2048 .f32) (W : FVec Ideal S2048x2048 .f32) (b : Fin 4) (T : Fin 4096) (j : Fin 2048) :
    Host.dotGeneral dot_S4x4096x2048_S2048x2048_S4x4096x2048_2_0_01_1_n_n none X W (ix3 b T j) = ∑ k : Fin 2048, X (ix3 b T k) * W (ix2 k j) := by
  pointwise []

theorem lo_at (A B : FVec Ideal S4x4096x1024 .f32) (b : Fin 4) (T : Fin 4096) (k : Fin 1024) :
    (concatenate S4x4096x2048 2 [⟨S4x4096x1024, A⟩, ⟨S4x4096x1024, B⟩] concatenates_S4x4096x1024_S4x4096x1024_S4x4096x2048_d2 : FVec Ideal S4x4096x2048 .f32)
      (ix3 b T (lo k)) = A (ix3 b T k) := by
  pointwise [lo]

theorem hi_at (A B : FVec Ideal S4x4096x1024 .f32) (b : Fin 4) (T : Fin 4096) (k : Fin 1024) :
    (concatenate S4x4096x2048 2 [⟨S4x4096x1024, A⟩, ⟨S4x4096x1024, B⟩] concatenates_S4x4096x1024_S4x4096x1024_S4x4096x2048_d2 : FVec Ideal S4x4096x2048 .f32)
      (ix3 b T (hi k)) = B (ix3 b T k) := by
  pointwise [hi]

theorem gated_at (X Z : FVec Ideal S4x4096x2048 .f32) (G : FVec Ideal S4x1x2048 .f32) (I : Fin 16384) (j : Fin 2048) :
    shapeCast S16384x2048 (addf X (mulf (broadcastInDim S4x4096x2048 ![0, 1, 2] bcast_S4x1x2048_S4x4096x2048_0_1_2 G) Z)) shapeCasts_S4x4096x2048_S16384x2048 (ix2 I j)
      = X (ix3 (bat I) (pos I) j) + G (ix3 (bat I) 0 j) * Z (ix3 (bat I) (pos I) j) := by
  pointwise []
  rfl

/-- The plain program's result at every entry. -/
theorem out_eq (X : FVec Ideal S4x4096x2048 .f32) (G : FVec Ideal S4x1x2048 .f32) (A : FVec Ideal S4x4096x1024 .f32) (B : FVec Ideal S4x4096x1024 .bf16) (W : FVec Ideal S2048x2048 .f32) :
    shapeCast S16384x2048 (addf X (mulf (broadcastInDim S4x4096x2048 ![0, 1, 2] bcast_S4x1x2048_S4x4096x2048_0_1_2 G) (Host.dotGeneral dot_S4x4096x2048_S2048x2048_S4x4096x2048_2_0_01_1_n_n none
      (concatenate S4x4096x2048 2 [⟨S4x4096x1024, A⟩, ⟨S4x4096x1024, (extf .f32 B bitsLt_bf16_f32)⟩] concatenates_S4x4096x1024_S4x4096x1024_S4x4096x2048_d2) W))) shapeCasts_S4x4096x2048_S16384x2048
      = fun y => halvesOut (fun b T x => X (ix3 b T x)) (fun b x => G (ix3 b 0 x)) (fun b T x => A (ix3 b T x)) (fun b T x => B (ix3 b T x)) (fun k j => W (ix2 k j)) (y 0) (y 1) := by
  funext y
  rw [show y = ix2 (y 0) (y 1) from eq_ix2 y]
  refine (gated_at _ _ _ _ _).trans ?_
  unfold halvesOut
  refine congrArg (fun z : EReal => X (ix3 (bat (y 0)) (pos (y 0)) (y 1)) + G (ix3 (bat (y 0)) 0 (y 1)) * z) ?_
  refine ((dot_at _ _ _ _ _).trans (sum_halves _)).trans (congrArg₂ (fun a b : EReal => a + b) ?_ ?_)
  · exact Finset.sum_congr rfl fun k _ => congrArg (fun a : EReal => a * W (ix2 (lo k) (y 1))) (lo_at _ _ _ _ _)
  · exact Finset.sum_congr rfl fun k _ => congrArg (fun a : EReal => a * W (ix2 (hi k) (y 1))) (hi_at _ _ _ _ _)

end Cert.Reference9Ideal.Hand

namespace Cert.Ffn

/-- The output product's kernel leaves its arguments as they were, with every counter at zero. -/
theorem frame_kernel9 : Cert.quiescent_Kernel9 := fun m g _ => Cert.Kernel9.Gen.frame m g

/-- So does its idealization. -/
theorem frame_ideal9 : Cert.quiescent_Kernel9Ideal := fun m g _ => Cert.Kernel9Ideal.Gen.frame m g

/-- So does the plain program. -/
theorem frame_reference9 : Cert.quiescent_Reference9Ideal := fun m g _ =>
  (θ_run _ _ _).mono (fun r h => ⟨fun c => (h c).2, sem_eq_zero_of_no_sems (by decide) r.2⟩) (Cert.Reference9Ideal.Value.run m g)

/-- The idealized kernel and the plain program have equal results. -/
theorem algebraic9 : Cert.algebraic_Kernel9Ideal_Reference9Ideal := fun m g m' g' _ he =>
  ⟨fun c => Cert.Kernel9Ideal.Hand.result m c,
    (θ_run _ _ _).mono (fun _ h c => ⟨(h c).1.trans (Cert.Kernel9Ideal.Hand.arrAt6 m c), (h c).2⟩) (Cert.Kernel9Ideal.Value.run_blocks m g),
    (θ_run _ _ _).mono (fun _ h c => ⟨(h c).1.trans ((Cert.Reference9Ideal.Hand.out_eq _ _ _ _ _).trans
      (by rw [(he c).1, (he c).2.1, (he c).2.2.1, (he c).2.2.2.1, (he c).2.2.2.2]; rfl)), (h c).2⟩) (Cert.Reference9Ideal.Value.run m' g')⟩

end Cert.Ffn
-- ==== Proof.GateIn.lean ====
/-
  The first product of the RWKV part's output gate: tile by tile in the kernel and as one product in the plain program.
-/
module

public import proofs.«01_k».proof.Proof.Gen.Kernel10.Frame
public import proofs.«01_k».proof.Proof.Gen.Kernel10Ideal.Value
public import proofs.«01_k».proof.Proof.Gen.Reference10Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- An entry of the gate's first product: row `I`, rank `j`. -/
def gateIn (A : Fin 4 → Fin 4096 → Fin 2048 → EReal) (W : Fin 2048 → Fin 256 → EReal) (I : Fin 16384) (j : Fin 256) : EReal :=
  ∑ k : Fin 2048, A (bat I) (pos I) k * W k j

end Cert.Ffn

namespace Cert.Kernel10Ideal.Hand

open Cert.Kernel10Ideal Cert.Kernel10Ideal.Gen Cert.Ffn

/-- The rows. -/
abbrev arrH (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The weights. -/
abbrev arrW (m : (ℓ : Loc nD τ sig) → Buf (Elt Ideal) ℓ) (c : Dev nD) (k : Fin 2048) (j : Fin 256) : EReal :=
  m ((c : Thread nD τ).loc main_arg1) (Idealize.ShloMosaic.ix2 k j)

variable (m : (ℓ : Loc nD τ sig) → Buf (Elt Ideal) ℓ) (c : Dev nD)

/-- The rows as the kernel gets them. -/
theorem V_main_v1 : Gen.V m c main_v1 = (truncf .bf16 (shapeCast S16384x2048 (Gen.V m c main_arg0) shapeCasts_S4x4096x2048_S16384x2048 : FVec Ideal S16384x2048 .f32) bitsLt_bf16_f32 : FVec Ideal S16384x2048 .bf16) := by
  after_reads_simp
  all_goals rfl

/-- The weights as the kernel gets them. -/
theorem V_main_v3 : Gen.V m c main_v3 = (broadcastInDim S1x2048x256 ![1, 2] bcast_S2048x256_S1x2048x256_1_2 (truncf .bf16 (Gen.V m c main_arg1 : FVec Ideal S2048x256 .f32) bitsLt_bf16_f32 : FVec Ideal S2048x256 .bf16) : FVec Ideal S1x2048x256 .bf16) := by
  after_reads_simp
  all_goals rfl

theorem wts_at (W : FVec Ideal S2048x256 .f32) (k : Fin 2048) (j : Fin 256) :
    (broadcastInDim S1x2048x256 ![1, 2] bcast_S2048x256_S1x2048x256_1_2 (truncf .bf16 W bitsLt_bf16_f32 : FVec Ideal S2048x256 .bf16) : FVec Ideal S1x2048x256 .bf16)
      (Idealize.ShloMosaic.ix3 0 k j) = W (Idealize.ShloMosaic.ix2 k j) := by
  pointwise []

theorem rows_at (X : FVec Ideal S4x4096x2048 .f32) (I : Fin 16384) (k : Fin 2048) :
    (truncf .bf16 (shapeCast S16384x2048 X shapeCasts_S4x4096x2048_S16384x2048 : FVec Ideal S16384x2048 .f32) bitsLt_bf16_f32 : FVec Ideal S16384x2048 .bf16)
      (Idealize.ShloMosaic.ix2 I k) = X (Idealize.ShloMosaic.ix3 (bat I) (pos I) k) := by
  pointwise []
  rfl

/-- A tile at an entry. -/
theorem tile_at (x0 : Vec Ideal S1024x2048 .bf16) (x1 : Vec Ideal S1x2048x256 .bf16) (r : Fin 1024) (j : Fin 256) :
    out0_2 x0 x1 (Idealize.ShloMosaic.ix2 r j)
      = (∑ k : Fin 2048, x0 (Idealize.ShloMosaic.ix2 r k) * x1 (Idealize.ShloMosaic.ix3 0 k j)) := by
  unfold out0_2
  rw [show View.ld x0 r0_0 = x0 from View.ld_unit_lit _ _ (by decide), show View.ld x1 r0_1 = x1 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val, 0] ∧ win0_1.index t = ![0, 0, 0] ∧ win0_2.index t = ![t.val, 0] :=
  (by decide +kernel : ∀ t : Fin grid0.N,
    win0_0.index t = ![t.val, 0] ∧ win0_1.index t = ![0, 0, 0] ∧ win0_2.index t = ![t.val, 0]) t

theorem t_lt (t : Fin cfg0.N) : t.val < 16 := lt_of_lt_of_eq t.isLt N_0

/-- Row `r` of point `t`'s tile in the whole array. -/
def gRow (t : Fin cfg0.N) (r : Fin 1024) : Fin 16384 := ⟨1024 * t.val + r.val, by have := t_lt t; omega⟩
/-- Column `j` of point `t`'s tile in the whole array. -/
def gCol (t : Fin cfg0.N) (j : Fin 256) : Fin 256 := j

theorem gRow_val (t : Fin cfg0.N) (r : Fin 1024) : (gRow t r).val = 1024 * t.val + r.val := rfl
theorem gCol_val (t : Fin cfg0.N) (j : Fin 256) : (gCol t j).val = j.val := rfl

set_option maxHeartbeats 2000000 in
theorem h_blk (t : Fin cfg0.N) (r : Fin 1024) (k : Fin 2048) :
    iblk m c 0 t (Idealize.ShloMosaic.ix2 r k) = Gen.V m c main_v1 (Idealize.ShloMosaic.ix2 (gRow t r) k) := by
  have e := idx t
  blk_ext [iblk, e, gRow_val]

set_option maxHeartbeats 2000000 in
theorem w_blk (t : Fin cfg0.N) (k : Fin 2048) (j : Fin 256) :
    iblk m c 1 t (Idealize.ShloMosaic.ix3 0 k j) = Gen.V m c main_v3 (Idealize.ShloMosaic.ix3 0 k (gCol t j)) := by
  have e := idx t
  blk_ext [iblk, e, gCol_val]

/-- The whole product. -/
def result (m : (ℓ : Loc nD τ sig) → Buf (Elt Ideal) ℓ) (c : Dev nD) : FVec Ideal S16384x256 .f32 := fun y =>
  gateIn (arrH m c) (arrW m c) (y 0) (y 1)

/-- Point `t`'s tile at an entry. -/
theorem tile_eq (t : Fin cfg0.N) (r : Fin 1024) (j : Fin 256) :
    out0_2 (iblk m c 0 t) (iblk m c 1 t) (Idealize.ShloMosaic.ix2 r j) = gateIn (arrH m c) (arrW m c) (gRow t r) (gCol t j) := by
  rw [tile_at]
  unfold gateIn
  refine Finset.sum_congr rfl fun k _ => ?_
  rw [h_blk, w_blk, V_main_v1, V_main_v3, V_main_arg0, V_main_arg1]
  exact congrArg₂ (fun a b : EReal => a * b) (rows_at _ _ _) (wts_at _ _ _)

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel10Ideal.Hand

namespace Cert.Reference10Ideal.Hand

open Cert.Reference10Ideal Cert.Reference10Ideal.Gen Cert.Ffn

theorem dot_at (X : FVec Ideal S4x4096x2048 .f32) (W : FVec Ideal S2048x256 .f32) (b : Fin 4) (T : Fin 4096) (j : Fin 256) :
    Host.dotGeneral dot_S4x4096x2048_S2048x256_S4x4096x256_2_0_01_1_n_n none X W (ix3 b T j) = ∑ k : Fin 2048, X (ix3 b T k) * W (ix2 k j) := by
  pointwise []

theorem rows_at (Z : FVec Ideal S4x4096x256 .f32) (I : Fin 16384) (j : Fin 256) :
    (shapeCast S16384x256 Z shapeCasts_S4x4096x256_S16384x256 : FVec Ideal S16384x256 .f32) (ix2 I j) = Z (ix3 (bat I) (pos I) j) := by
  pointwise []
  rfl

/-- The plain program's result at every entry. -/
theorem out_eq (X : FVec Ideal S4x4096x2048 .f32) (W : FVec Ideal S2048x256 .f32) :
    (shapeCast S16384x256 (Host.dotGeneral dot_S4x4096x2048_S2048x256_S4x4096x256_2_0_01_1_n_n none X W) shapeCasts_S4x4096x256_S16384x256 : FVec Ideal S16384x256 .f32)
      = fun y => gateIn (fun b T x => X (ix3 b T x)) (fun k j => W (ix2 k j)) (y 0) (y 1) := by
  funext y
  rw [show y = ix2 (y 0) (y 1) from eq_ix2 y]
  exact (rows_at _ _ _).trans (dot_at _ _ _ _ _)

end Cert.Reference10Ideal.Hand

namespace Cert.Ffn

/-- The projection's kernel leaves its arguments as they were, with every counter at zero. -/
theorem frame_kernel10 : Cert.quiescent_Kernel10 := fun m g _ => Cert.Kernel10.Gen.frame m g

/-- So does its idealization. -/
theorem frame_ideal10 : Cert.quiescent_Kernel10Ideal := fun m g _ => Cert.Kernel10Ideal.Gen.frame m g

/-- So does the plain program. -/
theorem frame_reference10 : Cert.quiescent_Reference10Ideal := fun m g _ =>
  (θ_run _ _ _).mono (fun r h => ⟨fun c => (h c).2, sem_eq_zero_of_no_sems (by decide) r.2⟩) (Cert.Reference10Ideal.Value.run m g)

/-- The idealized kernel and the plain program have equal results. -/
theorem algebraic10 : Cert.algebraic_Kernel10Ideal_Reference10Ideal := fun m g m' g' _ he =>
  ⟨fun c => Cert.Kernel10Ideal.Hand.result m c,
    (θ_run _ _ _).mono (fun _ h c => ⟨(h c).1.trans (Cert.Kernel10Ideal.Hand.arrAt2 m c), (h c).2⟩) (Cert.Kernel10Ideal.Value.run_blocks m g),
    (θ_run _ _ _).mono (fun _ h c => ⟨(h c).1.trans ((Cert.Reference10Ideal.Hand.out_eq _ _).trans (by rw [(he c).1, (he c).2]; rfl)),
      (h c).2⟩) (Cert.Reference10Ideal.Value.run m' g')⟩

end Cert.Ffn
-- ==== Proof.GateOut.lean ====
/-
  The second product of the RWKV part's output gate, of the sigmoid of the first: tile by tile in the kernel and as one product
  in the plain program.
-/
module

public import proofs.«01_k».proof.Proof.Gen.Kernel11.Frame
public import proofs.«01_k».proof.Proof.Gen.Kernel11Ideal.Value
public import proofs.«01_k».proof.Proof.Gen.Reference11Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- An entry of the gate: row `I`, column `j`. -/
def gateOut (A : Fin 16384 → Fin 256 → EReal) (W : Fin 256 → Fin 2048 → EReal) (I : Fin 16384) (j : Fin 2048) : EReal :=
  ∑ k : Fin 256, Ideal.logistic (A I k) * W k j

end Cert.Ffn

namespace Cert.Kernel11Ideal.Hand

open Cert.Kernel11Ideal Cert.Kernel11Ideal.Gen Cert.Ffn

/-- The ranks of every row. -/
abbrev arrH (m : (ℓ : Loc nD τ sig) → Buf (Elt Ideal) ℓ) (c : Dev nD) (I : Fin 16384) (x : Fin 256) : EReal :=
  m ((c : Thread nD τ).loc main_arg0) (Idealize.ShloMosaic.ix2 I x)
/-- The weights. -/
abbrev arrW (m : (ℓ : Loc nD τ sig) → Buf (Elt Ideal) ℓ) (c : Dev nD) (k : Fin 256) (j : Fin 2048) : EReal :=
  m ((c : Thread nD τ).loc main_arg1) (Idealize.ShloMosaic.ix2 k j)

variable (m : (ℓ : Loc nD τ sig) → Buf (Elt Ideal) ℓ) (c : Dev nD)

/-- The weights as the kernel gets them. -/
theorem V_main_v1 : Gen.V m c main_v1 = (broadcastInDim S1x256x2048 ![1, 2] bcast_S256x2048_S1x256x2048_1_2 (truncf .bf16 (Gen.V m c main_arg1 : FVec Ideal S256x2048 .f32) bitsLt_bf16_f32 : FVec Ideal S256x2048 .bf16) : FVec Ideal S1x256x2048 .bf16) := by
  after_reads_simp
  all_goals rfl

theorem wts_at (W : FVec Ideal S256x2048 .f32) (k : Fin 256) (j : Fin 2048) :
    (broadcastInDim S1x256x2048 ![1, 2] bcast_S256x2048_S1x256x2048_1_2 (truncf .bf16 W bitsLt_bf16_f32 : FVec Ideal S256x2048 .bf16) : FVec Ideal S1x256x2048 .bf16)
      (Idealize.ShloMosaic.ix3 0 k j) = W (Idealize.ShloMosaic.ix2 k j) := by
  pointwise []

/-- A tile at an entry. -/
theorem tile_at (x0 : Vec Ideal S1024x256 .f32) (x1 : Vec Ideal S1x256x1024 .bf16) (r : Fin 1024) (j : Fin 1024) :
    out0_2 x0 x1 (Idealize.ShloMosaic.ix2 r j)
      = (∑ k : Fin 256, Ideal.logistic (x0 (Idealize.ShloMosaic.ix2 r k)) * x1 (Idealize.ShloMosaic.ix3 0 k j)) := by
  unfold out0_2
  rw [show View.ld x0 r0_0 = x0 from View.ld_unit_lit _ _ (by decide), show View.ld x1 r0_1 = x1 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val / 2, 0] ∧ win0_1.index t = ![0, 0, t.val % 2] ∧ win0_2.index t = ![t.val / 2, t.val % 2] :=
  (by decide +kernel : ∀ t : Fin grid0.N,
    win0_0.index t = ![t.val / 2, 0] ∧ win0_1.index t = ![0, 0, t.val % 2] ∧ win0_2.index t = ![t.val / 2, t.val % 2]) t

theorem t_lt (t : Fin cfg0.N) : t.val < 32 := lt_of_lt_of_eq t.isLt N_0

/-- Row `r` of point `t`'s tile in the whole array. -/
def gRow (t : Fin cfg0.N) (r : Fin 1024) : Fin 16384 := ⟨1024 * (t.val / 2) + r.val, by have := t_lt t; omega⟩
/-- Column `j` of point `t`'s tile in the whole array. -/
def gCol (t : Fin cfg0.N) (j : Fin 1024) : Fin 2048 := ⟨1024 * (t.val % 2) + j.val, by omega⟩

theorem gRow_val (t : Fin cfg0.N) (r : Fin 1024) : (gRow t r).val = 1024 * (t.val / 2) + r.val := rfl
theorem gCol_val (t : Fin cfg0.N) (j : Fin 1024) : (gCol t j).val = 1024 * (t.val % 2) + j.val := rfl

set_option maxHeartbeats 2000000 in
theorem h_blk (t : Fin cfg0.N) (r : Fin 1024) (k : Fin 256) :
    iblk m c 0 t (Idealize.ShloMosaic.ix2 r k) = Gen.V m c main_arg0 (Idealize.ShloMosaic.ix2 (gRow t r) k) := by
  have e := idx t
  blk_ext [iblk, e, gRow_val]

set_option maxHeartbeats 2000000 in
theorem w_blk (t : Fin cfg0.N) (k : Fin 256) (j : Fin 1024) :
    iblk m c 1 t (Idealize.ShloMosaic.ix3 0 k j) = Gen.V m c main_v1 (Idealize.ShloMosaic.ix3 0 k (gCol t j)) := by
  have e := idx t
  blk_ext [iblk, e, gCol_val]

/-- The whole product. -/
def result (m : (ℓ : Loc nD τ sig) → Buf (Elt Ideal) ℓ) (c : Dev nD) : FVec Ideal S16384x2048 .bf16 := fun y =>
  gateOut (arrH m c) (arrW m c) (y 0) (y 1)

/-- Point `t`'s tile at an entry. -/
theorem tile_eq (t : Fin cfg0.N) (r j : Fin 1024) :
    out0_2 (iblk m c 0 t) (iblk m c 1 t) (Idealize.ShloMosaic.ix2 r j) = gateOut (arrH m c) (arrW m c) (gRow t r) (gCol t j) := by
  rw [tile_at]
  unfold gateOut
  refine Finset.sum_congr rfl fun k _ => ?_
  rw [h_blk, w_blk, V_main_v1, V_main_arg0, V_main_arg1]
  exact congrArg (fun b : EReal => _ * b) (wts_at _ _ _)

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel11Ideal.Hand

namespace Cert.Reference11Ideal.Hand

open Cert.Reference11Ideal Cert.Reference11Ideal.Gen Cert.Ffn

/-- The plain program's result at every entry. -/
theorem out_eq (X : FVec Ideal S16384x256 .f32) (W : FVec Ideal S256x2048 .f32) :
    (truncf .bf16 (Host.dotGeneral dot_S16384x256_S256x2048_S16384x2048_1_0_0_1_n_n none (Host.divf (broadcastInDim S16384x256 ![] bcast_S_S16384x256 (constant S_ .f32 0x3F800000#32)) (addf (broadcastInDim S16384x256 ![] bcast_S_S16384x256 (constant S_ .f32 0x3F800000#32)) (Host.exp (Host.negf X)))) W) bitsLt_bf16_f32 : FVec Ideal S16384x2048 .bf16)
      = fun y => gateOut (fun I k => X (ix2 I k)) (fun k j => W (ix2 k j)) (y 0) (y 1) := by
  funext y
  rw [show y = ix2 (y 0) (y 1) from eq_ix2 y]
  unfold gateOut
  pointwise []
  rfl

end Cert.Reference11Ideal.Hand

namespace Cert.Ffn

/-- The gate's kernel leaves its arguments as they were, with every counter at zero. -/
theorem frame_kernel11 : Cert.quiescent_Kernel11 := fun m g _ => Cert.Kernel11.Gen.frame m g

/-- So does its idealization. -/
theorem frame_ideal11 : Cert.quiescent_Kernel11Ideal := fun m g _ => Cert.Kernel11Ideal.Gen.frame m g

/-- So does the plain program. -/
theorem frame_reference11 : Cert.quiescent_Reference11Ideal := fun m g _ =>
  (θ_run _ _ _).mono (fun r h => ⟨fun c => (h c).2, sem_eq_zero_of_no_sems (by decide) r.2⟩) (Cert.Reference11Ideal.Value.run m g)

/-- The idealized kernel and the plain program have equal results. -/
theorem algebraic11 : Cert.algebraic_Kernel11Ideal_Reference11Ideal := fun m g m' g' _ he =>
  ⟨fun c => Cert.Kernel11Ideal.Hand.result m c,
    (θ_run _ _ _).mono (fun _ h c => ⟨(h c).1.trans (Cert.Kernel11Ideal.Hand.arrAt2 m c), (h c).2⟩) (Cert.Kernel11Ideal.Value.run_blocks m g),
    (θ_run _ _ _).mono (fun _ h c => ⟨(h c).1.trans ((Cert.Reference11Ideal.Hand.out_eq _ _).trans (by rw [(he c).1, (he c).2]; rfl)),
      (h c).2⟩) (Cert.Reference11Ideal.Value.run m' g')⟩

end Cert.Ffn
-- ==== Proof.LowIn.lean ====
/-
  The low-rank products of the RWKV part's decays, or of its rates, for both directions side by side: tile by tile in the kernel,
  and as one product for each direction in the plain program.
-/
module

public import proofs.«01_k».proof.Proof.Gen.Kernel12.Frame
public import proofs.«01_k».proof.Proof.Gen.Kernel12Ideal.Value
public import proofs.«01_k».proof.Proof.Gen.Reference12Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- The word zero as a number. -/
theorem zero_word : (FloatOps.sitofp (F := Ideal) .f32 (0#32 : BitVec 32) : EReal) = 0 := by
  show (((0#32 : BitVec 32).toInt : ℝ) : EReal) = 0
  simp

/-- Two rows of 96 numbers side by side, each followed by 32 zeros. -/
def sides (f g : Fin 96 → EReal) (j : Fin 256) : EReal :=
  if h : j.val < 128 then (if h' : j.val < 96 then f ⟨j.val, h'⟩ else 0)
  else if h' : j.val - 128 < 96 then g ⟨j.val - 128, h'⟩ else 0

/-- A row of both directions' weights. -/
def lowW (W : Fin 2 → Fin 2048 → Fin 96 → EReal) (k : Fin 2048) : Fin 256 → EReal := sides (W 0 k) (W 1 k)

/-- An entry of the low-rank products: row `I`, column `j`. -/
def lowIn (A : Fin 4 → Fin 4096 → Fin 2048 → EReal) (W : Fin 2 → Fin 2048 → Fin 96 → EReal) (I : Fin 16384) (j : Fin 256) : EReal :=
  ∑ k : Fin 2048, A (bat I) (pos I) k * lowW W k j

/-- Products side by side are the product with the weights side by side. -/
theorem sides_sum (a : Fin 2048 → EReal) (W : Fin 2 → Fin 2048 → Fin 96 → EReal) (j : Fin 256) :
    sides (fun j => ∑ k, a k * W 0 k j) (fun j => ∑ k, a k * W 1 k j) j = ∑ k, a k * lowW W k j := by
  unfold lowW sides
  split
  · split
    · rfl
    · simp
  · split
    · rfl
    · simp

end Cert.Ffn

namespace Cert.Kernel12Ideal.Hand

open Cert.Kernel12Ideal Cert.Kernel12Ideal.Gen Cert.Ffn

/-- The rows. -/
abbrev arrH (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The weights. -/
abbrev arrW (m : (ℓ : Loc nD τ sig) → Buf (Elt Ideal) ℓ) (c : Dev nD) (d : Fin 2) (k : Fin 2048) (j : Fin 96) : EReal :=
  m ((c : Thread nD τ).loc main_arg1) (Idealize.ShloMosaic.ix3 d k j)

variable (m : (ℓ : Loc nD τ sig) → Buf (Elt Ideal) ℓ) (c : Dev nD)

/-- Both directions' weights side by side, each with 32 columns of zeros. -/
def laid (W : FVec Ideal S2x2048x96 .f32) : FVec Ideal S1x2048x256 .bf16 :=
  broadcastInDim S1x2048x256 ![1, 2] bcast_S2048x256_S1x2048x256_1_2
    (truncf .bf16 (concatenate S2048x256 1 [⟨S2048x128, pad S2048x128 ![0, 0] ![0, 32] ![0, 0] (shapeCast S2048x96 (extractStridedSlice S1x2048x96 ![0, 0, 0] W slices_S2x2048x96_S1x2048x96_0_0_0) shapeCasts_S1x2048x96_S2048x96) (sitofp (F := Ideal) .f32 (constantI S_ 32 0#32)) pads_S2048x96_S2048x128_000_0320 h_S_⟩,
      ⟨S2048x128, pad S2048x128 ![0, 0] ![0, 32] ![0, 0] (shapeCast S2048x96 (extractStridedSlice S1x2048x96 ![1, 0, 0] W slices_S2x2048x96_S1x2048x96_1_0_0) shapeCasts_S1x2048x96_S2048x96) (sitofp (F := Ideal) .f32 (constantI S_ 32 0#32)) pads_S2048x96_S2048x128_000_0320 h_S_⟩] concatenates_S2048x128_S2048x128_S2048x256_d1 : FVec Ideal S2048x256 .f32) bitsLt_bf16_f32 : FVec Ideal S2048x256 .bf16)

/-- The rows as the kernel gets them. -/
theorem V_main_v9 : Gen.V m c main_v9 = (truncf .bf16 (shapeCast S16384x2048 (Gen.V m c main_arg0) shapeCasts_S4x4096x2048_S16384x2048 : FVec Ideal S16384x2048 .f32) bitsLt_bf16_f32 : FVec Ideal S16384x2048 .bf16) := by
  after_reads_simp
  all_goals rfl

/-- The weights as the kernel gets them. -/
theorem V_main_v10 : Gen.V m c main_v10 = laid (Gen.V m c main_arg1) := by
  unfold laid
  after_reads_simp
  all_goals rfl

theorem wts_at (W : FVec Ideal S2x2048x96 .f32) (k : Fin 2048) (j : Fin 256) :
    laid W (Idealize.ShloMosaic.ix3 0 k j) = lowW (fun d k j => W (Idealize.ShloMosaic.ix3 d k j)) k j := by
  unfold lowW sides
  pointwise [laid]
  simp only [zero_word]

theorem rows_at (X : FVec Ideal S4x4096x2048 .f32) (I : Fin 16384) (k : Fin 2048) :
    (truncf .bf16 (shapeCast S16384x2048 X shapeCasts_S4x4096x2048_S16384x2048 : FVec Ideal S16384x2048 .f32) bitsLt_bf16_f32 : FVec Ideal S16384x2048 .bf16)
      (Idealize.ShloMosaic.ix2 I k) = X (Idealize.ShloMosaic.ix3 (bat I) (pos I) k) := by
  pointwise []
  rfl

/-- A tile at an entry. -/
theorem tile_at (x0 : Vec Ideal S1024x2048 .bf16) (x1 : Vec Ideal S1x2048x256 .bf16) (r : Fin 1024) (j : Fin 256) :
    out0_2 x0 x1 (Idealize.ShloMosaic.ix2 r j)
      = (∑ k : Fin 2048, x0 (Idealize.ShloMosaic.ix2 r k) * x1 (Idealize.ShloMosaic.ix3 0 k j)) := by
  unfold out0_2
  rw [show View.ld x0 r0_0 = x0 from View.ld_unit_lit _ _ (by decide), show View.ld x1 r0_1 = x1 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val, 0] ∧ win0_1.index t = ![0, 0, 0] ∧ win0_2.index t = ![t.val, 0] :=
  (by decide +kernel : ∀ t : Fin grid0.N,
    win0_0.index t = ![t.val, 0] ∧ win0_1.index t = ![0, 0, 0] ∧ win0_2.index t = ![t.val, 0]) t

theorem t_lt (t : Fin cfg0.N) : t.val < 16 := lt_of_lt_of_eq t.isLt N_0

/-- Row `r` of point `t`'s tile in the whole array. -/
def gRow (t : Fin cfg0.N) (r : Fin 1024) : Fin 16384 := ⟨1024 * t.val + r.val, by have := t_lt t; omega⟩
/-- Column `j` of point `t`'s tile in the whole array. -/
def gCol (t : Fin cfg0.N) (j : Fin 256) : Fin 256 := j

theorem gRow_val (t : Fin cfg0.N) (r : Fin 1024) : (gRow t r).val = 1024 * t.val + r.val := rfl
theorem gCol_val (t : Fin cfg0.N) (j : Fin 256) : (gCol t j).val = j.val := rfl

set_option maxHeartbeats 2000000 in
theorem h_blk (t : Fin cfg0.N) (r : Fin 1024) (k : Fin 2048) :
    iblk m c 0 t (Idealize.ShloMosaic.ix2 r k) = Gen.V m c main_v9 (Idealize.ShloMosaic.ix2 (gRow t r) k) := by
  have e := idx t
  blk_ext [iblk, e, gRow_val]

set_option maxHeartbeats 2000000 in
theorem w_blk (t : Fin cfg0.N) (k : Fin 2048) (j : Fin 256) :
    iblk m c 1 t (Idealize.ShloMosaic.ix3 0 k j) = Gen.V m c main_v10 (Idealize.ShloMosaic.ix3 0 k (gCol t j)) := by
  have e := idx t
  blk_ext [iblk, e, gCol_val]

/-- The whole product. -/
def result (m : (ℓ : Loc nD τ sig) → Buf (Elt Ideal) ℓ) (c : Dev nD) : FVec Ideal S16384x256 .f32 := fun y =>
  lowIn (arrH m c) (arrW m c) (y 0) (y 1)

/-- Point `t`'s tile at an entry. -/
theorem tile_eq (t : Fin cfg0.N) (r : Fin 1024) (j : Fin 256) :
    out0_2 (iblk m c 0 t) (iblk m c 1 t) (Idealize.ShloMosaic.ix2 r j) = lowIn (arrH m c) (arrW m c) (gRow t r) (gCol t j) := by
  rw [tile_at]
  unfold lowIn
  refine Finset.sum_congr rfl fun k _ => ?_
  rw [h_blk, w_blk, V_main_v9, V_main_v10, V_main_arg0, V_main_arg1]
  exact congrArg₂ (fun a b : EReal => a * b) (rows_at _ _ _) (wts_at _ _ _)

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel12Ideal.Hand

namespace Cert.Reference12Ideal.Hand

open Cert.Reference12Ideal Cert.Reference12Ideal.Gen Cert.Ffn

theorem dot_at (X : FVec Ideal S4x4096x2048 .f32) (W : FVec Ideal S2048x96 .f32) (b : Fin 4) (T : Fin 4096) (j : Fin 96) :
    Host.dotGeneral dot_S4x4096x2048_S2048x96_S4x4096x96_2_0_01_1_n_n none X W (ix3 b T j) = ∑ k : Fin 2048, X (ix3 b T k) * W (ix2 k j) := by
  pointwise []

theorem wts_at (W : FVec Ideal S2x2048x96 .f32) (k : Fin 2048) (j : Fin 96) :
    shapeCast S2048x96 (extractStridedSlice S1x2048x96 ![0, 0, 0] W slices_S2x2048x96_S1x2048x96_0_0_0) shapeCasts_S1x2048x96_S2048x96 (ix2 k j) = W (ix3 0 k j)
    ∧ shapeCast S2048x96 (extractStridedSlice S1x2048x96 ![1, 0, 0] W slices_S2x2048x96_S1x2048x96_1_0_0) shapeCasts_S1x2048x96_S2048x96 (ix2 k j) = W (ix3 1 k j) := by
  constructor <;> pointwise []

/-- Both directions' products side by side, each with 32 columns of zeros. -/
theorem laid_at (Z0 Z1 : FVec Ideal S4x4096x96 .f32) (I : Fin 16384) (j : Fin 256) :
    (shapeCast S16384x256 (concatenate S4x4096x256 2 [⟨S4x4096x128, pad S4x4096x128 ![0, 0, 0] ![0, 0, 32] ![0, 0, 0] Z0 (sitofp (F := Ideal) .f32 (constantI S_ 32 0#32)) pads_S4x4096x96_S4x4096x128_000_000_0320 h_S_⟩,
      ⟨S4x4096x128, pad S4x4096x128 ![0, 0, 0] ![0, 0, 32] ![0, 0, 0] Z1 (sitofp (F := Ideal) .f32 (constantI S_ 32 0#32)) pads_S4x4096x96_S4x4096x128_000_000_0320 h_S_⟩] concatenates_S4x4096x128_S4x4096x128_S4x4096x256_d2 : FVec Ideal S4x4096x256 .f32) shapeCasts_S4x4096x256_S16384x256 : FVec Ideal S16384x256 .f32)
      (ix2 I j) = sides (fun j => Z0 (ix3 (bat I) (pos I) j)) (fun j => Z1 (ix3 (bat I) (pos I) j)) j := by
  unfold sides
  pointwise []
  have h1 : I.val / 4096 < 4 := by omega
  have h2 : I.val % 4096 < 4096 := by omega
  simp only [h1, h2, true_and, zero_word]
  rfl

/-- The plain program's result at every entry. -/
theorem out_eq (X : FVec Ideal S4x4096x2048 .f32) (W : FVec Ideal S2x2048x96 .f32) :
    (shapeCast _ (concatenate S4x4096x256 2 [⟨S4x4096x128, (pad S4x4096x128 ![0, 0, 0] ![0, 0, 32] ![0, 0, 0] (Host.dotGeneral dot_S4x4096x2048_S2048x96_S4x4096x96_2_0_01_1_n_n none X (shapeCast _ (extractStridedSlice S1x2048x96 ![0, 0, 0] W slices_S2x2048x96_S1x2048x96_0_0_0) shapeCasts_S1x2048x96_S2048x96)) (sitofp .f32 (constantI S_ 32 0#32)) pads_S4x4096x96_S4x4096x128_000_000_0320 h_S_)⟩, ⟨S4x4096x128, (pad S4x4096x128 ![0, 0, 0] ![0, 0, 32] ![0, 0, 0] (Host.dotGeneral dot_S4x4096x2048_S2048x96_S4x4096x96_2_0_01_1_n_n none X (shapeCast _ (extractStridedSlice S1x2048x96 ![1, 0, 0] W slices_S2x2048x96_S1x2048x96_1_0_0) shapeCasts_S1x2048x96_S2048x96)) (sitofp .f32 (constantI S_ 32 0#32)) pads_S4x4096x96_S4x4096x128_000_000_0320 h_S_)⟩] concatenates_S4x4096x128_S4x4096x128_S4x4096x256_d2) shapeCasts_S4x4096x256_S16384x256 : FVec Ideal S16384x256 .f32)
      = fun y => lowIn (fun b T x => X (ix3 b T x)) (fun d k j => W (ix3 d k j)) (y 0) (y 1) := by
  funext y
  rw [show y = ix2 (y 0) (y 1) from eq_ix2 y]
  refine (laid_at _ _ _ _).trans ?_
  refine Eq.trans ?_ (sides_sum _ _ _)
  refine congrArg₂ (fun f g => sides f g (y 1)) (funext fun j => ?_) (funext fun j => ?_)
  · exact (dot_at _ _ _ _ _).trans (Finset.sum_congr rfl fun k _ => congrArg (fun b : EReal => _ * b) (wts_at _ _ _).1)
  · exact (dot_at _ _ _ _ _).trans (Finset.sum_congr rfl fun k _ => congrArg (fun b : EReal => _ * b) (wts_at _ _ _).2)

end Cert.Reference12Ideal.Hand

namespace Cert.Ffn

/-- The projection's kernel leaves its arguments as they were, with every counter at zero. -/
theorem frame_kernel12 : Cert.quiescent_Kernel12 := fun m g _ => Cert.Kernel12.Gen.frame m g

/-- So does its idealization. -/
theorem frame_ideal12 : Cert.quiescent_Kernel12Ideal := fun m g _ => Cert.Kernel12Ideal.Gen.frame m g

/-- So does the plain program. -/
theorem frame_reference12 : Cert.quiescent_Reference12Ideal := fun m g _ =>
  (θ_run _ _ _).mono (fun r h => ⟨fun c => (h c).2, sem_eq_zero_of_no_sems (by decide) r.2⟩) (Cert.Reference12Ideal.Value.run m g)

/-- The idealized kernel and the plain program have equal results. -/
theorem algebraic12 : Cert.algebraic_Kernel12Ideal_Reference12Ideal := fun m g m' g' _ he =>
  ⟨fun c => Cert.Kernel12Ideal.Hand.result m c,
    (θ_run _ _ _).mono (fun _ h c => ⟨(h c).1.trans (Cert.Kernel12Ideal.Hand.arrAt2 m c), (h c).2⟩) (Cert.Kernel12Ideal.Value.run_blocks m g),
    (θ_run _ _ _).mono (fun _ h c => ⟨(h c).1.trans ((Cert.Reference12Ideal.Hand.out_eq _ _).trans (by rw [(he c).1, (he c).2]; rfl)),
      (h c).2⟩) (Cert.Reference12Ideal.Value.run m' g')⟩

end Cert.Ffn
-- ==== Proof.DecayOut.lean ====
/-
  The second direction's decays of the RWKV part, before their last function: the product of the ranks' tanh and the bias, tile by
  tile in the kernel and as one product in the plain program.
-/
module

public import proofs.«01_k».proof.Proof.Gen.Kernel13.Frame
public import proofs.«01_k».proof.Proof.Gen.Kernel13Ideal.Value
public import proofs.«01_k».proof.Proof.Gen.Reference13Ideal.Run
public import proofs.«01_k».proof.Proof.LowIn
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- The column of the second direction's rank `k`. -/
def rank (k : Fin 128) : Fin 256 := ⟨128 + k.val, by omega⟩

theorem rank_val (k : Fin 128) : (rank k).val = 128 + k.val := rfl

/-- One of the 96 ranks among 128. -/
def low (k : Fin 96) : Fin 128 := ⟨k.val, by omega⟩

/-- 96 numbers followed by 32 zeros. -/
def padRow (w : Fin 96 → EReal) (k : Fin 128) : EReal := if h : k.val < 96 then w ⟨k.val, h⟩ else 0

/-- A sum against such a row stops at the 96th. -/
theorem sum_padRow (a : Fin 128 → EReal) (w : Fin 96 → EReal) : ∑ k : Fin 128, a k * padRow w k = ∑ k : Fin 96, a (low k) * w k := by
  refine (Fin.sum_univ_add (a := 96) (b := 32) fun k : Fin 128 => a k * padRow w k).trans ?_
  rw [Finset.sum_eq_zero (s := Finset.univ) (f := fun k : Fin 32 => a (Fin.natAdd 96 k) * padRow w (Fin.natAdd 96 k)), add_zero]
  · exact Finset.sum_congr rfl fun k _ => congrArg (fun b : EReal => a (low k) * b) (dif_pos k.isLt)
  · intro k _
    rw [show padRow w (Fin.natAdd 96 k) = 0 from dif_neg (by show ¬ 96 + k.val < 96; omega), mul_zero]

/-- An entry of the second direction's decays or rates before their last function: row `I`, column `j`. -/
def rankOut (f : EReal → EReal) (A : Fin 16384 → Fin 256 → EReal) (W : Fin 2 → Fin 96 → Fin 2048 → EReal) (B : Fin 2 → Fin 2048 → EReal)
    (I : Fin 16384) (j : Fin 2048) : EReal :=
  ∑ k : Fin 96, f (A I (rank (low k))) * W 1 k j + B 1 j

end Cert.Ffn

namespace Cert.Kernel13Ideal.Hand

open Cert.Kernel13Ideal Cert.Kernel13Ideal.Gen Cert.Ffn

/-- The ranks of every row, both directions' side by side. -/
abbrev arrH (m : (ℓ : Loc nD τ sig) → Buf (Elt Ideal) ℓ) (c : Dev nD) (I : Fin 16384) (x : Fin 256) : EReal :=
  m ((c : Thread nD τ).loc main_arg0) (Idealize.ShloMosaic.ix2 I x)
/-- The weights. -/
abbrev arrW (m : (ℓ : Loc nD τ sig) → Buf (Elt Ideal) ℓ) (c : Dev nD) (d : Fin 2) (k : Fin 96) (j : Fin 2048) : EReal :=
  m ((c : Thread nD τ).loc main_arg1) (Idealize.ShloMosaic.ix3 d k j)
/-- The biases. -/
abbrev arrB (m : (ℓ : Loc nD τ sig) → Buf (Elt Ideal) ℓ) (c : Dev nD) (d : Fin 2) (j : Fin 2048) : EReal :=
  m ((c : Thread nD τ).loc main_arg2) (Idealize.ShloMosaic.ix2 d j)

variable (m : (ℓ : Loc nD τ sig) → Buf (Elt Ideal) ℓ) (c : Dev nD)

/-- The second direction's weights with 32 rows of zeros. -/
def padded (W : FVec Ideal S2x96x2048 .f32) : FVec Ideal S1x128x2048 .bf16 :=
  broadcastInDim S1x128x2048 ![1, 2] bcast_S128x2048_S1x128x2048_1_2
    (truncf .bf16 (pad S128x2048 ![0, 0] ![32, 0] ![0, 0] (shapeCast S96x2048 (extractStridedSlice S1x96x2048 ![1, 0, 0] W slices_S2x96x2048_S1x96x2048_1_0_0) shapeCasts_S1x96x2048_S96x2048) (sitofp (F := Ideal) .f32 (constantI S_ 32 0#32)) pads_S96x2048_S128x2048_0320_000 h_S_ : FVec Ideal S128x2048 .f32) bitsLt_bf16_f32 : FVec Ideal S128x2048 .bf16)

/-- The weights as the kernel gets them. -/
theorem V_main_v6 : Gen.V m c main_v6 = padded (Gen.V m c main_arg1) := by
  unfold padded
  after_reads_simp
  all_goals rfl

/-- The bias as the kernel gets it. -/
theorem V_main_v7 : Gen.V m c main_v7 = (shapeCast S1x2048 (shapeCast S2048 (extractStridedSlice S1x2048 ![1, 0] (Gen.V m c main_arg2 : FVec Ideal S2x2048 .f32) slices_S2x2048_S1x2048_1_0) shapeCasts_S1x2048_S2048) shapeCasts_S2048_S1x2048 : FVec Ideal S1x2048 .f32) := by
  after_reads_simp
  all_goals rfl

theorem wts_at (W : FVec Ideal S2x96x2048 .f32) (k : Fin 128) (j : Fin 2048) :
    padded W (Idealize.ShloMosaic.ix3 0 k j) = padRow (fun k => W (Idealize.ShloMosaic.ix3 1 k j)) k := by
  unfold padRow
  pointwise [padded]
  simp only [zero_word]

theorem bias_at (B : FVec Ideal S2x2048 .f32) (j : Fin 2048) :
    (shapeCast S1x2048 (shapeCast S2048 (extractStridedSlice S1x2048 ![1, 0] B slices_S2x2048_S1x2048_1_0) shapeCasts_S1x2048_S2048) shapeCasts_S2048_S1x2048 : FVec Ideal S1x2048 .f32)
      (Idealize.ShloMosaic.ix2 0 j) = B (Idealize.ShloMosaic.ix2 1 j) := by
  pointwise []

/-- A tile at an entry. -/
theorem tile_at (x0 : Vec Ideal S1024x128 .f32) (x1 : Vec Ideal S1x128x1024 .bf16) (x2 : Vec Ideal S1x1024 .f32) (r j : Fin 1024) :
    out0_3 x0 x1 x2 (Idealize.ShloMosaic.ix2 r j)
      = (∑ k : Fin 128, Ideal.tanh (x0 (Idealize.ShloMosaic.ix2 r k)) * x1 (Idealize.ShloMosaic.ix3 0 k j)) + x2 (Idealize.ShloMosaic.ix2 0 j) := by
  unfold out0_3
  rw [show View.ld x0 r0_0 = x0 from View.ld_unit_lit _ _ (by decide), show View.ld x1 r0_1 = x1 from View.ld_unit_lit _ _ (by decide),
    show View.ld x2 r0_2 = x2 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val / 2, 1] ∧ win0_1.index t = ![0, 0, t.val % 2] ∧ win0_2.index t = ![0, t.val % 2] ∧ win0_3.index t = ![t.val / 2, t.val % 2] :=
  (by decide +kernel : ∀ t : Fin grid0.N,
    win0_0.index t = ![t.val / 2, 1] ∧ win0_1.index t = ![0, 0, t.val % 2] ∧ win0_2.index t = ![0, t.val % 2] ∧ win0_3.index t = ![t.val / 2, t.val % 2]) t

theorem t_lt (t : Fin cfg0.N) : t.val < 32 := lt_of_lt_of_eq t.isLt N_0

/-- Row `r` of point `t`'s tile in the whole array. -/
def gRow (t : Fin cfg0.N) (r : Fin 1024) : Fin 16384 := ⟨1024 * (t.val / 2) + r.val, by have := t_lt t; omega⟩
/-- Column `j` of point `t`'s tile in the whole array. -/
def gCol (t : Fin cfg0.N) (j : Fin 1024) : Fin 2048 := ⟨1024 * (t.val % 2) + j.val, by omega⟩

theorem gRow_val (t : Fin cfg0.N) (r : Fin 1024) : (gRow t r).val = 1024 * (t.val / 2) + r.val := rfl
theorem gCol_val (t : Fin cfg0.N) (j : Fin 1024) : (gCol t j).val = 1024 * (t.val % 2) + j.val := rfl

set_option maxHeartbeats 2000000 in
theorem h_blk (t : Fin cfg0.N) (r : Fin 1024) (k : Fin 128) :
    iblk m c 0 t (Idealize.ShloMosaic.ix2 r k) = Gen.V m c main_arg0 (Idealize.ShloMosaic.ix2 (gRow t r) (rank k)) := by
  have e := idx t
  blk_ext [iblk, e, gRow_val, rank_val]

set_option maxHeartbeats 2000000 in
theorem w_blk (t : Fin cfg0.N) (k : Fin 128) (j : Fin 1024) :
    iblk m c 1 t (Idealize.ShloMosaic.ix3 0 k j) = Gen.V m c main_v6 (Idealize.ShloMosaic.ix3 0 k (gCol t j)) := by
  have e := idx t
  blk_ext [iblk, e, gCol_val]

set_option maxHeartbeats 2000000 in
theorem b_blk (t : Fin cfg0.N) (j : Fin 1024) :
    iblk m c 2 t (Idealize.ShloMosaic.ix2 0 j) = Gen.V m c main_v7 (Idealize.ShloMosaic.ix2 0 (gCol t j)) := by
  have e := idx t
  blk_ext [iblk, e, gCol_val]

/-- The whole result. -/
def result (m : (ℓ : Loc nD τ sig) → Buf (Elt Ideal) ℓ) (c : Dev nD) : FVec Ideal S16384x2048 .f32 := fun y =>
  rankOut Ideal.tanh (arrH m c) (arrW m c) (arrB m c) (y 0) (y 1)

/-- Point `t`'s tile at an entry. -/
theorem tile_eq (t : Fin cfg0.N) (r j : Fin 1024) :
    out0_3 (iblk m c 0 t) (iblk m c 1 t) (iblk m c 2 t) (Idealize.ShloMosaic.ix2 r j) = rankOut Ideal.tanh (arrH m c) (arrW m c) (arrB m c) (gRow t r) (gCol t j) := by
  rw [tile_at, b_blk, V_main_v7, V_main_arg2]
  unfold rankOut
  refine congrArg₂ (fun a b : EReal => a + b) ?_ (bias_at _ _)
  refine Eq.trans (Finset.sum_congr rfl fun k _ => ?_) (sum_padRow (fun k => Ideal.tanh (arrH m c (gRow t r) (rank k))) (fun k => arrW m c 1 k (gCol t j)))
  rw [h_blk, w_blk, V_main_v6, V_main_arg0, V_main_arg1]
  exact congrArg (fun b : EReal => _ * b) (wts_at _ _ _)

set_option maxHeartbeats 2000000 in
/-- The array after the run. -/
theorem arrAt3 : (dats m 0 c).arrAt 3 cfg0.N = result m c := by
  refine (dats m 0 c).arrAt_eq_of_covers 3 _ (by decide +kernel) fun t hf y => ?_
  have e := idx t
  blk_simp
  rw [after0_3]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel13Ideal.Hand

namespace Cert.Reference13Ideal.Hand

open Cert.Reference13Ideal Cert.Reference13Ideal.Gen Cert.Ffn

/-- The plain program's result at every entry. -/
theorem out_eq (X : FVec Ideal S16384x256 .f32) (W : FVec Ideal S2x96x2048 .f32) (B : FVec Ideal S2x2048 .f32) :
    (addf (broadcastInDim S16384x2048 ![0, 1] bcast_S1x2048_S16384x2048_0_1 (broadcastInDim S1x2048 ![1] bcast_S2048_S1x2048_1 (shapeCast _ (extractStridedSlice S1x2048 ![1, 0] B slices_S2x2048_S1x2048_1_0) shapeCasts_S1x2048_S2048)))
      (Host.dotGeneral dot_S16384x96_S96x2048_S16384x2048_1_0_0_1_n_n none (Host.tanh (extractStridedSlice S16384x96 ![0, 128] X slices_S16384x256_S16384x96_0_128)) (shapeCast _ (extractStridedSlice S1x96x2048 ![1, 0, 0] W slices_S2x96x2048_S1x96x2048_1_0_0) shapeCasts_S1x96x2048_S96x2048)) : FVec Ideal S16384x2048 .f32)
      = fun y => rankOut Ideal.tanh (fun I k => X (ix2 I k)) (fun d k j => W (ix3 d k j)) (fun d j => B (ix2 d j)) (y 0) (y 1) := by
  funext y
  rw [show y = ix2 (y 0) (y 1) from eq_ix2 y]
  refine Eq.trans ?_ (add_comm _ _)
  pointwise []
  rfl

end Cert.Reference13Ideal.Hand

namespace Cert.Ffn

/-- The decays' kernel leaves its arguments as they were, with every counter at zero. -/
theorem frame_kernel13 : Cert.quiescent_Kernel13 := fun m g _ => Cert.Kernel13.Gen.frame m g

/-- So does its idealization. -/
theorem frame_ideal13 : Cert.quiescent_Kernel13Ideal := fun m g _ => Cert.Kernel13Ideal.Gen.frame m g

/-- So does the plain program. -/
theorem frame_reference13 : Cert.quiescent_Reference13Ideal := fun m g _ =>
  (θ_run _ _ _).mono (fun r h => ⟨fun c => (h c).2, sem_eq_zero_of_no_sems (by decide) r.2⟩) (Cert.Reference13Ideal.Value.run m g)

/-- The idealized kernel and the plain program have equal results. -/
theorem algebraic13 : Cert.algebraic_Kernel13Ideal_Reference13Ideal := fun m g m' g' _ he =>
  ⟨fun c => Cert.Kernel13Ideal.Hand.result m c,
    (θ_run _ _ _).mono (fun _ h c => ⟨(h c).1.trans (Cert.Kernel13Ideal.Hand.arrAt3 m c), (h c).2⟩) (Cert.Kernel13Ideal.Value.run_blocks m g),
    (θ_run _ _ _).mono (fun _ h c => ⟨(h c).1.trans ((Cert.Reference13Ideal.Hand.out_eq _ _ _).trans
      (by rw [(he c).1, (he c).2.1, (he c).2.2]; rfl)), (h c).2⟩) (Cert.Reference13Ideal.Value.run m' g')⟩

end Cert.Ffn
-- ==== Proof.RateOut.lean ====
/-
  The second direction's rates of the RWKV part, before their sigmoid: the product of the ranks and the bias, tile by tile in the
  kernel and as one product in the plain program.
-/
module

public import proofs.«01_k».proof.Proof.Gen.Kernel14.Frame
public import proofs.«01_k».proof.Proof.Gen.Kernel14Ideal.Value
public import proofs.«01_k».proof.Proof.Gen.Reference14Ideal.Run
public import proofs.«01_k».proof.Proof.DecayOut
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Kernel14Ideal.Hand

open Cert.Kernel14Ideal Cert.Kernel14Ideal.Gen Cert.Ffn

/-- The ranks of every row, both directions' side by side. -/
abbrev arrH (m : (ℓ : Loc nD τ sig) → Buf (Elt Ideal) ℓ) (c : Dev nD) (I : Fin 16384) (x : Fin 256) : EReal :=
  m ((c : Thread nD τ).loc main_arg0) (Idealize.ShloMosaic.ix2 I x)
/-- The weights. -/
abbrev arrW (m : (ℓ : Loc nD τ sig) → Buf (Elt Ideal) ℓ) (c : Dev nD) (d : Fin 2) (k : Fin 96) (j : Fin 2048) : EReal :=
  m ((c : Thread nD τ).loc main_arg1) (Idealize.ShloMosaic.ix3 d k j)
/-- The biases. -/
abbrev arrB (m : (ℓ : Loc nD τ sig) → Buf (Elt Ideal) ℓ) (c : Dev nD) (d : Fin 2) (j : Fin 2048) : EReal :=
  m ((c : Thread nD τ).loc main_arg2) (Idealize.ShloMosaic.ix2 d j)

variable (m : (ℓ : Loc nD τ sig) → Buf (Elt Ideal) ℓ) (c : Dev nD)

/-- The second direction's weights with 32 rows of zeros. -/
def padded (W : FVec Ideal S2x96x2048 .f32) : FVec Ideal S1x128x2048 .bf16 :=
  broadcastInDim S1x128x2048 ![1, 2] bcast_S128x2048_S1x128x2048_1_2
    (truncf .bf16 (pad S128x2048 ![0, 0] ![32, 0] ![0, 0] (shapeCast S96x2048 (extractStridedSlice S1x96x2048 ![1, 0, 0] W slices_S2x96x2048_S1x96x2048_1_0_0) shapeCasts_S1x96x2048_S96x2048) (sitofp (F := Ideal) .f32 (constantI S_ 32 0#32)) pads_S96x2048_S128x2048_0320_000 h_S_ : FVec Ideal S128x2048 .f32) bitsLt_bf16_f32 : FVec Ideal S128x2048 .bf16)

/-- The weights as the kernel gets them. -/
theorem V_main_v6 : Gen.V m c main_v6 = padded (Gen.V m c main_arg1) := by
  unfold padded
  after_reads_simp
  all_goals rfl

/-- The bias as the kernel gets it. -/
theorem V_main_v7 : Gen.V m c main_v7 = (shapeCast S1x2048 (shapeCast S2048 (extractStridedSlice S1x2048 ![1, 0] (Gen.V m c main_arg2 : FVec Ideal S2x2048 .f32) slices_S2x2048_S1x2048_1_0) shapeCasts_S1x2048_S2048) shapeCasts_S2048_S1x2048 : FVec Ideal S1x2048 .f32) := by
  after_reads_simp
  all_goals rfl

theorem wts_at (W : FVec Ideal S2x96x2048 .f32) (k : Fin 128) (j : Fin 2048) :
    padded W (Idealize.ShloMosaic.ix3 0 k j) = padRow (fun k => W (Idealize.ShloMosaic.ix3 1 k j)) k := by
  unfold padRow
  pointwise [padded]
  simp only [zero_word]

theorem bias_at (B : FVec Ideal S2x2048 .f32) (j : Fin 2048) :
    (shapeCast S1x2048 (shapeCast S2048 (extractStridedSlice S1x2048 ![1, 0] B slices_S2x2048_S1x2048_1_0) shapeCasts_S1x2048_S2048) shapeCasts_S2048_S1x2048 : FVec Ideal S1x2048 .f32)
      (Idealize.ShloMosaic.ix2 0 j) = B (Idealize.ShloMosaic.ix2 1 j) := by
  pointwise []

/-- A tile at an entry. -/
theorem tile_at (x0 : Vec Ideal S1024x128 .f32) (x1 : Vec Ideal S1x128x1024 .bf16) (x2 : Vec Ideal S1x1024 .f32) (r j : Fin 1024) :
    out0_3 x0 x1 x2 (Idealize.ShloMosaic.ix2 r j)
      = (∑ k : Fin 128, x0 (Idealize.ShloMosaic.ix2 r k) * x1 (Idealize.ShloMosaic.ix3 0 k j)) + x2 (Idealize.ShloMosaic.ix2 0 j) := by
  unfold out0_3
  rw [show View.ld x0 r0_0 = x0 from View.ld_unit_lit _ _ (by decide), show View.ld x1 r0_1 = x1 from View.ld_unit_lit _ _ (by decide),
    show View.ld x2 r0_2 = x2 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val / 2, 1] ∧ win0_1.index t = ![0, 0, t.val % 2] ∧ win0_2.index t = ![0, t.val % 2] ∧ win0_3.index t = ![t.val / 2, t.val % 2] :=
  (by decide +kernel : ∀ t : Fin grid0.N,
    win0_0.index t = ![t.val / 2, 1] ∧ win0_1.index t = ![0, 0, t.val % 2] ∧ win0_2.index t = ![0, t.val % 2] ∧ win0_3.index t = ![t.val / 2, t.val % 2]) t

theorem t_lt (t : Fin cfg0.N) : t.val < 32 := lt_of_lt_of_eq t.isLt N_0

/-- Row `r` of point `t`'s tile in the whole array. -/
def gRow (t : Fin cfg0.N) (r : Fin 1024) : Fin 16384 := ⟨1024 * (t.val / 2) + r.val, by have := t_lt t; omega⟩
/-- Column `j` of point `t`'s tile in the whole array. -/
def gCol (t : Fin cfg0.N) (j : Fin 1024) : Fin 2048 := ⟨1024 * (t.val % 2) + j.val, by omega⟩

theorem gRow_val (t : Fin cfg0.N) (r : Fin 1024) : (gRow t r).val = 1024 * (t.val / 2) + r.val := rfl
theorem gCol_val (t : Fin cfg0.N) (j : Fin 1024) : (gCol t j).val = 1024 * (t.val % 2) + j.val := rfl

set_option maxHeartbeats 2000000 in
theorem h_blk (t : Fin cfg0.N) (r : Fin 1024) (k : Fin 128) :
    iblk m c 0 t (Idealize.ShloMosaic.ix2 r k) = Gen.V m c main_arg0 (Idealize.ShloMosaic.ix2 (gRow t r) (rank k)) := by
  have e := idx t
  blk_ext [iblk, e, gRow_val, rank_val]

set_option maxHeartbeats 2000000 in
theorem w_blk (t : Fin cfg0.N) (k : Fin 128) (j : Fin 1024) :
    iblk m c 1 t (Idealize.ShloMosaic.ix3 0 k j) = Gen.V m c main_v6 (Idealize.ShloMosaic.ix3 0 k (gCol t j)) := by
  have e := idx t
  blk_ext [iblk, e, gCol_val]

set_option maxHeartbeats 2000000 in
theorem b_blk (t : Fin cfg0.N) (j : Fin 1024) :
    iblk m c 2 t (Idealize.ShloMosaic.ix2 0 j) = Gen.V m c main_v7 (Idealize.ShloMosaic.ix2 0 (gCol t j)) := by
  have e := idx t
  blk_ext [iblk, e, gCol_val]

/-- The whole result. -/
def result (m : (ℓ : Loc nD τ sig) → Buf (Elt Ideal) ℓ) (c : Dev nD) : FVec Ideal S16384x2048 .bf16 := fun y =>
  rankOut id (arrH m c) (arrW m c) (arrB m c) (y 0) (y 1)

/-- Point `t`'s tile at an entry. -/
theorem tile_eq (t : Fin cfg0.N) (r j : Fin 1024) :
    out0_3 (iblk m c 0 t) (iblk m c 1 t) (iblk m c 2 t) (Idealize.ShloMosaic.ix2 r j) = rankOut id (arrH m c) (arrW m c) (arrB m c) (gRow t r) (gCol t j) := by
  rw [tile_at, b_blk, V_main_v7, V_main_arg2]
  unfold rankOut
  refine congrArg₂ (fun a b : EReal => a + b) ?_ (bias_at _ _)
  refine Eq.trans (Finset.sum_congr rfl fun k _ => ?_) (sum_padRow (fun k => id (arrH m c (gRow t r) (rank k))) (fun k => arrW m c 1 k (gCol t j)))
  rw [h_blk, w_blk, V_main_v6, V_main_arg0, V_main_arg1]
  exact congrArg (fun b : EReal => _ * b) (wts_at _ _ _)

set_option maxHeartbeats 2000000 in
/-- The array after the run. -/
theorem arrAt3 : (dats m 0 c).arrAt 3 cfg0.N = result m c := by
  refine (dats m 0 c).arrAt_eq_of_covers 3 _ (by decide +kernel) fun t hf y => ?_
  have e := idx t
  blk_simp
  rw [after0_3]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel14Ideal.Hand

namespace Cert.Reference14Ideal.Hand

open Cert.Reference14Ideal Cert.Reference14Ideal.Gen Cert.Ffn

/-- The plain program's result at every entry. -/
theorem out_eq (X : FVec Ideal S16384x256 .f32) (W : FVec Ideal S2x96x2048 .f32) (B : FVec Ideal S2x2048 .f32) :
    (truncf .bf16 (addf (broadcastInDim S16384x2048 ![0, 1] bcast_S1x2048_S16384x2048_0_1 (broadcastInDim S1x2048 ![1] bcast_S2048_S1x2048_1 (shapeCast _ (extractStridedSlice S1x2048 ![1, 0] B slices_S2x2048_S1x2048_1_0) shapeCasts_S1x2048_S2048)))
      (Host.dotGeneral dot_S16384x96_S96x2048_S16384x2048_1_0_0_1_n_n none (extractStridedSlice S16384x96 ![0, 128] X slices_S16384x256_S16384x96_0_128) (shapeCast _ (extractStridedSlice S1x96x2048 ![1, 0, 0] W slices_S2x96x2048_S1x96x2048_1_0_0) shapeCasts_S1x96x2048_S96x2048))) bitsLt_bf16_f32 : FVec Ideal S16384x2048 .bf16)
      = fun y => rankOut id (fun I k => X (ix2 I k)) (fun d k j => W (ix3 d k j)) (fun d j => B (ix2 d j)) (y 0) (y 1) := by
  funext y
  rw [show y = ix2 (y 0) (y 1) from eq_ix2 y]
  refine Eq.trans ?_ (add_comm _ _)
  pointwise []
  rfl

end Cert.Reference14Ideal.Hand

namespace Cert.Ffn

/-- The rates' kernel leaves its arguments as they were, with every counter at zero. -/
theorem frame_kernel14 : Cert.quiescent_Kernel14 := fun m g _ => Cert.Kernel14.Gen.frame m g

/-- So does its idealization. -/
theorem frame_ideal14 : Cert.quiescent_Kernel14Ideal := fun m g _ => Cert.Kernel14Ideal.Gen.frame m g

/-- So does the plain program. -/
theorem frame_reference14 : Cert.quiescent_Reference14Ideal := fun m g _ =>
  (θ_run _ _ _).mono (fun r h => ⟨fun c => (h c).2, sem_eq_zero_of_no_sems (by decide) r.2⟩) (Cert.Reference14Ideal.Value.run m g)

/-- The idealized kernel and the plain program have equal results. -/
theorem algebraic14 : Cert.algebraic_Kernel14Ideal_Reference14Ideal := fun m g m' g' _ he =>
  ⟨fun c => Cert.Kernel14Ideal.Hand.result m c,
    (θ_run _ _ _).mono (fun _ h c => ⟨(h c).1.trans (Cert.Kernel14Ideal.Hand.arrAt3 m c), (h c).2⟩) (Cert.Kernel14Ideal.Value.run_blocks m g),
    (θ_run _ _ _).mono (fun _ h c => ⟨(h c).1.trans ((Cert.Reference14Ideal.Hand.out_eq _ _ _).trans
      (by rw [(he c).1, (he c).2.1, (he c).2.2]; rfl)), (h c).2⟩) (Cert.Reference14Ideal.Value.run m' g')⟩

end Cert.Ffn
-- ==== Proof.LowCols.lean ====
/-
  The input projection's 32 low-rank columns, with 96 columns of zeros: tiles in the kernel, one product cut to its last columns in the
  plain program.
-/
module

public import proofs.«01_k».proof.Proof.Gen.Kernel15.Frame
public import proofs.«01_k».proof.Proof.Gen.Kernel15Ideal.Value
public import proofs.«01_k».proof.Proof.Gen.Reference15Ideal.Run
public import proofs.«01_k».proof.Proof.LowIn
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- The word zero as a number of the narrow format. -/
theorem zero_word' : (FloatOps.sitofp (F := Ideal) .bf16 (0#32 : BitVec 32) : EReal) = 0 := by
  show (((0#32 : BitVec 32).toInt : ℝ) : EReal) = 0
  simp

/-- The last 32 of 6176 numbers, followed by 96 zeros. -/
def lastCol (f : Fin 6176 → EReal) (j : Fin 128) : EReal := if h : j.val < 32 then f ⟨6144 + j.val, by omega⟩ else 0

/-- A row of the last columns' weights. -/
def colW (W : Fin 2048 → Fin 6176 → EReal) (k : Fin 2048) : Fin 128 → EReal := lastCol (W k)

/-- An entry of the last columns' product: row `I`, column `j`. -/
def lowCols (A : Fin 4 → Fin 4096 → Fin 2048 → EReal) (W : Fin 2048 → Fin 6176 → EReal) (I : Fin 16384) (j : Fin 128) : EReal :=
  ∑ k : Fin 2048, A (bat I) (pos I) k * colW W k j

/-- The last columns of a product are the product with the weights' last columns. -/
theorem lastCol_sum (a : Fin 2048 → EReal) (W : Fin 2048 → Fin 6176 → EReal) (j : Fin 128) :
    lastCol (fun j => ∑ k, a k * W k j) j = ∑ k, a k * colW W k j := by
  unfold colW lastCol
  split
  · rfl
  · simp

end Cert.Ffn

namespace Cert.Kernel15Ideal.Hand

open Cert.Kernel15Ideal Cert.Kernel15Ideal.Gen Cert.Ffn

/-- The rows. -/
abbrev arrH (m : (ℓ : Loc nD τ sig) → Buf (Elt Ideal) ℓ) (c : Dev nD) (b : Fin 4) (T : Fin 4096) (x : Fin 2048) : EReal :=
  m ((c : Thread nD τ).loc main_arg0) (Idealize.ShloMosaic.ix3 b T x)
/-- The weights. -/
abbrev arrW (m : (ℓ : Loc nD τ sig) → Buf (Elt Ideal) ℓ) (c : Dev nD) (k : Fin 2048) (j : Fin 6176) : EReal :=
  m ((c : Thread nD τ).loc main_arg1) (Idealize.ShloMosaic.ix2 k j)

variable (m : (ℓ : Loc nD τ sig) → Buf (Elt Ideal) ℓ) (c : Dev nD)

/-- The last 32 columns of the weights with 96 columns of zeros. -/
def laid (W : FVec Ideal S2048x6176 .f32) : FVec Ideal S1x2048x128 .bf16 :=
  broadcastInDim S1x2048x128 ![1, 2] bcast_S2048x128_S1x2048x128_1_2
    (pad S2048x128 ![0, 0] ![0, 96] ![0, 0] (extractStridedSlice S2048x32 ![0, 6144] (truncf .bf16 W bitsLt_bf16_f32 : FVec Ideal S2048x6176 .bf16) slices_S2048x6176_S2048x32_0_6144)
      (sitofp (F := Ideal) .bf16 (constantI S_ 32 0#32)) pads_S2048x32_S2048x128_000_0960 h_S_ : FVec Ideal S2048x128 .bf16)

/-- The rows as the kernel gets them. -/
theorem V_main_v2 : Gen.V m c main_v2 = (truncf .bf16 (shapeCast S16384x2048 (Gen.V m c main_arg0) shapeCasts_S4x4096x2048_S16384x2048 : FVec Ideal S16384x2048 .f32) bitsLt_bf16_f32 : FVec Ideal S16384x2048 .bf16) := by
  after_reads_simp
  all_goals rfl

/-- The weights as the kernel gets them. -/
theorem V_main_v5 : Gen.V m c main_v5 = laid (Gen.V m c main_arg1) := by
  unfold laid
  after_reads_simp
  all_goals rfl

theorem wts_at (W : FVec Ideal S2048x6176 .f32) (k : Fin 2048) (j : Fin 128) :
    laid W (Idealize.ShloMosaic.ix3 0 k j) = colW (fun k j => W (Idealize.ShloMosaic.ix2 k j)) k j := by
  unfold colW lastCol
  pointwise [laid]
  simp only [zero_word']

theorem rows_at (X : FVec Ideal S4x4096x2048 .f32) (I : Fin 16384) (k : Fin 2048) :
    (truncf .bf16 (shapeCast S16384x2048 X shapeCasts_S4x4096x2048_S16384x2048 : FVec Ideal S16384x2048 .f32) bitsLt_bf16_f32 : FVec Ideal S16384x2048 .bf16)
      (Idealize.ShloMosaic.ix2 I k) = X (Idealize.ShloMosaic.ix3 (bat I) (pos I) k) := by
  pointwise []
  rfl

/-- A tile at an entry. -/
theorem tile_at (x0 : Vec Ideal S1024x2048 .bf16) (x1 : Vec Ideal S1x2048x128 .bf16) (r : Fin 1024) (j : Fin 128) :
    out0_2 x0 x1 (Idealize.ShloMosaic.ix2 r j)
      = (∑ k : Fin 2048, x0 (Idealize.ShloMosaic.ix2 r k) * x1 (Idealize.ShloMosaic.ix3 0 k j)) := by
  unfold out0_2
  rw [show View.ld x0 r0_0 = x0 from View.ld_unit_lit _ _ (by decide), show View.ld x1 r0_1 = x1 from View.ld_unit_lit _ _ (by decide)]
  refine (congrFun (View.canon_cons_unit_lit _ _ [] (by decide)) _).trans ?_
  pointwise [k0_pay1]

/-- Every window's block index at a grid point. -/
theorem idx (t : Fin grid0.N) :
    win0_0.index t = ![t.val, 0] ∧ win0_1.index t = ![0, 0, 0] ∧ win0_2.index t = ![t.val, 0] :=
  (by decide +kernel : ∀ t : Fin grid0.N,
    win0_0.index t = ![t.val, 0] ∧ win0_1.index t = ![0, 0, 0] ∧ win0_2.index t = ![t.val, 0]) t

theorem t_lt (t : Fin cfg0.N) : t.val < 16 := lt_of_lt_of_eq t.isLt N_0

/-- Row `r` of point `t`'s tile in the whole array. -/
def gRow (t : Fin cfg0.N) (r : Fin 1024) : Fin 16384 := ⟨1024 * t.val + r.val, by have := t_lt t; omega⟩
/-- Column `j` of point `t`'s tile in the whole array. -/
def gCol (t : Fin cfg0.N) (j : Fin 128) : Fin 128 := j

theorem gRow_val (t : Fin cfg0.N) (r : Fin 1024) : (gRow t r).val = 1024 * t.val + r.val := rfl
theorem gCol_val (t : Fin cfg0.N) (j : Fin 128) : (gCol t j).val = j.val := rfl

set_option maxHeartbeats 2000000 in
theorem h_blk (t : Fin cfg0.N) (r : Fin 1024) (k : Fin 2048) :
    iblk m c 0 t (Idealize.ShloMosaic.ix2 r k) = Gen.V m c main_v2 (Idealize.ShloMosaic.ix2 (gRow t r) k) := by
  have e := idx t
  blk_ext [iblk, e, gRow_val]

set_option maxHeartbeats 2000000 in
theorem w_blk (t : Fin cfg0.N) (k : Fin 2048) (j : Fin 128) :
    iblk m c 1 t (Idealize.ShloMosaic.ix3 0 k j) = Gen.V m c main_v5 (Idealize.ShloMosaic.ix3 0 k (gCol t j)) := by
  have e := idx t
  blk_ext [iblk, e, gCol_val]

/-- The whole product. -/
def result (m : (ℓ : Loc nD τ sig) → Buf (Elt Ideal) ℓ) (c : Dev nD) : FVec Ideal S16384x128 .f32 := fun y =>
  lowCols (arrH m c) (arrW m c) (y 0) (y 1)

/-- Point `t`'s tile at an entry. -/
theorem tile_eq (t : Fin cfg0.N) (r : Fin 1024) (j : Fin 128) :
    out0_2 (iblk m c 0 t) (iblk m c 1 t) (Idealize.ShloMosaic.ix2 r j) = lowCols (arrH m c) (arrW m c) (gRow t r) (gCol t j) := by
  rw [tile_at]
  unfold lowCols
  refine Finset.sum_congr rfl fun k _ => ?_
  rw [h_blk, w_blk, V_main_v2, V_main_v5, V_main_arg0, V_main_arg1]
  exact congrArg₂ (fun a b : EReal => a * b) (rows_at _ _ _) (wts_at _ _ _)

set_option maxHeartbeats 2000000 in
/-- The array after the run. -/
theorem arrAt2 : (dats m 0 c).arrAt 2 cfg0.N = result m c := by
  refine (dats m 0 c).arrAt_eq_of_covers 2 _ (by decide +kernel) fun t hf y => ?_
  have e := idx t
  blk_simp
  rw [after0_2]
  rw [show y = Idealize.ShloMosaic.ix2 (y 0) (y 1) from eq_ix2 y]
  refine (tile_eq m c t (y 0) (y 1)).trans ?_
  show result m c (Idealize.ShloMosaic.ix2 (gRow t (y 0)) (gCol t (y 1))) = _
  blk_ext [e]
  · exact (gRow_val t (y 0)).trans (by omega)
  · exact (gCol_val t (y 1)).trans (by omega)

end Cert.Kernel15Ideal.Hand

namespace Cert.Reference15Ideal.Hand

open Cert.Reference15Ideal Cert.Reference15Ideal.Gen Cert.Ffn

theorem dot_at (X : FVec Ideal S4x4096x2048 .f32) (W : FVec Ideal S2048x6176 .f32) (b : Fin 4) (T : Fin 4096) (j : Fin 6176) :
    Host.dotGeneral dot_S4x4096x2048_S2048x6176_S4x4096x6176_2_0_01_1_n_n none X W (ix3 b T j) = ∑ k : Fin 2048, X (ix3 b T k) * W (ix2 k j) := by
  pointwise []

/-- The last 32 columns with 96 columns of zeros. -/
theorem laid_at (Z : FVec Ideal S4x4096x6176 .f32) (I : Fin 16384) (j : Fin 128) :
    (shapeCast S16384x128 (pad S4x4096x128 ![0, 0, 0] ![0, 0, 96] ![0, 0, 0] (extractStridedSlice S4x4096x32 ![0, 0, 6144] Z slices_S4x4096x6176_S4x4096x32_0_0_6144) (sitofp (F := Ideal) .f32 (constantI S_ 32 0#32)) pads_S4x4096x32_S4x4096x128_000_000_0960 h_S_ : FVec Ideal S4x4096x128 .f32) shapeCasts_S4x4096x128_S16384x128 : FVec Ideal S16384x128 .f32)
      (ix2 I j) = lastCol (fun j => Z (ix3 (bat I) (pos I) j)) j := by
  unfold lastCol
  pointwise []
  have h1 : I.val / 4096 < 4 := by omega
  have h2 : I.val % 4096 < 4096 := by omega
  simp only [h1, h2, true_and, zero_word]
  rfl

/-- The plain program's result at every entry. -/
theorem out_eq (X : FVec Ideal S4x4096x2048 .f32) (W : FVec Ideal S2048x6176 .f32) :
    (shapeCast _ (pad S4x4096x128 ![0, 0, 0] ![0, 0, 96] ![0, 0, 0] (extractStridedSlice S4x4096x32 ![0, 0, 6144] (Host.dotGeneral dot_S4x4096x2048_S2048x6176_S4x4096x6176_2_0_01_1_n_n none X W) slices_S4x4096x6176_S4x4096x32_0_0_6144) (sitofp .f32 (constantI S_ 32 0#32)) pads_S4x4096x32_S4x4096x128_000_000_0960 h_S_) shapeCasts_S4x4096x128_S16384x128 : FVec Ideal S16384x128 .f32)
      = fun y => lowCols (fun b T x => X (ix3 b T x)) (fun k j => W (ix2 k j)) (y 0) (y 1) := by
  funext y
  rw [show y = ix2 (y 0) (y 1) from eq_ix2 y]
  refine (laid_at _ _ _).trans ?_
  refine Eq.trans ?_ (lastCol_sum _ _ _)
  exact congrArg (fun f => lastCol f (y 1)) (funext fun j => dot_at _ _ _ _ _)

end Cert.Reference15Ideal.Hand

namespace Cert.Ffn

/-- The projection's kernel leaves its arguments as they were, with every counter at zero. -/
theorem frame_kernel15 : Cert.quiescent_Kernel15 := fun m g _ => Cert.Kernel15.Gen.frame m g

/-- So does its idealization. -/
theorem frame_ideal15 : Cert.quiescent_Kernel15Ideal := fun m g _ => Cert.Kernel15Ideal.Gen.frame m g

/-- So does the plain program. -/
theorem frame_reference15 : Cert.quiescent_Reference15Ideal := fun m g _ =>
  (θ_run _ _ _).mono (fun r h => ⟨fun c => (h c).2, sem_eq_zero_of_no_sems (by decide) r.2⟩) (Cert.Reference15Ideal.Value.run m g)

/-- The idealized kernel and the plain program have equal results. -/
theorem algebraic15 : Cert.algebraic_Kernel15Ideal_Reference15Ideal := fun m g m' g' _ he =>
  ⟨fun c => Cert.Kernel15Ideal.Hand.result m c,
    (θ_run _ _ _).mono (fun _ h c => ⟨(h c).1.trans (Cert.Kernel15Ideal.Hand.arrAt2 m c), (h c).2⟩) (Cert.Kernel15Ideal.Value.run_blocks m g),
    (θ_run _ _ _).mono (fun _ h c => ⟨(h c).1.trans ((Cert.Reference15Ideal.Hand.out_eq _ _).trans (by rw [(he c).1, (he c).2]; rfl)),
      (h c).2⟩) (Cert.Reference15Ideal.Value.run m' g')⟩

end Cert.Ffn
-- ==== Proof.HeadNorm.lean ====
/-
  GLA's norm per head and its output gate: four heads of 256 lanes, tile by tile in the kernel and on the whole array in the plain program.
-/
module

public import proofs.«01_k».proof.Proof.Gen.Kernel16.Frame
public import proofs.«01_k».proof.Proof.Gen.Kernel16Ideal.Value
public import proofs.«01_k».proof.Proof.Gen.Reference16Ideal.Run
public import proofs.«01_k».proof.Proof.FfnUp
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- A head's entry divided by the root of its head's mean square (with a small number added), times the norm's weight. -/
def headAt (R : Fin 256 → EReal) (g : EReal) (j : Fin 256) : EReal :=
  R j * Ideal.rsqrt (Ideal.div (∑ k : Fin 256, R k * R k) (Ideal.ofBits .f32 0x43800000#32) + Ideal.ofBits .f32 0x358637BD#32) * g

/-- A number times its sigmoid. -/
def siluAt (r : EReal) : EReal := r * Ideal.logistic r

/-- Column `k` of head `n`. -/
def headCol (n : Fin 4) (k : Fin 256) : Fin 1024 := ⟨n.val * 256 + k.val, by omega⟩
/-- The head of column `j`. -/
def headOf (j : Fin 1024) : Fin 4 := ⟨j.val / 256, by omega⟩
/-- Column `j` inside its head. -/
def inHead (j : Fin 1024) : Fin 256 := ⟨j.val % 256, by omega⟩
/-- Column `j` of the gates in the projection. -/
def gateCol (j : Fin 1024) : Fin 6144 := ⟨5120 + j.val, by omega⟩

theorem gateCol_val (j : Fin 1024) : (gateCol j).val = 5120 + j.val := rfl

theorem headOf_col (n : Fin 4) (k : Fin 256) : headOf (headCol n k) = n :=
  Fin.ext (by show (n.val * 256 + k.val) / 256 = n.val; omega)

theorem inHead_col (n : Fin 4) (k : Fin 256) : inHead (headCol n k) = k :=
  Fin.ext (by show (n.val * 256 + k.val) % 256 = k.val; omega)

theorem col_head (j : Fin 1024) : headCol (headOf j) (inHead j) = j :=
  Fin.ext (by show j.val / 256 * 256 + j.val % 256 = j.val; omega)

/-- A row of the gated norm: the sum of both directions' rows, normed head by head, times the gate. -/
def gated (f b : Fin 1024 → EReal) (g r : EReal) (j : Fin 1024) : EReal :=
  headAt (fun k => f (headCol (headOf j) k) + b (headCol (headOf j) k)) g (inHead j) * siluAt r

end Cert.Ffn

namespace Cert.Kernel16Ideal.Hand

open Cert.Kernel16Ideal Cert.Kernel16Ideal.Gen Cert.Ffn

variable (m : (ℓ : Loc nD τ sig) → Buf (Elt Ideal) ℓ) (c : Dev nD)

/-- The forward rows. -/
abbrev arrF (b : Fin 4) (T : Fin 4096) (x : Fin 1024) : EReal := m ((c : Thread nD τ).loc main_arg0) (Idealize.ShloMosaic.ix3 b T x)
/-- The backward rows. -/
abbrev arrB (b : Fin 4) (T : Fin 4096) (x : Fin 1024) : EReal := m ((c : Thread nD τ).loc main_arg1) (Idealize.ShloMosaic.ix3 b T x)
/-- The projection. -/
abbrev arrP (b : Fin 4) (T : Fin 4096) (x : Fin 6144) : EReal := m ((c : Thread nD τ).loc main_arg2) (Idealize.ShloMosaic.ix3 b T x)
/-- The norm's weights. -/
abbrev arrG (x : Fin 1024) : EReal := m ((c : Thread nD τ).loc main_arg3) (Idealize.ShloMosaic.ix1 x)

theorem V_main_v0 : Gen.V m c main_v0 = (shapeCast S1x1024 (Gen.V m c main_arg3) shapeCasts_S1024_S1x1024 : FVec Ideal S1x1024 .f32) := by
  after_reads_simp
  all_goals rfl

theorem g_at (g : FVec Ideal S1024 .f32) (j : Fin 1024) :
    (shapeCast S1x1024 g shapeCasts_S1024_S1x1024 : FVec Ideal S1x1024 .f32) (Idealize.ShloMosaic.ix2 0 j) = g (Idealize.ShloMosaic.ix1 j) := by
  pointwise []

/-- A head's tile at an entry. -/
theorem pay_at (f b : Vec Ideal S1x512x256 .f32) (g : Vec Ideal S1x256 .f32) (r : Vec Ideal S1x512x256 .f32) (i : Fin 512) (j : Fin 256) :
    k0_pay2 f b g r (Idealize.ShloMosaic.ix3 0 i j)
      = headAt (fun k => f (Idealize.ShloMosaic.ix3 0 i k) + b (Idealize.ShloMosaic.ix3 0 i k)) (g (Idealize.ShloMosaic.ix2 0 j)) j * siluAt (r (Idealize.ShloMosaic.ix3 0 i j)) := by
  unfold headAt siluAt
  pointwise [k0_pay2]

/-- The four heads are one text. -/
theorem pay_second (f b : Vec Ideal S1x512x256 .f32) (g : Vec Ideal S1x256 .f32) (r : Vec Ideal S1x512x256 .f32) :
    k0_pay5 (k0_pay3 f b) (k0_pay4 f b) g r = k0_pay2 f b g r := rfl
theorem pay_third (f b : Vec Ideal S1x512x256 .f32) (g : Vec Ideal S1x256 .f32) (r : Vec Ideal S1x512x256 .f32) :
    k0_pay7 (k0_pay6 f b) g r = k0_pay2 f b g r := rfl
theorem pay_fourth (f b : Vec Ideal S1x512x256 .f32) (g : Vec Ideal S1x256 .f32) (r : Vec Ideal S1x512x256 .f32) :
    k0_pay1 (k0_pay8 f b g r) = k0_pay2 f b g r := rfl

/-- A tile's entry. -/
def tileAt (x0 x1 x2 : Vec Ideal S1x512x1024 .f32) (x3 : Vec Ideal S1x1024 .f32) (r : Fin 512) (j : Fin 1024) : EReal :=
  gated (fun k => x0 (Idealize.ShloMosaic.ix3 0 r k)) (fun k => x1 (Idealize.ShloMosaic.ix3 0 r k)) (x3 (Idealize.ShloMosaic.ix2 0 j)) (x2 (Idealize.ShloMosaic.ix3 0 r j)) j

theorem row_ld (X : Vec Ideal S1x512x1024 .f32) (n : Fin 4) (o : Nat) (ho : o = 256 * n.val) (inb) (r : Fin 512) (k : Fin 256) :
    View.ld X (Rect.unit (s := S1x512x1024) ![0, 0, o] S1x512x256.size inb) (Idealize.ShloMosaic.ix3 0 r k) = X (Idealize.ShloMosaic.ix3 0 r (headCol n k)) := by
  refine View.ld_unit_apply_of X _ _ _ _ _ fun a => ?_
  match a with
  | ⟨0, _⟩ => rfl
  | ⟨1, _⟩ => show r.val = 0 + r.val; omega
  | ⟨2, _⟩ => show n.val * 256 + k.val = o + k.val; omega

theorem wt_ld (X : Vec Ideal S1x1024 .f32) (n : Fin 4) (o : Nat) (ho : o = 256 * n.val) (inb) (k : Fin 256) :
    View.ld X (Rect.unit (s := S1x1024) ![0, o] S1x256.size inb) (Idealize.ShloMosaic.ix2 0 k) = X (Idealize.ShloMosaic.ix2 0 (headCol n k)) := by
  refine View.ld_unit_apply_of X _ _ _ _ _ fun a => ?_
  match a with
  | ⟨0, _⟩ => rfl
  | ⟨1, _⟩ => show n.val * 256 + k.val = o + k.val; omega

theorem ix3_cut {n : Nat} (y : (⟨3, ![1, 512, n]⟩ : Shape).Idx) : y = Idealize.ShloMosaic.ix3 0 (y 1) (y 2) := by
  funext a
  match a with
  | ⟨0, _⟩ => exact Subsingleton.elim (α := Fin 1) _ _
  | ⟨1, _⟩ => rfl
  | ⟨2, _⟩ => rfl

/-- Head `n`'s tile at an entry. -/
theorem head_at (x0 x1 x2 : Vec Ideal S1x512x1024 .f32) (x3 : Vec Ideal S1x1024 .f32) (n : Fin 4) (o : Nat) (ho : o = 256 * n.val) (inb) (inb')
    (r : Fin 512) (k : Fin 256) :
    k0_pay2 (View.ld x0 (Rect.unit (s := S1x512x1024) ![0, 0, o] S1x512x256.size inb)) (View.ld x1 (Rect.unit (s := S1x512x1024) ![0, 0, o] S1x512x256.size inb))
        (View.ld x3 (Rect.unit (s := S1x1024) ![0, o] S1x256.size inb')) (View.ld x2 (Rect.unit (s := S1x512x1024) ![0, 0, o] S1x512x256.size inb)) (Idealize.ShloMosaic.ix3 0 r k)
      = tileAt x0 x1 x2 x3 r (headCol n k) := by
  refine (pay_at _ _ _ _ _ _).trans ?_
  unfold tileAt gated
  rw [headOf_col, inHead_col]
  exact congrArg₂ (fun a b : EReal => a * b)
    (congrArg₂ (fun R w => headAt R w k) (funext fun k => congrArg₂ (fun a b : EReal => a + b) (row_ld x0 n o ho inb _ _) (row_ld x1 n o ho inb _ _))
      (wt_ld x3 n o ho inb' _)) (congrArg siluAt (row_ld x2 n o ho inb _ _))

/-- Head `n`'s store puts the tile's entries at its place. -/
theorem piece_at (x0 x1 x2 : Vec Ideal S1x512x1024 .f32) (x3 : Vec Ideal S1x1024 .f32) (n : Fin 4) (o : Nat) (ho : o = 256 * n.val) (inb) (inb')
    (x : S1x512x256.Idx) :
    k0_pay2 (View.ld x0 (Rect.unit (s := S1x512x1024) ![0, 0, o] S1x512x256.size inb)) (View.ld x1 (Rect.unit (s := S1x512x1024) ![0, 0, o] S1x512x256.size inb))
        (View.ld x3 (Rect.unit (s := S1x1024) ![0, o] S1x256.size inb')) (View.ld x2 (Rect.unit (s := S1x512x1024) ![0, 0, o] S1x512x256.size inb)) x
      = tileAt x0 x1 x2 x3 ((Rect.unit (s := S1x512x1024) ![0, 0, o] S1x512x256.size inb).idx x 1) ((Rect.unit (s := S1x512x1024) ![0, 0, o] S1x512x256.size inb).idx x 2) := by
  have e1 : (Rect.unit (s := S1x512x1024) ![0, 0, o] S1x512x256.size inb).idx x 1 = x 1 := Fin.ext (by show 0 + 1 * (x 1).val = (x 1).val; omega)
  have e2 : (Rect.unit (s := S1x512x1024) ![0, 0, o] S1x512x256.size inb).idx x 2 = headCol n (x 2) := Fin.ext (by show o + 1 * (x 2).val = n.val * 256 + (x 2).val; omega)
  refine Eq.trans ?_ (congrArg₂ (tileAt x0 x1 x2 x3) e1 e2).symm
  exact (congrArg (k0_pay2 (View.ld x0 (Rect.unit (s := S1x512x1024) ![0, 0, o] S1x512x256.size inb)) (View.ld x1 (Rect.unit (s := S1x512x1024) ![0, 0, o] S1x512x256.size inb))
        (View.ld x3 (Rect.unit (s := S1x1024) ![0, o] S1x256.size inb')) (View.ld x2 (Rect.unit (s := S1x512x1024) ![0, 0, o] S1x512x256.size inb))) (ix3_cut x)).trans (head_at x0 x1 x2 x3 n o ho inb inb' (x 1) (x 2))

/-- A tile at an entry. -/
theorem tile_at (x0 x1 x2 : Vec Ideal S1x512x1024 .f32) (x3 : Vec Ideal S1x1024 .f32) (r : Fin 512) (j : Fin 1024) :
    out0_4 x0 x1 x2 x3 (Idealize.ShloMosaic.ix3 0 r j) = tileAt x0 x1 x2 x3 r j := by
  unfold out0_4
  rw [pay_second, pay_third, pay_fourth]
  refine View.canon_apply_of_pieces (show S1x512x1024.Idx → Elt Ideal .bf16 from fun y => tileAt x0 x1 x2 x3 (y 1) (y 2)) _ ?_ _ (cover0_4 _ _ _ _ _)
  intro pc hpc x
  rcases List.mem_cons.mp hpc with rfl | hpc
  · exact piece_at x0 x1 x2 x3 3 768 rfl _ _ x
  rcases List.mem_cons.mp hpc with rfl | hpc
  · exact piece_at x0 x1 x2 x3 2 512 rfl _ _ x
  rcases List.mem_cons.mp hpc with rfl | hpc
  · exact piece_at x0 x1 x2 x3 1 256 rfl _ _ x
  rcases List.mem_cons.mp hpc with rfl | hpc
  · exact piece_at x0 x1 x2 x3 0 0 rfl _ _ x
  nomatch hpc

/-- Every window's block index at a grid point. -/
theorem idx (t : Fin grid0.N) :
    win0_0.index t = ![t.val / 8, t.val % 8, 0] ∧ win0_1.index t = ![t.val / 8, t.val % 8, 0] ∧ win0_2.index t = ![t.val / 8, t.val % 8, 5]
    ∧ win0_3.index t = ![0, 0] ∧ win0_4.index t = ![t.val / 8, t.val % 8, 0] :=
  (by decide +kernel : ∀ t : Fin grid0.N,
    win0_0.index t = ![t.val / 8, t.val % 8, 0] ∧ win0_1.index t = ![t.val / 8, t.val % 8, 0] ∧ win0_2.index t = ![t.val / 8, t.val % 8, 5]
    ∧ win0_3.index t = ![0, 0] ∧ win0_4.index t = ![t.val / 8, t.val % 8, 0]) t

theorem t_lt (t : Fin cfg0.N) : t.val < 32 := lt_of_lt_of_eq t.isLt N_0

/-- Point `t`'s batch. -/
def gBat (t : Fin cfg0.N) : Fin 4 := ⟨t.val / 8, by have := t_lt t; omega⟩
/-- Row `r` of point `t`'s tile in its batch. -/
def gRow (t : Fin cfg0.N) (r : Fin 512) : Fin 4096 := ⟨512 * (t.val % 8) + r.val, by omega⟩

theorem gBat_val (t : Fin cfg0.N) : (gBat t).val = t.val / 8 := rfl
theorem gRow_val (t : Fin cfg0.N) (r : Fin 512) : (gRow t r).val = 512 * (t.val % 8) + r.val := rfl

set_option maxHeartbeats 2000000 in
theorem f_blk (t : Fin cfg0.N) (r : Fin 512) (k : Fin 1024) :
    iblk m c 0 t (Idealize.ShloMosaic.ix3 0 r k) = Gen.V m c main_arg0 (Idealize.ShloMosaic.ix3 (gBat t) (gRow t r) k) := by
  have e := idx t
  blk_ext [iblk, e, gBat_val, gRow_val]

set_option maxHeartbeats 2000000 in
theorem b_blk (t : Fin cfg0.N) (r : Fin 512) (k : Fin 1024) :
    iblk m c 1 t (Idealize.ShloMosaic.ix3 0 r k) = Gen.V m c main_arg1 (Idealize.ShloMosaic.ix3 (gBat t) (gRow t r) k) := by
  have e := idx t
  blk_ext [iblk, e, gBat_val, gRow_val]

set_option maxHeartbeats 2000000 in
theorem p_blk (t : Fin cfg0.N) (r : Fin 512) (k : Fin 1024) :
    iblk m c 2 t (Idealize.ShloMosaic.ix3 0 r k) = Gen.V m c main_arg2 (Idealize.ShloMosaic.ix3 (gBat t) (gRow t r) (gateCol k)) := by
  have e := idx t
  blk_ext [iblk, e, gBat_val, gRow_val, gateCol_val]

set_option maxHeartbeats 2000000 in
theorem g_blk (t : Fin cfg0.N) (j : Fin 1024) :
    iblk m c 3 t (Idealize.ShloMosaic.ix2 0 j) = Gen.V m c main_v0 (Idealize.ShloMosaic.ix2 0 j) := by
  have e := idx t
  blk_ext [iblk, e]

/-- The whole result. -/
def result : FVec Ideal S4x4096x1024 .bf16 := fun y =>
  gated (arrF m c (y 0) (y 1)) (arrB m c (y 0) (y 1)) (arrG m c (y 2)) (arrP m c (y 0) (y 1) (gateCol (y 2))) (y 2)

/-- Point `t`'s tile at an entry. -/
theorem tile_eq (t : Fin cfg0.N) (r : Fin 512) (j : Fin 1024) :
    out0_4 (iblk m c 0 t) (iblk m c 1 t) (iblk m c 2 t) (iblk m c 3 t) (Idealize.ShloMosaic.ix3 0 r j)
      = gated (arrF m c (gBat t) (gRow t r)) (arrB m c (gBat t) (gRow t r)) (arrG m c j) (arrP m c (gBat t) (gRow t r) (gateCol j)) j := by
  rw [tile_at]
  unfold tileAt
  rw [g_blk, V_main_v0, V_main_arg3, p_blk, V_main_arg2, funext fun k => f_blk m c t r k, funext fun k => b_blk m c t r k, V_main_arg0, V_main_arg1]
  exact congrArg (fun g => gated (arrF m c (gBat t) (gRow t r)) (arrB m c (gBat t) (gRow t r)) g (arrP m c (gBat t) (gRow t r) (gateCol j)) j) (g_at _ _)

set_option maxHeartbeats 2000000 in
/-- The array after the run. -/
theorem arrAt4 : (dats m 0 c).arrAt 4 cfg0.N = result m c := by
  refine (dats m 0 c).arrAt_eq_of_covers 4 _ (by decide +kernel) fun t hf y => ?_
  have e := idx t
  blk_simp
  rw [after0_4]
  rw [show y = Idealize.ShloMosaic.ix3 0 (y 1) (y 2) from ix3_cut y]
  refine (tile_eq m c t (y 1) (y 2)).trans ?_
  show result m c (Idealize.ShloMosaic.ix3 (gBat t) (gRow t (y 1)) (y 2)) = _
  blk_ext [e, gBat_val]
  exact (gRow_val t (y 1)).trans (by omega)

end Cert.Kernel16Ideal.Hand

namespace Cert.Reference16Ideal.Hand

open Cert.Reference16Ideal Cert.Reference16Ideal.Gen Cert.Ffn

theorem heads_at (X : FVec Ideal S4x4096x1024 .f32) (b : Fin 4) (T : Fin 4096) (n : Fin 4) (k : Fin 256) :
    (shapeCast S4x4096x4x256 X shapeCasts_S4x4096x1024_S4x4096x4x256 : FVec Ideal S4x4096x4x256 .f32) (ix4 b T n k) = X (ix3 b T (headCol n k)) := by
  pointwise []
  rfl

theorem flat_at (Z : FVec Ideal S4x4096x4x256 .f32) (b : Fin 4) (T : Fin 4096) (j : Fin 1024) :
    (shapeCast S4x4096x1024 Z shapeCasts_S4x4096x4x256_S4x4096x1024 : FVec Ideal S4x4096x1024 .f32) (ix3 b T j) = Z (ix4 b T (headOf j) (inHead j)) := by
  pointwise []
  rfl

theorem wts_at (g : FVec Ideal S1024 .f32) (n : Fin 4) (k : Fin 256) :
    (shapeCast S4x256 g shapeCasts_S1024_S4x256 : FVec Ideal S4x256 .f32) (ix2 n k) = g (ix1 (headCol n k)) := by
  pointwise []
  rfl

/-- The norm head by head at an entry. -/
theorem normed_at (S : FVec Ideal S4x4096x4x256 .f32) (G : FVec Ideal S4x256 .f32) (b : Fin 4) (T : Fin 4096) (n : Fin 4) (k : Fin 256) :
    (mulf (mulf (S) (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf (S) (S)) (constant (F := Ideal) S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))) (broadcastInDim S4x4096x4x256 ![0, 1, 2, 3] bcast_S1x1x4x256_S4x4096x4x256_0_1_2_3 (broadcastInDim S1x1x4x256 ![2, 3] bcast_S4x256_S1x1x4x256_2_3 (G))) : FVec Ideal S4x4096x4x256 .f32) (ix4 b T n k) = headAt (fun k => S (ix4 b T n k)) (G (ix2 n k)) k := by
  unfold headAt
  pointwise []

/-- The gate at an entry. -/
theorem gate_at (P : FVec Ideal S4x4096x6144 .f32) (b : Fin 4) (T : Fin 4096) (j : Fin 1024) :
    (mulf (extractStridedSlice S4x4096x1024 ![0, 0, 5120] P slices_S4x4096x6144_S4x4096x1024_0_0_5120) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 5120] P slices_S4x4096x6144_S4x4096x1024_0_0_5120))))) : FVec Ideal S4x4096x1024 .f32) (ix3 b T j) = siluAt (P (ix3 b T (gateCol j))) := by
  unfold siluAt
  pointwise []
  rfl

/-- The plain program's result. -/
theorem out_eq (F B : FVec Ideal S4x4096x1024 .f32) (P : FVec Ideal S4x4096x6144 .f32) (g : FVec Ideal S1024 .f32) :
    (truncf .bf16 (mulf (shapeCast _ (mulf (mulf (addf (shapeCast _ F shapeCasts_S4x4096x1024_S4x4096x4x256) (shapeCast _ B shapeCasts_S4x4096x1024_S4x4096x4x256)) (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf (addf (shapeCast _ F shapeCasts_S4x4096x1024_S4x4096x4x256) (shapeCast _ B shapeCasts_S4x4096x1024_S4x4096x4x256)) (addf (shapeCast _ F shapeCasts_S4x4096x1024_S4x4096x4x256) (shapeCast _ B shapeCasts_S4x4096x1024_S4x4096x4x256))) (constant (F := Ideal) S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))) (broadcastInDim S4x4096x4x256 ![0, 1, 2, 3] bcast_S1x1x4x256_S4x4096x4x256_0_1_2_3 (broadcastInDim S1x1x4x256 ![2, 3] bcast_S4x256_S1x1x4x256_2_3 (shapeCast _ g shapeCasts_S1024_S4x256)))) shapeCasts_S4x4096x4x256_S4x4096x1024) (mulf (extractStridedSlice S4x4096x1024 ![0, 0, 5120] P slices_S4x4096x6144_S4x4096x1024_0_0_5120) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 5120] P slices_S4x4096x6144_S4x4096x1024_0_0_5120))))))) bitsLt_bf16_f32 : FVec Ideal S4x4096x1024 .bf16)
      = fun y => gated (fun k => F (ix3 (y 0) (y 1) k)) (fun k => B (ix3 (y 0) (y 1) k)) (g (ix1 (y 2))) (P (ix3 (y 0) (y 1) (gateCol (y 2)))) (y 2) := by
  funext y
  rw [show y = ix3 (y 0) (y 1) (y 2) from eq_ix3 y]
  refine congrArg₂ (fun a b : EReal => a * b) ((flat_at _ _ _ _).trans ((normed_at _ _ _ _ _ _).trans ?_)) (gate_at P (y 0) (y 1) (y 2))
  refine congrArg₂ (fun R w => headAt R w (inHead (y 2))) (funext fun k => congrArg₂ (fun a b : EReal => a + b) (heads_at _ _ _ _ _) (heads_at _ _ _ _ _)) ?_
  exact (wts_at _ _ _).trans (congrArg (fun j => g (ix1 j)) (col_head (y 2)))

end Cert.Reference16Ideal.Hand

namespace Cert.Ffn

/-- The head norm's kernel leaves its arguments as they were, with every counter at zero. -/
theorem frame_kernel16 : Cert.quiescent_Kernel16 := fun m g _ => Cert.Kernel16.Gen.frame m g

/-- So does its idealization. -/
theorem frame_ideal16 : Cert.quiescent_Kernel16Ideal := fun m g _ => Cert.Kernel16Ideal.Gen.frame m g

/-- So does the plain program. -/
theorem frame_reference16 : Cert.quiescent_Reference16Ideal := fun m g _ =>
  (θ_run _ _ _).mono (fun r h => ⟨fun c => (h c).2, sem_eq_zero_of_no_sems (by decide) r.2⟩) (Cert.Reference16Ideal.Value.run m g)

/-- The idealized kernel and the plain program have equal results. -/
theorem algebraic16 : Cert.algebraic_Kernel16Ideal_Reference16Ideal := fun m g m' g' _ he =>
  ⟨fun c => Cert.Kernel16Ideal.Hand.result m c,
    (θ_run _ _ _).mono (fun _ h c => ⟨(h c).1.trans (Cert.Kernel16Ideal.Hand.arrAt4 m c), (h c).2⟩) (Cert.Kernel16Ideal.Value.run_blocks m g),
    (θ_run _ _ _).mono (fun _ h c => ⟨(h c).1.trans ((Cert.Reference16Ideal.Hand.out_eq _ _ _ _).trans
      (by rw [(he c).1, (he c).2.1, (he c).2.2.1, (he c).2.2.2]; rfl)), (h c).2⟩) (Cert.Reference16Ideal.Value.run m' g')⟩

end Cert.Ffn
-- ==== Proof.Modulation.lean ====
/-
  The modulation's product: the shifts, scales and gates of a layer from the condition, tile by tile in the kernel and as one product in
  the plain program.
-/
module

public import proofs.«01_k».proof.Proof.Gen.Kernel17.Frame
public import proofs.«01_k».proof.Proof.Gen.Kernel17Ideal.Value
public import proofs.«01_k».proof.Proof.Gen.Reference17Ideal.Run
public import proofs.«01_k».proof.Proof.HeadNorm
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- An entry of the modulation's product: batch `b`, column `j` of the second layer's weights. -/
def modOut (C : Fin 4 → Fin 2048 → EReal) (W : Fin 2 → Fin 2048 → Fin 6144 → EReal) (B : Fin 2 → Fin 6144 → EReal) (b : Fin 4) (j : Fin 6144) : EReal :=
  ∑ k : Fin 2048, siluAt (C b k) * W 1 k j + B 1 j

end Cert.Ffn

namespace Cert.Kernel17Ideal.Hand

open Cert.Kernel17Ideal Cert.Kernel17Ideal.Gen Cert.Ffn

variable (m : (ℓ : Loc nD τ sig) → Buf (Elt Ideal) ℓ) (c : Dev nD)

/-- The condition. -/
abbrev arrC (b : Fin 4) (x : Fin 2048) : EReal := m ((c : Thread nD τ).loc main_arg0) (Idealize.ShloMosaic.ix2 b x)
/-- The weights. -/
abbrev arrW (d : Fin 2) (k : Fin 2048) (j : Fin 6144) : EReal := m ((c : Thread nD τ).loc main_arg1) (Idealize.ShloMosaic.ix3 d k j)
/-- The biases. -/
abbrev arrB (d : Fin 2) (j : Fin 6144) : EReal := m ((c : Thread nD τ).loc main_arg2) (Idealize.ShloMosaic.ix2 d j)

theorem V_main_v0 : Gen.V m c main_v0 = (shapeCast S2x1x6144 (Gen.V m c main_arg2) shapeCasts_S2x6144_S2x1x6144 : FVec Ideal S2x1x6144 .f32) := by
  after_reads_simp
  all_goals rfl

theorem bias_at (B : FVec Ideal S2x6144 .f32) (j : Fin 6144) :
    (shapeCast S2x1x6144 B shapeCasts_S2x6144_S2x1x6144 : FVec Ideal S2x1x6144 .f32) (Idealize.ShloMosaic.ix3 1 0 j) = B (Idealize.ShloMosaic.ix2 1 j) := by
  pointwise []

/-- A tile at an entry. -/
theorem tile_at (x0 : Vec Ideal S4x2048 .f32) (x1 : Vec Ideal S1x2048x512 .f32) (x2 : Vec Ideal S1x1x512 .f32) (b : Fin 4) (j : Fin 512) :
    out0_3 x0 x1 x2 (Idealize.ShloMosaic.ix2 b j) = (∑ k : Fin 2048, siluAt (x0 (Idealize.ShloMosaic.ix2 b k)) * x1 (Idealize.ShloMosaic.ix3 0 k j)) + x2 (Idealize.ShloMosaic.ix3 0 0 j) := by
  unfold out0_3
  rw [show View.ld x0 r0_0 = x0 from View.ld_unit_lit _ _ (by decide), show View.ld x1 r0_1 = x1 from View.ld_unit_lit _ _ (by decide),
    show View.ld x2 r0_2 = x2 from View.ld_unit_lit _ _ (by decide)]
  refine (congrFun (View.canon_cons_unit_lit _ _ [] (by decide)) _).trans ?_
  unfold siluAt
  pointwise [k0_pay1]

/-- Every window's block index at a grid point. -/
theorem idx (t : Fin grid0.N) :
    win0_0.index t = ![0, 0] ∧ win0_1.index t = ![1, 0, t.val] ∧ win0_2.index t = ![1, 0, t.val] ∧ win0_3.index t = ![0, t.val] :=
  (by decide +kernel : ∀ t : Fin grid0.N,
    win0_0.index t = ![0, 0] ∧ win0_1.index t = ![1, 0, t.val] ∧ win0_2.index t = ![1, 0, t.val] ∧ win0_3.index t = ![0, t.val]) t

theorem t_lt (t : Fin cfg0.N) : t.val < 12 := lt_of_lt_of_eq t.isLt N_0

/-- Column `j` of point `t`'s tile in the whole array. -/
def gCol (t : Fin cfg0.N) (j : Fin 512) : Fin 6144 := ⟨512 * t.val + j.val, by have := t_lt t; omega⟩

theorem gCol_val (t : Fin cfg0.N) (j : Fin 512) : (gCol t j).val = 512 * t.val + j.val := rfl

set_option maxHeartbeats 2000000 in
theorem c_blk (t : Fin cfg0.N) (b : Fin 4) (k : Fin 2048) :
    iblk m c 0 t (Idealize.ShloMosaic.ix2 b k) = Gen.V m c main_arg0 (Idealize.ShloMosaic.ix2 b k) := by
  have e := idx t
  blk_ext [iblk, e]

set_option maxHeartbeats 2000000 in
theorem w_blk (t : Fin cfg0.N) (k : Fin 2048) (j : Fin 512) :
    iblk m c 1 t (Idealize.ShloMosaic.ix3 0 k j) = Gen.V m c main_arg1 (Idealize.ShloMosaic.ix3 1 k (gCol t j)) := by
  have e := idx t
  blk_ext [iblk, e, gCol_val]

set_option maxHeartbeats 2000000 in
theorem b_blk (t : Fin cfg0.N) (j : Fin 512) :
    iblk m c 2 t (Idealize.ShloMosaic.ix3 0 0 j) = Gen.V m c main_v0 (Idealize.ShloMosaic.ix3 1 0 (gCol t j)) := by
  have e := idx t
  blk_ext [iblk, e, gCol_val]

/-- The whole result. -/
def result : FVec Ideal S4x6144 .f32 := fun y => modOut (arrC m c) (arrW m c) (arrB m c) (y 0) (y 1)

/-- Point `t`'s tile at an entry. -/
theorem tile_eq (t : Fin cfg0.N) (b : Fin 4) (j : Fin 512) :
    out0_3 (iblk m c 0 t) (iblk m c 1 t) (iblk m c 2 t) (Idealize.ShloMosaic.ix2 b j) = modOut (arrC m c) (arrW m c) (arrB m c) b (gCol t j) := by
  rw [tile_at, b_blk, V_main_v0, V_main_arg2]
  unfold modOut
  refine congrArg₂ (fun a b : EReal => a + b) (Finset.sum_congr rfl fun k _ => ?_) (bias_at _ _)
  rw [c_blk, w_blk, V_main_arg0, V_main_arg1]

set_option maxHeartbeats 2000000 in
/-- The array after the run. -/
theorem arrAt3 : (dats m 0 c).arrAt 3 cfg0.N = result m c := by
  refine (dats m 0 c).arrAt_eq_of_covers 3 _ (by decide +kernel) fun t hf y => ?_
  have e := idx t
  blk_simp
  rw [after0_3]
  rw [show y = Idealize.ShloMosaic.ix2 (y 0) (y 1) from eq_ix2 y]
  refine (tile_eq m c t (y 0) (y 1)).trans ?_
  show result m c (Idealize.ShloMosaic.ix2 (y 0) (gCol t (y 1))) = _
  blk_ext [e]
  exact (gCol_val t (y 1)).trans (by omega)

end Cert.Kernel17Ideal.Hand

namespace Cert.Reference17Ideal.Hand

open Cert.Reference17Ideal Cert.Reference17Ideal.Gen Cert.Ffn

/-- The plain program's result at every entry. -/
theorem out_eq (C : FVec Ideal S4x2048 .f32) (W : FVec Ideal S2x2048x6144 .f32) (B : FVec Ideal S2x6144 .f32) :
    (addf (Host.dotGeneral dot_S4x2048_S2048x6144_S4x6144_1_0_0_1_n_n none (mulf C (Host.divf (broadcastInDim S4x2048 ![] bcast_S_S4x2048 (constant S_ .f32 0x3F800000#32)) (addf (broadcastInDim S4x2048 ![] bcast_S_S4x2048 (constant S_ .f32 0x3F800000#32)) (Host.exp (Host.negf C))))) (shapeCast _ (extractStridedSlice S1x2048x6144 ![1, 0, 0] W slices_S2x2048x6144_S1x2048x6144_1_0_0) shapeCasts_S1x2048x6144_S2048x6144)) (broadcastInDim S4x6144 ![0, 1] bcast_S1x6144_S4x6144_0_1 (broadcastInDim S1x6144 ![1] bcast_S6144_S1x6144_1 (shapeCast _ (extractStridedSlice S1x6144 ![1, 0] B slices_S2x6144_S1x6144_1_0) shapeCasts_S1x6144_S6144))) : FVec Ideal S4x6144 .f32)
      = fun y => modOut (fun b k => C (ix2 b k)) (fun d k j => W (ix3 d k j)) (fun d j => B (ix2 d j)) (y 0) (y 1) := by
  funext y
  rw [show y = ix2 (y 0) (y 1) from eq_ix2 y]
  unfold modOut siluAt
  pointwise []
  rfl

end Cert.Reference17Ideal.Hand

namespace Cert.Ffn

/-- The modulation's kernel leaves its arguments as they were, with every counter at zero. -/
theorem frame_kernel17 : Cert.quiescent_Kernel17 := fun m g _ => Cert.Kernel17.Gen.frame m g

/-- So does its idealization. -/
theorem frame_ideal17 : Cert.quiescent_Kernel17Ideal := fun m g _ => Cert.Kernel17Ideal.Gen.frame m g

/-- So does the plain program. -/
theorem frame_reference17 : Cert.quiescent_Reference17Ideal := fun m g _ =>
  (θ_run _ _ _).mono (fun r h => ⟨fun c => (h c).2, sem_eq_zero_of_no_sems (by decide) r.2⟩) (Cert.Reference17Ideal.Value.run m g)

/-- The idealized kernel and the plain program have equal results. -/
theorem algebraic17 : Cert.algebraic_Kernel17Ideal_Reference17Ideal := fun m g m' g' _ he =>
  ⟨fun c => Cert.Kernel17Ideal.Hand.result m c,
    (θ_run _ _ _).mono (fun _ h c => ⟨(h c).1.trans (Cert.Kernel17Ideal.Hand.arrAt3 m c), (h c).2⟩) (Cert.Kernel17Ideal.Value.run_blocks m g),
    (θ_run _ _ _).mono (fun _ h c => ⟨(h c).1.trans ((Cert.Reference17Ideal.Hand.out_eq _ _ _).trans
      (by rw [(he c).1, (he c).2.1, (he c).2.2]; rfl)), (h c).2⟩) (Cert.Reference17Ideal.Value.run m' g')⟩

end Cert.Ffn
-- ==== Proof.ShortConv.lean ====
/-
  The short convolution of the Hyena part: three taps along the sequence, tile by tile with one row of each neighbouring tile in the
  kernel and on the zero-padded array in the plain program.
-/
module

public import proofs.«01_k».proof.Proof.Gen.Kernel18.Frame
public import proofs.«01_k».proof.Proof.Gen.Kernel18Ideal.Value
public import proofs.«01_k».proof.Proof.Gen.Reference18Ideal.Run
public import proofs.«01_k».proof.Proof.Modulation
public import proofs.«01_k».proof.Proof.LowIn
public import Idealize.ShloMosaic.Lib.Pipeline.ValueKit
public import Idealize.ShloMosaic.Lib.Tactic
public import Idealize.ShloMosaic.Lib.Pointwise
public import Idealize.ShloMosaic.Lib.StableHlo.RunRead

@[expose] public section

set_option maxRecDepth 65536

noncomputable section

open Idealize.ShloMosaic Idealize.ShloMosaic.TcCoe Idealize.SL.Sem

namespace Cert.Ffn

/-- The row before `T`, or zero. -/
def rowBefore (X : Fin 4096 → EReal) (T : Fin 4096) : EReal := if h : 1 ≤ T.val then X ⟨T.val - 1, by omega⟩ else 0
/-- The row after `T`, or zero. -/
def rowAfter (X : Fin 4096 → EReal) (T : Fin 4096) : EReal := if h : T.val + 1 < 4096 then X ⟨T.val + 1, h⟩ else 0
/-- A convolved column among the projection's columns. -/
def wide (j : Fin 3072) : Fin 6144 := ⟨j.val, by omega⟩
/-- Column `j` of the `k`-th result among the convolved columns. -/
def third (k : Fin 3) (j : Fin 1024) : Fin 3072 := ⟨1024 * k.val + j.val, by omega⟩

theorem wide_val (j : Fin 3072) : (wide j).val = j.val := rfl

/-- An entry of the convolution. -/
def conv (X : Fin 4 → Fin 4096 → Fin 6144 → EReal) (W : Fin 3 → Fin 3072 → EReal) (B : Fin 3072 → EReal) (b : Fin 4) (T : Fin 4096) (j : Fin 3072) : EReal :=
  rowBefore (fun T => X b T (wide j)) T * W 0 j + X b T (wide j) * W 1 j + rowAfter (fun T => X b T (wide j)) T * W 2 j + B j

end Cert.Ffn

namespace Cert.Kernel18Ideal.Hand

open Cert.Kernel18Ideal Cert.Kernel18Ideal.Gen Cert.Ffn

variable (m : (ℓ : Loc nD τ sig) → Buf (Elt Ideal) ℓ) (c : Dev nD)

/-- The projection. -/
abbrev arrX (b : Fin 4) (T : Fin 4096) (x : Fin 6144) : EReal := m ((c : Thread nD τ).loc main_arg0) (Idealize.ShloMosaic.ix3 b T x)
/-- The taps. -/
abbrev arrW (d : Fin 3) (j : Fin 3072) : EReal := m ((c : Thread nD τ).loc main_arg1) (Idealize.ShloMosaic.ix2 d j)
/-- The biases. -/
abbrev arrB (j : Fin 3072) : EReal := m ((c : Thread nD τ).loc main_arg2) (Idealize.ShloMosaic.ix1 j)

theorem V_main_v0 : Gen.V m c main_v0 = (shapeCast S1x3072 (Gen.V m c main_arg2) shapeCasts_S3072_S1x3072 : FVec Ideal S1x3072 .f32) := by
  after_reads_simp
  all_goals rfl

theorem bias_at (B : FVec Ideal S3072 .f32) (j : Fin 3072) :
    (shapeCast S1x3072 B shapeCasts_S3072_S1x3072 : FVec Ideal S1x3072 .f32) (Idealize.ShloMosaic.ix2 0 j) = B (Idealize.ShloMosaic.ix1 j) := by
  pointwise []

theorem coord (t : Fin grid0.N) : ((grid0.coords t) 1).val = t.val % 16 :=
  (by decide +kernel : ∀ t : Fin grid0.N, ((grid0.coords t) 1).val = t.val % 16) t

theorem sel (c : BitVec 1) (p : Prop) [Decidable p] (h : c = if p then 1#1 else 0#1) (a b : EReal) : Scalar.select c a b = if p then a else b := by
  subst h
  by_cases hp : p
  · rw [if_pos hp, if_pos hp]; rfl
  · rw [if_neg hp, if_neg hp]; rfl

theorem cmp_first (r : Fin 256) : IntOp.cmpi .eq (BitVec.ofNat 32 r.val) 0#32 = if r.val = 0 then 1#1 else 0#1 :=
  (by decide +kernel : ∀ r : Fin 256, IntOp.cmpi .eq (BitVec.ofNat 32 r.val) 0#32 = if r.val = 0 then 1#1 else 0#1) r
theorem cmp_last (r : Fin 256) : IntOp.cmpi .eq (BitVec.ofNat 32 r.val) 255#32 = if r.val = 255 then 1#1 else 0#1 :=
  (by decide +kernel : ∀ r : Fin 256, IntOp.cmpi .eq (BitVec.ofNat 32 r.val) 255#32 = if r.val = 255 then 1#1 else 0#1) r
theorem cmp_after (n : Fin 16) : Scalar.cmpi .sgt (BitVec.ofNat 32 n.val) 0#32 = if 1 ≤ n.val then 1#1 else 0#1 :=
  (by decide +kernel : ∀ n : Fin 16, Scalar.cmpi .sgt (BitVec.ofNat 32 n.val) 0#32 = if 1 ≤ n.val then 1#1 else 0#1) n
theorem cmp_before (n : Fin 16) : Scalar.cmpi .slt (BitVec.ofNat 32 n.val) 15#32 = if n.val < 15 then 1#1 else 0#1 :=
  (by decide +kernel : ∀ n : Fin 16, Scalar.cmpi .slt (BitVec.ofNat 32 n.val) 15#32 = if n.val < 15 then 1#1 else 0#1) n

/-- A tile's convolution at an entry. -/
theorem mid_at (t : Fin grid0.N) (v0 : Vec Ideal S1x256x3072 .f32) (v2 v4 : Vec Ideal S1x8x3072 .f32) (w : Vec Ideal S3x3072 .f32) (b : Vec Ideal S1x3072 .f32)
    (r : Fin 256) (j : Fin 3072) :
    k0_pay1 (k0_pay5 (grid0.coords t) v0 v2 v4 w) b (Idealize.ShloMosaic.ix2 r j)
      = (if r.val = 0 then (if 1 ≤ t.val % 16 then v2 (Idealize.ShloMosaic.ix3 0 7 j) else 0) else v0 (Idealize.ShloMosaic.ix3 0 ⟨(r.val + 256 - 1) % 256, by omega⟩ j)) * w (Idealize.ShloMosaic.ix2 0 j)
        + v0 (Idealize.ShloMosaic.ix3 0 r j) * w (Idealize.ShloMosaic.ix2 1 j)
        + (if r.val = 255 then (if t.val % 16 < 15 then v4 (Idealize.ShloMosaic.ix3 0 0 j) else 0) else v0 (Idealize.ShloMosaic.ix3 0 ⟨(r.val + 256 - 255) % 256, by omega⟩ j)) * w (Idealize.ShloMosaic.ix2 2 j)
        + b (Idealize.ShloMosaic.ix2 0 j) := by
  pointwise [k0_pay1, k0_pay5]
  rw [coord t, sel _ _ (cmp_first r), sel _ _ (cmp_last r), sel _ _ (cmp_after ⟨t.val % 16, by omega⟩), sel _ _ (cmp_before ⟨t.val % 16, by omega⟩)]

theorem tile_at0 (t : Fin grid0.N) (x0 : Vec Ideal S1x256x3072 .f32) (x1 x2 : Vec Ideal S1x8x3072 .f32) (x3 : Vec Ideal S3x3072 .f32) (x4 : Vec Ideal S1x3072 .f32)
    (r : Fin 256) (j : Fin 1024) :
    out0_5 (grid0.coords t) x0 x1 x2 x3 x4 (Idealize.ShloMosaic.ix3 0 r j) = k0_pay1 (k0_pay5 (grid0.coords t) x0 x1 x2 x3) x4 (Idealize.ShloMosaic.ix2 r (third 0 j)) := by
  unfold out0_5 k0_pay6
  rw [show View.ld x0 r0_0 = x0 from View.ld_unit_lit _ _ (by decide), show View.ld x1 r0_1 = x1 from View.ld_unit_lit _ _ (by decide),
    show View.ld x2 r0_1 = x2 from View.ld_unit_lit _ _ (by decide), show View.ld x3 r0_2 = x3 from View.ld_unit_lit _ _ (by decide),
    show View.ld x4 r0_3 = x4 from View.ld_unit_lit _ _ (by decide)]
  refine (congrFun (View.canon_cons_unit_lit _ _ [] (by decide)) _).trans ?_
  generalize k0_pay5 (grid0.coords t) x0 x1 x2 x3 = Z
  generalize hU : k0_pay1 Z x4 = U
  unfold k0_pay2
  rw [hU]
  pointwise []
  exact congrArg (fun j => U (Idealize.ShloMosaic.ix2 r j)) (Fin.ext (by simp [third]))

theorem tile_at1 (t : Fin grid0.N) (x0 : Vec Ideal S1x256x3072 .f32) (x1 x2 : Vec Ideal S1x8x3072 .f32) (x3 : Vec Ideal S3x3072 .f32) (x4 : Vec Ideal S1x3072 .f32)
    (r : Fin 256) (j : Fin 1024) :
    out0_6 (grid0.coords t) x0 x1 x2 x3 x4 (Idealize.ShloMosaic.ix3 0 r j) = k0_pay1 (k0_pay5 (grid0.coords t) x0 x1 x2 x3) x4 (Idealize.ShloMosaic.ix2 r (third 1 j)) := by
  unfold out0_6 k0_pay6
  rw [show View.ld x0 r0_0 = x0 from View.ld_unit_lit _ _ (by decide), show View.ld x1 r0_1 = x1 from View.ld_unit_lit _ _ (by decide),
    show View.ld x2 r0_1 = x2 from View.ld_unit_lit _ _ (by decide), show View.ld x3 r0_2 = x3 from View.ld_unit_lit _ _ (by decide),
    show View.ld x4 r0_3 = x4 from View.ld_unit_lit _ _ (by decide)]
  refine (congrFun (View.canon_cons_unit_lit _ _ [] (by decide)) _).trans ?_
  generalize k0_pay5 (grid0.coords t) x0 x1 x2 x3 = Z
  generalize hU : k0_pay1 Z x4 = U
  unfold k0_pay3
  rw [hU]
  pointwise []
  exact congrArg (fun j => U (Idealize.ShloMosaic.ix2 r j)) (Fin.ext (by simp [third]))

theorem tile_at2 (t : Fin grid0.N) (x0 : Vec Ideal S1x256x3072 .f32) (x1 x2 : Vec Ideal S1x8x3072 .f32) (x3 : Vec Ideal S3x3072 .f32) (x4 : Vec Ideal S1x3072 .f32)
    (r : Fin 256) (j : Fin 1024) :
    out0_7 (grid0.coords t) x0 x1 x2 x3 x4 (Idealize.ShloMosaic.ix3 0 r j) = k0_pay1 (k0_pay5 (grid0.coords t) x0 x1 x2 x3) x4 (Idealize.ShloMosaic.ix2 r (third 2 j)) := by
  unfold out0_7 k0_pay6
  rw [show View.ld x0 r0_0 = x0 from View.ld_unit_lit _ _ (by decide), show View.ld x1 r0_1 = x1 from View.ld_unit_lit _ _ (by decide),
    show View.ld x2 r0_1 = x2 from View.ld_unit_lit _ _ (by decide), show View.ld x3 r0_2 = x3 from View.ld_unit_lit _ _ (by decide),
    show View.ld x4 r0_3 = x4 from View.ld_unit_lit _ _ (by decide)]
  refine (congrFun (View.canon_cons_unit_lit _ _ [] (by decide)) _).trans ?_
  generalize k0_pay5 (grid0.coords t) x0 x1 x2 x3 = Z
  generalize hU : k0_pay1 Z x4 = U
  unfold k0_pay4
  rw [hU]
  pointwise []
  exact congrArg (fun j => U (Idealize.ShloMosaic.ix2 r j)) (Fin.ext (by simp [third]))

/-- Every window's block index at a grid point. -/
theorem idx (t : Fin grid0.N) :
    win0_0.index t = ![t.val / 16, t.val % 16, 0] ∧ win0_1.index t = ![t.val / 16, 32 * (t.val % 16) - 1, 0]
    ∧ win0_2.index t = ![t.val / 16, min (32 * (t.val % 16) + 32) 511, 0] ∧ win0_3.index t = ![0, 0] ∧ win0_4.index t = ![0, 0]
    ∧ win0_5.index t = ![t.val / 16, t.val % 16, 0] ∧ win0_6.index t = ![t.val / 16, t.val % 16, 0] ∧ win0_7.index t = ![t.val / 16, t.val % 16, 0] :=
  (by decide +kernel : ∀ t : Fin grid0.N,
    win0_0.index t = ![t.val / 16, t.val % 16, 0] ∧ win0_1.index t = ![t.val / 16, 32 * (t.val % 16) - 1, 0]
    ∧ win0_2.index t = ![t.val / 16, min (32 * (t.val % 16) + 32) 511, 0] ∧ win0_3.index t = ![0, 0] ∧ win0_4.index t = ![0, 0]
    ∧ win0_5.index t = ![t.val / 16, t.val % 16, 0] ∧ win0_6.index t = ![t.val / 16, t.val % 16, 0] ∧ win0_7.index t = ![t.val / 16, t.val % 16, 0]) t

theorem t_lt (t : Fin cfg0.N) : t.val < 64 := lt_of_lt_of_eq t.isLt N_0

/-- Point `t`'s batch. -/
def gBat (t : Fin cfg0.N) : Fin 4 := ⟨t.val / 16, by have := t_lt t; omega⟩
/-- Row `r` of point `t`'s tile in its batch. -/
def gRow (t : Fin cfg0.N) (r : Fin 256) : Fin 4096 := ⟨256 * (t.val % 16) + r.val, by omega⟩
/-- The row before the tile, where there is one. -/
def rowPrev (t : Fin cfg0.N) : Fin 4096 := ⟨256 * (t.val % 16) - 1, by omega⟩
/-- The row after the tile, where there is one. -/
def rowNext (t : Fin cfg0.N) (h : t.val % 16 < 15) : Fin 4096 := ⟨256 * (t.val % 16) + 256, by omega⟩

theorem gBat_val (t : Fin cfg0.N) : (gBat t).val = t.val / 16 := rfl
theorem gRow_val (t : Fin cfg0.N) (r : Fin 256) : (gRow t r).val = 256 * (t.val % 16) + r.val := rfl
theorem rowPrev_val (t : Fin cfg0.N) : (rowPrev t).val = 256 * (t.val % 16) - 1 := rfl
theorem rowNext_val (t : Fin cfg0.N) (h : t.val % 16 < 15) : (rowNext t h).val = 256 * (t.val % 16) + 256 := rfl

set_option maxHeartbeats 2000000 in
theorem x_blk (t : Fin cfg0.N) (r : Fin 256) (k : Fin 3072) :
    iblk m c 0 t (Idealize.ShloMosaic.ix3 0 r k) = Gen.V m c main_arg0 (Idealize.ShloMosaic.ix3 (gBat t) (gRow t r) (wide k)) := by
  have e := idx t
  blk_ext [iblk, e, gBat_val, gRow_val, wide_val]

set_option maxHeartbeats 2000000 in
theorem p_blk (t : Fin cfg0.N) (h : 1 ≤ t.val % 16) (k : Fin 3072) :
    iblk m c 1 t (Idealize.ShloMosaic.ix3 0 7 k) = Gen.V m c main_arg0 (Idealize.ShloMosaic.ix3 (gBat t) (rowPrev t) (wide k)) := by
  have e := idx t
  blk_ext [iblk, e, gBat_val, rowPrev_val, wide_val]

set_option maxHeartbeats 2000000 in
theorem n_blk (t : Fin cfg0.N) (h : t.val % 16 < 15) (k : Fin 3072) :
    iblk m c 2 t (Idealize.ShloMosaic.ix3 0 0 k) = Gen.V m c main_arg0 (Idealize.ShloMosaic.ix3 (gBat t) (rowNext t h) (wide k)) := by
  have e := idx t
  blk_ext [iblk, e, gBat_val, rowNext_val, wide_val]

set_option maxHeartbeats 2000000 in
theorem w_blk (t : Fin cfg0.N) (d : Fin 3) (j : Fin 3072) :
    iblk m c 3 t (Idealize.ShloMosaic.ix2 d j) = Gen.V m c main_arg1 (Idealize.ShloMosaic.ix2 d j) := by
  have e := idx t
  blk_ext [iblk, e]

set_option maxHeartbeats 2000000 in
theorem b_blk (t : Fin cfg0.N) (j : Fin 3072) :
    iblk m c 4 t (Idealize.ShloMosaic.ix2 0 j) = Gen.V m c main_v0 (Idealize.ShloMosaic.ix2 0 j) := by
  have e := idx t
  blk_ext [iblk, e]

/-- The `k`-th result. -/
def result (k : Fin 3) : FVec Ideal S4x4096x1024 .f32 := fun y =>
  conv (arrX m c) (arrW m c) (arrB m c) (y 0) (y 1) (third k (y 2))

theorem before_eq (X : Fin 4096 → EReal) (t : Fin cfg0.N) (r : Fin 256) :
    rowBefore X (gRow t r)
      = if r.val = 0 then (if 1 ≤ t.val % 16 then X (rowPrev t) else 0) else X (gRow t ⟨(r.val + 256 - 1) % 256, by omega⟩) := by
  unfold rowBefore
  by_cases hr : r.val = 0
  · rw [if_pos hr]
    by_cases ht : 1 ≤ t.val % 16
    · rw [if_pos ht, dif_pos (by rw [gRow_val]; omega)]
      exact congrArg X (Fin.ext (by rw [rowPrev_val]; show (gRow t r).val - 1 = _; rw [gRow_val]; omega))
    · rw [if_neg ht, dif_neg (by rw [gRow_val]; omega)]
  · rw [if_neg hr, dif_pos (by rw [gRow_val]; omega)]
    exact congrArg X (Fin.ext (by show 256 * (t.val % 16) + r.val - 1 = 256 * (t.val % 16) + (r.val + 256 - 1) % 256; omega))

theorem after_eq (X : Fin 4096 → EReal) (t : Fin cfg0.N) (r : Fin 256) :
    rowAfter X (gRow t r)
      = if r.val = 255 then (if h : t.val % 16 < 15 then X (rowNext t h) else 0) else X (gRow t ⟨(r.val + 256 - 255) % 256, by omega⟩) := by
  unfold rowAfter
  by_cases hr : r.val = 255
  · rw [if_pos hr]
    by_cases ht : t.val % 16 < 15
    · rw [dif_pos ht, dif_pos (by rw [gRow_val]; omega)]
      exact congrArg X (Fin.ext (by rw [rowNext_val]; show (gRow t r).val + 1 = _; rw [gRow_val]; omega))
    · rw [dif_neg ht, dif_neg (by rw [gRow_val]; omega)]
  · rw [if_neg hr, dif_pos (by rw [gRow_val]; omega)]
    exact congrArg X (Fin.ext (by show 256 * (t.val % 16) + r.val + 1 = 256 * (t.val % 16) + (r.val + 256 - 255) % 256; omega))

/-- Point `t`'s convolution at an entry. -/
theorem mid_eq (t : Fin cfg0.N) (r : Fin 256) (j : Fin 3072) :
    k0_pay1 (k0_pay5 (grid0.coords t) (iblk m c 0 t) (iblk m c 1 t) (iblk m c 2 t) (iblk m c 3 t)) (iblk m c 4 t) (Idealize.ShloMosaic.ix2 r j)
      = conv (arrX m c) (arrW m c) (arrB m c) (gBat t) (gRow t r) j := by
  rw [mid_at, b_blk, V_main_v0, V_main_arg2]
  simp only [x_blk, w_blk, V_main_arg0, V_main_arg1]
  unfold conv
  rw [before_eq, after_eq]
  refine congrArg₂ (fun a b : EReal => a + b) (congrArg₂ (fun a b : EReal => a + b) (congrArg (fun a : EReal => a + _) (congrArg (fun a : EReal => a * _) ?_))
    (congrArg (fun a : EReal => a * _) ?_)) (bias_at _ _)
  · by_cases hr : r.val = 0
    · rw [if_pos hr, if_pos hr]
      by_cases ht : 1 ≤ t.val % 16
      · rw [if_pos ht, if_pos ht, p_blk m c t ht, V_main_arg0]
      · rw [if_neg ht, if_neg ht]
    · rw [if_neg hr, if_neg hr, V_main_arg0]
  · by_cases hr : r.val = 255
    · rw [if_pos hr, if_pos hr]
      by_cases ht : t.val % 16 < 15
      · rw [if_pos ht, dif_pos ht, n_blk m c t ht, V_main_arg0]
      · rw [if_neg ht, dif_neg ht]
    · rw [if_neg hr, if_neg hr, V_main_arg0]

theorem ix3_cut (y : S1x256x1024.Idx) : y = Idealize.ShloMosaic.ix3 0 (y 1) (y 2) := by
  funext a
  match a with
  | ⟨0, _⟩ => exact Subsingleton.elim (α := Fin 1) _ _
  | ⟨1, _⟩ => rfl
  | ⟨2, _⟩ => rfl

set_option maxHeartbeats 2000000 in
/-- The first array after the run. -/
theorem arrAt5 : (dats m 0 c).arrAt 5 cfg0.N = result m c 0 := by
  refine (dats m 0 c).arrAt_eq_of_covers 5 _ (by decide +kernel) fun t hf y => ?_
  have e := idx t
  blk_simp
  rw [after0_5]
  rw [show y = Idealize.ShloMosaic.ix3 0 (y 1) (y 2) from ix3_cut y]
  refine (tile_at0 t _ _ _ _ _ (y 1) (y 2)).trans ((mid_eq m c t (y 1) (third 0 (y 2))).trans ?_)
  show result m c 0 (Idealize.ShloMosaic.ix3 (gBat t) (gRow t (y 1)) (y 2)) = _
  blk_ext [e, gBat_val]
  exact (gRow_val t (y 1)).trans (by omega)

set_option maxHeartbeats 2000000 in
/-- The second array after the run. -/
theorem arrAt6 : (dats m 0 c).arrAt 6 cfg0.N = result m c 1 := by
  refine (dats m 0 c).arrAt_eq_of_covers 6 _ (by decide +kernel) fun t hf y => ?_
  have e := idx t
  blk_simp
  rw [after0_6]
  rw [show y = Idealize.ShloMosaic.ix3 0 (y 1) (y 2) from ix3_cut y]
  refine (tile_at1 t _ _ _ _ _ (y 1) (y 2)).trans ((mid_eq m c t (y 1) (third 1 (y 2))).trans ?_)
  show result m c 1 (Idealize.ShloMosaic.ix3 (gBat t) (gRow t (y 1)) (y 2)) = _
  blk_ext [e, gBat_val]
  exact (gRow_val t (y 1)).trans (by omega)

set_option maxHeartbeats 2000000 in
/-- The third array after the run. -/
theorem arrAt7 : (dats m 0 c).arrAt 7 cfg0.N = result m c 2 := by
  refine (dats m 0 c).arrAt_eq_of_covers 7 _ (by decide +kernel) fun t hf y => ?_
  have e := idx t
  blk_simp
  rw [after0_7]
  rw [show y = Idealize.ShloMosaic.ix3 0 (y 1) (y 2) from ix3_cut y]
  refine (tile_at2 t _ _ _ _ _ (y 1) (y 2)).trans ((mid_eq m c t (y 1) (third 2 (y 2))).trans ?_)
  show result m c 2 (Idealize.ShloMosaic.ix3 (gBat t) (gRow t (y 1)) (y 2)) = _
  blk_ext [e, gBat_val]
  exact (gRow_val t (y 1)).trans (by omega)

end Cert.Kernel18Ideal.Hand

namespace Cert.Reference18Ideal.Hand

open Cert.Reference18Ideal Cert.Reference18Ideal.Gen Cert.Ffn

theorem tap_before (X : FVec Ideal S4x4096x6144 .f32) (b : Fin 4) (T : Fin 4096) (j : Fin 3072) :
    (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0 : FVec Ideal S4x4096x3072 .f32) (ix3 b T j) = rowBefore (fun T => X (ix3 b T (wide j))) T := by
  pointwise []
  rw [zero_word]
  unfold rowBefore
  by_cases h : 1 ≤ T.val
  · rw [dif_pos h, dif_pos ⟨h, by omega⟩]; rfl
  · rw [dif_neg h, dif_neg (fun h' => h h'.1)]

theorem tap_here (X : FVec Ideal S4x4096x6144 .f32) (b : Fin 4) (T : Fin 4096) (j : Fin 3072) :
    (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0 : FVec Ideal S4x4096x3072 .f32) (ix3 b T j) = X (ix3 b T (wide j)) := by
  pointwise []
  rfl

theorem tap_after (X : FVec Ideal S4x4096x6144 .f32) (b : Fin 4) (T : Fin 4096) (j : Fin 3072) :
    (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0 : FVec Ideal S4x4096x3072 .f32) (ix3 b T j) = rowAfter (fun T => X (ix3 b T (wide j))) T := by
  pointwise []
  rw [zero_word]
  unfold rowAfter
  by_cases h : T.val + 1 < 4096
  · rw [dif_pos h, dif_pos ⟨by omega, by omega⟩]
    exact congrArg (fun T => X (ix3 b T (wide j))) (Fin.ext (by show 2 + T.val - 1 = T.val + 1; omega))
  · rw [dif_neg h, dif_neg (fun h' => h (by omega))]

/-- The whole convolution at an entry. -/
theorem conv_at (X : FVec Ideal S4x4096x6144 .f32) (W : FVec Ideal S3x3072 .f32) (B : FVec Ideal S3072 .f32) (b : Fin 4) (T : Fin 4096) (j : Fin 3072) :
    (addf (addf (addf (addf (broadcastInDim S4x4096x3072 ![] bcast_S_S4x4096x3072 (constant (F := Ideal) S_ .f32 0x00000000#32)) (mulf (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] W slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 B)) : FVec Ideal S4x4096x3072 .f32) (ix3 b T j)
      = conv (fun b T j => X (ix3 b T j)) (fun d j => W (ix2 d j)) (fun j => B (ix1 j)) b T j := by
  unfold conv
  beta_reduce
  rw [← tap_before X b T j, ← tap_here X b T j, ← tap_after X b T j]
  generalize (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0 : FVec Ideal S4x4096x3072 .f32) = Z0
  generalize (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0 : FVec Ideal S4x4096x3072 .f32) = Z1
  generalize (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0 : FVec Ideal S4x4096x3072 .f32) = Z2
  pointwise []

/-- The plain program's first result. -/
theorem out_eq0 (X : FVec Ideal S4x4096x6144 .f32) (W : FVec Ideal S3x3072 .f32) (B : FVec Ideal S3072 .f32) :
    (extractStridedSlice S4x4096x1024 ![0, 0, 0] (addf (addf (addf (addf (broadcastInDim S4x4096x3072 ![] bcast_S_S4x4096x3072 (constant (F := Ideal) S_ .f32 0x00000000#32)) (mulf (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] W slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 B))) slices_S4x4096x3072_S4x4096x1024_0_0_0 : FVec Ideal S4x4096x1024 .f32)
      = fun y => conv (fun b T j => X (ix3 b T j)) (fun d j => W (ix2 d j)) (fun j => B (ix1 j)) (y 0) (y 1) (third 0 (y 2)) := by
  funext y
  rw [show y = ix3 (y 0) (y 1) (y 2) from eq_ix3 y]
  refine Eq.trans ?_ (conv_at X W B (y 0) (y 1) (third 0 (y 2)))
  generalize (addf (addf (addf (addf (broadcastInDim S4x4096x3072 ![] bcast_S_S4x4096x3072 (constant (F := Ideal) S_ .f32 0x00000000#32)) (mulf (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] W slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 B)) : FVec Ideal S4x4096x3072 .f32) = Z
  pointwise []
  exact congrArg (fun j => Z (ix3 (y 0) (y 1) j)) (Fin.ext (by simp [third]))

/-- The plain program's second result. -/
theorem out_eq1 (X : FVec Ideal S4x4096x6144 .f32) (W : FVec Ideal S3x3072 .f32) (B : FVec Ideal S3072 .f32) :
    (extractStridedSlice S4x4096x1024 ![0, 0, 1024] (addf (addf (addf (addf (broadcastInDim S4x4096x3072 ![] bcast_S_S4x4096x3072 (constant (F := Ideal) S_ .f32 0x00000000#32)) (mulf (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] W slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 B))) slices_S4x4096x3072_S4x4096x1024_0_0_1024 : FVec Ideal S4x4096x1024 .f32)
      = fun y => conv (fun b T j => X (ix3 b T j)) (fun d j => W (ix2 d j)) (fun j => B (ix1 j)) (y 0) (y 1) (third 1 (y 2)) := by
  funext y
  rw [show y = ix3 (y 0) (y 1) (y 2) from eq_ix3 y]
  refine Eq.trans ?_ (conv_at X W B (y 0) (y 1) (third 1 (y 2)))
  generalize (addf (addf (addf (addf (broadcastInDim S4x4096x3072 ![] bcast_S_S4x4096x3072 (constant (F := Ideal) S_ .f32 0x00000000#32)) (mulf (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] W slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 B)) : FVec Ideal S4x4096x3072 .f32) = Z
  pointwise []
  exact congrArg (fun j => Z (ix3 (y 0) (y 1) j)) (Fin.ext (by simp [third]))

/-- The plain program's third result. -/
theorem out_eq2 (X : FVec Ideal S4x4096x6144 .f32) (W : FVec Ideal S3x3072 .f32) (B : FVec Ideal S3072 .f32) :
    (extractStridedSlice S4x4096x1024 ![0, 0, 2048] (addf (addf (addf (addf (broadcastInDim S4x4096x3072 ![] bcast_S_S4x4096x3072 (constant (F := Ideal) S_ .f32 0x00000000#32)) (mulf (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] W slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 B))) slices_S4x4096x3072_S4x4096x1024_0_0_2048 : FVec Ideal S4x4096x1024 .f32)
      = fun y => conv (fun b T j => X (ix3 b T j)) (fun d j => W (ix2 d j)) (fun j => B (ix1 j)) (y 0) (y 1) (third 2 (y 2)) := by
  funext y
  rw [show y = ix3 (y 0) (y 1) (y 2) from eq_ix3 y]
  refine Eq.trans ?_ (conv_at X W B (y 0) (y 1) (third 2 (y 2)))
  generalize (addf (addf (addf (addf (broadcastInDim S4x4096x3072 ![] bcast_S_S4x4096x3072 (constant (F := Ideal) S_ .f32 0x00000000#32)) (mulf (extractStridedSlice S4x4096x3072 ![0, 0, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_0_0) (broadcastInDim S4x4096x3072 ![0, 1, 2] bcast_S1x1x3072_S4x4096x3072_0_1_2 (broadcastInDim S1x1x3072 ![2] bcast_S3072_S1x1x3072_2 (shapeCast _ (extractStridedSlice S1x3072 ![0, 0] W slices_S3x3072_S1x3072_0_0) shapeCasts_S1x3072_S3072))))) (mulf (extractStridedSlice S4x4096x3072 ![0, 1, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_1_0) (broadcastInDim S4x4096x3072 ![0, 1, 2] bcast_S1x1x3072_S4x4096x3072_0_1_2 (broadcastInDim S1x1x3072 ![2] bcast_S3072_S1x1x3072_2 (shapeCast _ (extractStridedSlice S1x3072 ![1, 0] W slices_S3x3072_S1x3072_1_0) shapeCasts_S1x3072_S3072))))) (mulf (extractStridedSlice S4x4096x3072 ![0, 2, 0] (pad S4x4098x3072 ![0, 1, 0] ![0, 1, 0] ![0, 0, 0] (extractStridedSlice S4x4096x3072 ![0, 0, 0] X slices_S4x4096x6144_S4x4096x3072_0_0_0) (sitofp (F := Ideal) .f32 (constantI S_ 32 0#32)) pads_S4x4096x3072_S4x4098x3072_000_110_000 h_S_) slices_S4x4098x3072_S4x4096x3072_0_2_0) (broadcastInDim S4x4096x3072 ![0, 1, 2] bcast_S1x1x3072_S4x4096x3072_0_1_2 (broadcastInDim S1x1x3072 ![2] bcast_S3072_S1x1x3072_2 (shapeCast _ (extractStridedSlice S1x3072 ![2, 0] W slices_S3x3072_S1x3072_2_0) shapeCasts_S1x3072_S3072))))) (broadcastInDim S4x4096x3072 ![0, 1, 2] bcast_S1x1x3072_S4x4096x3072_0_1_2 (broadcastInDim S1x1x3072 ![2] bcast_S3072_S1x1x3072_2 B)) : FVec Ideal S4x4096x3072 .f32) = Z
  pointwise []
  exact congrArg (fun j => Z (ix3 (y 0) (y 1) j)) (Fin.ext (by simp [third]))

end Cert.Reference18Ideal.Hand

namespace Cert.Ffn

/-- The convolution's kernel leaves its arguments as they were, with every counter at zero. -/
theorem frame_kernel18 : Cert.quiescent_Kernel18 := fun m g _ => Cert.Kernel18.Gen.frame m g

/-- So does its idealization. -/
theorem frame_ideal18 : Cert.quiescent_Kernel18Ideal := fun m g _ => Cert.Kernel18Ideal.Gen.frame m g

/-- So does the plain program. -/
theorem frame_reference18 : Cert.quiescent_Reference18Ideal := fun m g _ =>
  (θ_run _ _ _).mono (fun r h => ⟨fun c => (h c).2.2.2, sem_eq_zero_of_no_sems (by decide) r.2⟩) (Cert.Reference18Ideal.Value.run m g)

/-- The idealized kernel and the plain program have equal results. -/
theorem algebraic18 : Cert.algebraic_Kernel18Ideal_Reference18Ideal := fun m g m' g' _ he =>
  ⟨fun c => Cert.Kernel18Ideal.Hand.result m c 0, fun c => Cert.Kernel18Ideal.Hand.result m c 1, fun c => Cert.Kernel18Ideal.Hand.result m c 2,
    (θ_run _ _ _).mono (fun _ h c => ⟨(h c).1.trans (Cert.Kernel18Ideal.Hand.arrAt5 m c), (h c).2.1.trans (Cert.Kernel18Ideal.Hand.arrAt6 m c),
      (h c).2.2.1.trans (Cert.Kernel18Ideal.Hand.arrAt7 m c), (h c).2.2.2⟩) (Cert.Kernel18Ideal.Value.run_blocks m g),
    (θ_run _ _ _).mono (fun _ h c => ⟨(h c).1.trans ((Cert.Reference18Ideal.Hand.out_eq0 _ _ _).trans (by rw [(he c).1, (he c).2.1, (he c).2.2]; rfl)),
      (h c).2.1.trans ((Cert.Reference18Ideal.Hand.out_eq1 _ _ _).trans (by rw [(he c).1, (he c).2.1, (he c).2.2]; rfl)),
      (h c).2.2.1.trans ((Cert.Reference18Ideal.Hand.out_eq2 _ _ _).trans (by rw [(he c).1, (he c).2.1, (he c).2.2]; rfl)),
      (h c).2.2.2⟩) (Cert.Reference18Ideal.Value.run m' g')⟩

end Cert.Ffn
-- ==== Proof.lean ====
/-
  The certificate's claim. Of every program: the frames of the kernel, of its idealization and of the plain program; and the
  idealization is the kernel's own text. The results of each idealized kernel are its plain program's; of the GLA scan where the
  low-rank gate inputs and their up-projections are finite, of the others everywhere.
-/
module

public import proofs.«01_k».proof.Proof.KFrame
public import proofs.«01_k».proof.Proof.Equal
public import proofs.«01_k».proof.Proof.FfnUp
public import proofs.«01_k».proof.Proof.FfnDown
public import proofs.«01_k».proof.Proof.LastNorm
public import proofs.«01_k».proof.Proof.ModNorm
public import proofs.«01_k».proof.Proof.MixProj
public import proofs.«01_k».proof.Proof.MixOut
public import proofs.«01_k».proof.Proof.InProj
public import proofs.«01_k».proof.Proof.OutProj
public import proofs.«01_k».proof.Proof.GateIn
public import proofs.«01_k».proof.Proof.GateOut
public import proofs.«01_k».proof.Proof.LowIn
public import proofs.«01_k».proof.Proof.DecayOut
public import proofs.«01_k».proof.Proof.RateOut
public import proofs.«01_k».proof.Proof.LowCols
public import proofs.«01_k».proof.Proof.HeadNorm
public import proofs.«01_k».proof.Proof.Modulation
public import proofs.«01_k».proof.Proof.ShortConv

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts, preFacts,
    Cert.Kernel.Hand.frame, frame_ideal, fun m g _ => frame_ideal m g trivial, frame_reference, fun m g _ => frame_reference m g trivial,
    Cert.Ffn.frame_kernel2, Cert.Ffn.frame_ideal2, Cert.Ffn.frame_reference2,
    Cert.Ffn.frame_kernel3, Cert.Ffn.frame_ideal3, Cert.Ffn.frame_reference3,
    Cert.Ffn.frame_kernel4, Cert.Ffn.frame_ideal4, Cert.Ffn.frame_reference4,
    Cert.Ffn.frame_kernel5, Cert.Ffn.frame_ideal5, Cert.Ffn.frame_reference5,
    Cert.Ffn.frame_kernel6, Cert.Ffn.frame_ideal6, Cert.Ffn.frame_reference6,
    Cert.Ffn.frame_kernel7, Cert.Ffn.frame_ideal7, Cert.Ffn.frame_reference7,
    Cert.Ffn.frame_kernel8, Cert.Ffn.frame_ideal8, Cert.Ffn.frame_reference8,
    Cert.Ffn.frame_kernel9, Cert.Ffn.frame_ideal9, Cert.Ffn.frame_reference9,
    Cert.Ffn.frame_kernel10, Cert.Ffn.frame_ideal10, Cert.Ffn.frame_reference10,
    Cert.Ffn.frame_kernel11, Cert.Ffn.frame_ideal11, Cert.Ffn.frame_reference11,
    Cert.Ffn.frame_kernel12, Cert.Ffn.frame_ideal12, Cert.Ffn.frame_reference12,
    Cert.Ffn.frame_kernel13, Cert.Ffn.frame_ideal13, Cert.Ffn.frame_reference13,
    Cert.Ffn.frame_kernel14, Cert.Ffn.frame_ideal14, Cert.Ffn.frame_reference14,
    Cert.Ffn.frame_kernel15, Cert.Ffn.frame_ideal15, Cert.Ffn.frame_reference15,
    Cert.Ffn.frame_kernel16, Cert.Ffn.frame_ideal16, Cert.Ffn.frame_reference16,
    Cert.Ffn.frame_kernel17, Cert.Ffn.frame_ideal17, Cert.Ffn.frame_reference17,
    Cert.Ffn.frame_kernel18, Cert.Ffn.frame_ideal18, Cert.Ffn.frame_reference18,
    trivial, algebraic, trivial, Cert.Ffn.algebraic2, trivial, Cert.Ffn.algebraic3, trivial, Cert.Ffn.algebraic4, trivial, Cert.Ffn.algebraic5, trivial, Cert.Ffn.algebraic6, trivial, Cert.Ffn.algebraic7, trivial, Cert.Ffn.algebraic8, trivial, Cert.Ffn.algebraic9, trivial, Cert.Ffn.algebraic10, trivial, Cert.Ffn.algebraic11, trivial, Cert.Ffn.algebraic12, trivial, Cert.Ffn.algebraic13, trivial, Cert.Ffn.algebraic14, trivial, Cert.Ffn.algebraic15, trivial, Cert.Ffn.algebraic16, trivial, Cert.Ffn.algebraic17, trivial, Cert.Ffn.algebraic18⟩

end Cert.Proof

end
